-- ==== Defs.lean ====
def Pre_Kernel [hPre_planned : Cert.Pre_planned.Facts] (m : (ℓ : Loc Cert.Kernel.nD Cert.Kernel.τ Cert.Kernel.sig) → Buf (Elt Bits) ℓ) : Prop :=
  ∀ c : Dev Cert.Kernel.nD,
    (Cert.Pre_planned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_planned : Cert.Pre_planned.Facts] (m : (ℓ : Loc Cert.KernelIdeal.nD Cert.KernelIdeal.τ Cert.KernelIdeal.sig) → Buf (Elt Ideal) ℓ) : Prop :=
  ∀ c : Dev Cert.KernelIdeal.nD,
    (Cert.Pre_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_planned : Cert.Pre_planned.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_planned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_planned : Cert.Pre_planned.Facts] (m : (ℓ : Loc Cert.Reference.nD Cert.Reference.τ Cert.Reference.sig) → Buf (Elt Bits) ℓ) : Prop :=
  ∀ c : Dev Cert.Reference.nD,
    (Cert.Pre_planned.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Experts [hPre_chained : Cert.Pre_chained.Facts] (m : (ℓ : Loc Cert.Experts.nD Cert.Experts.τ Cert.Experts.sig) → Buf (Elt Bits) ℓ) : Prop :=
  ∀ c : Dev Cert.Experts.nD,
    (Cert.Pre_chained.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_chained : Cert.Pre_chained.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_chained.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_ExpertsReferenceIdeal [hPre_chained : Cert.Pre_chained.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_chained.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))) = (fun _ => 1#1)

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsReferenceIdeal (m : (ℓ : Loc Cert.ProjectionsReferenceIdeal.nD Cert.ProjectionsReferenceIdeal.τ Cert.ProjectionsReferenceIdeal.sig) → Buf (Elt Ideal) ℓ) : Prop :=
  True

def Pre_Combine [hPre_inside : Cert.Pre_inside.Facts] (m : (ℓ : Loc Cert.Combine.nD Cert.Combine.τ Cert.Combine.sig) → Buf (Elt Bits) ℓ) : Prop :=
  ∀ c : Dev Cert.Combine.nD,
    (Cert.Pre_inside.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5)) (m ((c.tc : Thread Cert.Combine.nD Cert.Combine.τ).loc Cert.Combine.main_arg6)) (m ((c.tc : Thread Cert.Combine.nD Cert.Combine.τ).loc Cert.Combine.main_arg7)) (m ((c.tc : Thread Cert.Combine.nD Cert.Combine.τ).loc Cert.Combine.main_arg8))) = (fun _ => 1#1)

def Pre_CombineIdeal [hPre_inside : Cert.Pre_inside.Facts] (m : (ℓ : Loc Cert.CombineIdeal.nD Cert.CombineIdeal.τ Cert.CombineIdeal.sig) → Buf (Elt Ideal) ℓ) : Prop :=
  ∀ c : Dev Cert.CombineIdeal.nD,
    (Cert.Pre_inside.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5)) (m ((c.tc : Thread Cert.CombineIdeal.nD Cert.CombineIdeal.τ).loc Cert.CombineIdeal.main_arg6)) (m ((c.tc : Thread Cert.CombineIdeal.nD Cert.CombineIdeal.τ).loc Cert.CombineIdeal.main_arg7)) (m ((c.tc : Thread Cert.CombineIdeal.nD Cert.CombineIdeal.τ).loc Cert.CombineIdeal.main_arg8))) = (fun _ => 1#1)

def Pre_CombineReferenceIdeal [hPre_inside : Cert.Pre_inside.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_inside.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3)) (m ((c.tc : Thread Cert.CombineReferenceIdeal.nD Cert.CombineReferenceIdeal.τ).loc Cert.CombineReferenceIdeal.main_arg4)) (m ((c.tc : Thread Cert.CombineReferenceIdeal.nD Cert.CombineReferenceIdeal.τ).loc Cert.CombineReferenceIdeal.main_arg5)) (m ((c.tc : Thread Cert.CombineReferenceIdeal.nD Cert.CombineReferenceIdeal.τ).loc Cert.CombineReferenceIdeal.main_arg6)) (m ((c.tc : Thread Cert.CombineReferenceIdeal.nD Cert.CombineReferenceIdeal.τ).loc Cert.CombineReferenceIdeal.main_arg7)) (m ((c.tc : Thread Cert.CombineReferenceIdeal.nD Cert.CombineReferenceIdeal.τ).loc Cert.CombineReferenceIdeal.main_arg8))) = (fun _ => 1#1)

def Pre_Outlet (m : (ℓ : Loc Cert.Outlet.nD Cert.Outlet.τ Cert.Outlet.sig) → Buf (Elt Bits) ℓ) : Prop :=
  True

def Pre_OutletIdeal (m : (ℓ : Loc Cert.OutletIdeal.nD Cert.OutletIdeal.τ Cert.OutletIdeal.sig) → Buf (Elt Ideal) ℓ) : Prop :=
  True

def Pre_OutletReferenceIdeal (m : (ℓ : Loc Cert.OutletReferenceIdeal.nD Cert.OutletReferenceIdeal.τ Cert.OutletReferenceIdeal.sig) → Buf (Elt Ideal) ℓ) : Prop :=
  True

def quiescent_Kernel [hKernel : Cert.Kernel.Facts] [hPre_planned : Cert.Pre_planned.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_planned : Cert.Pre_planned.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_planned : Cert.Pre_planned.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_planned : Cert.Pre_planned.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Experts [hExperts : Cert.Experts.Facts] [hPre_chained : Cert.Pre_chained.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_chained : Cert.Pre_chained.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsReferenceIdeal [hExpertsReferenceIdeal : Cert.ExpertsReferenceIdeal.Facts] [hPre_chained : Cert.Pre_chained.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2))
      ∧ r.2.sem = fun _ => 0)

def quiescent_ProjectionsReferenceIdeal [hProjectionsReferenceIdeal : Cert.ProjectionsReferenceIdeal.Facts] : Prop :=
  ∀ (m : (ℓ : Loc Cert.ProjectionsReferenceIdeal.nD Cert.ProjectionsReferenceIdeal.τ Cert.ProjectionsReferenceIdeal.sig) → Buf (Elt Ideal) ℓ) (g : Dev Cert.ProjectionsReferenceIdeal.nD → PrngReg), Pre_ProjectionsReferenceIdeal m →
    θ_run (Cert.ProjectionsReferenceIdeal.defs (F := Ideal)) (onTc (τ := Cert.ProjectionsReferenceIdeal.τ) (Cert.ProjectionsReferenceIdeal.main (F := Ideal))) ⟨m, fun _ => 0, g⟩ (fun r => (∀ c : Dev Cert.ProjectionsReferenceIdeal.nD,
      r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
      ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
      ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2))
      ∧ r.2.sem = fun _ => 0)

def quiescent_Combine [hCombine : Cert.Combine.Facts] [hPre_inside : Cert.Pre_inside.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7)
      ∧ r.2.mem ((c.tc : Thread Cert.Combine.nD Cert.Combine.τ).loc Cert.Combine.main_arg8) = m ((c.tc : Thread Cert.Combine.nD Cert.Combine.τ).loc Cert.Combine.main_arg8))
      ∧ r.2.sem = fun _ => 0)

def quiescent_CombineIdeal [hCombineIdeal : Cert.CombineIdeal.Facts] [hPre_inside : Cert.Pre_inside.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8))
      ∧ r.2.sem = fun _ => 0)

def quiescent_CombineReferenceIdeal [hCombineReferenceIdeal : Cert.CombineReferenceIdeal.Facts] [hPre_inside : Cert.Pre_inside.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5)
      ∧ r.2.mem ((c.tc : Thread Cert.CombineReferenceIdeal.nD Cert.CombineReferenceIdeal.τ).loc Cert.CombineReferenceIdeal.main_arg6) = m ((c.tc : Thread Cert.CombineReferenceIdeal.nD Cert.CombineReferenceIdeal.τ).loc Cert.CombineReferenceIdeal.main_arg6)
      ∧ r.2.mem ((c.tc : Thread Cert.CombineReferenceIdeal.nD Cert.CombineReferenceIdeal.τ).loc Cert.CombineReferenceIdeal.main_arg7) = m ((c.tc : Thread Cert.CombineReferenceIdeal.nD Cert.CombineReferenceIdeal.τ).loc Cert.CombineReferenceIdeal.main_arg7)
      ∧ r.2.mem ((c.tc : Thread Cert.CombineReferenceIdeal.nD Cert.CombineReferenceIdeal.τ).loc Cert.CombineReferenceIdeal.main_arg8) = m ((c.tc : Thread Cert.CombineReferenceIdeal.nD Cert.CombineReferenceIdeal.τ).loc Cert.CombineReferenceIdeal.main_arg8))
      ∧ r.2.sem = fun _ => 0)

def quiescent_Outlet [hOutlet : Cert.Outlet.Facts] : Prop :=
  ∀ (m : (ℓ : Loc Cert.Outlet.nD Cert.Outlet.τ Cert.Outlet.sig) → Buf (Elt Bits) ℓ) (g : Dev Cert.Outlet.nD → PrngReg), Pre_Outlet m →
    θ_run (Cert.Outlet.defs (F := Bits)) (onTc (τ := Cert.Outlet.τ) (Cert.Outlet.main (F := Bits))) ⟨m, fun _ => 0, g⟩ (fun r => (∀ c : Dev Cert.Outlet.nD,
      r.2.mem ((c.tc : Thread Cert.Outlet.nD Cert.Outlet.τ).loc Cert.Outlet.main_arg0) = m ((c.tc : Thread Cert.Outlet.nD Cert.Outlet.τ).loc Cert.Outlet.main_arg0)
      ∧ r.2.mem ((c.tc : Thread Cert.Outlet.nD Cert.Outlet.τ).loc Cert.Outlet.main_arg1) = m ((c.tc : Thread Cert.Outlet.nD Cert.Outlet.τ).loc Cert.Outlet.main_arg1)
      ∧ r.2.mem ((c.tc : Thread Cert.Outlet.nD Cert.Outlet.τ).loc Cert.Outlet.main_arg2) = m ((c.tc : Thread Cert.Outlet.nD Cert.Outlet.τ).loc Cert.Outlet.main_arg2)
      ∧ r.2.mem ((c.tc : Thread Cert.Outlet.nD Cert.Outlet.τ).loc Cert.Outlet.main_arg3) = m ((c.tc : Thread Cert.Outlet.nD Cert.Outlet.τ).loc Cert.Outlet.main_arg3)
      ∧ r.2.mem ((c.tc : Thread Cert.Outlet.nD Cert.Outlet.τ).loc Cert.Outlet.main_arg4) = m ((c.tc : Thread Cert.Outlet.nD Cert.Outlet.τ).loc Cert.Outlet.main_arg4)
      ∧ r.2.mem ((c.tc : Thread Cert.Outlet.nD Cert.Outlet.τ).loc Cert.Outlet.main_arg5) = m ((c.tc : Thread Cert.Outlet.nD Cert.Outlet.τ).loc Cert.Outlet.main_arg5)
      ∧ r.2.mem ((c.tc : Thread Cert.Outlet.nD Cert.Outlet.τ).loc Cert.Outlet.main_arg6) = m ((c.tc : Thread Cert.Outlet.nD Cert.Outlet.τ).loc Cert.Outlet.main_arg6))
      ∧ r.2.sem = fun _ => 0)

def quiescent_OutletIdeal [hOutletIdeal : Cert.OutletIdeal.Facts] : Prop :=
  ∀ (m : (ℓ : Loc Cert.OutletIdeal.nD Cert.OutletIdeal.τ Cert.OutletIdeal.sig) → Buf (Elt Ideal) ℓ) (g : Dev Cert.OutletIdeal.nD → PrngReg), Pre_OutletIdeal m →
    θ_run (Cert.OutletIdeal.defs (F := Ideal)) (onTc (τ := Cert.OutletIdeal.τ) (Cert.OutletIdeal.main (F := Ideal))) ⟨m, fun _ => 0, g⟩ (fun r => (∀ c : Dev Cert.OutletIdeal.nD,
      r.2.mem ((c.tc : Thread Cert.OutletIdeal.nD Cert.OutletIdeal.τ).loc Cert.OutletIdeal.main_arg0) = m ((c.tc : Thread Cert.OutletIdeal.nD Cert.OutletIdeal.τ).loc Cert.OutletIdeal.main_arg0)
      ∧ r.2.mem ((c.tc : Thread Cert.OutletIdeal.nD Cert.OutletIdeal.τ).loc Cert.OutletIdeal.main_arg1) = m ((c.tc : Thread Cert.OutletIdeal.nD Cert.OutletIdeal.τ).loc Cert.OutletIdeal.main_arg1)
      ∧ r.2.mem ((c.tc : Thread Cert.OutletIdeal.nD Cert.OutletIdeal.τ).loc Cert.OutletIdeal.main_arg2) = m ((c.tc : Thread Cert.OutletIdeal.nD Cert.OutletIdeal.τ).loc Cert.OutletIdeal.main_arg2)
      ∧ r.2.mem ((c.tc : Thread Cert.OutletIdeal.nD Cert.OutletIdeal.τ).loc Cert.OutletIdeal.main_arg3) = m ((c.tc : Thread Cert.OutletIdeal.nD Cert.OutletIdeal.τ).loc Cert.OutletIdeal.main_arg3)
      ∧ r.2.mem ((c.tc : Thread Cert.OutletIdeal.nD Cert.OutletIdeal.τ).loc Cert.OutletIdeal.main_arg4) = m ((c.tc : Thread Cert.OutletIdeal.nD Cert.OutletIdeal.τ).loc Cert.OutletIdeal.main_arg4)
      ∧ r.2.mem ((c.tc : Thread Cert.OutletIdeal.nD Cert.OutletIdeal.τ).loc Cert.OutletIdeal.main_arg5) = m ((c.tc : Thread Cert.OutletIdeal.nD Cert.OutletIdeal.τ).loc Cert.OutletIdeal.main_arg5)
      ∧ r.2.mem ((c.tc : Thread Cert.OutletIdeal.nD Cert.OutletIdeal.τ).loc Cert.OutletIdeal.main_arg6) = m ((c.tc : Thread Cert.OutletIdeal.nD Cert.OutletIdeal.τ).loc Cert.OutletIdeal.main_arg6))
      ∧ r.2.sem = fun _ => 0)

def quiescent_OutletReferenceIdeal [hOutletReferenceIdeal : Cert.OutletReferenceIdeal.Facts] : Prop :=
  ∀ (m : (ℓ : Loc Cert.OutletReferenceIdeal.nD Cert.OutletReferenceIdeal.τ Cert.OutletReferenceIdeal.sig) → Buf (Elt Ideal) ℓ) (g : Dev Cert.OutletReferenceIdeal.nD → PrngReg), Pre_OutletReferenceIdeal m →
    θ_run (Cert.OutletReferenceIdeal.defs (F := Ideal)) (onTc (τ := Cert.OutletReferenceIdeal.τ) (Cert.OutletReferenceIdeal.main (F := Ideal))) ⟨m, fun _ => 0, g⟩ (fun r => (∀ c : Dev Cert.OutletReferenceIdeal.nD,
      r.2.mem ((c.tc : Thread Cert.OutletReferenceIdeal.nD Cert.OutletReferenceIdeal.τ).loc Cert.OutletReferenceIdeal.main_arg0) = m ((c.tc : Thread Cert.OutletReferenceIdeal.nD Cert.OutletReferenceIdeal.τ).loc Cert.OutletReferenceIdeal.main_arg0)
      ∧ r.2.mem ((c.tc : Thread Cert.OutletReferenceIdeal.nD Cert.OutletReferenceIdeal.τ).loc Cert.OutletReferenceIdeal.main_arg1) = m ((c.tc : Thread Cert.OutletReferenceIdeal.nD Cert.OutletReferenceIdeal.τ).loc Cert.OutletReferenceIdeal.main_arg1)
      ∧ r.2.mem ((c.tc : Thread Cert.OutletReferenceIdeal.nD Cert.OutletReferenceIdeal.τ).loc Cert.OutletReferenceIdeal.main_arg2) = m ((c.tc : Thread Cert.OutletReferenceIdeal.nD Cert.OutletReferenceIdeal.τ).loc Cert.OutletReferenceIdeal.main_arg2)
      ∧ r.2.mem ((c.tc : Thread Cert.OutletReferenceIdeal.nD Cert.OutletReferenceIdeal.τ).loc Cert.OutletReferenceIdeal.main_arg3) = m ((c.tc : Thread Cert.OutletReferenceIdeal.nD Cert.OutletReferenceIdeal.τ).loc Cert.OutletReferenceIdeal.main_arg3)
      ∧ r.2.mem ((c.tc : Thread Cert.OutletReferenceIdeal.nD Cert.OutletReferenceIdeal.τ).loc Cert.OutletReferenceIdeal.main_arg4) = m ((c.tc : Thread Cert.OutletReferenceIdeal.nD Cert.OutletReferenceIdeal.τ).loc Cert.OutletReferenceIdeal.main_arg4)
      ∧ r.2.mem ((c.tc : Thread Cert.OutletReferenceIdeal.nD Cert.OutletReferenceIdeal.τ).loc Cert.OutletReferenceIdeal.main_arg5) = m ((c.tc : Thread Cert.OutletReferenceIdeal.nD Cert.OutletReferenceIdeal.τ).loc Cert.OutletReferenceIdeal.main_arg5)
      ∧ r.2.mem ((c.tc : Thread Cert.OutletReferenceIdeal.nD Cert.OutletReferenceIdeal.τ).loc Cert.OutletReferenceIdeal.main_arg6) = m ((c.tc : Thread Cert.OutletReferenceIdeal.nD Cert.OutletReferenceIdeal.τ).loc Cert.OutletReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_planned : Cert.Pre_planned.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_planned : Cert.Pre_planned.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v8) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_chained : Cert.Pre_chained.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v2) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v64) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7))

def preserves_Projections_ProjectionsIdeal : Prop :=
  True

def algebraic_ProjectionsIdeal_ProjectionsReferenceIdeal [hProjectionsIdeal : Cert.ProjectionsIdeal.Facts] [hProjectionsReferenceIdeal : Cert.ProjectionsReferenceIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsReferenceIdeal.nD Cert.ProjectionsReferenceIdeal.τ Cert.ProjectionsReferenceIdeal.sig) → Buf (Elt Ideal) ℓ) (g' : Dev Cert.ProjectionsReferenceIdeal.nD → PrngReg), Pre_ProjectionsIdeal m →
    (∀ c : Dev Cert.ProjectionsIdeal.nD,
      m' ((c.tc : Thread Cert.ProjectionsReferenceIdeal.nD Cert.ProjectionsReferenceIdeal.τ).loc Cert.ProjectionsReferenceIdeal.main_arg0) = m ((c.tc : Thread Cert.ProjectionsIdeal.nD Cert.ProjectionsIdeal.τ).loc Cert.ProjectionsIdeal.main_arg0)
      ∧ m' ((c.tc : Thread Cert.ProjectionsReferenceIdeal.nD Cert.ProjectionsReferenceIdeal.τ).loc Cert.ProjectionsReferenceIdeal.main_arg1) = m ((c.tc : Thread Cert.ProjectionsIdeal.nD Cert.ProjectionsIdeal.τ).loc Cert.ProjectionsIdeal.main_arg1)
      ∧ m' ((c.tc : Thread Cert.ProjectionsReferenceIdeal.nD Cert.ProjectionsReferenceIdeal.τ).loc Cert.ProjectionsReferenceIdeal.main_arg2) = m ((c.tc : Thread Cert.ProjectionsIdeal.nD Cert.ProjectionsIdeal.τ).loc Cert.ProjectionsIdeal.main_arg2)) →
    ∃ (v0 : (c : Dev Cert.ProjectionsIdeal.nD) → Buf (Elt Ideal) ((c.tc : Thread Cert.ProjectionsIdeal.nD Cert.ProjectionsIdeal.τ).loc Cert.ProjectionsIdeal.main_v9_0)) (v1 : (c : Dev Cert.ProjectionsIdeal.nD) → Buf (Elt Ideal) ((c.tc : Thread Cert.ProjectionsIdeal.nD Cert.ProjectionsIdeal.τ).loc Cert.ProjectionsIdeal.main_v9_1)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v9_0) = v0 c
          ∧ r.2.mem ((c.tc : Thread Cert.ProjectionsIdeal.nD Cert.ProjectionsIdeal.τ).loc Cert.ProjectionsIdeal.main_v9_1) = v1 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2))
      ∧ θ_run (Cert.ProjectionsReferenceIdeal.defs (F := Ideal)) (onTc (τ := Cert.ProjectionsReferenceIdeal.τ) (Cert.ProjectionsReferenceIdeal.main (F := Ideal))) ⟨m', fun _ => 0, g'⟩ (fun r => ∀ c : Dev Cert.ProjectionsReferenceIdeal.nD,
          r.2.mem ((c.tc : Thread Cert.ProjectionsReferenceIdeal.nD Cert.ProjectionsReferenceIdeal.τ).loc Cert.ProjectionsReferenceIdeal.main_v16) = v0 c
          ∧ r.2.mem ((c.tc : Thread Cert.ProjectionsReferenceIdeal.nD Cert.ProjectionsReferenceIdeal.τ).loc Cert.ProjectionsReferenceIdeal.main_v18) = v1 c
          ∧ r.2.mem ((c.tc : Thread Cert.ProjectionsReferenceIdeal.nD Cert.ProjectionsReferenceIdeal.τ).loc Cert.ProjectionsReferenceIdeal.main_arg0) = m' ((c.tc : Thread Cert.ProjectionsReferenceIdeal.nD Cert.ProjectionsReferenceIdeal.τ).loc Cert.ProjectionsReferenceIdeal.main_arg0)
          ∧ r.2.mem ((c.tc : Thread Cert.ProjectionsReferenceIdeal.nD Cert.ProjectionsReferenceIdeal.τ).loc Cert.ProjectionsReferenceIdeal.main_arg1) = m' ((c.tc : Thread Cert.ProjectionsReferenceIdeal.nD Cert.ProjectionsReferenceIdeal.τ).loc Cert.ProjectionsReferenceIdeal.main_arg1)
          ∧ r.2.mem ((c.tc : Thread Cert.ProjectionsReferenceIdeal.nD Cert.ProjectionsReferenceIdeal.τ).loc Cert.ProjectionsReferenceIdeal.main_arg2) = m' ((c.tc : Thread Cert.ProjectionsReferenceIdeal.nD Cert.ProjectionsReferenceIdeal.τ).loc Cert.ProjectionsReferenceIdeal.main_arg2))

def preserves_Combine_CombineIdeal : Prop :=
  True

def algebraic_CombineIdeal_CombineReferenceIdeal [hCombineIdeal : Cert.CombineIdeal.Facts] [hCombineReferenceIdeal : Cert.CombineReferenceIdeal.Facts] [hPre_inside : Cert.Pre_inside.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)
      ∧ m' ((c.tc : Thread Cert.CombineReferenceIdeal.nD Cert.CombineReferenceIdeal.τ).loc Cert.CombineReferenceIdeal.main_arg6) = m ((c.tc : Thread Cert.CombineIdeal.nD Cert.CombineIdeal.τ).loc Cert.CombineIdeal.main_arg6)
      ∧ m' ((c.tc : Thread Cert.CombineReferenceIdeal.nD Cert.CombineReferenceIdeal.τ).loc Cert.CombineReferenceIdeal.main_arg7) = m ((c.tc : Thread Cert.CombineIdeal.nD Cert.CombineIdeal.τ).loc Cert.CombineIdeal.main_arg7)
      ∧ m' ((c.tc : Thread Cert.CombineReferenceIdeal.nD Cert.CombineReferenceIdeal.τ).loc Cert.CombineReferenceIdeal.main_arg8) = m ((c.tc : Thread Cert.CombineIdeal.nD Cert.CombineIdeal.τ).loc Cert.CombineIdeal.main_arg8)) →
    ∃ (v0 : (c : Dev Cert.CombineIdeal.nD) → Buf (Elt Ideal) ((c.tc : Thread Cert.CombineIdeal.nD Cert.CombineIdeal.τ).loc Cert.CombineIdeal.main_v9)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v9) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
          ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v57) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5)
          ∧ r.2.mem ((c.tc : Thread Cert.CombineReferenceIdeal.nD Cert.CombineReferenceIdeal.τ).loc Cert.CombineReferenceIdeal.main_arg6) = m' ((c.tc : Thread Cert.CombineReferenceIdeal.nD Cert.CombineReferenceIdeal.τ).loc Cert.CombineReferenceIdeal.main_arg6)
          ∧ r.2.mem ((c.tc : Thread Cert.CombineReferenceIdeal.nD Cert.CombineReferenceIdeal.τ).loc Cert.CombineReferenceIdeal.main_arg7) = m' ((c.tc : Thread Cert.CombineReferenceIdeal.nD Cert.CombineReferenceIdeal.τ).loc Cert.CombineReferenceIdeal.main_arg7)
          ∧ r.2.mem ((c.tc : Thread Cert.CombineReferenceIdeal.nD Cert.CombineReferenceIdeal.τ).loc Cert.CombineReferenceIdeal.main_arg8) = m' ((c.tc : Thread Cert.CombineReferenceIdeal.nD Cert.CombineReferenceIdeal.τ).loc Cert.CombineReferenceIdeal.main_arg8))

def preserves_Outlet_OutletIdeal : Prop :=
  IdealRules.bf16_pair.BufferStatement Cert.OutletIdeal.S4x16384x2x128 Cert.OutletIdeal.S4x16384x1x128
  ∧ IdealRules.bf16_pair.BufferStatement Cert.OutletIdeal.S4x512x2x128 Cert.OutletIdeal.S4x512x1x128
  ∧ IdealRules.bf16_pair.PackStatement Cert.OutletIdeal.S512x128
  ∧ IdealRules.bf16_pair.Statement Cert.OutletIdeal.S1x512x2x128 Cert.OutletIdeal.S1x512x1x128

def algebraic_OutletIdeal_OutletReferenceIdeal [hOutletIdeal : Cert.OutletIdeal.Facts] [hOutletReferenceIdeal : Cert.OutletReferenceIdeal.Facts] : Prop :=
  ∀ (m : (ℓ : Loc Cert.OutletIdeal.nD Cert.OutletIdeal.τ Cert.OutletIdeal.sig) → Buf (Elt Ideal) ℓ) (g : Dev Cert.OutletIdeal.nD → PrngReg)
    (m' : (ℓ : Loc Cert.OutletReferenceIdeal.nD Cert.OutletReferenceIdeal.τ Cert.OutletReferenceIdeal.sig) → Buf (Elt Ideal) ℓ) (g' : Dev Cert.OutletReferenceIdeal.nD → PrngReg), Pre_OutletIdeal m →
    (∀ c : Dev Cert.OutletIdeal.nD,
      m' ((c.tc : Thread Cert.OutletReferenceIdeal.nD Cert.OutletReferenceIdeal.τ).loc Cert.OutletReferenceIdeal.main_arg0) = m ((c.tc : Thread Cert.OutletIdeal.nD Cert.OutletIdeal.τ).loc Cert.OutletIdeal.main_arg0)
      ∧ m' ((c.tc : Thread Cert.OutletReferenceIdeal.nD Cert.OutletReferenceIdeal.τ).loc Cert.OutletReferenceIdeal.main_arg1) = m ((c.tc : Thread Cert.OutletIdeal.nD Cert.OutletIdeal.τ).loc Cert.OutletIdeal.main_arg1)
      ∧ m' ((c.tc : Thread Cert.OutletReferenceIdeal.nD Cert.OutletReferenceIdeal.τ).loc Cert.OutletReferenceIdeal.main_arg2) = m ((c.tc : Thread Cert.OutletIdeal.nD Cert.OutletIdeal.τ).loc Cert.OutletIdeal.main_arg2)
      ∧ m' ((c.tc : Thread Cert.OutletReferenceIdeal.nD Cert.OutletReferenceIdeal.τ).loc Cert.OutletReferenceIdeal.main_arg3) = m ((c.tc : Thread Cert.OutletIdeal.nD Cert.OutletIdeal.τ).loc Cert.OutletIdeal.main_arg3)
      ∧ m' ((c.tc : Thread Cert.OutletReferenceIdeal.nD Cert.OutletReferenceIdeal.τ).loc Cert.OutletReferenceIdeal.main_arg4) = m ((c.tc : Thread Cert.OutletIdeal.nD Cert.OutletIdeal.τ).loc Cert.OutletIdeal.main_arg4)
      ∧ m' ((c.tc : Thread Cert.OutletReferenceIdeal.nD Cert.OutletReferenceIdeal.τ).loc Cert.OutletReferenceIdeal.main_arg5) = m ((c.tc : Thread Cert.OutletIdeal.nD Cert.OutletIdeal.τ).loc Cert.OutletIdeal.main_arg5)
      ∧ m' ((c.tc : Thread Cert.OutletReferenceIdeal.nD Cert.OutletReferenceIdeal.τ).loc Cert.OutletReferenceIdeal.main_arg6) = m ((c.tc : Thread Cert.OutletIdeal.nD Cert.OutletIdeal.τ).loc Cert.OutletIdeal.main_arg6)) →
    ∃ (v0 : (c : Dev Cert.OutletIdeal.nD) → Buf (Elt Ideal) ((c.tc : Thread Cert.OutletIdeal.nD Cert.OutletIdeal.τ).loc Cert.OutletIdeal.main_v15_0)),
      θ_run (Cert.OutletIdeal.defs (F := Ideal)) (onTc (τ := Cert.OutletIdeal.τ) (Cert.OutletIdeal.main (F := Ideal))) ⟨m, fun _ => 0, g⟩ (fun r => ∀ c : Dev Cert.OutletIdeal.nD,
          r.2.mem ((c.tc : Thread Cert.OutletIdeal.nD Cert.OutletIdeal.τ).loc Cert.OutletIdeal.main_v15_0) = v0 c
          ∧ r.2.mem ((c.tc : Thread Cert.OutletIdeal.nD Cert.OutletIdeal.τ).loc Cert.OutletIdeal.main_arg0) = m ((c.tc : Thread Cert.OutletIdeal.nD Cert.OutletIdeal.τ).loc Cert.OutletIdeal.main_arg0)
          ∧ r.2.mem ((c.tc : Thread Cert.OutletIdeal.nD Cert.OutletIdeal.τ).loc Cert.OutletIdeal.main_arg1) = m ((c.tc : Thread Cert.OutletIdeal.nD Cert.OutletIdeal.τ).loc Cert.OutletIdeal.main_arg1)
          ∧ r.2.mem ((c.tc : Thread Cert.OutletIdeal.nD Cert.OutletIdeal.τ).loc Cert.OutletIdeal.main_arg2) = m ((c.tc : Thread Cert.OutletIdeal.nD Cert.OutletIdeal.τ).loc Cert.OutletIdeal.main_arg2)
          ∧ r.2.mem ((c.tc : Thread Cert.OutletIdeal.nD Cert.OutletIdeal.τ).loc Cert.OutletIdeal.main_arg3) = m ((c.tc : Thread Cert.OutletIdeal.nD Cert.OutletIdeal.τ).loc Cert.OutletIdeal.main_arg3)
          ∧ r.2.mem ((c.tc : Thread Cert.OutletIdeal.nD Cert.OutletIdeal.τ).loc Cert.OutletIdeal.main_arg4) = m ((c.tc : Thread Cert.OutletIdeal.nD Cert.OutletIdeal.τ).loc Cert.OutletIdeal.main_arg4)
          ∧ r.2.mem ((c.tc : Thread Cert.OutletIdeal.nD Cert.OutletIdeal.τ).loc Cert.OutletIdeal.main_arg5) = m ((c.tc : Thread Cert.OutletIdeal.nD Cert.OutletIdeal.τ).loc Cert.OutletIdeal.main_arg5)
          ∧ r.2.mem ((c.tc : Thread Cert.OutletIdeal.nD Cert.OutletIdeal.τ).loc Cert.OutletIdeal.main_arg6) = m ((c.tc : Thread Cert.OutletIdeal.nD Cert.OutletIdeal.τ).loc Cert.OutletIdeal.main_arg6))
      ∧ θ_run (Cert.OutletReferenceIdeal.defs (F := Ideal)) (onTc (τ := Cert.OutletReferenceIdeal.τ) (Cert.OutletReferenceIdeal.main (F := Ideal))) ⟨m', fun _ => 0, g'⟩ (fun r => ∀ c : Dev Cert.OutletReferenceIdeal.nD,
          r.2.mem ((c.tc : Thread Cert.OutletReferenceIdeal.nD Cert.OutletReferenceIdeal.τ).loc Cert.OutletReferenceIdeal.main_v5) = v0 c
          ∧ r.2.mem ((c.tc : Thread Cert.OutletReferenceIdeal.nD Cert.OutletReferenceIdeal.τ).loc Cert.OutletReferenceIdeal.main_arg0) = m' ((c.tc : Thread Cert.OutletReferenceIdeal.nD Cert.OutletReferenceIdeal.τ).loc Cert.OutletReferenceIdeal.main_arg0)
          ∧ r.2.mem ((c.tc : Thread Cert.OutletReferenceIdeal.nD Cert.OutletReferenceIdeal.τ).loc Cert.OutletReferenceIdeal.main_arg1) = m' ((c.tc : Thread Cert.OutletReferenceIdeal.nD Cert.OutletReferenceIdeal.τ).loc Cert.OutletReferenceIdeal.main_arg1)
          ∧ r.2.mem ((c.tc : Thread Cert.OutletReferenceIdeal.nD Cert.OutletReferenceIdeal.τ).loc Cert.OutletReferenceIdeal.main_arg2) = m' ((c.tc : Thread Cert.OutletReferenceIdeal.nD Cert.OutletReferenceIdeal.τ).loc Cert.OutletReferenceIdeal.main_arg2)
          ∧ r.2.mem ((c.tc : Thread Cert.OutletReferenceIdeal.nD Cert.OutletReferenceIdeal.τ).loc Cert.OutletReferenceIdeal.main_arg3) = m' ((c.tc : Thread Cert.OutletReferenceIdeal.nD Cert.OutletReferenceIdeal.τ).loc Cert.OutletReferenceIdeal.main_arg3)
          ∧ r.2.mem ((c.tc : Thread Cert.OutletReferenceIdeal.nD Cert.OutletReferenceIdeal.τ).loc Cert.OutletReferenceIdeal.main_arg4) = m' ((c.tc : Thread Cert.OutletReferenceIdeal.nD Cert.OutletReferenceIdeal.τ).loc Cert.OutletReferenceIdeal.main_arg4)
          ∧ r.2.mem ((c.tc : Thread Cert.OutletReferenceIdeal.nD Cert.OutletReferenceIdeal.τ).loc Cert.OutletReferenceIdeal.main_arg5) = m' ((c.tc : Thread Cert.OutletReferenceIdeal.nD Cert.OutletReferenceIdeal.τ).loc Cert.OutletReferenceIdeal.main_arg5)
          ∧ r.2.mem ((c.tc : Thread Cert.OutletReferenceIdeal.nD Cert.OutletReferenceIdeal.τ).loc Cert.OutletReferenceIdeal.main_arg6) = m' ((c.tc : Thread Cert.OutletReferenceIdeal.nD Cert.OutletReferenceIdeal.τ).loc Cert.OutletReferenceIdeal.main_arg6))

def Claim : Prop :=
  ∃ (hKernel : Cert.Kernel.Facts) (hKernelIdeal : Cert.KernelIdeal.Facts) (hReferenceIdeal : Cert.ReferenceIdeal.Facts) (hReference : Cert.Reference.Facts) (hExperts : Cert.Experts.Facts) (hExpertsIdeal : Cert.ExpertsIdeal.Facts) (hExpertsReferenceIdeal : Cert.ExpertsReferenceIdeal.Facts) (hProjections : Cert.Projections.Facts) (hProjectionsIdeal : Cert.ProjectionsIdeal.Facts) (hProjectionsReferenceIdeal : Cert.ProjectionsReferenceIdeal.Facts) (hCombine : Cert.Combine.Facts) (hCombineIdeal : Cert.CombineIdeal.Facts) (hCombineReferenceIdeal : Cert.CombineReferenceIdeal.Facts) (hOutlet : Cert.Outlet.Facts) (hOutletIdeal : Cert.OutletIdeal.Facts) (hOutletReferenceIdeal : Cert.OutletReferenceIdeal.Facts) (hPre_planned : Cert.Pre_planned.Facts) (hPre_chained : Cert.Pre_chained.Facts) (hPre_inside : Cert.Pre_inside.Facts),
    quiescent_Kernel (hKernel := hKernel) (hPre_planned := hPre_planned)
    ∧ quiescent_KernelIdeal (hKernelIdeal := hKernelIdeal) (hPre_planned := hPre_planned)
    ∧ quiescent_ReferenceIdeal (hReferenceIdeal := hReferenceIdeal) (hPre_planned := hPre_planned)
    ∧ quiescent_Reference (hReference := hReference) (hPre_planned := hPre_planned)
    ∧ quiescent_Experts (hExperts := hExperts) (hPre_chained := hPre_chained)
    ∧ quiescent_ExpertsIdeal (hExpertsIdeal := hExpertsIdeal) (hPre_chained := hPre_chained)
    ∧ quiescent_ExpertsReferenceIdeal (hExpertsReferenceIdeal := hExpertsReferenceIdeal) (hPre_chained := hPre_chained)
    ∧ quiescent_Projections (hProjections := hProjections)
    ∧ quiescent_ProjectionsIdeal (hProjectionsIdeal := hProjectionsIdeal)
    ∧ quiescent_ProjectionsReferenceIdeal (hProjectionsReferenceIdeal := hProjectionsReferenceIdeal)
    ∧ quiescent_Combine (hCombine := hCombine) (hPre_inside := hPre_inside)
    ∧ quiescent_CombineIdeal (hCombineIdeal := hCombineIdeal) (hPre_inside := hPre_inside)
    ∧ quiescent_CombineReferenceIdeal (hCombineReferenceIdeal := hCombineReferenceIdeal) (hPre_inside := hPre_inside)
    ∧ quiescent_Outlet (hOutlet := hOutlet)
    ∧ quiescent_OutletIdeal (hOutletIdeal := hOutletIdeal)
    ∧ quiescent_OutletReferenceIdeal (hOutletReferenceIdeal := hOutletReferenceIdeal)
    ∧ preserves_Kernel_KernelIdeal
    ∧ algebraic_KernelIdeal_ReferenceIdeal (hKernelIdeal := hKernelIdeal) (hReferenceIdeal := hReferenceIdeal) (hPre_planned := hPre_planned)
    ∧ bitexact_Kernel_Reference (hKernel := hKernel) (hReference := hReference) (hPre_planned := hPre_planned)
    ∧ preserves_Experts_ExpertsIdeal
    ∧ algebraic_ExpertsIdeal_ExpertsReferenceIdeal (hExpertsIdeal := hExpertsIdeal) (hExpertsReferenceIdeal := hExpertsReferenceIdeal) (hPre_chained := hPre_chained)
    ∧ preserves_Projections_ProjectionsIdeal
    ∧ algebraic_ProjectionsIdeal_ProjectionsReferenceIdeal (hProjectionsIdeal := hProjectionsIdeal) (hProjectionsReferenceIdeal := hProjectionsReferenceIdeal)
    ∧ preserves_Combine_CombineIdeal
    ∧ algebraic_CombineIdeal_CombineReferenceIdeal (hCombineIdeal := hCombineIdeal) (hCombineReferenceIdeal := hCombineReferenceIdeal) (hPre_inside := hPre_inside)
    ∧ preserves_Outlet_OutletIdeal
    ∧ algebraic_OutletIdeal_OutletReferenceIdeal (hOutletIdeal := hOutletIdeal) (hOutletReferenceIdeal := hOutletReferenceIdeal)
-- ==== Pre_chained.lean ====
abbrev S288 : Shape := ⟨1, ![288]⟩
abbrev S1 : Shape := ⟨1, ![1]⟩
abbrev S4x73728x128 : Shape := ⟨3, ![4, 73728, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S287 : Shape := ⟨1, ![287]⟩
abbrev S_ : Shape := ⟨0, ![]⟩

class Facts : Prop where
  slices_S288_S287_1 : S288.Slices ![1] S287
  slices_S288_S287_0 : S288.Slices ![0] S287
  bcast_S_S288 : S_.BroadcastsInDim S288 (![] : Fin 0 → Fin S288.rank)
  reducesTo_S288_S_d0 : S288.ReducesTo [0] S_
  h_S_ : 0 < S_.numel
  reducesTo_S287_S_d0 : S287.ReducesTo [0] S_
  slices_S288_S1_287 : S288.Slices ![287] S1
  bcast_S_S1 : S_.BroadcastsInDim S1 (![] : Fin 0 → Fin S1.rank)
  reducesTo_S1_S_d0 : S1.ReducesTo [0] S_

variable [Facts]

def fn_where {F : FTy → Type} [FloatOps F] (arg0 : IVec S287 1) (arg1 : IVec S287 32) (arg2 : IVec S287 32) : IVec S287 32 :=
  let v0 : IVec S287 32 := select arg0 arg1 arg2
  v0

def fn_part1 {F : FTy → Type} [FloatOps F] (main_v15 : IVec S_ 1) (main_v18 : IVec S1 1) : IVec S_ 1 :=
  let main_c_4 : IVec S_ 1 := constantI S_ 1 1#1
  let main_v19 : IVec S_ 1 := (fun x v => Host.reduce IntOp.andi x v reducesTo_S1_S_d0 h_S_) main_v18 main_c_4
  let main_v20 : IVec S_ 1 := andi main_v15 main_v19
  main_v20

def fn {F : FTy → Type} [FloatOps F] (main_arg0 : IVec S288 32) (main_arg1 : IVec S288 32) (main_arg2 : IVec S1 32) (main_arg3 : IVec S4x73728x128 32) (main_arg4 : FVec F S32x1024x2048 .f32) (main_arg5 : FVec F S32x2048 .f32) (main_arg6 : FVec F S32x1024x1024 .f32) (main_arg7 : FVec F S32x1024 .f32) : IVec S_ 1 :=
  let main_v0 : IVec S287 32 := (extractStridedSlice S287 ![1] · slices_S288_S287_1) main_arg0
  let main_v1 : IVec S287 32 := (extractStridedSlice S287 ![0] · slices_S288_S287_0) main_arg0
  let main_v2 : IVec S287 1 := cmpi .eq main_v0 main_v1
  let main_c : IVec S_ 32 := constantI S_ 32 0#32
  let main_v3 : IVec S288 32 := broadcastInDim S288 ![] bcast_S_S288 main_c
  let main_v4 : IVec S288 1 := cmpi .sge main_arg0 main_v3
  let main_c_0 : IVec S_ 32 := constantI S_ 32 32#32
  let main_v5 : IVec S288 32 := broadcastInDim S288 ![] bcast_S_S288 main_c_0
  let main_v6 : IVec S288 1 := cmpi .slt main_arg0 main_v5
  let main_v7 : IVec S288 1 := andi main_v4 main_v6
  let main_c_1 : IVec S_ 1 := constantI S_ 1 1#1
  let main_v8 : IVec S_ 1 := (fun x v => Host.reduce IntOp.andi x v reducesTo_S288_S_d0 h_S_) main_v7 main_c_1
  let main_v9 : IVec S287 32 := (extractStridedSlice S287 ![0] · slices_S288_S287_0) main_arg1
  let main_v10 : IVec S287 32 := (extractStridedSlice S287 ![1] · slices_S288_S287_1) main_arg1
  let main_v11 : IVec S287 32 := (extractStridedSlice S287 ![1] · slices_S288_S287_1) main_arg0
  let main_v12 : IVec S287 32 := fn_where (F := F) main_v2 main_v10 main_v11
  let main_v13 : IVec S287 1 := cmpi .eq main_v9 main_v12
  let main_c_2 : IVec S_ 1 := constantI S_ 1 1#1
  let main_v14 : IVec S_ 1 := (fun x v => Host.reduce IntOp.andi x v reducesTo_S287_S_d0 h_S_) main_v13 main_c_2
  let main_v15 : IVec S_ 1 := andi main_v8 main_v14
  let main_v16 : IVec S1 32 := (extractStridedSlice S1 ![287] · slices_S288_S1_287) main_arg1
  let main_c_3 : IVec S_ 32 := constantI S_ 32 0#32
  let main_v17 : IVec S1 32 := broadcastInDim S1 ![] bcast_S_S1 main_c_3
  let main_v18 : IVec S1 1 := cmpi .slt main_v16 main_v17
  fn_part1 (F := F) main_v15 main_v18
-- ==== Pre_inside.lean ====
abbrev S65536 : Shape := ⟨1, ![65536]⟩
abbrev S8x73728x128 : Shape := ⟨3, ![8, 73728, 128]⟩
abbrev S16384x1024 : Shape := ⟨2, ![16384, 1024]⟩
abbrev S16384x128 : Shape := ⟨2, ![16384, 128]⟩
abbrev S1x2x8192x256 : Shape := ⟨4, ![1, 2, 8192, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel

variable [Facts]

def fn {F : FTy → Type} [FloatOps F] (main_arg0 : IVec S65536 32) (main_arg1 : FVec F S8x73728x128 .f32) (main_arg2 : FVec F S16384x1024 .f32) (main_arg3 : FVec F S16384x128 .f32) (main_arg4 : FVec F S1x2x8192x256 .f32) (main_arg5 : FVec F S1x1024 .f32) (main_arg6 : FVec F S1x1024x1024 .f32) (main_arg7 : FVec F S1x256x1024 .f32) (main_arg8 : FVec F S1024 .f32) : IVec S_ 1 :=
  let main_c : IVec S_ 32 := constantI S_ 32 0#32
  let main_v0 : IVec S65536 32 := broadcastInDim S65536 ![] bcast_S_S65536 main_c
  let main_v1 : IVec S65536 1 := cmpi .sge main_arg0 main_v0
  let main_c_0 : IVec S_ 32 := constantI S_ 32 73728#32
  let main_v2 : IVec S65536 32 := broadcastInDim S65536 ![] bcast_S_S65536 main_c_0
  let main_v3 : IVec S65536 1 := cmpi .slt main_arg0 main_v2
  let main_v4 : IVec S65536 1 := andi main_v1 main_v3
  let main_c_1 : IVec S_ 1 := constantI S_ 1 1#1
  let main_v5 : IVec S_ 1 := (fun x v => Host.reduce IntOp.andi x v reducesTo_S65536_S_d0 h_S_) main_v4 main_c_1
  main_v5
-- ==== Pre_planned.lean ====
abbrev S65536 : Shape := ⟨1, ![65536]⟩
abbrev S288 : Shape := ⟨1, ![288]⟩
abbrev S4x16384x128 : Shape := ⟨3, ![4, 16384, 128]⟩
abbrev S_ : Shape := ⟨0, ![]⟩
abbrev S73728 : Shape := ⟨1, ![73728]⟩
abbrev S65536x1 : Shape := ⟨2, ![65536, 1]⟩
abbrev S288x1 : Shape := ⟨2, ![288, 1]⟩
abbrev S65535 : Shape := ⟨1, ![65535]⟩
abbrev S288x256 : Shape := ⟨2, ![288, 256]⟩

class Facts : Prop where
  bcast_S_S73728 : S_.BroadcastsInDim S73728 (![] : Fin 0 → Fin S73728.rank)
  bcast_S_S65536 : S_.BroadcastsInDim S65536 (![] : Fin 0 → Fin S65536.rank)
  bcast_S65536_S65536x1_0 : S65536.BroadcastsInDim S65536x1 (![0] : Fin 1 → Fin S65536x1.rank)
  bcast_S288_S288x1_0 : S288.BroadcastsInDim S288x1 (![0] : Fin 1 → Fin S288x1.rank)
  bcast_S_S288x1 : S_.BroadcastsInDim S288x1 (![] : Fin 0 → Fin S288x1.rank)
  reducesTo_S65536_S_d0 : S65536.ReducesTo [0] S_
  h_S_ : 0 < S_.numel
  slices_S65536_S65535_0 : S65536.Slices ![0] S65535
  slices_S65536_S65535_1 : S65536.Slices ![1] S65535
  reducesTo_S65535_S_d0 : S65535.ReducesTo [0] S_
  shapeCasts_S73728_S288x256 : S73728.ShapeCasts S288x256
  bcast_S_S288x256 : S_.BroadcastsInDim S288x256 (![] : Fin 0 → Fin S288x256.rank)
  bcast_S288x1_S288x256_0_1 : S288x1.BroadcastsInDim S288x256 (![0, 1] : Fin 2 → Fin S288x256.rank)
  reducesTo_S288x256_S_d0_1 : S288x256.ReducesTo [0, 1] S_
  scatter_S73728_S65536x1_S65536_n_0_0_1_wf : ScatterDims.WF S73728 S65536x1 S65536 [] [0] [0] 1

variable [Facts]

def comparator_i32_d0 : BitVec 32 → BitVec 32 → BitVec 1 :=
  fun l r =>
    let v1 := IntOp.cmpi .slt l r
    v1
def scatter_S73728_S65536x1_S65536_n_0_0_1 : ScatterDims S73728 S65536x1 S65536 where
  updateWindowDims := []
  insertedWindowDims := [0]
  scatterDimsToOperandDims := [0]
  indexVectorDim := 1
  wf := scatter_S73728_S65536x1_S65536_n_0_0_1_wf
def fn_sort {F : FTy → Type} [FloatOps F] (arg0 : IVec S65536 32) : IVec S65536 32 :=
  let v0 : IVec S65536 32 := (fun x => Host.sort S65536 0 comparator_i32_d0 x) arg0
  v0

def fn_part1 {F : FTy → Type} [FloatOps F] (main_v0 : IVec S65536 32) (main_v9 : IVec S73728 32) (main_v12 : IVec S288x1 1) (main_v14 : IVec S65536 1) (main_v16 : IVec S65536 1) : IVec S_ 1 :=
  let main_v17 : IVec S65536 1 := andi main_v14 main_v16
  let main_c_6 : IVec S_ 1 := constantI S_ 1 1#1
  let main_v18 : IVec S_ 1 := (fun x v => Host.reduce IntOp.andi x v reducesTo_S65536_S_d0 h_S_) main_v17 main_c_6
  let main_v19 : IVec S65535 32 := (extractStridedSlice S65535 ![0] · slices_S65536_S65535_0) main_v0
  let main_v20 : IVec S65535 32 := (extractStridedSlice S65535 ![1] · slices_S65536_S65535_1) main_v0
  let main_v21 : IVec S65535 1 := cmpi .slt main_v19 main_v20
  let main_c_7 : IVec S_ 1 := constantI S_ 1 1#1
  let main_v22 : IVec S_ 1 := (fun x v => Host.reduce IntOp.andi x v reducesTo_S65535_S_d0 h_S_) main_v21 main_c_7
  let main_v23 : IVec S_ 1 := andi main_v18 main_v22
  let main_v24 : IVec S288x256 32 := shapeCast S288x256 main_v9 shapeCasts_S73728_S288x256
  let main_c_8 : IVec S_ 32 := constantI S_ 32 1#32
  let main_v25 : IVec S288x256 32 := broadcastInDim S288x256 ![] bcast_S_S288x256 main_c_8
  let main_v26 : IVec S288x256 1 := cmpi .eq main_v24 main_v25
  let main_v27 : IVec S288x256 1 := broadcastInDim S288x256 ![0, 1] bcast_S288x1_S288x256_0_1 main_v12
  let main_v28 : IVec S288x256 1 := ori main_v26 main_v27
  let main_c_9 : IVec S_ 1 := constantI S_ 1 1#1
  let main_v29 : IVec S_ 1 := (fun x v => Host.reduce IntOp.andi x v reducesTo_S288x256_S_d0_1 h_S_) main_v28 main_c_9
  let main_v30 : IVec S_ 1 := andi main_v23 main_v29
  main_v30

def fn {F : FTy → Type} [FloatOps F] (main_arg0 : IVec S65536 32) (main_arg1 : IVec S288 32) (main_arg2 : IVec S4x16384x128 32) : IVec S_ 1 :=
  let main_v0 : IVec S65536 32 := fn_sort (F := F) main_arg0
  let main_c : IVec S_ 32 := constantI S_ 32 0#32
  let main_v1 : IVec S73728 32 := broadcastInDim S73728 ![] bcast_S_S73728 main_c
  let main_c_0 : IVec S_ 32 := constantI S_ 32 0#32
  let main_v2 : IVec S65536 32 := broadcastInDim S65536 ![] bcast_S_S65536 main_c_0
  let main_v3 : IVec S65536 1 := cmpi .slt main_arg0 main_v2
  let main_c_1 : IVec S_ 32 := constantI S_ 32 73728#32
  let main_v4 : IVec S65536 32 := broadcastInDim S65536 ![] bcast_S_S65536 main_c_1
  let main_v5 : IVec S65536 32 := addi main_arg0 main_v4
  let main_v6 : IVec S65536 32 := select main_v3 main_v5 main_arg0
  let main_v7 : IVec S65536x1 32 := broadcastInDim S65536x1 ![0] bcast_S65536_S65536x1_0 main_v6
  let main_c_2 : IVec S_ 32 := constantI S_ 32 1#32
  let main_v8 : IVec S65536 32 := broadcastInDim S65536 ![] bcast_S_S65536 main_c_2
  let main_v9 : IVec S73728 32 := (fun x i u => Host.scatter scatter_S73728_S65536x1_S65536_n_0_0_1 (fun _ b => b) x i u) main_v1 main_v7 main_v8
  let main_v10 : IVec S288x1 32 := broadcastInDim S288x1 ![0] bcast_S288_S288x1_0 main_arg1
  let main_c_3 : IVec S_ 32 := constantI S_ 32 0#32
  let main_v11 : IVec S288x1 32 := broadcastInDim S288x1 ![] bcast_S_S288x1 main_c_3
  let main_v12 : IVec S288x1 1 := cmpi .ne main_v10 main_v11
  let main_c_4 : IVec S_ 32 := constantI S_ 32 0#32
  let main_v13 : IVec S65536 32 := broadcastInDim S65536 ![] bcast_S_S65536 main_c_4
  let main_v14 : IVec S65536 1 := cmpi .sge main_arg0 main_v13
  let main_c_5 : IVec S_ 32 := constantI S_ 32 73728#32
  let main_v15 : IVec S65536 32 := broadcastInDim S65536 ![] bcast_S_S65536 main_c_5
  let main_v16 : IVec S65536 1 := cmpi .slt main_arg0 main_v15
  fn_part1 (F := F) main_v0 main_v9 main_v12 main_v14 main_v16
-- ==== Kernel.lean ====
abbrev S65536 : Shape := ⟨1, ![65536]⟩
abbrev S288 : Shape := ⟨1, ![288]⟩
abbrev S4x16384x128 : Shape := ⟨3, ![4, 16384, 128]⟩
abbrev S4x73728x128 : Shape := ⟨3, ![4, 73728, 128]⟩
abbrev S3x4x512x128 : Shape := ⟨4, ![3, 4, 512, 128]⟩
abbrev S4x256x128 : Shape := ⟨3, ![4, 256, 128]⟩
abbrev S3 : Shape := ⟨1, ![3]⟩
abbrev S_ : Shape := ⟨0, ![]⟩
abbrev S1 : Shape := ⟨1, ![1]⟩
abbrev S1x4x512x128 : Shape := ⟨4, ![1, 4, 512, 128]⟩
abbrev S4x512x128 : Shape := ⟨3, ![4, 512, 128]⟩
abbrev S4x1x128 : Shape := ⟨3, ![4, 1, 128]⟩
abbrev S1x4x1x128 : Shape := ⟨4, ![1, 4, 1, 128]⟩

abbrev nBuf : Space → Nat
  | .hbm => 2
  | .vmem => 2
  | .smem => 2
  | _ => 0

abbrev bufTy : (tb : Table) → Fin (tcTables nBuf tb) → BufTy
  | .hbm, ⟨0, _⟩ => ⟨S4x16384x128, .i32⟩
  | .hbm, ⟨1, _⟩ => ⟨S4x73728x128, .i32⟩
  | .local _ .vmem, ⟨0, _⟩ => ⟨S3x4x512x128, .i32⟩
  | .local _ .vmem, ⟨1, _⟩ => ⟨S4x256x128, .i32⟩
  | .local _ .smem, ⟨0, _⟩ => ⟨S65536, .i32⟩
  | .local _ .smem, ⟨1, _⟩ => ⟨S288, .i32⟩
  | _, _ => ⟨S4x16384x128, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg2 : Ref sig .tc := ⟨.hbm, 0, rfl⟩
abbrev main_v0 : Ref sig .tc := ⟨.hbm, 1, rfl⟩
abbrev main_arg0 : Ref sig .tc := ⟨.smem, 0, rfl⟩
abbrev main_arg1 : Ref sig .tc := ⟨.smem, 1, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_20 : BitVec 32 := 0#32
  let c288_i32 : BitVec 32 := 288#32
  let v30 : BitVec 32 := Scalar.addi c0_i32_20 c288_i32
  let c1_i32_21 : BitVec 32 := 1#32
  ⟨c0_i32_20, v30, c1_i32_21⟩
def k0_off1 (k0_t1 : Fin k0_t1_loop.trips) : Fin 1 → Nat :=
  let c0_i32_20 : BitVec 32 := 0#32
  let c1_i32_21 : BitVec 32 := 1#32
  let arg10 : BitVec 32 := Scf.iv c0_i32_20 c1_i32_21 k0_t1
  let v32 : Index := Scalar.indexCast arg10
  ![v32.toNat]
def k0_off2 (k0_t1 : Fin k0_t1_loop.trips) : Fin 3 → Nat :=
  let c0_i32_29 : BitVec 32 := 0#32
  let c0_i32_20 : BitVec 32 := 0#32
  let c1_i32_21 : BitVec 32 := 1#32
  let arg10 : BitVec 32 := Scf.iv c0_i32_20 c1_i32_21 k0_t1
  let c256_i32 : BitVec 32 := 256#32
  let v37 : BitVec 32 := Scalar.muli arg10 c256_i32
  let c0_i32_30 : BitVec 32 := 0#32
  ![0, v37.toNat, 0]
@[reducible] def k0_t2_loop : Scf.Loop 32 :=
  let c0_i32_23 : BitVec 32 := 0#32
  let c288_i32_24 : BitVec 32 := 288#32
  let v31 : BitVec 32 := Scalar.addi c0_i32_23 c288_i32_24
  let c1_i32_25 : BitVec 32 := 1#32
  ⟨c0_i32_23, v31, c1_i32_25⟩
def k0_off3 (k0_t2 : Fin k0_t2_loop.trips) : Fin 1 → Nat :=
  let c0_i32_23 : BitVec 32 := 0#32
  let c1_i32_25 : BitVec 32 := 1#32
  let arg10 : BitVec 32 := Scf.iv c0_i32_23 c1_i32_25 k0_t2
  let v32 : Index := Scalar.indexCast arg10
  ![v32.toNat]
def k0_off4 (k0_t2 : Fin k0_t2_loop.trips) : Fin 3 → Nat :=
  let c0_i32_29 : BitVec 32 := 0#32
  let c0_i32_23 : BitVec 32 := 0#32
  let c1_i32_25 : BitVec 32 := 1#32
  let arg10 : BitVec 32 := Scf.iv c0_i32_23 c1_i32_25 k0_t2
  let c256_i32 : BitVec 32 := 256#32
  let v37 : BitVec 32 := Scalar.muli arg10 c256_i32
  let c0_i32_30 : BitVec 32 := 0#32
  ![0, v37.toNat, 0]
def k0_cond5 (i : grid0.Coords) : BitVec 1 :=
  let arg0 : BitVec 32 := BitVec.ofNat 32 (i 0).val
  let c2_i32 : BitVec 32 := 2#32
  let v9 : BitVec 1 := Scalar.cmpi .sge arg0 c2_i32
  let v10 : BitVec 32 := Scalar.extui v9
  let c0_i32_4 : BitVec 32 := 0#32
  let v11 : BitVec 1 := Scalar.cmpi .ne v10 c0_i32_4
  v11

@[reducible] def k0_t3_loop : Scf.Loop 32 :=
  let c0_i32_17 : BitVec 32 := 0#32
  let c2048_i32 : BitVec 32 := 2048#32
  let v26 : BitVec 32 := Scalar.addi c0_i32_17 c2048_i32
  let c1_i32_18 : BitVec 32 := 1#32
  ⟨c0_i32_17, v26, c1_i32_18⟩
def k0_off5 (i : grid0.Coords) : Fin 1 → Nat :=
  let arg0 : BitVec 32 := BitVec.ofNat 32 (i 0).val
  let c1_i32 : BitVec 32 := 1#32
  let v4 : BitVec 32 := Scalar.addi arg0 c1_i32
  let c3_i32_1 : BitVec 32 := 3#32
  let v5 : BitVec 32 := Scalar.remsi v4 c3_i32_1
  ![v5.toNat]
def k0_off6 (i : grid0.Coords) : Fin 4 → Nat :=
  let arg0 : BitVec 32 := BitVec.ofNat 32 (i 0).val
  let c1_i32 : BitVec 32 := 1#32
  let v4 : BitVec 32 := Scalar.addi arg0 c1_i32
  let c3_i32_1 : BitVec 32 := 3#32
  let v5 : BitVec 32 := Scalar.remsi v4 c3_i32_1
  let c0_i32_22 : BitVec 32 := 0#32
  let c0_i32_23 : BitVec 32 := 0#32
  let c0_i32_24 : BitVec 32 := 0#32
  ![v5.toNat, 0, 0, 0]
def k0_cond6 (i : grid0.Coords) : BitVec 1 :=
  let arg0 : BitVec 32 := BitVec.ofNat 32 (i 0).val
  let c1_i32_5 : BitVec 32 := 1#32
  let v12 : BitVec 32 := Scalar.addi arg0 c1_i32_5
  let c32_i32 : BitVec 32 := 32#32
  let v13 : BitVec 1 := Scalar.cmpi .slt v12 c32_i32
  let v14 : BitVec 32 := Scalar.extui v13
  let c0_i32_6 : BitVec 32 := 0#32
  let v15 : BitVec 1 := Scalar.cmpi .ne v14 c0_i32_6
  v15

def k0_off7 (i : grid0.Coords) : Fin 1 → Nat :=
  let arg0 : BitVec 32 := BitVec.ofNat 32 (i 0).val
  let c1_i32 : BitVec 32 := 1#32
  let v4 : BitVec 32 := Scalar.addi arg0 c1_i32
  let c3_i32_1 : BitVec 32 := 3#32
  let v5 : BitVec 32 := Scalar.remsi v4 c3_i32_1
  ![v5.toNat]
def k0_off8 (i : grid0.Coords) : Fin 4 → Nat :=
  let arg0 : BitVec 32 := BitVec.ofNat 32 (i 0).val
  let c1_i32 : BitVec 32 := 1#32
  let v4 : BitVec 32 := Scalar.addi arg0 c1_i32
  let c3_i32_1 : BitVec 32 := 3#32
  let v5 : BitVec 32 := Scalar.remsi v4 c3_i32_1
  let c0_i32_19 : BitVec 32 := 0#32
  let c0_i32_20 : BitVec 32 := 0#32
  let c0_i32_21 : BitVec 32 := 0#32
  ![v5.toNat, 0, 0, 0]
def k0_off9 (i : grid0.Coords) : Fin 3 → Nat :=
  let c0_i32_22 : BitVec 32 := 0#32
  let arg0 : BitVec 32 := BitVec.ofNat 32 (i 0).val
  let c1_i32_17 : BitVec 32 := 1#32
  let v26 : BitVec 32 := Scalar.addi arg0 c1_i32_17
  let c512_i32_18 : BitVec 32 := 512#32
  let v27 : BitVec 32 := Scalar.muli v26 c512_i32_18
  let c0_i32_23 : BitVec 32 := 0#32
  ![0, v27.toNat, 0]
def k0_off10 (i : grid0.Coords) : Fin 1 → Nat :=
  let arg0 : BitVec 32 := BitVec.ofNat 32 (i 0).val
  let c3_i32 : BitVec 32 := 3#32
  let v3 : BitVec 32 := Scalar.remsi arg0 c3_i32
  ![v3.toNat]
def k0_off11 (i : grid0.Coords) : Fin 4 → Nat :=
  let arg0 : BitVec 32 := BitVec.ofNat 32 (i 0).val
  let c3_i32 : BitVec 32 := 3#32
  let v3 : BitVec 32 := Scalar.remsi arg0 c3_i32
  let c0_i32_7 : BitVec 32 := 0#32
  let c0_i32_8 : BitVec 32 := 0#32
  let c0_i32_9 : BitVec 32 := 0#32
  ![v3.toNat, 0, 0, 0]
def k0_off12 (i : grid0.Coords) : Fin 3 → Nat :=
  let c0_i32_10 : BitVec 32 := 0#32
  let arg0 : BitVec 32 := BitVec.ofNat 32 (i 0).val
  let c512_i32 : BitVec 32 := 512#32
  let v16 : BitVec 32 := Scalar.muli arg0 c512_i32
  let c0_i32_11 : BitVec 32 := 0#32
  ![0, v16.toNat, 0]
@[reducible] def k0_t4_loop : Scf.Loop 32 :=
  let c0_i32_12 : BitVec 32 := 0#32
  let c512_i32_13 : BitVec 32 := 512#32
  let v22 : BitVec 32 := Scalar.addi c0_i32_12 c512_i32_13
  let c1_i32_14 : BitVec 32 := 1#32
  ⟨c0_i32_12, v22, c1_i32_14⟩
def k0_off13 (i : grid0.Coords) (k0_t4 : Fin k0_t4_loop.trips) : Fin 1 → Nat :=
  let c0_i32_18 : BitVec 32 := 0#32
  let arg0 : BitVec 32 := BitVec.ofNat 32 (i 0).val
  let c512_i32_17 : BitVec 32 := 512#32
  let v26 : BitVec 32 := Scalar.muli arg0 c512_i32_17
  let v27 : BitVec 32 := Scalar.addi c0_i32_18 v26
  let c0_i32_12 : BitVec 32 := 0#32
  let c1_i32_14 : BitVec 32 := 1#32
  let arg10 : BitVec 32 := Scf.iv c0_i32_12 c1_i32_14 k0_t4
  let v28 : BitVec 32 := Scalar.addi v27 arg10
  let v29 : Index := Scalar.indexCast v28
  ![v29.toNat]
def k0_off14 (i : grid0.Coords) : Fin 1 → Nat :=
  let arg0 : BitVec 32 := BitVec.ofNat 32 (i 0).val
  let c3_i32 : BitVec 32 := 3#32
  let v3 : BitVec 32 := Scalar.remsi arg0 c3_i32
  ![v3.toNat]
def k0_off15 (v30 : BitVec 32) : Fin 3 → Nat :=
  let c0_i32_19 : BitVec 32 := 0#32
  let c0_i32_20 : BitVec 32 := 0#32
  ![0, v30.toNat, 0]

def k0_chk1 (v30 : BitVec 32) : Prop :=
  (∀ a, (k0_off15 v30) a + S4x1x128.size a ≤ S4x73728x128.size a)
theorem k0_off15_inb : ∀ (v30 : BitVec 32) (k0_hw1 : k0_chk1 v30), ∀ a, (k0_off15 v30) a + S4x1x128.size a ≤ S4x73728x128.size a := fun v30 k0_hw1 => k0_hw1

def k0_off16 (i : grid0.Coords) (k0_t4 : Fin k0_t4_loop.trips) : Fin 4 → Nat :=
  let arg0 : BitVec 32 := BitVec.ofNat 32 (i 0).val
  let c3_i32 : BitVec 32 := 3#32
  let v3 : BitVec 32 := Scalar.remsi arg0 c3_i32
  let c0_i32_21 : BitVec 32 := 0#32
  let c0_i32_12 : BitVec 32 := 0#32
  let c1_i32_14 : BitVec 32 := 1#32
  let arg10 : BitVec 32 := Scf.iv c0_i32_12 c1_i32_14 k0_t4
  let c0_i32_22 : BitVec 32 := 0#32
  ![v3.toNat, 0, arg10.toNat, 0]
def k0_off17 (i : grid0.Coords) (k0_t4 : Fin k0_t4_loop.trips) : Fin 1 → Nat :=
  let c16384_i32 : BitVec 32 := 16384#32
  let arg0 : BitVec 32 := BitVec.ofNat 32 (i 0).val
  let c512_i32_23 : BitVec 32 := 512#32
  let v36 : BitVec 32 := Scalar.muli arg0 c512_i32_23
  let v37 : BitVec 32 := Scalar.addi c16384_i32 v36
  let c0_i32_12 : BitVec 32 := 0#32
  let c1_i32_14 : BitVec 32 := 1#32
  let arg10 : BitVec 32 := Scf.iv c0_i32_12 c1_i32_14 k0_t4
  let v38 : BitVec 32 := Scalar.addi v37 arg10
  let v39 : Index := Scalar.indexCast v38
  ![v39.toNat]
def k0_off18 (i : grid0.Coords) : Fin 1 → Nat :=
  let arg0 : BitVec 32 := BitVec.ofNat 32 (i 0).val
  let c3_i32 : BitVec 32 := 3#32
  let v3 : BitVec 32 := Scalar.remsi arg0 c3_i32
  ![v3.toNat]
def k0_off19 (v40 : BitVec 32) : Fin 3 → Nat :=
  let c0_i32_24 : BitVec 32 := 0#32
  let c0_i32_25 : BitVec 32 := 0#32
  ![0, v40.toNat, 0]

def k0_chk2 (v40 : BitVec 32) : Prop :=
  (∀ a, (k0_off19 v40) a + S4x1x128.size a ≤ S4x73728x128.size a)
theorem k0_off19_inb : ∀ (v40 : BitVec 32) (k0_hw2 : k0_chk2 v40), ∀ a, (k0_off19 v40) a + S4x1x128.size a ≤ S4x73728x128.size a := fun v40 k0_hw2 => k0_hw2

def k0_off20 (i : grid0.Coords) (k0_t4 : Fin k0_t4_loop.trips) : Fin 4 → Nat :=
  let arg0 : BitVec 32 := BitVec.ofNat 32 (i 0).val
  let c3_i32 : BitVec 32 := 3#32
  let v3 : BitVec 32 := Scalar.remsi arg0 c3_i32
  let c0_i32_26 : BitVec 32 := 0#32
  let c0_i32_12 : BitVec 32 := 0#32
  let c1_i32_14 : BitVec 32 := 1#32
  let arg10 : BitVec 32 := Scf.iv c0_i32_12 c1_i32_14 k0_t4
  let c0_i32_27 : BitVec 32 := 0#32
  ![v3.toNat, 0, arg10.toNat, 0]
def k0_off21 (i : grid0.Coords) (k0_t4 : Fin k0_t4_loop.trips) : Fin 1 → Nat :=
  let c32768_i32 : BitVec 32 := 32768#32
  let arg0 : BitVec 32 := BitVec.ofNat 32 (i 0).val
  let c512_i32_28 : BitVec 32 := 512#32
  let v46 : BitVec 32 := Scalar.muli arg0 c512_i32_28
  let v47 : BitVec 32 := Scalar.addi c32768_i32 v46
  let c0_i32_12 : BitVec 32 := 0#32
  let c1_i32_14 : BitVec 32 := 1#32
  let arg10 : BitVec 32 := Scf.iv c0_i32_12 c1_i32_14 k0_t4
  let v48 : BitVec 32 := Scalar.addi v47 arg10
  let v49 : Index := Scalar.indexCast v48
  ![v49.toNat]
def k0_off22 (i : grid0.Coords) : Fin 1 → Nat :=
  let arg0 : BitVec 32 := BitVec.ofNat 32 (i 0).val
  let c3_i32 : BitVec 32 := 3#32
  let v3 : BitVec 32 := Scalar.remsi arg0 c3_i32
  ![v3.toNat]
def k0_off23 (v50 : BitVec 32) : Fin 3 → Nat :=
  let c0_i32_29 : BitVec 32 := 0#32
  let c0_i32_30 : BitVec 32 := 0#32
  ![0, v50.toNat, 0]

def k0_chk3 (v50 : BitVec 32) : Prop :=
  (∀ a, (k0_off23 v50) a + S4x1x128.size a ≤ S4x73728x128.size a)
theorem k0_off23_inb : ∀ (v50 : BitVec 32) (k0_hw3 : k0_chk3 v50), ∀ a, (k0_off23 v50) a + S4x1x128.size a ≤ S4x73728x128.size a := fun v50 k0_hw3 => k0_hw3

def k0_off24 (i : grid0.Coords) (k0_t4 : Fin k0_t4_loop.trips) : Fin 4 → Nat :=
  let arg0 : BitVec 32 := BitVec.ofNat 32 (i 0).val
  let c3_i32 : BitVec 32 := 3#32
  let v3 : BitVec 32 := Scalar.remsi arg0 c3_i32
  let c0_i32_31 : BitVec 32 := 0#32
  let c0_i32_12 : BitVec 32 := 0#32
  let c1_i32_14 : BitVec 32 := 1#32
  let arg10 : BitVec 32 := Scf.iv c0_i32_12 c1_i32_14 k0_t4
  let c0_i32_32 : BitVec 32 := 0#32
  ![v3.toNat, 0, arg10.toNat, 0]
def k0_off25 (i : grid0.Coords) (k0_t4 : Fin k0_t4_loop.trips) : Fin 1 → Nat :=
  let c49152_i32 : BitVec 32 := 49152#32
  let arg0 : BitVec 32 := BitVec.ofNat 32 (i 0).val
  let c512_i32_33 : BitVec 32 := 512#32
  let v56 : BitVec 32 := Scalar.muli arg0 c512_i32_33
  let v57 : BitVec 32 := Scalar.addi c49152_i32 v56
  let c0_i32_12 : BitVec 32 := 0#32
  let c1_i32_14 : BitVec 32 := 1#32
  let arg10 : BitVec 32 := Scf.iv c0_i32_12 c1_i32_14 k0_t4
  let v58 : BitVec 32 := Scalar.addi v57 arg10
  let v59 : Index := Scalar.indexCast v58
  ![v59.toNat]
def k0_off26 (i : grid0.Coords) : Fin 1 → Nat :=
  let arg0 : BitVec 32 := BitVec.ofNat 32 (i 0).val
  let c3_i32 : BitVec 32 := 3#32
  let v3 : BitVec 32 := Scalar.remsi arg0 c3_i32
  ![v3.toNat]
def k0_off27 (v60 : BitVec 32) : Fin 3 → Nat :=
  let c0_i32_34 : BitVec 32 := 0#32
  let c0_i32_35 : BitVec 32 := 0#32
  ![0, v60.toNat, 0]

def k0_chk4 (v60 : BitVec 32) : Prop :=
  (∀ a, (k0_off27 v60) a + S4x1x128.size a ≤ S4x73728x128.size a)
theorem k0_off27_inb : ∀ (v60 : BitVec 32) (k0_hw4 : k0_chk4 v60), ∀ a, (k0_off27 v60) a + S4x1x128.size a ≤ S4x73728x128.size a := fun v60 k0_hw4 => k0_hw4

def k0_off28 (i : grid0.Coords) (k0_t4 : Fin k0_t4_loop.trips) : Fin 4 → Nat :=
  let arg0 : BitVec 32 := BitVec.ofNat 32 (i 0).val
  let c3_i32 : BitVec 32 := 3#32
  let v3 : BitVec 32 := Scalar.remsi arg0 c3_i32
  let c0_i32_36 : BitVec 32 := 0#32
  let c0_i32_12 : BitVec 32 := 0#32
  let c1_i32_14 : BitVec 32 := 1#32
  let arg10 : BitVec 32 := Scf.iv c0_i32_12 c1_i32_14 k0_t4
  let c0_i32_37 : BitVec 32 := 0#32
  ![v3.toNat, 0, arg10.toNat, 0]
def k0_cond7 (i : grid0.Coords) : BitVec 1 :=
  let arg0 : BitVec 32 := BitVec.ofNat 32 (i 0).val
  let c31_i32 : BitVec 32 := 31#32
  let v23 : BitVec 1 := Scalar.cmpi .eq arg0 c31_i32
  let v24 : BitVec 32 := Scalar.extui v23
  let c0_i32_16 : BitVec 32 := 0#32
  let v25 : BitVec 1 := Scalar.cmpi .ne v24 c0_i32_16
  v25

def k0_cond8 (i : grid0.Coords) : BitVec 1 :=
  let arg0 : BitVec 32 := BitVec.ofNat 32 (i 0).val
  let c0_i32_17 : BitVec 32 := 0#32
  let v26 : BitVec 32 := Scalar.subi arg0 c0_i32_17
  let c0_i32_18 : BitVec 32 := 0#32
  let v27 : BitVec 1 := Scalar.cmpi .sge v26 c0_i32_18
  let v28 : BitVec 32 := Scalar.extui v27
  let c0_i32_19 : BitVec 32 := 0#32
  let v29 : BitVec 1 := Scalar.cmpi .ne v28 c0_i32_19
  v29

@[reducible] def k0_t5_loop : Scf.Loop 32 :=
  let c0_i32_26 : BitVec 32 := 0#32
  let c2048_i32 : BitVec 32 := 2048#32
  let v37 : BitVec 32 := Scalar.addi c0_i32_26 c2048_i32
  let c1_i32_27 : BitVec 32 := 1#32
  ⟨c0_i32_26, v37, c1_i32_27⟩
def k0_off29 (i : grid0.Coords) : Fin 1 → Nat :=
  let arg0 : BitVec 32 := BitVec.ofNat 32 (i 0).val
  let c0_i32_23 : BitVec 32 := 0#32
  let v34 : BitVec 32 := Scalar.subi arg0 c0_i32_23
  let c3_i32_24 : BitVec 32 := 3#32
  let v35 : BitVec 32 := Scalar.addi v34 c3_i32_24
  let c3_i32_25 : BitVec 32 := 3#32
  let v36 : BitVec 32 := Scalar.remsi v35 c3_i32_25
  ![v36.toNat]
def k0_off30 (i : grid0.Coords) : Fin 4 → Nat :=
  let arg0 : BitVec 32 := BitVec.ofNat 32 (i 0).val
  let c0_i32_23 : BitVec 32 := 0#32
  let v34 : BitVec 32 := Scalar.subi arg0 c0_i32_23
  let c3_i32_24 : BitVec 32 := 3#32
  let v35 : BitVec 32 := Scalar.addi v34 c3_i32_24
  let c3_i32_25 : BitVec 32 := 3#32
  let v36 : BitVec 32 := Scalar.remsi v35 c3_i32_25
  let c0_i32_31 : BitVec 32 := 0#32
  let c0_i32_32 : BitVec 32 := 0#32
  let c0_i32_33 : BitVec 32 := 0#32
  ![v36.toNat, 0, 0, 0]
def k0_cond9 (i : grid0.Coords) : BitVec 1 :=
  let arg0 : BitVec 32 := BitVec.ofNat 32 (i 0).val
  let c1_i32_20 : BitVec 32 := 1#32
  let v30 : BitVec 32 := Scalar.subi arg0 c1_i32_20
  let c0_i32_21 : BitVec 32 := 0#32
  let v31 : BitVec 1 := Scalar.cmpi .sge v30 c0_i32_21
  let v32 : BitVec 32 := Scalar.extui v31
  let c0_i32_22 : BitVec 32 := 0#32
  let v33 : BitVec 1 := Scalar.cmpi .ne v32 c0_i32_22
  v33

@[reducible] def k0_t6_loop : Scf.Loop 32 :=
  let c0_i32_26 : BitVec 32 := 0#32
  let c2048_i32 : BitVec 32 := 2048#32
  let v37 : BitVec 32 := Scalar.addi c0_i32_26 c2048_i32
  let c1_i32_27 : BitVec 32 := 1#32
  ⟨c0_i32_26, v37, c1_i32_27⟩
def k0_off31 (i : grid0.Coords) : Fin 1 → Nat :=
  let arg0 : BitVec 32 := BitVec.ofNat 32 (i 0).val
  let c1_i32_23 : BitVec 32 := 1#32
  let v34 : BitVec 32 := Scalar.subi arg0 c1_i32_23
  let c3_i32_24 : BitVec 32 := 3#32
  let v35 : BitVec 32 := Scalar.addi v34 c3_i32_24
  let c3_i32_25 : BitVec 32 := 3#32
  let v36 : BitVec 32 := Scalar.remsi v35 c3_i32_25
  ![v36.toNat]
def k0_off32 (i : grid0.Coords) : Fin 4 → Nat :=
  let arg0 : BitVec 32 := BitVec.ofNat 32 (i 0).val
  let c1_i32_23 : BitVec 32 := 1#32
  let v34 : BitVec 32 := Scalar.subi arg0 c1_i32_23
  let c3_i32_24 : BitVec 32 := 3#32
  let v35 : BitVec 32 := Scalar.addi v34 c3_i32_24
  let c3_i32_25 : BitVec 32 := 3#32
  let v36 : BitVec 32 := Scalar.remsi v35 c3_i32_25
  let c0_i32_31 : BitVec 32 := 0#32
  let c0_i32_32 : BitVec 32 := 0#32
  let c0_i32_33 : BitVec 32 := 0#32
  ![v36.toNat, 0, 0, 0]
-- ==== Reference.lean ====
abbrev S65536 : Shape := ⟨1, ![65536]⟩
abbrev S288 : Shape := ⟨1, ![288]⟩
abbrev S4x16384x128 : Shape := ⟨3, ![4, 16384, 128]⟩
abbrev S4x65536x128 : Shape := ⟨3, ![4, 65536, 128]⟩
abbrev S_ : Shape := ⟨0, ![]⟩
abbrev S4x73728x128 : Shape := ⟨3, ![4, 73728, 128]⟩
abbrev S65536x1 : Shape := ⟨2, ![65536, 1]⟩

abbrev nBuf : Space → Nat
  | .hbm => 15
  | .vmem => 0
  | .smem => 0
  | _ => 0

abbrev bufTy : (tb : Table) → Fin (tcTables nBuf tb) → BufTy
  | .hbm, ⟨0, _⟩ => ⟨S65536, .i32⟩
  | .hbm, ⟨1, _⟩ => ⟨S288, .i32⟩
  | .hbm, ⟨2, _⟩ => ⟨S4x16384x128, .i32⟩
  | .hbm, ⟨3, _⟩ => ⟨S4x65536x128, .i32⟩
  | .hbm, ⟨4, _⟩ => ⟨S_, .i32⟩
  | .hbm, ⟨5, _⟩ => ⟨S4x73728x128, .i32⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S65536x1, .i32⟩
  | .hbm, ⟨14, _⟩ => ⟨S4x73728x128, .i32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Experts.lean ====
abbrev S288 : Shape := ⟨1, ![288]⟩
abbrev S1 : Shape := ⟨1, ![1]⟩
abbrev S4x73728x128 : Shape := ⟨3, ![4, 73728, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S8x73728x128 : Shape := ⟨3, ![8, 73728, 128]⟩
abbrev S4x256x128 : Shape := ⟨3, ![4, 256, 128]⟩
abbrev S1x1x2048 : Shape := ⟨3, ![1, 1, 2048]⟩
abbrev S1x1x1024 : Shape := ⟨3, ![1, 1, 1024]⟩
abbrev S8x256x128 : Shape := ⟨3, ![8, 256, 128]⟩
abbrev S1024x2048 : Shape := ⟨2, ![1024, 2048]⟩
abbrev S1024x1024 : Shape := ⟨2, ![1024, 1024]⟩
abbrev S2 : Shape := ⟨1, ![2]⟩
abbrev S_ : Shape := ⟨0, ![]⟩
abbrev S1x1024x2048 : Shape := ⟨3, ![1, 1024, 2048]⟩
abbrev S1x1024x1024 : Shape := ⟨3, ![1, 1024, 1024]⟩
abbrev S1x256x128 : Shape := ⟨3, ![1, 256, 128]⟩
abbrev S256x128 : Shape := ⟨2, ![256, 128]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 8
  | .vmem => 12
  | .smem => 3
  | _ => 0

abbrev bufTy : (tb : Table) → Fin (tcTables nBuf tb) → BufTy
  | .hbm, ⟨0, _⟩ => ⟨S4x73728x128, .i32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S8x73728x128, .f32⟩
  | .local _ .vmem, ⟨0, _⟩ => ⟨S4x256x128, .i32⟩
  | .local _ .vmem, ⟨1, _⟩ => ⟨S4x256x128, .i32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S8x256x128, .f32⟩
  | .local _ .vmem, ⟨7, _⟩ => ⟨S8x256x128, .f32⟩
  | .local _ .vmem, ⟨8, _⟩ => ⟨S1024x2048, .f32⟩
  | .local _ .vmem, ⟨9, _⟩ => ⟨S1024x1024, .f32⟩
  | .local _ .vmem, ⟨10, _⟩ => ⟨S1024x2048, .bf16⟩
  | .local _ .vmem, ⟨11, _⟩ => ⟨S1024x1024, .bf16⟩
  | .local _ .smem, ⟨0, _⟩ => ⟨S288, .i32⟩
  | .local _ .smem, ⟨1, _⟩ => ⟨S288, .i32⟩
  | .local _ .smem, ⟨2, _⟩ => ⟨S1, .i32⟩
  | _, _ => ⟨S4x73728x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond1 (i : grid0.Coords) : BitVec 1 :=
  let arg0 : BitVec 32 := BitVec.ofNat 32 (i 0).val
  let c0_i32_0 : BitVec 32 := 0#32
  let v6 : BitVec 1 := Scalar.cmpi .eq arg0 c0_i32_0
  let v7 : BitVec 32 := Scalar.extui v6
  let c0_i32_1 : BitVec 32 := 0#32
  let v8 : BitVec 1 := Scalar.cmpi .ne v7 c0_i32_1
  v8

def k0_off3 (v1 : BitVec 32) : Fin 3 → Nat :=
  let c0_i32_8 : BitVec 32 := 0#32
  let c0_i32_9 : BitVec 32 := 0#32
  ![v1.toNat, 0, 0]

def k0_off4 (v1 : BitVec 32) : Fin 3 → Nat :=
  let c0_i32_11 : BitVec 32 := 0#32
  let c0_i32_12 : BitVec 32 := 0#32
  ![v1.toNat, 0, 0]

def k0_chk1 (i : grid0.Coords) (v1 : BitVec 32) : Prop :=
  (∀ (k0_h1 : k0_cond1 i = 1#1), ∀ a, (k0_off3 v1) a + S1x1024x2048.size a ≤ S32x1024x2048.size a) ∧
  (∀ (k0_h1 : k0_cond1 i = 1#1), ∀ a, (k0_off4 v1) a + S1x1024x1024.size a ≤ S32x1024x1024.size a)
theorem k0_off3_inb : ∀ (i : grid0.Coords) (v1 : BitVec 32) (k0_hw1 : k0_chk1 i v1), ∀ (k0_h1 : k0_cond1 i = 1#1), ∀ a, (k0_off3 v1) a + S1x1024x2048.size a ≤ S32x1024x2048.size a := fun i v1 k0_hw1 k0_h1 => k0_hw1.1 k0_h1
theorem k0_off4_inb : ∀ (i : grid0.Coords) (v1 : BitVec 32) (k0_hw1 : k0_chk1 i v1), ∀ (k0_h1 : k0_cond1 i = 1#1), ∀ a, (k0_off4 v1) a + S1x1024x1024.size a ≤ S32x1024x1024.size a := fun i v1 k0_hw1 k0_h1 => k0_hw1.2 k0_h1

def k0_off5 (v1 : BitVec 32) : Fin 3 → Nat :=
  let c0_i32_8 : BitVec 32 := 0#32
  let c0_i32_9 : BitVec 32 := 0#32
  ![v1.toNat, 0, 0]
def k0_cond2 (i : grid0.Coords) (v1 : BitVec 32) (v5 : BitVec 32) : BitVec 1 :=
  let arg0 : BitVec 32 := BitVec.ofNat 32 (i 0).val
  let c0_i32_2 : BitVec 32 := 0#32
  let v9 : BitVec 1 := Scalar.cmpi .eq arg0 c0_i32_2
  let v10 : BitVec 1 := Scalar.cmpi .ne v1 v5
  let v11 : BitVec 1 := Scalar.ori v9 v10
  let v12 : BitVec 32 := Scalar.extui v11
  let c0_i32_3 : BitVec 32 := 0#32
  let v13 : BitVec 1 := Scalar.cmpi .ne v12 c0_i32_3
  v13

def k0_off6 (v1 : BitVec 32) : Fin 3 → Nat :=
  let c0_i32_11 : BitVec 32 := 0#32
  let c0_i32_12 : BitVec 32 := 0#32
  ![v1.toNat, 0, 0]

def k0_chk2 (i : grid0.Coords) (v1 : BitVec 32) (v5 : BitVec 32) : Prop :=
  (∀ (k0_h2 : k0_cond2 i v1 v5 = 1#1), ∀ a, (k0_off5 v1) a + S1x1024x2048.size a ≤ S32x1024x2048.size a) ∧
  (∀ (k0_h2 : k0_cond2 i v1 v5 = 1#1), ∀ a, (k0_off6 v1) a + S1x1024x1024.size a ≤ S32x1024x1024.size a)
theorem k0_off5_inb : ∀ (i : grid0.Coords) (v1 : BitVec 32) (v5 : BitVec 32) (k0_hw2 : k0_chk2 i v1 v5), ∀ (k0_h2 : k0_cond2 i v1 v5 = 1#1), ∀ a, (k0_off5 v1) a + S1x1024x2048.size a ≤ S32x1024x2048.size a := fun i v1 v5 k0_hw2 k0_h2 => k0_hw2.1 k0_h2
theorem k0_off6_inb : ∀ (i : grid0.Coords) (v1 : BitVec 32) (v5 : BitVec 32) (k0_hw2 : k0_chk2 i v1 v5), ∀ (k0_h2 : k0_cond2 i v1 v5 = 1#1), ∀ a, (k0_off6 v1) a + S1x1024x1024.size a ≤ S32x1024x1024.size a := fun i v1 v5 k0_hw2 k0_h2 => k0_hw2.2 k0_h2

def k0_off7 (i : grid0.Coords) : Fin 1 → Nat :=
  let arg0 : BitVec 32 := BitVec.ofNat 32 (i 0).val
  let v40 : Index := Scalar.indexCast arg0
  ![v40.toNat]
def k0_off8 (i : grid0.Coords) : Fin 1 → Nat :=
  let arg0 : BitVec 32 := BitVec.ofNat 32 (i 0).val
  let v45 : Index := Scalar.indexCast arg0
  ![v45.toNat]
def k0_off9 (v46 : BitVec 32) : Fin 3 → Nat :=
  let c0_i32_24 : BitVec 32 := 0#32
  let c0_i32_25 : BitVec 32 := 0#32
  ![v46.toNat, 0, 0]
def k0_cond3 (v41 : BitVec 32) : BitVec 1 :=
  let c0_i32_21 : BitVec 32 := 0#32
  let v42 : BitVec 1 := Scalar.cmpi .sge v41 c0_i32_21
  let v43 : BitVec 32 := Scalar.extui v42
  let c0_i32_22 : BitVec 32 := 0#32
  let v44 : BitVec 1 := Scalar.cmpi .ne v43 c0_i32_22
  v44

def k0_off10 (v46 : BitVec 32) : Fin 3 → Nat :=
  let c0_i32_27 : BitVec 32 := 0#32
  let c0_i32_28 : BitVec 32 := 0#32
  ![v46.toNat, 0, 0]

def k0_chk3 (i : grid0.Coords) (v1 : BitVec 32) (v5 : BitVec 32) (v41 : BitVec 32) (v46 : BitVec 32) : Prop :=
  (∀ (k0_h2 : k0_cond2 i v1 v5 = 1#1), ∀ (k0_h3 : k0_cond3 v41 = 1#1), ∀ a, (k0_off9 v46) a + S1x1024x2048.size a ≤ S32x1024x2048.size a) ∧
  (∀ (k0_h2 : k0_cond2 i v1 v5 = 1#1), ∀ (k0_h3 : k0_cond3 v41 = 1#1), ∀ a, (k0_off10 v46) a + S1x1024x1024.size a ≤ S32x1024x1024.size a)
theorem k0_off9_inb : ∀ (i : grid0.Coords) (v1 : BitVec 32) (v5 : BitVec 32) (v41 : BitVec 32) (v46 : BitVec 32) (k0_hw3 : k0_chk3 i v1 v5 v41 v46), ∀ (k0_h2 : k0_cond2 i v1 v5 = 1#1), ∀ (k0_h3 : k0_cond3 v41 = 1#1), ∀ a, (k0_off9 v46) a + S1x1024x2048.size a ≤ S32x1024x2048.size a := fun i v1 v5 v41 v46 k0_hw3 k0_h2 k0_h3 => k0_hw3.1 k0_h2 k0_h3
theorem k0_off10_inb : ∀ (i : grid0.Coords) (v1 : BitVec 32) (v5 : BitVec 32) (v41 : BitVec 32) (v46 : BitVec 32) (k0_hw3 : k0_chk3 i v1 v5 v41 v46), ∀ (k0_h2 : k0_cond2 i v1 v5 = 1#1), ∀ (k0_h3 : k0_cond3 v41 = 1#1), ∀ a, (k0_off10 v46) a + S1x1024x1024.size a ≤ S32x1024x1024.size a := fun i v1 v5 v41 v46 k0_hw3 k0_h2 k0_h3 => k0_hw3.2 k0_h2 k0_h3

def k0_cond4 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_4 : BitVec 32 := 0#32
  let v17 : BitVec 1 := Scalar.cmpi .ne v16 c0_i32_4
  v17

def k0_cond5 (i : grid0.Coords) (v18 : BitVec 32) : BitVec 1 :=
  let arg0 : BitVec 32 := BitVec.ofNat 32 (i 0).val
  let v19 : BitVec 1 := Scalar.cmpi .sge arg0 v18
  let v20 : BitVec 32 := Scalar.extui v19
  let c0_i32_6 : BitVec 32 := 0#32
  let v21 : BitVec 1 := Scalar.cmpi .ne v20 c0_i32_6
  v21

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsReferenceIdeal.lean ====
abbrev S288 : Shape := ⟨1, ![288]⟩
abbrev S1 : Shape := ⟨1, ![1]⟩
abbrev S4x73728x128 : Shape := ⟨3, ![4, 73728, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S4x73728x128x2 : Shape := ⟨4, ![4, 73728, 128, 2]⟩
abbrev S73728x2x4x128 : Shape := ⟨4, ![73728, 2, 4, 128]⟩
abbrev S288x256x1024 : Shape := ⟨3, ![288, 256, 1024]⟩
abbrev S_ : Shape := ⟨0, ![]⟩
abbrev S288x1 : Shape := ⟨2, ![288, 1]⟩
abbrev S288x1024x2048 : Shape := ⟨3, ![288, 1024, 2048]⟩
abbrev S288x256x2048 : Shape := ⟨3, ![288, 256, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩
abbrev S288x1x1 : Shape := ⟨3, ![288, 1, 1]⟩
abbrev S73728x8x128 : Shape := ⟨3, ![73728, 8, 128]⟩
abbrev S8x73728x128 : Shape := ⟨3, ![8, 73728, 128]⟩

abbrev nBuf : Space → Nat
  | .hbm => 97
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S1, .i32⟩
  | .hbm, ⟨3, _⟩ => ⟨S4x73728x128, .i32⟩
  | .hbm, ⟨4, _⟩ => ⟨S32x1024x2048, .f32⟩
  | .hbm, ⟨5, _⟩ => ⟨S32x2048, .f32⟩
  | .hbm, ⟨6, _⟩ => ⟨S32x1024x1024, .f32⟩
  | .hbm, ⟨7, _⟩ => ⟨S32x1024, .f32⟩
  | .hbm, ⟨8, _⟩ => ⟨S4x73728x128x2, .bf16⟩
  | .hbm, ⟨9, _⟩ => ⟨S4x73728x128x2, .f32⟩
  | .hbm, ⟨10, _⟩ => ⟨S73728x2x4x128, .f32⟩
  | .hbm, ⟨11, _⟩ => ⟨S288x256x1024, .f32⟩
  | .hbm, ⟨12, _⟩ => ⟨S_, .i32⟩
  | .hbm, ⟨13, _⟩ => ⟨S288, .i32⟩
  | .hbm, ⟨14, _⟩ => ⟨S288, .i1⟩
  | .hbm, ⟨15, _⟩ => ⟨S_, .i32⟩
  | .hbm, ⟨16, _⟩ => ⟨S288, .i32⟩
  | .hbm, ⟨17, _⟩ => ⟨S288, .i32⟩
  | .hbm, ⟨18, _⟩ => ⟨S288, .i32⟩
  | .hbm, ⟨19, _⟩ => ⟨S288x1, .i32⟩
  | .hbm, ⟨20, _⟩ => ⟨S288x1024x2048, .f32⟩
  | .hbm, ⟨21, _⟩ => ⟨S288x256x2048, .f32⟩
  | .hbm, ⟨22, _⟩ => ⟨S_, .i32⟩
  | .hbm, ⟨23, _⟩ => ⟨S288, .i32⟩
  | .hbm, ⟨24, _⟩ => ⟨S288, .i1⟩
  | .hbm, ⟨25, _⟩ => ⟨S_, .i32⟩
  | .hbm, ⟨26, _⟩ => ⟨S288, .i32⟩
  | .hbm, ⟨27, _⟩ => ⟨S288, .i32⟩
  | .hbm, ⟨28, _⟩ => ⟨S288, .i32⟩
  | .hbm, ⟨29, _⟩ => ⟨S288x1, .i32⟩
  | .hbm, ⟨30, _⟩ => ⟨S288x2048, .f32⟩
  | .hbm, ⟨31, _⟩ => ⟨S288x1x2048, .f32⟩
  | .hbm, ⟨32, _⟩ => ⟨S288x256x2048, .f32⟩
  | .hbm, ⟨33, _⟩ => ⟨S288x256x2048, .f32⟩
  | .hbm, ⟨34, _⟩ => ⟨S288x256x1024, .f32⟩
  | .hbm, ⟨35, _⟩ => ⟨S_, .f32⟩
  | .hbm, ⟨36, _⟩ => ⟨S288x256x1024, .f32⟩
  | .hbm, ⟨37, _⟩ => ⟨S288x256x1024, .f32⟩
  | .hbm, ⟨38, _⟩ => ⟨S288x256x1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S288x256x1024, .f32⟩
  | .hbm, ⟨43, _⟩ => ⟨S288x256x1024, .f32⟩
  | .hbm, ⟨44, _⟩ => ⟨S_, .f32⟩
  | .hbm, ⟨45, _⟩ => ⟨S288x256x1024, .f32⟩
  | .hbm, ⟨46, _⟩ => ⟨S288x256x1024, .f32⟩
  | .hbm, ⟨47, _⟩ => ⟨S_, .f32⟩
  | .hbm, ⟨48, _⟩ => ⟨S288x256x1024, .f32⟩
  | .hbm, ⟨49, _⟩ => ⟨S288x256x1024, .f32⟩
  | .hbm, ⟨50, _⟩ => ⟨S_, .f32⟩
  | .hbm, ⟨51, _⟩ => ⟨S288x256x1024, .f32⟩
  | .hbm, ⟨52, _⟩ => ⟨S288x256x1024, .f32⟩
  | .hbm, ⟨53, _⟩ => ⟨S288x256x1024, .f32⟩
  | .hbm, ⟨54, _⟩ => ⟨S288x256x1024, .f32⟩
  | .hbm, ⟨55, _⟩ => ⟨S_, .f32⟩
  | .hbm, ⟨56, _⟩ => ⟨S288x256x1024, .f32⟩
  | .hbm, ⟨57, _⟩ => ⟨S288x256x1024, .f32⟩
  | .hbm, ⟨58, _⟩ => ⟨S_, .f32⟩
  | .hbm, ⟨59, _⟩ => ⟨S288x256x1024, .f32⟩
  | .hbm, ⟨60, _⟩ => ⟨S288x256x1024, .f32⟩
  | .hbm, ⟨61, _⟩ => ⟨S288x256x1024, .f32⟩
  | .hbm, ⟨62, _⟩ => ⟨S288x256x1024, .f32⟩
  | .hbm, ⟨63, _⟩ => ⟨S_, .i32⟩
  | .hbm, ⟨64, _⟩ => ⟨S288, .i32⟩
  | .hbm, ⟨65, _⟩ => ⟨S288, .i1⟩
  | .hbm, ⟨66, _⟩ => ⟨S_, .i32⟩
  | .hbm, ⟨67, _⟩ => ⟨S288, .i32⟩
  | .hbm, ⟨68, _⟩ => ⟨S288, .i32⟩
  | .hbm, ⟨69, _⟩ => ⟨S288, .i32⟩
  | .hbm, ⟨70, _⟩ => ⟨S288x1, .i32⟩
  | .hbm, ⟨71, _⟩ => ⟨S288x1024x1024, .f32⟩
  | .hbm, ⟨72, _⟩ => ⟨S288x256x1024, .f32⟩
  | .hbm, ⟨73, _⟩ => ⟨S_, .i32⟩
  | .hbm, ⟨74, _⟩ => ⟨S288, .i32⟩
  | .hbm, ⟨75, _⟩ => ⟨S288, .i1⟩
  | .hbm, ⟨76, _⟩ => ⟨S_, .i32⟩
  | .hbm, ⟨77, _⟩ => ⟨S288, .i32⟩
  | .hbm, ⟨78, _⟩ => ⟨S288, .i32⟩
  | .hbm, ⟨79, _⟩ => ⟨S288, .i32⟩
  | .hbm, ⟨80, _⟩ => ⟨S288x1, .i32⟩
  | .hbm, ⟨81, _⟩ => ⟨S288x1024, .f32⟩
  | .hbm, ⟨82, _⟩ => ⟨S288x1x1024, .f32⟩
  | .hbm, ⟨83, _⟩ => ⟨S288x256x1024, .f32⟩
  | .hbm, ⟨84, _⟩ => ⟨S288x256x1024, .f32⟩
  | .hbm, ⟨85, _⟩ => ⟨S288, .i32⟩
  | .hbm, ⟨86, _⟩ => ⟨S_, .i32⟩
  | .hbm, ⟨87, _⟩ => ⟨S288, .i32⟩
  | .hbm, ⟨88, _⟩ => ⟨S288, .i1⟩
  | .hbm, ⟨89, _⟩ => ⟨S288x1x1, .i1⟩
  | .hbm, ⟨90, _⟩ => ⟨S_, .f32⟩
  | .hbm, ⟨91, _⟩ => ⟨S_, .f32⟩
  | .hbm, ⟨92, _⟩ => ⟨S288x256x1024, .i1⟩
  | .hbm, ⟨93, _⟩ => ⟨S288x256x1024, .f32⟩
  | .hbm, ⟨94, _⟩ => ⟨S288x256x1024, .f32⟩
  | .hbm, ⟨95, _⟩ => ⟨S73728x8x128, .f32⟩
  | .hbm, ⟨96, _⟩ => ⟨S8x73728x128, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_c_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_c_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]
-- ==== Projections.lean ====
abbrev S2x8192x1024 : Shape := ⟨3, ![2, 8192, 1024]⟩
abbrev S1x1024 : Shape := ⟨2, ![1, 1024]⟩
abbrev S1x1024x3344 : Shape := ⟨3, ![1, 1024, 3344]⟩
abbrev S1024x3344 : Shape := ⟨2, ![1024, 3344]⟩
abbrev S1024x1792 : Shape := ⟨2, ![1024, 1792]⟩
abbrev S1024x1552 : Shape := ⟨2, ![1024, 1552]⟩
abbrev S_ : Shape := ⟨0, ![]⟩
abbrev S1024x1664 : Shape := ⟨2, ![1024, 1664]⟩
abbrev S1024 : Shape := ⟨1, ![1024]⟩
abbrev S2x8192x1792 : Shape := ⟨3, ![2, 8192, 1792]⟩
abbrev S2x8192x1664 : Shape := ⟨3, ![2, 8192, 1664]⟩
abbrev S1x512x1024 : Shape := ⟨3, ![1, 512, 1024]⟩
abbrev S1x512x1792 : Shape := ⟨3, ![1, 512, 1792]⟩
abbrev S1x512x1664 : Shape := ⟨3, ![1, 512, 1664]⟩
abbrev S512x1024 : Shape := ⟨2, ![512, 1024]⟩
abbrev S512 : Shape := ⟨1, ![512]⟩
abbrev S512x1 : Shape := ⟨2, ![512, 1]⟩
abbrev S512x1792 : Shape := ⟨2, ![512, 1792]⟩
abbrev S512x1664 : Shape := ⟨2, ![512, 1664]⟩

abbrev nBuf : Space → Nat
  | .hbm => 16
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3344, .f32⟩
  | .hbm, ⟨3, _⟩ => ⟨S1024x3344, .f32⟩
  | .hbm, ⟨4, _⟩ => ⟨S1024x1792, .f32⟩
  | .hbm, ⟨5, _⟩ => ⟨S1024x1792, .bf16⟩
  | .hbm, ⟨6, _⟩ => ⟨S1024x3344, .f32⟩
  | .hbm, ⟨7, _⟩ => ⟨S1024x1552, .f32⟩
  | .hbm, ⟨8, _⟩ => ⟨S_, .i32⟩
  | .hbm, ⟨9, _⟩ => ⟨S_, .f32⟩
  | .hbm, ⟨10, _⟩ => ⟨S1024x1664, .f32⟩
  | .hbm, ⟨11, _⟩ => ⟨S1024x1664, .bf16⟩
  | .hbm, ⟨12, _⟩ => ⟨S1024, .f32⟩
  | .hbm, ⟨13, _⟩ => ⟨S1x1024, .f32⟩
  | .hbm, ⟨14, _⟩ => ⟨S2x8192x1792, .f32⟩
  | .hbm, ⟨15, _⟩ => ⟨S2x8192x1664, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1792, .bf16⟩
  | .local _ .vmem, ⟨4, _⟩ => ⟨S1024x1664, .bf16⟩
  | .local _ .vmem, ⟨5, _⟩ => ⟨S1x512x1792, .f32⟩
  | .local _ .vmem, ⟨6, _⟩ => ⟨S1x512x1792, .f32⟩
  | .local _ .vmem, ⟨7, _⟩ => ⟨S1x512x1664, .f32⟩
  | .local _ .vmem, ⟨8, _⟩ => ⟨S1x512x1664, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1664 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjectionsReferenceIdeal.lean ====
abbrev S2x8192x1024 : Shape := ⟨3, ![2, 8192, 1024]⟩
abbrev S1x1024 : Shape := ⟨2, ![1, 1024]⟩
abbrev S1x1024x3344 : Shape := ⟨3, ![1, 1024, 3344]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S1024x3344 : Shape := ⟨2, ![1024, 3344]⟩
abbrev S2x8192x3344 : Shape := ⟨3, ![2, 8192, 3344]⟩
abbrev S2x8192x1792 : Shape := ⟨3, ![2, 8192, 1792]⟩
abbrev S2x8192x1552 : Shape := ⟨3, ![2, 8192, 1552]⟩
abbrev S2x8192x1664 : Shape := ⟨3, ![2, 8192, 1664]⟩

abbrev nBuf : Space → Nat
  | .hbm => 27
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3344, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S1024x3344, .f32⟩
  | .hbm, ⟨21, _⟩ => ⟨S2x8192x3344, .f32⟩
  | .hbm, ⟨22, _⟩ => ⟨S2x8192x1792, .f32⟩
  | .hbm, ⟨23, _⟩ => ⟨S2x8192x1552, .f32⟩
  | .hbm, ⟨24, _⟩ => ⟨S_, .i32⟩
  | .hbm, ⟨25, _⟩ => ⟨S_, .f32⟩
  | .hbm, ⟨26, _⟩ => ⟨S2x8192x1664, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Combine.lean ====
abbrev S65536 : Shape := ⟨1, ![65536]⟩
abbrev S8x73728x128 : Shape := ⟨3, ![8, 73728, 128]⟩
abbrev S16384x1024 : Shape := ⟨2, ![16384, 1024]⟩
abbrev S16384x128 : Shape := ⟨2, ![16384, 128]⟩
abbrev S1x2x8192x256 : Shape := ⟨4, ![1, 2, 8192, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S2x8192x256 : Shape := ⟨3, ![2, 8192, 256]⟩
abbrev S16384x256 : Shape := ⟨2, ![16384, 256]⟩
abbrev S1024x1024 : Shape := ⟨2, ![1024, 1024]⟩
abbrev S256x1024 : Shape := ⟨2, ![256, 1024]⟩
abbrev S256x128 : Shape := ⟨2, ![256, 128]⟩
abbrev S256x256 : Shape := ⟨2, ![256, 256]⟩
abbrev S2x4x8x256x128 : Shape := ⟨5, ![2, 4, 8, 256, 128]⟩
abbrev S2 : Shape := ⟨1, ![2]⟩
abbrev S1 : Shape := ⟨1, ![1]⟩
abbrev S_ : Shape := ⟨0, ![]⟩
abbrev S1x1x8x1x128 : Shape := ⟨5, ![1, 1, 8, 1, 128]⟩
abbrev S8x1x128 : Shape := ⟨3, ![8, 1, 128]⟩
abbrev S1x1x1x256x128 : Shape := ⟨5, ![1, 1, 1, 256, 128]⟩
abbrev S256x1 : Shape := ⟨2, ![256, 1]⟩
abbrev S256 : Shape := ⟨1, ![256]⟩

abbrev nBuf : Space → Nat
  | .hbm => 18
  | .vmem => 13
  | .smem => 1
  | _ => 0

abbrev bufTy : (tb : Table) → Fin (tcTables nBuf tb) → BufTy
  | .hbm, ⟨0, _⟩ => ⟨S8x73728x128, .f32⟩
  | .hbm, ⟨1, _⟩ => ⟨S16384x1024, .f32⟩
  | .hbm, ⟨2, _⟩ => ⟨S16384x128, .f32⟩
  | .hbm, ⟨3, _⟩ => ⟨S1x2x8192x256, .f32⟩
  | .hbm, ⟨4, _⟩ => ⟨S1x1024, .f32⟩
  | .hbm, ⟨5, _⟩ => ⟨S1x1024x1024, .f32⟩
  | .hbm, ⟨6, _⟩ => ⟨S1x256x1024, .f32⟩
  | .hbm, ⟨7, _⟩ => ⟨S1024, .f32⟩
  | .hbm, ⟨8, _⟩ => ⟨S2x8192x256, .f32⟩
  | .hbm, ⟨9, _⟩ => ⟨S16384x256, .f32⟩
  | .hbm, ⟨10, _⟩ => ⟨S1024, .f32⟩
  | .hbm, ⟨11, _⟩ => ⟨S1x1024, .f32⟩
  | .hbm, ⟨12, _⟩ => ⟨S1024x1024, .f32⟩
  | .hbm, ⟨13, _⟩ => ⟨S1024x1024, .bf16⟩
  | .hbm, ⟨14, _⟩ => ⟨S256x1024, .f32⟩
  | .hbm, ⟨15, _⟩ => ⟨S256x1024, .bf16⟩
  | .hbm, ⟨16, _⟩ => ⟨S1x1024, .f32⟩
  | .hbm, ⟨17, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x256, .f32⟩
  | .local _ .vmem, ⟨5, _⟩ => ⟨S256x256, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S2x4x8x256x128, .f32⟩
  | .local _ .smem, ⟨0, _⟩ => ⟨S65536, .i32⟩
  | _, _ => ⟨S8x73728x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_155 : BitVec 32 := 0#32
  let c256_i32_156 : BitVec 32 := 256#32
  let v178 : BitVec 32 := Scalar.addi c0_i32_155 c256_i32_156
  let c1_i32_157 : BitVec 32 := 1#32
  ⟨c0_i32_155, v178, c1_i32_157⟩
def k0_off1 (k0_t1 : Fin k0_t1_loop.trips) : Fin 1 → Nat :=
  let c0_i32_159 : BitVec 32 := 0#32
  let c0_i32_155 : BitVec 32 := 0#32
  let c1_i32_157 : BitVec 32 := 1#32
  let arg13 : BitVec 32 := Scf.iv c0_i32_155 c1_i32_157 k0_t1
  let v179 : BitVec 32 := Scalar.addi c0_i32_159 arg13
  let v180 : Index := Scalar.indexCast v179
  ![v180.toNat]
def k0_off2 (k0_t1 : Fin k0_t1_loop.trips) : Fin 5 → Nat :=
  let c0_i32_160 : BitVec 32 := 0#32
  let c0_i32_161 : BitVec 32 := 0#32
  let c0_i32_163 : BitVec 32 := 0#32
  let c0_i32_155 : BitVec 32 := 0#32
  let c1_i32_157 : BitVec 32 := 1#32
  let arg13 : BitVec 32 := Scf.iv c0_i32_155 c1_i32_157 k0_t1
  let c0_i32_164 : BitVec 32 := 0#32
  ![0, 0, 0, arg13.toNat, 0]
def k0_off3 (v181 : BitVec 32) : Fin 3 → Nat :=
  let c0_i32_165 : BitVec 32 := 0#32
  let c0_i32_166 : BitVec 32 := 0#32
  ![0, v181.toNat, 0]

def k0_chk1 (i : grid0.Coords) (v181 : BitVec 32) : Prop :=
  (∀ (k0_h1 : k0_cond1 i = 1#1), ∀ a, (k0_off3 v181) a + S8x1x128.size a ≤ S8x73728x128.size a)
theorem k0_off3_inb : ∀ (i : grid0.Coords) (v181 : BitVec 32) (k0_hw1 : k0_chk1 i v181), ∀ (k0_h1 : k0_cond1 i = 1#1), ∀ a, (k0_off3 v181) a + S8x1x128.size a ≤ S8x73728x128.size a := fun i v181 k0_hw1 k0_h1 => k0_hw1 k0_h1

def k0_off4 (k0_t1 : Fin k0_t1_loop.trips) : Fin 1 → Nat :=
  let c16384_i32 : BitVec 32 := 16384#32
  let c0_i32_155 : BitVec 32 := 0#32
  let c1_i32_157 : BitVec 32 := 1#32
  let arg13 : BitVec 32 := Scf.iv c0_i32_155 c1_i32_157 k0_t1
  let v187 : BitVec 32 := Scalar.addi c16384_i32 arg13
  let v188 : Index := Scalar.indexCast v187
  ![v188.toNat]
def k0_off5 (k0_t1 : Fin k0_t1_loop.trips) : Fin 5 → Nat :=
  let c0_i32_167 : BitVec 32 := 0#32
  let c1_i32_168 : BitVec 32 := 1#32
  let c0_i32_170 : BitVec 32 := 0#32
  let c0_i32_155 : BitVec 32 := 0#32
  let c1_i32_157 : BitVec 32 := 1#32
  let arg13 : BitVec 32 := Scf.iv c0_i32_155 c1_i32_157 k0_t1
  let c0_i32_171 : BitVec 32 := 0#32
  ![0, 1, 0, arg13.toNat, 0]
def k0_off6 (v189 : BitVec 32) : Fin 3 → Nat :=
  let c0_i32_172 : BitVec 32 := 0#32
  let c0_i32_173 : BitVec 32 := 0#32
  ![0, v189.toNat, 0]

def k0_chk2 (i : grid0.Coords) (v189 : BitVec 32) : Prop :=
  (∀ (k0_h1 : k0_cond1 i = 1#1), ∀ a, (k0_off6 v189) a + S8x1x128.size a ≤ S8x73728x128.size a)
theorem k0_off6_inb : ∀ (i : grid0.Coords) (v189 : BitVec 32) (k0_hw2 : k0_chk2 i v189), ∀ (k0_h1 : k0_cond1 i = 1#1), ∀ a, (k0_off6 v189) a + S8x1x128.size a ≤ S8x73728x128.size a := fun i v189 k0_hw2 k0_h1 => k0_hw2 k0_h1

def k0_off7 (k0_t1 : Fin k0_t1_loop.trips) : Fin 1 → Nat :=
  let c32768_i32 : BitVec 32 := 32768#32
  let c0_i32_155 : BitVec 32 := 0#32
  let c1_i32_157 : BitVec 32 := 1#32
  let arg13 : BitVec 32 := Scf.iv c0_i32_155 c1_i32_157 k0_t1
  let v195 : BitVec 32 := Scalar.addi c32768_i32 arg13
  let v196 : Index := Scalar.indexCast v195
  ![v196.toNat]
def k0_off8 (k0_t1 : Fin k0_t1_loop.trips) : Fin 5 → Nat :=
  let c0_i32_174 : BitVec 32 := 0#32
  let c2_i32_175 : BitVec 32 := 2#32
  let c0_i32_177 : BitVec 32 := 0#32
  let c0_i32_155 : BitVec 32 := 0#32
  let c1_i32_157 : BitVec 32 := 1#32
  let arg13 : BitVec 32 := Scf.iv c0_i32_155 c1_i32_157 k0_t1
  let c0_i32_178 : BitVec 32 := 0#32
  ![0, 2, 0, arg13.toNat, 0]
def k0_off9 (v197 : BitVec 32) : Fin 3 → Nat :=
  let c0_i32_179 : BitVec 32 := 0#32
  let c0_i32_180 : BitVec 32 := 0#32
  ![0, v197.toNat, 0]

def k0_chk3 (i : grid0.Coords) (v197 : BitVec 32) : Prop :=
  (∀ (k0_h1 : k0_cond1 i = 1#1), ∀ a, (k0_off9 v197) a + S8x1x128.size a ≤ S8x73728x128.size a)
theorem k0_off9_inb : ∀ (i : grid0.Coords) (v197 : BitVec 32) (k0_hw3 : k0_chk3 i v197), ∀ (k0_h1 : k0_cond1 i = 1#1), ∀ a, (k0_off9 v197) a + S8x1x128.size a ≤ S8x73728x128.size a := fun i v197 k0_hw3 k0_h1 => k0_hw3 k0_h1

def k0_off10 (k0_t1 : Fin k0_t1_loop.trips) : Fin 1 → Nat :=
  let c49152_i32 : BitVec 32 := 49152#32
  let c0_i32_155 : BitVec 32 := 0#32
  let c1_i32_157 : BitVec 32 := 1#32
  let arg13 : BitVec 32 := Scf.iv c0_i32_155 c1_i32_157 k0_t1
  let v203 : BitVec 32 := Scalar.addi c49152_i32 arg13
  let v204 : Index := Scalar.indexCast v203
  ![v204.toNat]
def k0_off11 (k0_t1 : Fin k0_t1_loop.trips) : Fin 5 → Nat :=
  let c0_i32_181 : BitVec 32 := 0#32
  let c3_i32 : BitVec 32 := 3#32
  let c0_i32_183 : BitVec 32 := 0#32
  let c0_i32_155 : BitVec 32 := 0#32
  let c1_i32_157 : BitVec 32 := 1#32
  let arg13 : BitVec 32 := Scf.iv c0_i32_155 c1_i32_157 k0_t1
  let c0_i32_184 : BitVec 32 := 0#32
  ![0, 3, 0, arg13.toNat, 0]
def k0_off12 (v205 : BitVec 32) : Fin 3 → Nat :=
  let c0_i32_185 : BitVec 32 := 0#32
  let c0_i32_186 : BitVec 32 := 0#32
  ![0, v205.toNat, 0]

def k0_chk4 (i : grid0.Coords) (v205 : BitVec 32) : Prop :=
  (∀ (k0_h1 : k0_cond1 i = 1#1), ∀ a, (k0_off12 v205) a + S8x1x128.size a ≤ S8x73728x128.size a)
theorem k0_off12_inb : ∀ (i : grid0.Coords) (v205 : BitVec 32) (k0_hw4 : k0_chk4 i v205), ∀ (k0_h1 : k0_cond1 i = 1#1), ∀ a, (k0_off12 v205) a + S8x1x128.size a ≤ S8x73728x128.size a := fun i v205 k0_hw4 k0_h1 => k0_hw4 k0_h1

@[reducible] def k0_t2_loop : Scf.Loop 32 :=
  let c0_i32_1 : BitVec 32 := 0#32
  let c1024_i32 : BitVec 32 := 1024#32
  let v4 : BitVec 32 := Scalar.addi c0_i32_1 c1024_i32
  let c1_i32 : BitVec 32 := 1#32
  ⟨c0_i32_1, v4, c1_i32⟩
def k0_off13 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off14 (i : grid0.Coords) : Fin 5 → Nat :=
  let arg0 : BitVec 32 := BitVec.ofNat 32 (i 0).val
  let c2_i32 : BitVec 32 := 2#32
  let v0 : BitVec 32 := Scalar.remsi arg0 c2_i32
  let c0_i32_155 : BitVec 32 := 0#32
  let c0_i32_156 : BitVec 32 := 0#32
  let c0_i32_157 : BitVec 32 := 0#32
  let c0_i32_158 : BitVec 32 := 0#32
  ![v0.toNat, 0, 0, 0, 0]
@[reducible] def k0_t3_loop : Scf.Loop 32 :=
  let c0_i32_4 : BitVec 32 := 0#32
  let c256_i32 : BitVec 32 := 256#32
  let v8 : BitVec 32 := Scalar.addi c0_i32_4 c256_i32
  let c1_i32_5 : BitVec 32 := 1#32
  ⟨c0_i32_4, v8, c1_i32_5⟩
def k0_off15 (i : grid0.Coords) (k0_t3 : Fin k0_t3_loop.trips) : Fin 1 → Nat :=
  let c0_i32_156 : BitVec 32 := 0#32
  let arg0 : BitVec 32 := BitVec.ofNat 32 (i 0).val
  let c1_i32_2 : BitVec 32 := 1#32
  let v5 : BitVec 32 := Scalar.addi arg0 c1_i32_2
  let c63_i32 : BitVec 32 := 63#32
  let v6 : BitVec 32 := Scalar.minsi v5 c63_i32
  let c256_i32_155 : BitVec 32 := 256#32
  let v178 : BitVec 32 := Scalar.muli v6 c256_i32_155
  let v179 : BitVec 32 := Scalar.addi c0_i32_156 v178
  let c0_i32_4 : BitVec 32 := 0#32
  let c1_i32_5 : BitVec 32 := 1#32
  let arg13 : BitVec 32 := Scf.iv c0_i32_4 c1_i32_5 k0_t3
  let v180 : BitVec 32 := Scalar.addi v179 arg13
  let v181 : Index := Scalar.indexCast v180
  ![v181.toNat]
def k0_off16 (i : grid0.Coords) : Fin 1 → Nat :=
  let c1_i32_3 : BitVec 32 := 1#32
  let arg0 : BitVec 32 := BitVec.ofNat 32 (i 0).val
  let c2_i32 : BitVec 32 := 2#32
  let v0 : BitVec 32 := Scalar.remsi arg0 c2_i32
  let v7 : BitVec 32 := Scalar.subi c1_i32_3 v0
  ![v7.toNat]
def k0_off17 (i : grid0.Coords) (k0_t3 : Fin k0_t3_loop.trips) : Fin 5 → Nat :=
  let c1_i32_3 : BitVec 32 := 1#32
  let arg0 : BitVec 32 := BitVec.ofNat 32 (i 0).val
  let c2_i32 : BitVec 32 := 2#32
  let v0 : BitVec 32 := Scalar.remsi arg0 c2_i32
  let v7 : BitVec 32 := Scalar.subi c1_i32_3 v0
  let c0_i32_157 : BitVec 32 := 0#32
  let c0_i32_158 : BitVec 32 := 0#32
  let c0_i32_4 : BitVec 32 := 0#32
  let c1_i32_5 : BitVec 32 := 1#32
  let arg13 : BitVec 32 := Scf.iv c0_i32_4 c1_i32_5 k0_t3
  let c0_i32_159 : BitVec 32 := 0#32
  ![v7.toNat, 0, 0, arg13.toNat, 0]
def k0_off18 (v182 : BitVec 32) : Fin 3 → Nat :=
  let c0_i32_160 : BitVec 32 := 0#32
  let c0_i32_161 : BitVec 32 := 0#32
  ![0, v182.toNat, 0]

def k0_chk5 (v182 : BitVec 32) : Prop :=
  (∀ a, (k0_off18 v182) a + S8x1x128.size a ≤ S8x73728x128.size a)
theorem k0_off18_inb : ∀ (v182 : BitVec 32) (k0_hw5 : k0_chk5 v182), ∀ a, (k0_off18 v182) a + S8x1x128.size a ≤ S8x73728x128.size a := fun v182 k0_hw5 => k0_hw5

def k0_off19 (i : grid0.Coords) (k0_t3 : Fin k0_t3_loop.trips) : Fin 1 → Nat :=
  let c16384_i32 : BitVec 32 := 16384#32
  let arg0 : BitVec 32 := BitVec.ofNat 32 (i 0).val
  let c1_i32_2 : BitVec 32 := 1#32
  let v5 : BitVec 32 := Scalar.addi arg0 c1_i32_2
  let c63_i32 : BitVec 32 := 63#32
  let v6 : BitVec 32 := Scalar.minsi v5 c63_i32
  let c256_i32_162 : BitVec 32 := 256#32
  let v188 : BitVec 32 := Scalar.muli v6 c256_i32_162
  let v189 : BitVec 32 := Scalar.addi c16384_i32 v188
  let c0_i32_4 : BitVec 32 := 0#32
  let c1_i32_5 : BitVec 32 := 1#32
  let arg13 : BitVec 32 := Scf.iv c0_i32_4 c1_i32_5 k0_t3
  let v190 : BitVec 32 := Scalar.addi v189 arg13
  let v191 : Index := Scalar.indexCast v190
  ![v191.toNat]
def k0_off20 (i : grid0.Coords) : Fin 1 → Nat :=
  let c1_i32_3 : BitVec 32 := 1#32
  let arg0 : BitVec 32 := BitVec.ofNat 32 (i 0).val
  let c2_i32 : BitVec 32 := 2#32
  let v0 : BitVec 32 := Scalar.remsi arg0 c2_i32
  let v7 : BitVec 32 := Scalar.subi c1_i32_3 v0
  ![v7.toNat]
def k0_off21 (i : grid0.Coords) (k0_t3 : Fin k0_t3_loop.trips) : Fin 5 → Nat :=
  let c1_i32_3 : BitVec 32 := 1#32
  let arg0 : BitVec 32 := BitVec.ofNat 32 (i 0).val
  let c2_i32 : BitVec 32 := 2#32
  let v0 : BitVec 32 := Scalar.remsi arg0 c2_i32
  let v7 : BitVec 32 := Scalar.subi c1_i32_3 v0
  let c1_i32_163 : BitVec 32 := 1#32
  let c0_i32_164 : BitVec 32 := 0#32
  let c0_i32_4 : BitVec 32 := 0#32
  let c1_i32_5 : BitVec 32 := 1#32
  let arg13 : BitVec 32 := Scf.iv c0_i32_4 c1_i32_5 k0_t3
  let c0_i32_165 : BitVec 32 := 0#32
  ![v7.toNat, 1, 0, arg13.toNat, 0]
def k0_off22 (v192 : BitVec 32) : Fin 3 → Nat :=
  let c0_i32_166 : BitVec 32 := 0#32
  let c0_i32_167 : BitVec 32 := 0#32
  ![0, v192.toNat, 0]

def k0_chk6 (v192 : BitVec 32) : Prop :=
  (∀ a, (k0_off22 v192) a + S8x1x128.size a ≤ S8x73728x128.size a)
theorem k0_off22_inb : ∀ (v192 : BitVec 32) (k0_hw6 : k0_chk6 v192), ∀ a, (k0_off22 v192) a + S8x1x128.size a ≤ S8x73728x128.size a := fun v192 k0_hw6 => k0_hw6

def k0_off23 (i : grid0.Coords) (k0_t3 : Fin k0_t3_loop.trips) : Fin 1 → Nat :=
  let c32768_i32 : BitVec 32 := 32768#32
  let arg0 : BitVec 32 := BitVec.ofNat 32 (i 0).val
  let c1_i32_2 : BitVec 32 := 1#32
  let v5 : BitVec 32 := Scalar.addi arg0 c1_i32_2
  let c63_i32 : BitVec 32 := 63#32
  let v6 : BitVec 32 := Scalar.minsi v5 c63_i32
  let c256_i32_168 : BitVec 32 := 256#32
  let v198 : BitVec 32 := Scalar.muli v6 c256_i32_168
  let v199 : BitVec 32 := Scalar.addi c32768_i32 v198
  let c0_i32_4 : BitVec 32 := 0#32
  let c1_i32_5 : BitVec 32 := 1#32
  let arg13 : BitVec 32 := Scf.iv c0_i32_4 c1_i32_5 k0_t3
  let v200 : BitVec 32 := Scalar.addi v199 arg13
  let v201 : Index := Scalar.indexCast v200
  ![v201.toNat]
def k0_off24 (i : grid0.Coords) : Fin 1 → Nat :=
  let c1_i32_3 : BitVec 32 := 1#32
  let arg0 : BitVec 32 := BitVec.ofNat 32 (i 0).val
  let c2_i32 : BitVec 32 := 2#32
  let v0 : BitVec 32 := Scalar.remsi arg0 c2_i32
  let v7 : BitVec 32 := Scalar.subi c1_i32_3 v0
  ![v7.toNat]
def k0_off25 (i : grid0.Coords) (k0_t3 : Fin k0_t3_loop.trips) : Fin 5 → Nat :=
  let c1_i32_3 : BitVec 32 := 1#32
  let arg0 : BitVec 32 := BitVec.ofNat 32 (i 0).val
  let c2_i32 : BitVec 32 := 2#32
  let v0 : BitVec 32 := Scalar.remsi arg0 c2_i32
  let v7 : BitVec 32 := Scalar.subi c1_i32_3 v0
  let c2_i32_169 : BitVec 32 := 2#32
  let c0_i32_170 : BitVec 32 := 0#32
  let c0_i32_4 : BitVec 32 := 0#32
  let c1_i32_5 : BitVec 32 := 1#32
  let arg13 : BitVec 32 := Scf.iv c0_i32_4 c1_i32_5 k0_t3
  let c0_i32_171 : BitVec 32 := 0#32
  ![v7.toNat, 2, 0, arg13.toNat, 0]
def k0_off26 (v202 : BitVec 32) : Fin 3 → Nat :=
  let c0_i32_172 : BitVec 32 := 0#32
  let c0_i32_173 : BitVec 32 := 0#32
  ![0, v202.toNat, 0]

def k0_chk7 (v202 : BitVec 32) : Prop :=
  (∀ a, (k0_off26 v202) a + S8x1x128.size a ≤ S8x73728x128.size a)
theorem k0_off26_inb : ∀ (v202 : BitVec 32) (k0_hw7 : k0_chk7 v202), ∀ a, (k0_off26 v202) a + S8x1x128.size a ≤ S8x73728x128.size a := fun v202 k0_hw7 => k0_hw7

def k0_off27 (i : grid0.Coords) (k0_t3 : Fin k0_t3_loop.trips) : Fin 1 → Nat :=
  let c49152_i32 : BitVec 32 := 49152#32
  let arg0 : BitVec 32 := BitVec.ofNat 32 (i 0).val
  let c1_i32_2 : BitVec 32 := 1#32
  let v5 : BitVec 32 := Scalar.addi arg0 c1_i32_2
  let c63_i32 : BitVec 32 := 63#32
  let v6 : BitVec 32 := Scalar.minsi v5 c63_i32
  let c256_i32_174 : BitVec 32 := 256#32
  let v208 : BitVec 32 := Scalar.muli v6 c256_i32_174
  let v209 : BitVec 32 := Scalar.addi c49152_i32 v208
  let c0_i32_4 : BitVec 32 := 0#32
  let c1_i32_5 : BitVec 32 := 1#32
  let arg13 : BitVec 32 := Scf.iv c0_i32_4 c1_i32_5 k0_t3
  let v210 : BitVec 32 := Scalar.addi v209 arg13
  let v211 : Index := Scalar.indexCast v210
  ![v211.toNat]
def k0_off28 (i : grid0.Coords) : Fin 1 → Nat :=
  let c1_i32_3 : BitVec 32 := 1#32
  let arg0 : BitVec 32 := BitVec.ofNat 32 (i 0).val
  let c2_i32 : BitVec 32 := 2#32
  let v0 : BitVec 32 := Scalar.remsi arg0 c2_i32
  let v7 : BitVec 32 := Scalar.subi c1_i32_3 v0
  ![v7.toNat]
def k0_off29 (i : grid0.Coords) (k0_t3 : Fin k0_t3_loop.trips) : Fin 5 → Nat :=
  let c1_i32_3 : BitVec 32 := 1#32
  let arg0 : BitVec 32 := BitVec.ofNat 32 (i 0).val
  let c2_i32 : BitVec 32 := 2#32
  let v0 : BitVec 32 := Scalar.remsi arg0 c2_i32
  let v7 : BitVec 32 := Scalar.subi c1_i32_3 v0
  let c3_i32 : BitVec 32 := 3#32
  let c0_i32_175 : BitVec 32 := 0#32
  let c0_i32_4 : BitVec 32 := 0#32
  let c1_i32_5 : BitVec 32 := 1#32
  let arg13 : BitVec 32 := Scf.iv c0_i32_4 c1_i32_5 k0_t3
  let c0_i32_176 : BitVec 32 := 0#32
  ![v7.toNat, 3, 0, arg13.toNat, 0]
def k0_off30 (v212 : BitVec 32) : Fin 3 → Nat :=
  let c0_i32_177 : BitVec 32 := 0#32
  let c0_i32_178 : BitVec 32 := 0#32
  ![0, v212.toNat, 0]

def k0_chk8 (v212 : BitVec 32) : Prop :=
  (∀ a, (k0_off30 v212) a + S8x1x128.size a ≤ S8x73728x128.size a)
theorem k0_off30_inb : ∀ (v212 : BitVec 32) (k0_hw8 : k0_chk8 v212), ∀ a, (k0_off30 v212) a + S8x1x128.size a ≤ S8x73728x128.size a := fun v212 k0_hw8 => k0_hw8

def k0_off31 (i : grid0.Coords) : Fin 5 → Nat :=
  let arg0 : BitVec 32 := BitVec.ofNat 32 (i 0).val
  let c2_i32 : BitVec 32 := 2#32
  let v0 : BitVec 32 := Scalar.remsi arg0 c2_i32
  let v11 : Index := Scalar.indexCast v0
  let c0_10 : Index := 0#32
  let c0_11 : Index := 0#32
  let c0_12 : Index := 0#32
  let c0_13 : Index := 0#32
  ![v11.toNat, 0, 0, 0, 0]
def k0_off32 (i : grid0.Coords) : Fin 5 → Nat :=
  let arg0 : BitVec 32 := BitVec.ofNat 32 (i 0).val
  let c2_i32 : BitVec 32 := 2#32
  let v0 : BitVec 32 := Scalar.remsi arg0 c2_i32
  let v14 : Index := Scalar.indexCast v0
  let c0_14 : Index := 0#32
  let c1 : Index := 1#32
  let c0_15 : Index := 0#32
  let c0_16 : Index := 0#32
  ![v14.toNat, 0, 1, 0, 0]
def k0_off33 (i : grid0.Coords) : Fin 5 → Nat :=
  let arg0 : BitVec 32 := BitVec.ofNat 32 (i 0).val
  let c2_i32 : BitVec 32 := 2#32
  let v0 : BitVec 32 := Scalar.remsi arg0 c2_i32
  let v17 : Index := Scalar.indexCast v0
  let c0_17 : Index := 0#32
  let c2 : Index := 2#32
  let c0_18 : Index := 0#32
  let c0_19 : Index := 0#32
  ![v17.toNat, 0, 2, 0, 0]
def k0_off34 (i : grid0.Coords) : Fin 5 → Nat :=
  let arg0 : BitVec 32 := BitVec.ofNat 32 (i 0).val
  let c2_i32 : BitVec 32 := 2#32
  let v0 : BitVec 32 := Scalar.remsi arg0 c2_i32
  let v20 : Index := Scalar.indexCast v0
  let c0_20 : Index := 0#32
  let c3 : Index := 3#32
  let c0_21 : Index := 0#32
  let c0_22 : Index := 0#32
  ![v20.toNat, 0, 3, 0, 0]
def k0_off35 (i : grid0.Coords) : Fin 5 → Nat :=
  let arg0 : BitVec 32 := BitVec.ofNat 32 (i 0).val
  let c2_i32 : BitVec 32 := 2#32
  let v0 : BitVec 32 := Scalar.remsi arg0 c2_i32
  let v23 : Index := Scalar.indexCast v0
  let c0_23 : Index := 0#32
  let c4 : Index := 4#32
  let c0_24 : Index := 0#32
  let c0_25 : Index := 0#32
  ![v23.toNat, 0, 4, 0, 0]
def k0_off36 (i : grid0.Coords) : Fin 5 → Nat :=
  let arg0 : BitVec 32 := BitVec.ofNat 32 (i 0).val
  let c2_i32 : BitVec 32 := 2#32
  let v0 : BitVec 32 := Scalar.remsi arg0 c2_i32
  let v26 : Index := Scalar.indexCast v0
  let c0_26 : Index := 0#32
  let c5 : Index := 5#32
  let c0_27 : Index := 0#32
  let c0_28 : Index := 0#32
  ![v26.toNat, 0, 5, 0, 0]
def k0_off37 (i : grid0.Coords) : Fin 5 → Nat :=
  let arg0 : BitVec 32 := BitVec.ofNat 32 (i 0).val
  let c2_i32 : BitVec 32 := 2#32
  let v0 : BitVec 32 := Scalar.remsi arg0 c2_i32
  let v29 : Index := Scalar.indexCast v0
  let c0_29 : Index := 0#32
  let c6 : Index := 6#32
  let c0_30 : Index := 0#32
  let c0_31 : Index := 0#32
  ![v29.toNat, 0, 6, 0, 0]
def k0_off38 (i : grid0.Coords) : Fin 5 → Nat :=
  let arg0 : BitVec 32 := BitVec.ofNat 32 (i 0).val
  let c2_i32 : BitVec 32 := 2#32
  let v0 : BitVec 32 := Scalar.remsi arg0 c2_i32
  let v32 : Index := Scalar.indexCast v0
  let c0_32 : Index := 0#32
  let c7 : Index := 7#32
  let c0_33 : Index := 0#32
  let c0_34 : Index := 0#32
  ![v32.toNat, 0, 7, 0, 0]
def k0_off39 (i : grid0.Coords) : Fin 5 → Nat :=
  let arg0 : BitVec 32 := BitVec.ofNat 32 (i 0).val
  let c2_i32 : BitVec 32 := 2#32
  let v0 : BitVec 32 := Scalar.remsi arg0 c2_i32
  let v40 : Index := Scalar.indexCast v0
  let c1_35 : Index := 1#32
  let c0_36 : Index := 0#32
  let c0_37 : Index := 0#32
  let c0_38 : Index := 0#32
  ![v40.toNat, 1, 0, 0, 0]
def k0_off40 (i : grid0.Coords) : Fin 5 → Nat :=
  let arg0 : BitVec 32 := BitVec.ofNat 32 (i 0).val
  let c2_i32 : BitVec 32 := 2#32
  let v0 : BitVec 32 := Scalar.remsi arg0 c2_i32
  let v43 : Index := Scalar.indexCast v0
  let c1_39 : Index := 1#32
  let c1_40 : Index := 1#32
  let c0_41 : Index := 0#32
  let c0_42 : Index := 0#32
  ![v43.toNat, 1, 1, 0, 0]
def k0_off41 (i : grid0.Coords) : Fin 5 → Nat :=
  let arg0 : BitVec 32 := BitVec.ofNat 32 (i 0).val
  let c2_i32 : BitVec 32 := 2#32
  let v0 : BitVec 32 := Scalar.remsi arg0 c2_i32
  let v46 : Index := Scalar.indexCast v0
  let c1_43 : Index := 1#32
  let c2_44 : Index := 2#32
  let c0_45 : Index := 0#32
  let c0_46 : Index := 0#32
  ![v46.toNat, 1, 2, 0, 0]
def k0_off42 (i : grid0.Coords) : Fin 5 → Nat :=
  let arg0 : BitVec 32 := BitVec.ofNat 32 (i 0).val
  let c2_i32 : BitVec 32 := 2#32
  let v0 : BitVec 32 := Scalar.remsi arg0 c2_i32
  let v49 : Index := Scalar.indexCast v0
  let c1_47 : Index := 1#32
  let c3_48 : Index := 3#32
  let c0_49 : Index := 0#32
  let c0_50 : Index := 0#32
  ![v49.toNat, 1, 3, 0, 0]
def k0_off43 (i : grid0.Coords) : Fin 5 → Nat :=
  let arg0 : BitVec 32 := BitVec.ofNat 32 (i 0).val
  let c2_i32 : BitVec 32 := 2#32
  let v0 : BitVec 32 := Scalar.remsi arg0 c2_i32
  let v52 : Index := Scalar.indexCast v0
  let c1_51 : Index := 1#32
  let c4_52 : Index := 4#32
  let c0_53 : Index := 0#32
  let c0_54 : Index := 0#32
  ![v52.toNat, 1, 4, 0, 0]
def k0_off44 (i : grid0.Coords) : Fin 5 → Nat :=
  let arg0 : BitVec 32 := BitVec.ofNat 32 (i 0).val
  let c2_i32 : BitVec 32 := 2#32
  let v0 : BitVec 32 := Scalar.remsi arg0 c2_i32
  let v55 : Index := Scalar.indexCast v0
  let c1_55 : Index := 1#32
  let c5_56 : Index := 5#32
  let c0_57 : Index := 0#32
  let c0_58 : Index := 0#32
  ![v55.toNat, 1, 5, 0, 0]
def k0_off45 (i : grid0.Coords) : Fin 5 → Nat :=
  let arg0 : BitVec 32 := BitVec.ofNat 32 (i 0).val
  let c2_i32 : BitVec 32 := 2#32
  let v0 : BitVec 32 := Scalar.remsi arg0 c2_i32
  let v58 : Index := Scalar.indexCast v0
  let c1_59 : Index := 1#32
  let c6_60 : Index := 6#32
  let c0_61 : Index := 0#32
  let c0_62 : Index := 0#32
  ![v58.toNat, 1, 6, 0, 0]
def k0_off46 (i : grid0.Coords) : Fin 5 → Nat :=
  let arg0 : BitVec 32 := BitVec.ofNat 32 (i 0).val
  let c2_i32 : BitVec 32 := 2#32
  let v0 : BitVec 32 := Scalar.remsi arg0 c2_i32
  let v61 : Index := Scalar.indexCast v0
  let c1_63 : Index := 1#32
  let c7_64 : Index := 7#32
  let c0_65 : Index := 0#32
  let c0_66 : Index := 0#32
  ![v61.toNat, 1, 7, 0, 0]
def k0_off47 (i : grid0.Coords) : Fin 5 → Nat :=
  let arg0 : BitVec 32 := BitVec.ofNat 32 (i 0).val
  let c2_i32 : BitVec 32 := 2#32
  let v0 : BitVec 32 := Scalar.remsi arg0 c2_i32
  let v69 : Index := Scalar.indexCast v0
  let c2_67 : Index := 2#32
  let c0_68 : Index := 0#32
  let c0_69 : Index := 0#32
  let c0_70 : Index := 0#32
  ![v69.toNat, 2, 0, 0, 0]
def k0_off48 (i : grid0.Coords) : Fin 5 → Nat :=
  let arg0 : BitVec 32 := BitVec.ofNat 32 (i 0).val
  let c2_i32 : BitVec 32 := 2#32
  let v0 : BitVec 32 := Scalar.remsi arg0 c2_i32
  let v72 : Index := Scalar.indexCast v0
  let c2_71 : Index := 2#32
  let c1_72 : Index := 1#32
  let c0_73 : Index := 0#32
  let c0_74 : Index := 0#32
  ![v72.toNat, 2, 1, 0, 0]
def k0_off49 (i : grid0.Coords) : Fin 5 → Nat :=
  let arg0 : BitVec 32 := BitVec.ofNat 32 (i 0).val
  let c2_i32 : BitVec 32 := 2#32
  let v0 : BitVec 32 := Scalar.remsi arg0 c2_i32
  let v75 : Index := Scalar.indexCast v0
  let c2_75 : Index := 2#32
  let c2_76 : Index := 2#32
  let c0_77 : Index := 0#32
  let c0_78 : Index := 0#32
  ![v75.toNat, 2, 2, 0, 0]
def k0_off50 (i : grid0.Coords) : Fin 5 → Nat :=
  let arg0 : BitVec 32 := BitVec.ofNat 32 (i 0).val
  let c2_i32 : BitVec 32 := 2#32
  let v0 : BitVec 32 := Scalar.remsi arg0 c2_i32
  let v78 : Index := Scalar.indexCast v0
  let c2_79 : Index := 2#32
  let c3_80 : Index := 3#32
  let c0_81 : Index := 0#32
  let c0_82 : Index := 0#32
  ![v78.toNat, 2, 3, 0, 0]
def k0_off51 (i : grid0.Coords) : Fin 5 → Nat :=
  let arg0 : BitVec 32 := BitVec.ofNat 32 (i 0).val
  let c2_i32 : BitVec 32 := 2#32
  let v0 : BitVec 32 := Scalar.remsi arg0 c2_i32
  let v81 : Index := Scalar.indexCast v0
  let c2_83 : Index := 2#32
  let c4_84 : Index := 4#32
  let c0_85 : Index := 0#32
  let c0_86 : Index := 0#32
  ![v81.toNat, 2, 4, 0, 0]
def k0_off52 (i : grid0.Coords) : Fin 5 → Nat :=
  let arg0 : BitVec 32 := BitVec.ofNat 32 (i 0).val
  let c2_i32 : BitVec 32 := 2#32
  let v0 : BitVec 32 := Scalar.remsi arg0 c2_i32
  let v84 : Index := Scalar.indexCast v0
  let c2_87 : Index := 2#32
  let c5_88 : Index := 5#32
  let c0_89 : Index := 0#32
  let c0_90 : Index := 0#32
  ![v84.toNat, 2, 5, 0, 0]
def k0_off53 (i : grid0.Coords) : Fin 5 → Nat :=
  let arg0 : BitVec 32 := BitVec.ofNat 32 (i 0).val
  let c2_i32 : BitVec 32 := 2#32
  let v0 : BitVec 32 := Scalar.remsi arg0 c2_i32
  let v87 : Index := Scalar.indexCast v0
  let c2_91 : Index := 2#32
  let c6_92 : Index := 6#32
  let c0_93 : Index := 0#32
  let c0_94 : Index := 0#32
  ![v87.toNat, 2, 6, 0, 0]
def k0_off54 (i : grid0.Coords) : Fin 5 → Nat :=
  let arg0 : BitVec 32 := BitVec.ofNat 32 (i 0).val
  let c2_i32 : BitVec 32 := 2#32
  let v0 : BitVec 32 := Scalar.remsi arg0 c2_i32
  let v90 : Index := Scalar.indexCast v0
  let c2_95 : Index := 2#32
  let c7_96 : Index := 7#32
  let c0_97 : Index := 0#32
  let c0_98 : Index := 0#32
  ![v90.toNat, 2, 7, 0, 0]
def k0_off55 (i : grid0.Coords) : Fin 5 → Nat :=
  let arg0 : BitVec 32 := BitVec.ofNat 32 (i 0).val
  let c2_i32 : BitVec 32 := 2#32
  let v0 : BitVec 32 := Scalar.remsi arg0 c2_i32
  let v98 : Index := Scalar.indexCast v0
  let c3_99 : Index := 3#32
  let c0_100 : Index := 0#32
  let c0_101 : Index := 0#32
  let c0_102 : Index := 0#32
  ![v98.toNat, 3, 0, 0, 0]
def k0_off56 (i : grid0.Coords) : Fin 5 → Nat :=
  let arg0 : BitVec 32 := BitVec.ofNat 32 (i 0).val
  let c2_i32 : BitVec 32 := 2#32
  let v0 : BitVec 32 := Scalar.remsi arg0 c2_i32
  let v101 : Index := Scalar.indexCast v0
  let c3_103 : Index := 3#32
  let c1_104 : Index := 1#32
  let c0_105 : Index := 0#32
  let c0_106 : Index := 0#32
  ![v101.toNat, 3, 1, 0, 0]
def k0_off57 (i : grid0.Coords) : Fin 5 → Nat :=
  let arg0 : BitVec 32 := BitVec.ofNat 32 (i 0).val
  let c2_i32 : BitVec 32 := 2#32
  let v0 : BitVec 32 := Scalar.remsi arg0 c2_i32
  let v104 : Index := Scalar.indexCast v0
  let c3_107 : Index := 3#32
  let c2_108 : Index := 2#32
  let c0_109 : Index := 0#32
  let c0_110 : Index := 0#32
  ![v104.toNat, 3, 2, 0, 0]
def k0_off58 (i : grid0.Coords) : Fin 5 → Nat :=
  let arg0 : BitVec 32 := BitVec.ofNat 32 (i 0).val
  let c2_i32 : BitVec 32 := 2#32
  let v0 : BitVec 32 := Scalar.remsi arg0 c2_i32
  let v107 : Index := Scalar.indexCast v0
  let c3_111 : Index := 3#32
  let c3_112 : Index := 3#32
  let c0_113 : Index := 0#32
  let c0_114 : Index := 0#32
  ![v107.toNat, 3, 3, 0, 0]
def k0_off59 (i : grid0.Coords) : Fin 5 → Nat :=
  let arg0 : BitVec 32 := BitVec.ofNat 32 (i 0).val
  let c2_i32 : BitVec 32 := 2#32
  let v0 : BitVec 32 := Scalar.remsi arg0 c2_i32
  let v110 : Index := Scalar.indexCast v0
  let c3_115 : Index := 3#32
  let c4_116 : Index := 4#32
  let c0_117 : Index := 0#32
  let c0_118 : Index := 0#32
  ![v110.toNat, 3, 4, 0, 0]
def k0_off60 (i : grid0.Coords) : Fin 5 → Nat :=
  let arg0 : BitVec 32 := BitVec.ofNat 32 (i 0).val
  let c2_i32 : BitVec 32 := 2#32
  let v0 : BitVec 32 := Scalar.remsi arg0 c2_i32
  let v113 : Index := Scalar.indexCast v0
  let c3_119 : Index := 3#32
  let c5_120 : Index := 5#32
  let c0_121 : Index := 0#32
  let c0_122 : Index := 0#32
  ![v113.toNat, 3, 5, 0, 0]
def k0_off61 (i : grid0.Coords) : Fin 5 → Nat :=
  let arg0 : BitVec 32 := BitVec.ofNat 32 (i 0).val
  let c2_i32 : BitVec 32 := 2#32
  let v0 : BitVec 32 := Scalar.remsi arg0 c2_i32
  let v116 : Index := Scalar.indexCast v0
  let c3_123 : Index := 3#32
  let c6_124 : Index := 6#32
  let c0_125 : Index := 0#32
  let c0_126 : Index := 0#32
  ![v116.toNat, 3, 6, 0, 0]
def k0_off62 (i : grid0.Coords) : Fin 5 → Nat :=
  let arg0 : BitVec 32 := BitVec.ofNat 32 (i 0).val
  let c2_i32 : BitVec 32 := 2#32
  let v0 : BitVec 32 := Scalar.remsi arg0 c2_i32
  let v119 : Index := Scalar.indexCast v0
  let c3_127 : Index := 3#32
  let c7_128 : Index := 7#32
  let c0_129 : Index := 0#32
  let c0_130 : Index := 0#32
  ![v119.toNat, 3, 7, 0, 0]
def k0_cond2 (i : grid0.Coords) : BitVec 1 :=
  let arg0 : BitVec 32 := BitVec.ofNat 32 (i 0).val
  let c63_i32_153 : BitVec 32 := 63#32
  let v175 : BitVec 1 := Scalar.cmpi .eq arg0 c63_i32_153
  let v176 : BitVec 32 := Scalar.extui v175
  let c0_i32_154 : BitVec 32 := 0#32
  let v177 : BitVec 1 := Scalar.cmpi .ne v176 c0_i32_154
  v177

@[reducible] def k0_t4_loop : Scf.Loop 32 :=
  let c0_i32_156 : BitVec 32 := 0#32
  let c1024_i32_157 : BitVec 32 := 1024#32
  let v179 : BitVec 32 := Scalar.addi c0_i32_156 c1024_i32_157
  let c1_i32_158 : BitVec 32 := 1#32
  ⟨c0_i32_156, v179, c1_i32_158⟩
def k0_off63 (i : grid0.Coords) : Fin 1 → Nat :=
  let c1_i32_155 : BitVec 32 := 1#32
  let arg0 : BitVec 32 := BitVec.ofNat 32 (i 0).val
  let c2_i32 : BitVec 32 := 2#32
  let v0 : BitVec 32 := Scalar.remsi arg0 c2_i32
  let v178 : BitVec 32 := Scalar.subi c1_i32_155 v0
  ![v178.toNat]
def k0_off64 (i : grid0.Coords) : Fin 5 → Nat :=
  let c1_i32_155 : BitVec 32 := 1#32
  let arg0 : BitVec 32 := BitVec.ofNat 32 (i 0).val
  let c2_i32 : BitVec 32 := 2#32
  let v0 : BitVec 32 := Scalar.remsi arg0 c2_i32
  let v178 : BitVec 32 := Scalar.subi c1_i32_155 v0
  let c0_i32_159 : BitVec 32 := 0#32
  let c0_i32_160 : BitVec 32 := 0#32
  let c0_i32_161 : BitVec 32 := 0#32
  let c0_i32_162 : BitVec 32 := 0#32
  ![v178.toNat, 0, 0, 0, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CombineReferenceIdeal.lean ====
abbrev S65536 : Shape := ⟨1, ![65536]⟩
abbrev S8x73728x128 : Shape := ⟨3, ![8, 73728, 128]⟩
abbrev S16384x1024 : Shape := ⟨2, ![16384, 1024]⟩
abbrev S16384x128 : Shape := ⟨2, ![16384, 128]⟩
abbrev S1x2x8192x256 : Shape := ⟨4, ![1, 2, 8192, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S73728x8x128 : Shape := ⟨3, ![73728, 8, 128]⟩
abbrev S73728x1024 : Shape := ⟨2, ![73728, 1024]⟩
abbrev S_ : Shape := ⟨0, ![]⟩
abbrev S65536x1 : Shape := ⟨2, ![65536, 1]⟩
abbrev S65536x1024 : Shape := ⟨2, ![65536, 1024]⟩
abbrev S4x16384x1024 : Shape := ⟨3, ![4, 16384, 1024]⟩
abbrev S16384x4 : Shape := ⟨2, ![16384, 4]⟩
abbrev S4x16384 : Shape := ⟨2, ![4, 16384]⟩
abbrev S4x16384x1 : Shape := ⟨3, ![4, 16384, 1]⟩
abbrev S16384 : Shape := ⟨1, ![16384]⟩
abbrev S16384x1 : Shape := ⟨2, ![16384, 1]⟩
abbrev S1024x1024 : Shape := ⟨2, ![1024, 1024]⟩
abbrev S2x8192x256 : Shape := ⟨3, ![2, 8192, 256]⟩
abbrev S16384x256 : Shape := ⟨2, ![16384, 256]⟩
abbrev S256x1024 : Shape := ⟨2, ![256, 1024]⟩

abbrev nBuf : Space → Nat
  | .hbm => 78
  | .vmem => 0
  | .smem => 0
  | _ => 0

abbrev bufTy : (tb : Table) → Fin (tcTables nBuf tb) → BufTy
  | .hbm, ⟨0, _⟩ => ⟨S65536, .i32⟩
  | .hbm, ⟨1, _⟩ => ⟨S8x73728x128, .f32⟩
  | .hbm, ⟨2, _⟩ => ⟨S16384x1024, .f32⟩
  | .hbm, ⟨3, _⟩ => ⟨S16384x128, .f32⟩
  | .hbm, ⟨4, _⟩ => ⟨S1x2x8192x256, .f32⟩
  | .hbm, ⟨5, _⟩ => ⟨S1x1024, .f32⟩
  | .hbm, ⟨6, _⟩ => ⟨S1x1024x1024, .f32⟩
  | .hbm, ⟨7, _⟩ => ⟨S1x256x1024, .f32⟩
  | .hbm, ⟨8, _⟩ => ⟨S1024, .f32⟩
  | .hbm, ⟨9, _⟩ => ⟨S73728x8x128, .f32⟩
  | .hbm, ⟨10, _⟩ => ⟨S73728x1024, .f32⟩
  | .hbm, ⟨11, _⟩ => ⟨S_, .i32⟩
  | .hbm, ⟨12, _⟩ => ⟨S65536, .i32⟩
  | .hbm, ⟨13, _⟩ => ⟨S65536, .i1⟩
  | .hbm, ⟨14, _⟩ => ⟨S_, .i32⟩
  | .hbm, ⟨15, _⟩ => ⟨S65536, .i32⟩
  | .hbm, ⟨16, _⟩ => ⟨S65536, .i32⟩
  | .hbm, ⟨17, _⟩ => ⟨S65536, .i32⟩
  | .hbm, ⟨18, _⟩ => ⟨S65536x1, .i32⟩
  | .hbm, ⟨19, _⟩ => ⟨S65536x1024, .f32⟩
  | .hbm, ⟨20, _⟩ => ⟨S4x16384x1024, .f32⟩
  | .hbm, ⟨21, _⟩ => ⟨S16384x4, .f32⟩
  | .hbm, ⟨22, _⟩ => ⟨S4x16384, .f32⟩
  | .hbm, ⟨23, _⟩ => ⟨S4x16384x1, .f32⟩
  | .hbm, ⟨24, _⟩ => ⟨S4x16384x1024, .f32⟩
  | .hbm, ⟨25, _⟩ => ⟨S4x16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S1024x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384x1024, .f32⟩
  | .hbm, ⟨55, _⟩ => ⟨S16384x1024, .f32⟩
  | .hbm, ⟨56, _⟩ => ⟨S2x8192x256, .f32⟩
  | .hbm, ⟨57, _⟩ => ⟨S16384x256, .f32⟩
  | .hbm, ⟨58, _⟩ => ⟨S256x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Outlet.lean ====
abbrev S2x8192x512 : Shape := ⟨3, ![2, 8192, 512]⟩
abbrev S2x8192x1024 : Shape := ⟨3, ![2, 8192, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x32 : Shape := ⟨2, ![1024, 32]⟩
abbrev S_ : Shape := ⟨0, ![]⟩
abbrev S1024x128 : Shape := ⟨2, ![1024, 128]⟩
abbrev S32 : Shape := ⟨1, ![32]⟩
abbrev S128 : Shape := ⟨1, ![128]⟩
abbrev S1x128 : Shape := ⟨2, ![1, 128]⟩
abbrev S1024x1024 : Shape := ⟨2, ![1024, 1024]⟩
abbrev S512x1024 : Shape := ⟨2, ![512, 1024]⟩
abbrev S1024 : Shape := ⟨1, ![1024]⟩
abbrev S16384x1024 : Shape := ⟨2, ![16384, 1024]⟩
abbrev S4x16384x128 : Shape := ⟨3, ![4, 16384, 128]⟩
abbrev S16384x128 : Shape := ⟨2, ![16384, 128]⟩
abbrev S1x512x512 : Shape := ⟨3, ![1, 512, 512]⟩
abbrev S1x512x1024 : Shape := ⟨3, ![1, 512, 1024]⟩
abbrev S4x512x128 : Shape := ⟨3, ![4, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x512x128 : Shape := ⟨3, ![1, 512, 128]⟩

abbrev nBuf : Space → Nat
  | .hbm => 30
  | .vmem => 20
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x1024, .f32⟩
  | .hbm, ⟨3, _⟩ => ⟨S1x1024x1024, .f32⟩
  | .hbm, ⟨4, _⟩ => ⟨S1x1024, .f32⟩
  | .hbm, ⟨5, _⟩ => ⟨S1x1024x32, .f32⟩
  | .hbm, ⟨6, _⟩ => ⟨S1x32, .f32⟩
  | .hbm, ⟨7, _⟩ => ⟨S1024x32, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S1024x128, .f32⟩
  | .hbm, ⟨13, _⟩ => ⟨S1024x128, .f32⟩
  | .hbm, ⟨14, _⟩ => ⟨S1024x128, .bf16⟩
  | .hbm, ⟨15, _⟩ => ⟨S32, .f32⟩
  | .hbm, ⟨16, _⟩ => ⟨S_, .f32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S1024x1024, .f32⟩
  | .hbm, ⟨21, _⟩ => ⟨S1024x1024, .bf16⟩
  | .hbm, ⟨22, _⟩ => ⟨S512x1024, .bf16⟩
  | .hbm, ⟨23, _⟩ => ⟨S512x1024, .bf16⟩
  | .hbm, ⟨24, _⟩ => ⟨S1024, .f32⟩
  | .hbm, ⟨25, _⟩ => ⟨S1x1024, .f32⟩
  | .hbm, ⟨26, _⟩ => ⟨S16384x1024, .f32⟩
  | .hbm, ⟨27, _⟩ => ⟨S4x16384x128, .i32⟩
  | .hbm, ⟨28, _⟩ => ⟨S16384x128, .f32⟩
  | .hbm, ⟨29, _⟩ => ⟨S1x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x128, .bf16⟩
  | .local _ .vmem, ⟨10, _⟩ => ⟨S1024x128, .bf16⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S4x512x128, .i32⟩
  | .local _ .vmem, ⟨15, _⟩ => ⟨S4x512x128, .i32⟩
  | .local _ .vmem, ⟨16, _⟩ => ⟨S512x128, .f32⟩
  | .local _ .vmem, ⟨17, _⟩ => ⟨S512x128, .f32⟩
  | .local _ .vmem, ⟨18, _⟩ => ⟨S1x128, .f32⟩
  | .local _ .vmem, ⟨19, _⟩ => ⟨S1x128, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [BitOps F]

abbrev grid0 : Pipeline.Grid := ⟨1, ![32], ![false]⟩

def cc0_transform_0 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== OutletIdeal.lean ====
abbrev S2x8192x512 : Shape := ⟨3, ![2, 8192, 512]⟩
abbrev S2x8192x1024 : Shape := ⟨3, ![2, 8192, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x32 : Shape := ⟨2, ![1024, 32]⟩
abbrev S_ : Shape := ⟨0, ![]⟩
abbrev S1024x128 : Shape := ⟨2, ![1024, 128]⟩
abbrev S32 : Shape := ⟨1, ![32]⟩
abbrev S128 : Shape := ⟨1, ![128]⟩
abbrev S1x128 : Shape := ⟨2, ![1, 128]⟩
abbrev S1024x1024 : Shape := ⟨2, ![1024, 1024]⟩
abbrev S512x1024 : Shape := ⟨2, ![512, 1024]⟩
abbrev S1024 : Shape := ⟨1, ![1024]⟩
abbrev S16384x1024 : Shape := ⟨2, ![16384, 1024]⟩
abbrev S4x16384x2x128 : Shape := ⟨4, ![4, 16384, 2, 128]⟩
abbrev S16384x128 : Shape := ⟨2, ![16384, 128]⟩
abbrev S4x16384x1x128 : Shape := ⟨4, ![4, 16384, 1, 128]⟩
abbrev S4x16384x128 : Shape := ⟨3, ![4, 16384, 128]⟩
abbrev S1x512x512 : Shape := ⟨3, ![1, 512, 512]⟩
abbrev S1x512x1024 : Shape := ⟨3, ![1, 512, 1024]⟩
abbrev S4x512x128 : Shape := ⟨3, ![4, 512, 128]⟩
abbrev S4x512x2x128 : Shape := ⟨4, ![4, 512, 2, 128]⟩
abbrev S4x512x1x128 : Shape := ⟨4, ![4, 512, 1, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x512x128 : Shape := ⟨3, ![1, 512, 128]⟩
abbrev S1x512x2x128 : Shape := ⟨4, ![1, 512, 2, 128]⟩
abbrev S1x512x1x128 : Shape := ⟨4, ![1, 512, 1, 128]⟩

abbrev nBuf : Space → Nat
  | .hbm => 30
  | .vmem => 20
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x1024, .f32⟩
  | .hbm, ⟨3, _⟩ => ⟨S1x1024x1024, .f32⟩
  | .hbm, ⟨4, _⟩ => ⟨S1x1024, .f32⟩
  | .hbm, ⟨5, _⟩ => ⟨S1x1024x32, .f32⟩
  | .hbm, ⟨6, _⟩ => ⟨S1x32, .f32⟩
  | .hbm, ⟨7, _⟩ => ⟨S1024x32, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S1024x128, .f32⟩
  | .hbm, ⟨13, _⟩ => ⟨S1024x128, .f32⟩
  | .hbm, ⟨14, _⟩ => ⟨S1024x128, .bf16⟩
  | .hbm, ⟨15, _⟩ => ⟨S32, .f32⟩
  | .hbm, ⟨16, _⟩ => ⟨S_, .f32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S1024x1024, .f32⟩
  | .hbm, ⟨21, _⟩ => ⟨S1024x1024, .bf16⟩
  | .hbm, ⟨22, _⟩ => ⟨S512x1024, .bf16⟩
  | .hbm, ⟨23, _⟩ => ⟨S512x1024, .bf16⟩
  | .hbm, ⟨24, _⟩ => ⟨S1024, .f32⟩
  | .hbm, ⟨25, _⟩ => ⟨S1x1024, .f32⟩
  | .hbm, ⟨26, _⟩ => ⟨S16384x1024, .f32⟩
  | .hbm, ⟨27, _⟩ => ⟨S4x16384x2x128, .bf16⟩
  | .hbm, ⟨28, _⟩ => ⟨S16384x128, .f32⟩
  | .hbm, ⟨29, _⟩ => ⟨S1x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x128, .bf16⟩
  | .local _ .vmem, ⟨10, _⟩ => ⟨S1024x128, .bf16⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S4x512x2x128, .bf16⟩
  | .local _ .vmem, ⟨15, _⟩ => ⟨S4x512x2x128, .bf16⟩
  | .local _ .vmem, ⟨16, _⟩ => ⟨S512x128, .f32⟩
  | .local _ .vmem, ⟨17, _⟩ => ⟨S512x128, .f32⟩
  | .local _ .vmem, ⟨18, _⟩ => ⟨S1x128, .f32⟩
  | .local _ .vmem, ⟨19, _⟩ => ⟨S1x128, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, 0, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x2x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== OutletReferenceIdeal.lean ====
abbrev S2x8192x512 : Shape := ⟨3, ![2, 8192, 512]⟩
abbrev S2x8192x1024 : Shape := ⟨3, ![2, 8192, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x1024 : Shape := ⟨2, ![1024, 1024]⟩
abbrev S16384x1024 : Shape := ⟨2, ![16384, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x1024, .f32⟩
  | .hbm, ⟨3, _⟩ => ⟨S1x1024x1024, .f32⟩
  | .hbm, ⟨4, _⟩ => ⟨S1x1024, .f32⟩
  | .hbm, ⟨5, _⟩ => ⟨S1x1024x32, .f32⟩
  | .hbm, ⟨6, _⟩ => ⟨S1x32, .f32⟩
  | .hbm, ⟨7, _⟩ => ⟨S2x8192x1024, .bf16⟩
  | .hbm, ⟨8, _⟩ => ⟨S2x8192x1024, .f32⟩
  | .hbm, ⟨9, _⟩ => ⟨S1024x1024, .f32⟩
  | .hbm, ⟨10, _⟩ => ⟨S2x8192x1024, .f32⟩
  | .hbm, ⟨11, _⟩ => ⟨S2x8192x1024, .f32⟩
  | .hbm, ⟨12, _⟩ => ⟨S16384x1024, .f32⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Proof.Geo.lean ====
/- The places of the dispatch: what each copy's offsets are in closed form, which elements each of its ends covers, and what
   a copy writes there. -/
module

public import proofs.«01_k».proof.Proof.Gen.KernelIdeal.Loops
public import proofs.«01_k».proof.Proof.Gen.KernelIdeal.Launch
public import Idealize.ShloMosaic.Lib.Batch
public import Idealize.ShloMosaic.Lib.Ring
public import Idealize.ShloMosaic.Lib.ValueLayout
public import Idealize.ShloMosaic.Lib.Pipeline.FrameValue
public import Idealize.SL.BI.BigOpNat

@[expose] public section

noncomputable section

namespace Cert.KernelIdeal.Dispatch

open Idealize.ShloMosaic Idealize.ShloMosaic.ValueIdx Cert.KernelIdeal Cert.KernelIdeal.Gen

variable {F : FTy → Type} [FloatOps F]

/-! ### Offsets -/

theorem iv_val (n : ℕ) (h : n < 4294967296) : (Scf.iv (0#32) (1#32) n).toNat = n := by
  simp [Scf.iv, BitVec.toNat_mul, BitVec.toNat_add, Nat.mod_eq_of_lt h]

theorem trips1 : k0_t1_loop.trips = 288 := by decide +kernel
theorem trips2 : k0_t2_loop.trips = 288 := by decide +kernel
theorem trips3 : k0_t3_loop.trips = 2048 := by decide +kernel
theorem trips4 : k0_t4_loop.trips = 512 := by decide +kernel
theorem trips5 : k0_t5_loop.trips = 2048 := by decide +kernel
theorem trips6 : k0_t6_loop.trips = 2048 := by decide +kernel

/-- The grid point. -/
abbrev pt (t : Fin grid0.N) : grid0.Coords := grid0.coords t

theorem cond1_iff : ∀ t : Fin grid0.N, k0_cond1 (pt t) = 1#1 ↔ t.val = 0 := by decide +kernel
theorem cond4_iff : ∀ t : Fin grid0.N,
    Scalar.cmpi .ne (Scalar.extui (Scalar.cmpi .eq (BitVec.ofNat 32 ((pt t) 0).val) 0#32) : BitVec 32) 0#32 = 1#1 ↔ t.val = 0 := by decide +kernel
theorem cond5_iff : ∀ t : Fin grid0.N, k0_cond5 (pt t) = 1#1 ↔ 2 ≤ t.val := by decide +kernel
theorem cond6_iff : ∀ t : Fin grid0.N, k0_cond6 (pt t) = 1#1 ↔ t.val + 1 < 32 := by decide +kernel
theorem cond7_iff : ∀ t : Fin grid0.N, k0_cond7 (pt t) = 1#1 ↔ t.val = 31 := by decide +kernel
theorem cond8_last : ∀ t : Fin grid0.N, t.val = 31 → k0_cond8 (pt t) = 1#1 := by decide +kernel
theorem cond9_last : ∀ t : Fin grid0.N, t.val = 31 → k0_cond9 (pt t) = 1#1 := by decide +kernel

theorem off5_eq : ∀ t : Fin grid0.N, 2 ≤ t.val → k0_off5 (pt t) = ![(t.val + 1) % 3] := by decide +kernel
theorem off7_eq : ∀ t : Fin grid0.N, k0_off7 (pt t) = ![(t.val + 1) % 3] := by decide +kernel
theorem off8_eq : ∀ t : Fin grid0.N, k0_off8 (pt t) = ![(t.val + 1) % 3, 0, 0, 0] := by decide +kernel
theorem off9_eq : ∀ t : Fin grid0.N, k0_off9 (pt t) = ![0, (t.val + 1) * 512, 0] := by decide +kernel
theorem off10_eq : ∀ t : Fin grid0.N, k0_off10 (pt t) = ![t.val % 3] := by decide +kernel
theorem off11_eq : ∀ t : Fin grid0.N, k0_off11 (pt t) = ![t.val % 3, 0, 0, 0] := by decide +kernel
theorem off12_eq : ∀ t : Fin grid0.N, k0_off12 (pt t) = ![0, t.val * 512, 0] := by decide +kernel
theorem off14_eq : ∀ t : Fin grid0.N, k0_off14 (pt t) = ![t.val % 3] := by decide +kernel
theorem off18_eq : ∀ t : Fin grid0.N, k0_off18 (pt t) = ![t.val % 3] := by decide +kernel
theorem off22_eq : ∀ t : Fin grid0.N, k0_off22 (pt t) = ![t.val % 3] := by decide +kernel
theorem off26_eq : ∀ t : Fin grid0.N, k0_off26 (pt t) = ![t.val % 3] := by decide +kernel
theorem off29_eq : ∀ t : Fin grid0.N, t.val = 31 → k0_off29 (pt t) = ![31 % 3] := by decide +kernel
theorem off31_eq : ∀ t : Fin grid0.N, t.val = 31 → k0_off31 (pt t) = ![30 % 3] := by decide +kernel

theorem rem_val : ∀ t : Fin grid0.N, (Scalar.remsi (BitVec.ofNat 32 ((pt t) 0).val) 3#32).toNat = t.val % 3 := by decide +kernel
theorem pt_val : ∀ t : Fin grid0.N, ((pt t) 0).val = t.val := by decide +kernel
theorem lt32 (t : Fin grid0.N) : t.val < 32 := lt_of_lt_of_eq t.isLt N_0

theorem off1_eq (k : Fin k0_t1_loop.trips) : k0_off1 k = ![k.val] := by
  have h := lt_of_lt_of_eq k.isLt trips1
  show ![(Scf.iv (0#32) (1#32) k).toNat] = _
  rw [iv_val _ (by omega)]
theorem off3_eq (k : Fin k0_t2_loop.trips) : k0_off3 k = ![k.val] := by
  have h := lt_of_lt_of_eq k.isLt trips2
  show ![(Scf.iv (0#32) (1#32) k).toNat] = _
  rw [iv_val _ (by omega)]
theorem off2_eq (k : Fin k0_t1_loop.trips) : k0_off2 k = ![0, k.val * 256, 0] := by
  have h := lt_of_lt_of_eq k.isLt trips1
  show ![0, (Scalar.muli (Scf.iv (0#32) (1#32) k) 256#32).toNat, 0] = _
  have : (Scalar.muli (Scf.iv (0#32) (1#32) k) 256#32).toNat = k.val * 256 := by
    show (Scf.iv (0#32) (1#32) k * 256#32).toNat = _
    rw [BitVec.toNat_mul, iv_val _ (by omega)]
    show k.val * 256 % 4294967296 = _
    omega
  rw [this]

theorem srcOff (t : Fin grid0.N) (k : Fin k0_t4_loop.trips) :
    ![(Scalar.remsi (BitVec.ofNat 32 ((pt t) 0).val) 3#32).toNat, 0, (Scf.iv (0#32) (1#32) k).toNat, 0] = ![t.val % 3, 0, k.val, 0] := by
  have h := lt_of_lt_of_eq k.isLt trips4
  rw [rem_val, iv_val _ (by omega)]
theorem off16_eq (t : Fin grid0.N) (k : Fin k0_t4_loop.trips) : k0_off16 (pt t) k = ![t.val % 3, 0, k.val, 0] := srcOff t k
theorem off20_eq (t : Fin grid0.N) (k : Fin k0_t4_loop.trips) : k0_off20 (pt t) k = ![t.val % 3, 0, k.val, 0] := srcOff t k
theorem off24_eq (t : Fin grid0.N) (k : Fin k0_t4_loop.trips) : k0_off24 (pt t) k = ![t.val % 3, 0, k.val, 0] := srcOff t k
theorem off28_eq (t : Fin grid0.N) (k : Fin k0_t4_loop.trips) : k0_off28 (pt t) k = ![t.val % 3, 0, k.val, 0] := srcOff t k

theorem wordOff (b : ℕ) (hb : b ≤ 49152) (t : Fin grid0.N) (k : Fin k0_t4_loop.trips) :
    (Scalar.addi (Scalar.addi (BitVec.ofNat 32 b) (Scalar.muli (BitVec.ofNat 32 ((pt t) 0).val) 512#32)) (Scf.iv (0#32) (1#32) k)).toNat
      = b + t.val * 512 + k.val := by
  have h := lt_of_lt_of_eq k.isLt trips4
  have ht := lt32 t
  show (BitVec.ofNat 32 b + BitVec.ofNat 32 ((pt t) 0).val * 512#32 + Scf.iv (0#32) (1#32) k).toNat = _
  rw [BitVec.toNat_add, BitVec.toNat_add, BitVec.toNat_mul, iv_val _ (by omega), pt_val]
  simp only [BitVec.toNat_ofNat]
  omega
theorem off13_eq (t : Fin grid0.N) (k : Fin k0_t4_loop.trips) : k0_off13 (pt t) k = ![t.val * 512 + k.val] := by
  have h := wordOff 0 (by omega) t k
  rw [Nat.zero_add] at h
  rw [← h]; rfl
theorem off17_eq (t : Fin grid0.N) (k : Fin k0_t4_loop.trips) : k0_off17 (pt t) k = ![16384 + t.val * 512 + k.val] := by
  rw [← wordOff 16384 (by omega) t k]; rfl
theorem off21_eq (t : Fin grid0.N) (k : Fin k0_t4_loop.trips) : k0_off21 (pt t) k = ![32768 + t.val * 512 + k.val] := by
  rw [← wordOff 32768 (by omega) t k]; rfl
theorem off25_eq (t : Fin grid0.N) (k : Fin k0_t4_loop.trips) : k0_off25 (pt t) k = ![49152 + t.val * 512 + k.val] := by
  rw [← wordOff 49152 (by omega) t k]; rfl

/-! ### Elements -/

abbrev XI := S4x73728x128.Idx
abbrev UI := S3x4x512x128.Idx
abbrev SI := S4x16384x128.Idx

/-- One row of the result, all four slices of it. -/
def rowSet (ρ : ℕ) : Finset XI := Finset.univ.filter fun y => (y 1).val = ρ
/-- One block of 256 rows. -/
def blkSet (b : ℕ) : Finset XI := Finset.univ.filter fun y => (y 1).val / 256 = b
/-- One slot of the ring. -/
def slotSet (s : ℕ) : Finset UI := Finset.univ.filter fun y => (y 0).val = s
/-- One row of a slot. -/
def urow (s r : ℕ) : Finset UI := Finset.univ.filter fun y => (y 0).val = s ∧ (y 2).val = r
/-- One tile of tokens. -/
def tile (t : ℕ) : Finset SI := Finset.univ.filter fun y => (y 1).val / 512 = t

theorem mem_rowSet {ρ : ℕ} {y : XI} : y ∈ rowSet ρ ↔ (y 1).val = ρ := by simp [rowSet]
theorem mem_blkSet {ρ : ℕ} {y : XI} : y ∈ blkSet ρ ↔ (y 1).val / 256 = ρ := by simp [blkSet]
theorem mem_slotSet {s : ℕ} {y : UI} : y ∈ slotSet s ↔ (y 0).val = s := by simp [slotSet]
theorem mem_urow {s r : ℕ} {y : UI} : y ∈ urow s r ↔ (y 0).val = s ∧ (y 2).val = r := by simp [urow]
theorem mem_tile {t : ℕ} {y : SI} : y ∈ tile t ↔ (y 1).val / 512 = t := by simp [tile]

section Rects
variable {off : Fin 3 → ℕ} {off4 : Fin 4 → ℕ}

theorem set_row {ρ : ℕ} (h : off = ![0, ρ, 0]) (inb : ∀ a, off a + S4x1x128.size a ≤ S4x73728x128.size a) :
    (Rect.unit (s := S4x73728x128) off S4x1x128.size inb).set = rowSet ρ := by
  subst h; ext y
  rw [Rect.mem_set_unit, mem_rowSet]
  have h0 : (y 0).val < 4 := (y 0).isLt
  have h2 : (y 2).val < 128 := (y 2).isLt
  constructor
  · intro h; have := h 1
    have e : ρ ≤ (y 1).val ∧ (y 1).val < ρ + 1 := this
    omega
  · intro h a
    match a with
    | 0 => exact ⟨Nat.zero_le _, by show (y 0).val < 0 + 4; omega⟩
    | 1 => exact ⟨by show ρ ≤ (y 1).val; omega, by show (y 1).val < ρ + 1; omega⟩
    | 2 => exact ⟨Nat.zero_le _, by show (y 2).val < 0 + 128; omega⟩

theorem set_blk {b : ℕ} (h : off = ![0, b * 256, 0]) (inb : ∀ a, off a + S4x256x128.size a ≤ S4x73728x128.size a) :
    (Rect.unit (s := S4x73728x128) off S4x256x128.size inb).set = blkSet b := by
  subst h; ext y
  rw [Rect.mem_set_unit, mem_blkSet]
  have h0 : (y 0).val < 4 := (y 0).isLt
  have h2 : (y 2).val < 128 := (y 2).isLt
  constructor
  · intro h; have := h 1
    have e : b * 256 ≤ (y 1).val ∧ (y 1).val < b * 256 + 256 := this
    omega
  · intro h a
    match a with
    | 0 => exact ⟨Nat.zero_le _, by show (y 0).val < 0 + 4; omega⟩
    | 1 => exact ⟨by show b * 256 ≤ (y 1).val; omega, by show (y 1).val < b * 256 + 256; omega⟩
    | 2 => exact ⟨Nat.zero_le _, by show (y 2).val < 0 + 128; omega⟩

theorem set_tile {t : ℕ} (h : off = ![0, t * 512, 0]) (inb : ∀ a, off a + S4x512x128.size a ≤ S4x16384x128.size a) :
    (Rect.unit (s := S4x16384x128) off S4x512x128.size inb).set = tile t := by
  subst h; ext y
  rw [Rect.mem_set_unit, mem_tile]
  have h0 : (y 0).val < 4 := (y 0).isLt
  have h2 : (y 2).val < 128 := (y 2).isLt
  constructor
  · intro h; have := h 1
    have e : t * 512 ≤ (y 1).val ∧ (y 1).val < t * 512 + 512 := this
    omega
  · intro h a
    match a with
    | 0 => exact ⟨Nat.zero_le _, by show (y 0).val < 0 + 4; omega⟩
    | 1 => exact ⟨by show t * 512 ≤ (y 1).val; omega, by show (y 1).val < t * 512 + 512; omega⟩
    | 2 => exact ⟨Nat.zero_le _, by show (y 2).val < 0 + 128; omega⟩

theorem set_slot {s : ℕ} (h : off4 = ![s, 0, 0, 0]) (inb : ∀ a, off4 a + S1x4x512x128.size a ≤ S3x4x512x128.size a) :
    (Rect.unit (s := S3x4x512x128) off4 S1x4x512x128.size inb).set = slotSet s := by
  subst h; ext y
  rw [Rect.mem_set_unit, mem_slotSet]
  have h1 : (y 1).val < 4 := (y 1).isLt
  have h2 : (y 2).val < 512 := (y 2).isLt
  have h3 : (y 3).val < 128 := (y 3).isLt
  constructor
  · intro h; have := h 0
    have e : s ≤ (y 0).val ∧ (y 0).val < s + 1 := this
    omega
  · intro h a
    match a with
    | 0 => exact ⟨by show s ≤ (y 0).val; omega, by show (y 0).val < s + 1; omega⟩
    | 1 => exact ⟨Nat.zero_le _, by show (y 1).val < 0 + 4; omega⟩
    | 2 => exact ⟨Nat.zero_le _, by show (y 2).val < 0 + 512; omega⟩
    | 3 => exact ⟨Nat.zero_le _, by show (y 3).val < 0 + 128; omega⟩

theorem set_urow {s r : ℕ} (h : off4 = ![s, 0, r, 0]) (inb : ∀ a, off4 a + S1x4x1x128.size a ≤ S3x4x512x128.size a) :
    (Rect.unit (s := S3x4x512x128) off4 S1x4x1x128.size inb).set = urow s r := by
  subst h; ext y
  rw [Rect.mem_set_unit, mem_urow]
  have h1 : (y 1).val < 4 := (y 1).isLt
  have h3 : (y 3).val < 128 := (y 3).isLt
  constructor
  · intro h
    have e : s ≤ (y 0).val ∧ (y 0).val < s + 1 := h 0
    have e' : r ≤ (y 2).val ∧ (y 2).val < r + 1 := h 2
    omega
  · intro h a
    match a with
    | 0 => exact ⟨by show s ≤ (y 0).val; omega, by show (y 0).val < s + 1; omega⟩
    | 1 => exact ⟨Nat.zero_le _, by show (y 1).val < 0 + 4; omega⟩
    | 2 => exact ⟨by show r ≤ (y 2).val; omega, by show (y 2).val < r + 1; omega⟩
    | 3 => exact ⟨Nat.zero_le _, by show (y 3).val < 0 + 128; omega⟩
end Rects

/-! ### What a copy writes -/

variable {Val : EltTy → Type}

/-- A token's row, slice by slice; outside the tokens, anything. -/
def tokAt (u : SI → Val .i32) (p : Fin 4) (k : ℕ) (l : Fin 128) : Val .i32 := u (ix3 p ⟨k % 16384, Nat.mod_lt _ (by decide)⟩ l)

/-- The contents of a slot that holds the tokens of tile `t`. -/
def loaded (u : SI → Val .i32) (t : ℕ) : UI → Val .i32 := fun y => tokAt u (y 1) (t * 512 + (y 2).val) (y 3)

/-- A tile's load. -/
theorem load_val {t s : ℕ} (ht : t < 32) {off : Fin 3 → ℕ} {off4 : Fin 4 → ℕ} (h : off = ![0, t * 512, 0]) (h4 : off4 = ![s, 0, 0, 0])
    (inb : ∀ a, off a + S4x512x128.size a ≤ S4x16384x128.size a) (inb4 : ∀ a, off4 a + S1x4x512x128.size a ≤ S3x4x512x128.size a)
    (fd : UI → Val .i32) (fs : SI → Val .i32) :
    ∀ y ∈ slotSet s,
      ((((Memref.whole cc0_scratch0).slice (Rect.unit (s := S3x4x512x128) off4 S1x4x512x128.size inb4) (fun _ => rfl)).squeeze S4x512x128
        squeezes_S1x4x512x128_S4x512x128).view.write Val fd
        (((Memref.whole main_arg2).slice (Rect.unit (s := S4x16384x128) off S4x512x128.size inb) (fun _ => rfl)).view.read Val fs) Finset.univ) y
      = loaded fs t y := by
  subst h; subst h4
  intro y hy
  rw [mem_slotSet] at hy
  have e : y = (((Memref.whole cc0_scratch0).slice (Rect.unit (s := S3x4x512x128) _ S1x4x512x128.size inb4) (fun _ => rfl)).squeeze S4x512x128
        squeezes_S1x4x512x128_S4x512x128).view.emb (ix3 (y 1) (y 2) (y 3)) := by
    show y = (Rect.unit (s := S3x4x512x128) _ S1x4x512x128.size inb4).emb (Shape.reshapeEquiv _ (ix3 (y 1) (y 2) (y 3)))
    erw [reshapeEquiv_ix3_1abc]
    funext a
    apply Fin.ext
    rw [Rect.emb_apply]
    match a with
    | 0 => show (y 0).val = s + 1 * 0; omega
    | 1 => show (y 1).val = 0 + 1 * (y 1).val; omega
    | 2 => show (y 2).val = 0 + 1 * (y 2).val; omega
    | 3 => show (y 3).val = 0 + 1 * (y 3).val; omega
  have h2 : (y 2).val < 512 := (y 2).isLt
  conv_lhs => rw [e]
  rw [View.write_emb_of_mem _ _ (Finset.mem_univ _)]
  show fs ((Rect.unit (s := S4x16384x128) _ S4x512x128.size inb).emb (ix3 (y 1) (y 2) (y 3))) = _
  unfold loaded tokAt
  congr 1
  funext a
  apply Fin.ext
  rw [Rect.emb_apply]
  match a with
  | 0 => show 0 + 1 * (y 1).val = (y 1).val; omega
  | 1 => show t * 512 + 1 * (y 2).val = (t * 512 + (y 2).val) % 16384; omega
  | 2 => show 0 + 1 * (y 3).val = (y 3).val; omega

/-- A row's copy out of a slot. -/
theorem row_val {ρ s r : ℕ} {off : Fin 3 → ℕ} {off4 : Fin 4 → ℕ} (h : off = ![0, ρ, 0]) (h4 : off4 = ![s, 0, r, 0])
    (inb : ∀ a, off a + S4x1x128.size a ≤ S4x73728x128.size a) (inb4 : ∀ a, off4 a + S1x4x1x128.size a ≤ S3x4x512x128.size a)
    (fd : XI → Val .i32) (u : SI → Val .i32) (t : ℕ) :
    ∀ y ∈ rowSet ρ,
      (((Memref.whole main_v0).slice (Rect.unit (s := S4x73728x128) off S4x1x128.size inb) (fun _ => rfl)).view.write Val fd
        ((((Memref.whole cc0_scratch0).slice (Rect.unit (s := S3x4x512x128) off4 S1x4x1x128.size inb4) (fun _ => rfl)).squeeze S4x1x128
          squeezes_S1x4x1x128_S4x1x128).view.read Val (loaded u t)) Finset.univ) y
      = tokAt u (y 0) (t * 512 + r) (y 2) := by
  subst h; subst h4
  intro y hy
  rw [mem_rowSet] at hy
  have e : y = ((Memref.whole main_v0).slice (Rect.unit (s := S4x73728x128) _ S4x1x128.size inb) (fun _ => rfl)).view.emb
      (ix3 (y 0) (0 : Fin 1) (y 2)) := by
    show y = (Rect.unit (s := S4x73728x128) _ S4x1x128.size inb).emb (ix3 (y 0) (0 : Fin 1) (y 2))
    funext a
    apply Fin.ext
    rw [Rect.emb_apply]
    match a with
    | 0 => show (y 0).val = 0 + 1 * (y 0).val; omega
    | 1 => show (y 1).val = ρ + 1 * 0; omega
    | 2 => show (y 2).val = 0 + 1 * (y 2).val; omega
  conv_lhs => rw [e]
  rw [View.write_emb_of_mem _ _ (Finset.mem_univ _)]
  show loaded u t ((Rect.unit (s := S3x4x512x128) _ S1x4x1x128.size inb4).emb (Shape.reshapeEquiv _ (ix3 (y 0) (0 : Fin 1) (y 2)))) = _
  erw [reshapeEquiv_ix3_1abc]
  unfold loaded
  have c1 : (((Rect.unit (s := S3x4x512x128) _ S1x4x1x128.size inb4).emb (ix4 (⟨0, Nat.one_pos⟩ : Fin 1) (y 0) (0 : Fin 1) (y 2))) 1).val = (y 0).val := by
    rw [Rect.emb_apply]; show 0 + 1 * (y 0).val = _; omega
  have c2 : (((Rect.unit (s := S3x4x512x128) _ S1x4x1x128.size inb4).emb (ix4 (⟨0, Nat.one_pos⟩ : Fin 1) (y 0) (0 : Fin 1) (y 2))) 2).val = r := by
    rw [Rect.emb_apply]; show r + 1 * 0 = _; omega
  have c3 : (((Rect.unit (s := S3x4x512x128) _ S1x4x1x128.size inb4).emb (ix4 (⟨0, Nat.one_pos⟩ : Fin 1) (y 0) (0 : Fin 1) (y 2))) 3).val = (y 2).val := by
    rw [Rect.emb_apply]; show 0 + 1 * (y 2).val = _; omega
  have d1 := Fin.ext c1
  have d3 := Fin.ext c3
  show tokAt u _ _ _ = _
  rw [d1, d3, c2]

/-- A block's copy out of a buffer of one value throughout. -/
theorem blk_val {b : ℕ} {off : Fin 3 → ℕ} (h : off = ![0, b * 256, 0])
    (inb : ∀ a, off a + S4x256x128.size a ≤ S4x73728x128.size a) (fd : XI → Val .i32) (z : Val .i32) :
    ∀ y ∈ blkSet b,
      (((Memref.whole main_v0).slice (Rect.unit (s := S4x73728x128) off S4x256x128.size inb) (fun _ => rfl)).view.write Val fd
        ((Memref.whole cc0_scratch1).view.read Val (fun _ => z)) Finset.univ) y = z := by
  intro y hy
  rw [← set_blk h inb, ← View.set_slice_whole main_v0, View.set, Finset.mem_map] at hy
  obtain ⟨x, -, rfl⟩ := hy
  rw [View.write_emb_of_mem _ _ (Finset.mem_univ _)]
  rfl

end Cert.KernelIdeal.Dispatch
end
-- ==== Proof.Plan.lean ====
/- The plan of the dispatch: which assignment its `n`-th copy moves and where to, what the tables must say for that to be a
   dispatch, and what the copies' transfers deliver. -/
module

public import proofs.«01_k».proof.Proof.Geo

@[expose] public section

noncomputable section

namespace Cert.KernelIdeal.Dispatch

open Idealize.ShloMosaic Idealize.ShloMosaic.ValueIdx Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

/-- The algebra of the certificate. -/
local notation "𝕄" => MT nD τ sig Unit (Elt F) ℕ (UD sig nD τ) ℕ

/-! ### The tables' words -/

/-- Word `a` of the table of destinations. -/
def slotWord (sl : S65536.Idx → BitVec 32) (a : ℕ) : BitVec 32 := sl (ix1 ⟨a % 65536, Nat.mod_lt _ (by decide)⟩)
/-- Word `b` of the table of blocks to clear. -/
def padWord (pb : S288.Idx → BitVec 32) (b : ℕ) : BitVec 32 := pb (ix1 ⟨b % 288, Nat.mod_lt _ (by decide)⟩)

/-- The assignment that copy `n` moves: the kernel goes tile by tile, token by token, choice by choice. -/
def asg (n : ℕ) : ℕ := n % 4 * 16384 + (n / 2048 * 512 + n % 2048 / 4)
/-- The row that copy `n` goes to. -/
def slotAt (sl : S65536.Idx → BitVec 32) (n : ℕ) : ℕ := (slotWord sl (asg n)).toNat

/-- What the tables and the result are to each other. -/
structure Plan (sl : S65536.Idx → BitVec 32) (pb : S288.Idx → BitVec 32) (u : SI → BitVec 32) (G : XI → BitVec 32) : Prop where
  range : ∀ n, n < 65536 → slotAt sl n < 73728
  inj : ∀ n m, n < 65536 → m < 65536 → slotAt sl n = slotAt sl m → n = m
  hit : ∀ n, n < 65536 → ∀ y : XI, (y 1).val = slotAt sl n → G y = tokAt (Val := Elt F) u (y 0) (n / 2048 * 512 + n % 2048 / 4) (y 2)
  miss : ∀ y : XI, (∀ n, n < 65536 → slotAt sl n ≠ (y 1).val) → padWord pb ((y 1).val / 256) ≠ 0#32 ∧ G y = 0#32

/-! ### The rows by the copies -/

open Classical in
/-- The rows the copies from `n` on go to. -/
def pend (sl : S65536.Idx → BitVec 32) (n : ℕ) : Finset XI :=
  Finset.univ.filter fun y => ∃ k, n ≤ k ∧ k < 65536 ∧ slotAt sl k = (y 1).val
open Classical in
/-- The rows the copies before `n` go to. -/
def landed (sl : S65536.Idx → BitVec 32) (n : ℕ) : Finset XI :=
  Finset.univ.filter fun y => ∃ k, k < n ∧ k < 65536 ∧ slotAt sl k = (y 1).val
open Classical in
/-- The rows no copy goes to. -/
def unhit (sl : S65536.Idx → BitVec 32) : Finset XI :=
  Finset.univ.filter fun y => ∀ k, k < 65536 → slotAt sl k ≠ (y 1).val

theorem mem_pend {sl : S65536.Idx → BitVec 32} {n : ℕ} {y : XI} : y ∈ pend sl n ↔ ∃ k, n ≤ k ∧ k < 65536 ∧ slotAt sl k = (y 1).val := by simp [pend]
theorem mem_landed {sl : S65536.Idx → BitVec 32} {n : ℕ} {y : XI} : y ∈ landed sl n ↔ ∃ k, k < n ∧ k < 65536 ∧ slotAt sl k = (y 1).val := by simp [landed]
theorem mem_unhit {sl : S65536.Idx → BitVec 32} {y : XI} : y ∈ unhit sl ↔ ∀ k, k < 65536 → slotAt sl k ≠ (y 1).val := by simp [unhit]

theorem row_sub_pend {sl : S65536.Idx → BitVec 32} {n : ℕ} (hn : n < 65536) : rowSet (slotAt sl n) ⊆ pend sl n := fun y hy =>
  mem_pend.2 ⟨n, le_refl _, hn, (mem_rowSet.1 hy).symm⟩

theorem pend_sdiff {sl : S65536.Idx → BitVec 32} {n : ℕ} (hn : n < 65536)
    (inj : ∀ n m, n < 65536 → m < 65536 → slotAt sl n = slotAt sl m → n = m) :
    pend sl n \ rowSet (slotAt sl n) = pend sl (n + 1) := by
  ext y
  rw [Finset.mem_sdiff, mem_pend, mem_rowSet, mem_pend]
  constructor
  · rintro ⟨⟨k, h1, h2, h3⟩, h4⟩
    have : k ≠ n := by rintro rfl; exact h4 h3.symm
    exact ⟨k, by omega, h2, h3⟩
  · rintro ⟨k, h1, h2, h3⟩
    refine ⟨⟨k, by omega, h2, h3⟩, fun h4 => ?_⟩
    have := inj k n h2 hn (h3.trans h4)
    omega

theorem pend_end (sl : S65536.Idx → BitVec 32) {n : ℕ} (hn : 65536 ≤ n) : pend sl n = ∅ := by
  ext y; rw [mem_pend]
  simp only [Finset.notMem_empty, iff_false]
  rintro ⟨k, h1, h2, -⟩; omega

theorem landed_zero (sl : S65536.Idx → BitVec 32) : landed sl 0 = ∅ := by
  ext y; rw [mem_landed]
  simp only [Finset.notMem_empty, iff_false]
  rintro ⟨k, h1, -⟩; omega

/-! ### Slots by rows -/

/-- The rows of slot `s` from `r` on. -/
def urest (s r : ℕ) : Finset UI := Finset.univ.filter fun y => (y 0).val = s ∧ r ≤ (y 2).val
theorem mem_urest {s r : ℕ} {y : UI} : y ∈ urest s r ↔ (y 0).val = s ∧ r ≤ (y 2).val := by simp [urest]
theorem urest_zero (s : ℕ) : urest s 0 = slotSet s := by ext y; simp [mem_urest, mem_slotSet]
theorem urow_sub (s r : ℕ) : urow s r ⊆ urest s r := fun y hy => by
  rw [mem_urow] at hy; rw [mem_urest]; exact ⟨hy.1, hy.2.ge⟩
theorem urest_sdiff (s r : ℕ) : urest s r \ urow s r = urest s (r + 1) := by
  ext y; rw [Finset.mem_sdiff, mem_urest, mem_urow, mem_urest]; omega
theorem urest_end (s : ℕ) : urest s 512 = ∅ := by
  ext y; rw [mem_urest]
  have : (y 2).val < 512 := (y 2).isLt
  simp only [Finset.notMem_empty, iff_false]; omega

/-! ### The cells -/

/-- The completion cells of the loads, of the scatters and of the clears. -/
def inCell (s : ℕ) : DmaSem sig := ⟨s % 3, lt_of_lt_of_le (Nat.mod_lt _ (by decide)) (by decide : 3 ≤ sig.nDmaSem)⟩
def outCell (s : ℕ) : DmaSem sig := ⟨3 + s % 3, lt_of_lt_of_le (Nat.add_lt_add_left (Nat.mod_lt _ (by decide)) 3) (by decide : 3 + 3 ≤ sig.nDmaSem)⟩
def zCell : DmaSem sig := ⟨6, by decide⟩

theorem inSem {s : ℕ} {off : Fin 1 → ℕ} (h : off = ![s % 3]) (inb : ∀ a, off a + S1.size a ≤ S3.size a) :
    ((cc0_scratch2.slice (Rect.unit (s := S3) off S1.size inb)).squeeze S_ squeezes_S1_S_).sem = inCell s := by
  have hs : s % 3 < 3 := Nat.mod_lt _ (by decide)
  apply Fin.ext
  show _ = s % 3
  subst h
  generalize s % 3 = k at hs inb
  interval_cases k <;> (revert inb; decide +kernel)
theorem outSem {s : ℕ} {off : Fin 1 → ℕ} (h : off = ![s % 3]) (inb : ∀ a, off a + S1.size a ≤ S3.size a) :
    ((cc0_scratch3.slice (Rect.unit (s := S3) off S1.size inb)).squeeze S_ squeezes_S1_S_).sem = outCell s := by
  have hs : s % 3 < 3 := Nat.mod_lt _ (by decide)
  apply Fin.ext
  show _ = 3 + s % 3
  subst h
  generalize s % 3 = k at hs inb
  interval_cases k <;> (revert inb; decide +kernel)
theorem zSem : (cc0_scratch4 : DmaSems sig S_).sem = zCell := rfl

/-- What a row's transfer, a tile's and a block's credits its cell. -/
def rowN : ℕ := main_v0.dmaCredit S4x1x128 .i32
def tileN : ℕ := cc0_scratch0.dmaCredit S4x512x128 .i32
def blkN : ℕ := main_v0.dmaCredit S4x256x128 .i32
theorem rowN_pos : 0 < rowN := by unfold rowN; decide +kernel
theorem tileN_pos : 0 < tileN := by unfold tileN; decide +kernel
theorem blkN_pos : 0 < blkN := by unfold blkN; decide +kernel

/-! ### Holdings -/

variable (c : Dev nD)

abbrev X (S : Finset XI) (f : XI → BitVec 32) : sProp 𝕄 := ((c : Thread nD τ).loc main_v0) ↦[S]{fullShare} f
abbrev U (S : Finset UI) (q : PosShare TreeShare) (f : UI → BitVec 32) : sProp 𝕄 := ((c : Thread nD τ).loc cc0_scratch0) ↦[S]{q} f
abbrev Z (q : PosShare TreeShare) (f : S4x256x128.Idx → BitVec 32) : sProp 𝕄 := ((c : Thread nD τ).loc cc0_scratch1) ↦{q} f
abbrev T (S : Finset SI) (f : SI → BitVec 32) : sProp 𝕄 := ((c : Thread nD τ).loc main_arg2) ↦[S]{fullShare} f
abbrev SL (f : S65536.Idx → BitVec 32) : sProp 𝕄 := ((c : Thread nD τ).loc main_arg0) ↦{fullShare.right} f
abbrev PB (f : S288.Idx → BitVec 32) : sProp 𝕄 := ((c : Thread nD τ).loc main_arg1) ↦{fullShare.right} f
abbrev cell (s : DmaSem sig) : sProp 𝕄 := semVal ((c : Thread nD τ), SemLoc.dma s) 0

/-- The share of a slot's row that the row's copy `k` reads under: three tokens and what is left. -/
def qk (k : ℕ) : PosShare TreeShare := if k < 3 then Transfers.shareTokN fullShare k else Transfers.shareDrop fullShare 3

/-- What copy `j` of step `t` delivers: its row of the result, and its share of the slot's row. -/
def scatD (sl : S65536.Idx → BitVec 32) (u : SI → BitVec 32) (G : XI → BitVec 32) (t : ℕ) (j : Fin 2048) : sProp 𝕄 :=
  iprop(X c (rowSet (slotAt sl (2048 * t + j.val))) G ∗ U c (urow (t % 3) (j.val / 4)) (qk (j.val % 4)) (loaded (Val := Elt F) u t))

instance scatD_storable (sl : S65536.Idx → BitVec 32) (u : SI → BitVec 32) (G : XI → BitVec 32) (t : ℕ) (j : Fin 2048) :
    BI.Storable (upEmb : UEmb _ 𝕄) (scatD c sl u G t j) := by
  unfold scatD; infer_instance

/-- Step `t`'s scatter, `j` of its copies issued and `w` units waited for. -/
abbrev scat (sl : S65536.Idx → BitVec 32) (u : SI → BitVec 32) (G : XI → BitVec 32) (t j w : ℕ) : sProp 𝕄 :=
  Transfers.Batch (countersEmb (U := UD sig nD τ)) (c : Thread nD τ) (.dma (outCell t)) () rowN (scatD (F := F) c sl u G t) j w

/-- What the load of tile `t` delivers. -/
def loadD (u : SI → BitVec 32) (t : ℕ) (_ : Fin 1) : sProp 𝕄 :=
  iprop(U c (slotSet (t % 3)) fullShare (loaded (Val := Elt F) u t) ∗ T c (tile t) u)

instance loadD_storable (u : SI → BitVec 32) (t : ℕ) (j : Fin 1) : BI.Storable (upEmb : UEmb _ 𝕄) (loadD c u t j) := by
  unfold loadD; infer_instance

abbrev load (u : SI → BitVec 32) (t j w : ℕ) : sProp 𝕄 :=
  Transfers.Batch (countersEmb (U := UD sig nD τ)) (c : Thread nD τ) (.dma (inCell t)) () tileN (loadD (F := F) c u t) j w

/-! ### One row's copy -/

variable (𝒱 : Variants) (bd : Option 𝒱.V)

theorem wp_row {sl : S65536.Idx → BitVec 32} {pb : S288.Idx → BitVec 32} {u : SI → BitVec 32} {G : XI → BitVec 32} (P : Plan (F := F) sl pb u G)
    {t r k : ℕ} (ht : t < 32) (hr : r < 512) (hk : k < 4) {off : Fin 3 → ℕ} {off4 : Fin 4 → ℕ} {offs : Fin 1 → ℕ}
    (h : off = ![0, slotAt sl (2048 * t + (4 * r + k)), 0]) (h4 : off4 = ![t % 3, 0, r, 0]) (hs : offs = ![t % 3])
    (inb : ∀ a, off a + S4x1x128.size a ≤ S4x73728x128.size a) (inb4 : ∀ a, off4 a + S1x4x1x128.size a ≤ S3x4x512x128.size a)
    (inbs : ∀ a, offs a + S1.size a ≤ S3.size a)
    {hsrc : ((((Memref.whole cc0_scratch0).slice (Rect.unit (s := S3x4x512x128) off4 S1x4x1x128.size inb4) (fun _ => rfl)).squeeze S4x1x128 squeezes_S1x4x1x128_S4x1x128) : Memref sig .tc .vmem S4x1x128 .i32).view.WordExact}
    {hdst : ((Memref.whole main_v0).slice (Rect.unit (s := S4x73728x128) off S4x1x128.size inb) (fun _ => rfl) : Memref sig .tc .hbm S4x1x128 .i32).view.WordExact}
    {hsem : DmaTarget.Typed (nD := nD) (p := .tc) .vmem (.dma ((cc0_scratch3.slice (Rect.unit (s := S3) offs S1.size inbs)).squeeze S_ squeezes_S1_S_).sem) (.here ((Memref.whole main_v0).slice (Rect.unit (s := S4x73728x128) off S4x1x128.size inb) (fun _ => rfl) : Memref sig .tc .hbm S4x1x128 .i32))}
    {α : Type} {K : PUnit → Prog (TpuEff nD τ sig (Elt F) Λ₀ .tc) α} {Q : α → sProp 𝕄} (fX : XI → BitVec 32) :
    iprop(U c (urow (t % 3) r) (qk k) (loaded (Val := Elt F) u t) ∗ X c (pend sl (2048 * t + (4 * r + k))) fX ∗ scat (F := F) c sl u G t (4 * r + k) 0)
      ⊢ iprop((iprop(X c (pend sl (2048 * t + (4 * r + (k + 1)))) fX ∗ scat (F := F) c sl u G t (4 * r + (k + 1)) 0)
            -∗ wp frame (wpE defs₀ 𝒱 (c : Thread nD τ) bd) Set.univ (K ⟨⟩) Q)
          -∗ wp frame (wpE defs₀ 𝒱 (c : Thread nD τ) bd) Set.univ
            (.op (.enqueueDma (((Memref.whole cc0_scratch0).slice (Rect.unit (s := S3x4x512x128) off4 S1x4x1x128.size inb4) (fun _ => rfl)).squeeze S4x1x128 squeezes_S1x4x1x128_S4x1x128)
              (.here ((Memref.whole main_v0).slice (Rect.unit (s := S4x73728x128) off S4x1x128.size inb) (fun _ => rfl)))
              (.dma ((cc0_scratch3.slice (Rect.unit (s := S3) offs S1.size inbs)).squeeze S_ squeezes_S1_S_).sem) hsrc hdst hsem) K) Q) := by
  have hn : 2048 * t + (4 * r + k) < 65536 := by omega
  have hset : (((Memref.whole cc0_scratch0).slice (Rect.unit (s := S3x4x512x128) off4 S1x4x1x128.size inb4) (fun _ => rfl)).squeeze S4x1x128 squeezes_S1x4x1x128_S4x1x128 : Memref sig .tc .vmem S4x1x128 .i32).view.set = urow (t % 3) r :=
    (View.set_reshape _ _).trans ((View.set_slice_whole _ _).trans (set_urow h4 inb4))
  have hdset : ((Memref.whole main_v0).slice (Rect.unit (s := S4x73728x128) off S4x1x128.size inb) (fun _ => rfl) : Memref sig .tc .hbm S4x1x128 .i32).view.set = rowSet (slotAt sl (2048 * t + (4 * r + k))) :=
    (View.set_slice_whole _ _).trans (set_row h inb)
  iintro ⟨HU, HX, HB⟩ HK
  ihave HX' := (pointsTo_split_subset (ℓ := (c : Thread nD τ).loc main_v0) (row_sub_pend (sl := sl) hn)).1 $$ HX
  icases HX' with ⟨Hrow, HX⟩
  iapply (Transfers.wp_dmaBatch (countersEmb (U := UD sig nD τ)) 𝒱 (c : Thread nD τ) bd (defs := defs₀)
    (src := (((Memref.whole cc0_scratch0).slice (Rect.unit (s := S3x4x512x128) off4 S1x4x1x128.size inb4) (fun _ => rfl)).squeeze S4x1x128 squeezes_S1x4x1x128_S4x1x128))
    (via := .same) (dst := (Memref.whole main_v0).slice (Rect.unit (s := S4x73728x128) off S4x1x128.size inb) (fun _ => rfl))
    (Sd := rowSet (slotAt sl (2048 * t + (4 * r + k)))) (fd := fX) (fs := loaded (Val := Elt F) u t) (q := qk k)
    (D := scatD (F := F) c sl u G t) (j := 4 * r + k) (u := 0) () rowN rfl hdset.subset (by omega) (Nat.zero_le _) ?hD) $$ [HU Hrow HB]
  case hD =>
    unfold scatD
    rw [hset]
    have e1 : (4 * r + k) / 4 = r := by omega
    have e2 : (4 * r + k) % 4 = k := by omega
    rw [e1, e2]
    iintro ⟨Hd, Hs⟩
    isplitl [Hd]
    · iapply (Entails.of_eq (pointsTo_congr (ℓ := (c : Thread nD τ).loc main_v0) (fun y hy => ?_))) $$ Hd
      refine (row_val (Val := Elt F) h h4 inb inb4 fX u t y hy).trans ?_
      have := P.hit _ hn y (mem_rowSet.1 hy)
      rw [this]
      congr 1
      omega
    · iexact Hs
  · isplitl [HU]
    · rw [hset]; iexact HU
    isplitl [Hrow]; · iexact Hrow
    rw [outSem hs]
    iexact HB
  iintro HB
  iapply HK
  isplitl [HX]
  · rw [pend_sdiff hn P.inj]
    iexact HX
  rw [outSem hs]
  iexact HB

end Cert.KernelIdeal.Dispatch
end
-- ==== Proof.Issue.lean ====
/- The loop that starts a step's row copies. -/
module

public import proofs.«01_k».proof.Proof.Plan

@[expose] public section

noncomputable section

namespace Cert.KernelIdeal.Dispatch

open Idealize.ShloMosaic Idealize.ShloMosaic.ValueIdx Cert.KernelIdeal Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- The word a load of the table of destinations reads. -/
theorem slot_read {a : ℕ} {off : Fin 1 → ℕ} (h : off = ![a]) (inb : ∀ x, off x + S1.size x ≤ S65536.size x)
    (f : S65536.Idx → BitVec 32) (x : S1.Idx) :
    (((Memref.whole main_arg0).access (Rect.unit (s := S65536) off S1.size inb)).read (Elt F) f x : BitVec 32) = slotWord f a := by
  subst h
  have hx : (x 0).val = 0 := by have := (x 0).isLt; have e : S1.size 0 = 1 := rfl; omega
  have hb : a + 1 ≤ 65536 := inb 0
  show f ((Rect.unit (s := S65536) _ S1.size inb).emb x) = _
  unfold slotWord
  congr 1
  funext d
  apply Fin.ext
  rw [Rect.emb_apply]
  match d with
  | 0 => show a + 1 * (x 0).val = a % 65536; omega

/-- The word a load of the table of blocks reads. -/
theorem pad_read {a : ℕ} {off : Fin 1 → ℕ} (h : off = ![a]) (inb : ∀ x, off x + S1.size x ≤ S288.size x)
    (f : S288.Idx → BitVec 32) (x : S1.Idx) :
    (((Memref.whole main_arg1).access (Rect.unit (s := S288) off S1.size inb)).read (Elt F) f x : BitVec 32) = padWord f a := by
  subst h
  have hx : (x 0).val = 0 := by have := (x 0).isLt; have e : S1.size 0 = 1 := rfl; omega
  have hb : a + 1 ≤ 288 := inb 0
  show f ((Rect.unit (s := S288) _ S1.size inb).emb x) = _
  unfold padWord
  congr 1
  funext d
  apply Fin.ext
  rw [Rect.emb_apply]
  match d with
  | 0 => show a + 1 * (x 0).val = a % 288; omega

theorem rowOff {sl : S65536.Idx → BitVec 32} {n a : ℕ} (h : asg n = a) : ![0, (slotWord sl a).toNat, 0] = ![0, slotAt sl n, 0] := by
  rw [← h]; rfl

theorem row_fits {m : ℕ} (h : m < 73728) : ∀ a, (![0, m, 0] : Fin 3 → ℕ) a + S4x1x128.size a ≤ S4x73728x128.size a := fun a =>
  match a with
  | 0 => (by decide : 0 + 4 ≤ 4)
  | 1 => by show m + 1 ≤ 73728; omega
  | 2 => (by decide : 0 + 128 ≤ 128)

variable (c : Dev nD) (𝒱 : Variants) (bd : Option 𝒱.V)

/-- A row of a slot as the shares its four copies read under, and back. -/
theorem share_step (S : Finset UI) (k : ℕ) (f : UI → BitVec 32) :
    (U (F := F) c S (Transfers.shareDrop fullShare k) f : sProp 𝕄)
      ⊣⊢ iprop(U (F := F) c S (Transfers.shareDrop fullShare (k + 1)) f ∗ U (F := F) c S (Transfers.shareTokN fullShare k) f) :=
  pointsTo_share (PosShare.mem_left_op_right _)
theorem row_split (S : Finset UI) (f : UI → BitVec 32) :
    (U (F := F) c S fullShare f : sProp 𝕄) ⊢ iprop(U (F := F) c S (qk 0) f ∗ U (F := F) c S (qk 1) f ∗ U (F := F) c S (qk 2) f ∗ U (F := F) c S (qk 3) f) := by
  iintro H
  ihave H := (show (U (F := F) c S fullShare f : sProp 𝕄) ⊢ _ from (share_step (F := F) c S 0 f).1) $$ H
  icases H with ⟨H, H0⟩
  ihave H := (share_step (F := F) c S 1 f).1 $$ H
  icases H with ⟨H, H1⟩
  ihave H := (share_step (F := F) c S 2 f).1 $$ H
  icases H with ⟨H, H2⟩
  isplitl [H0]; · iexact H0
  isplitl [H1]; · iexact H1
  isplitl [H2]; · iexact H2
  iexact H
theorem row_join (S : Finset UI) (f : UI → BitVec 32) :
    (iprop(U (F := F) c S (qk 0) f ∗ U (F := F) c S (qk 1) f ∗ U (F := F) c S (qk 2) f ∗ U (F := F) c S (qk 3) f) : sProp 𝕄) ⊢ U (F := F) c S fullShare f := by
  iintro ⟨H0, H1, H2, H⟩
  ihave H := (share_step (F := F) c S 2 f).2 $$ [H H2]
  · isplitl [H]; · iexact H
    iexact H2
  ihave H := (share_step (F := F) c S 1 f).2 $$ [H H1]
  · isplitl [H]; · iexact H
    iexact H1
  iapply (share_step (F := F) c S 0 f).2
  isplitl [H]; · iexact H
  iexact H0

/-- Programs at their heads. -/
theorem op_bind {X α β : Type} (e : TpuEff nD τ sig (Elt F) Λ₀ .tc X) (k : X → Prog (TpuEff nD τ sig (Elt F) Λ₀ .tc) α) (K : α → Prog (TpuEff nD τ sig (Elt F) Λ₀ .tc) β) :
    Prog.op e k >>= K = .op e (fun x => k x >>= K) := rfl
theorem lift_eq {α : Type} (e : TpuEff nD τ sig (Elt F) Λ₀ .tc α) : Prog.lift e = .op e .ret := rfl
theorem pure_eq {α : Type} (a : α) : (Pure.pure a : Prog (TpuEff nD τ sig (Elt F) Λ₀ .tc) α) = .ret a := rfl
theorem ret_bind {α β : Type} (a : α) (K : α → Prog (TpuEff nD τ sig (Elt F) Λ₀ .tc) β) :
    Prog.ret a >>= K = K a := rfl
theorem word_bind {s : Shape} {m : Memref sig .tc .smem s .i32} {r : Rect s} {h : (m.access r).Loads} {x : r.shape.Idx} {α β : Type}
    (k : Elt F .i32 → Prog (TpuEff nD τ sig (Elt F) Λ₀ .tc) α) (K : α → Prog (TpuEff nD τ sig (Elt F) Λ₀ .tc) β) :
    smemLoadElt m r h x k >>= K = smemLoadElt m r h x (fun w => k w >>= K) := rfl

/-- A word of the table of destinations read, and what the program checks of it. -/
theorem wp_slot {f : S65536.Idx → BitVec 32} {a : ℕ} {off : Fin 1 → ℕ} (h : off = ![a]) (inb : ∀ x, off x + S1.size x ≤ S65536.size x)
    {hw : ((Memref.whole main_arg0 : Memref sig .tc .smem S65536 .i32).access (Rect.unit (s := S65536) off S1.size inb)).Loads} {x : S1.Idx} {chk : BitVec 32 → Prop} {d : (v : BitVec 32) → Decidable (chk v)}
    (hc : chk (slotWord f a)) {α : Type} {K : (v : BitVec 32) → PLift (chk v) → Prog (TpuEff nD τ sig (Elt F) Λ₀ .tc) α} {Q : α → sProp 𝕄} :
    (SL (F := F) c f : sProp 𝕄) ⊢ iprop((SL (F := F) c f -∗ wp frame (wpE defs₀ 𝒱 (c : Thread nD τ) bd) Set.univ (K (slotWord f a) ⟨hc⟩) Q)
      -∗ wp frame (wpE defs₀ 𝒱 (c : Thread nD τ) bd) Set.univ
        (smemLoadElt (Memref.whole main_arg0 : Memref sig .tc .smem S65536 .i32) (Rect.unit (s := S65536) off S1.size inb) hw x
          (fun v => .op (.assume (chk v) (d v)) (fun p => K v p))) Q) := by
  iintro HS HK
  iapply (wp_smemLoadElt 𝒱 c bd Set.univ (defs := defs₀) (m := (Memref.whole main_arg0 : Memref sig .tc .smem S65536 .i32)) (r := Rect.unit (s := S65536) off S1.size inb)
    (x := x) (S := Finset.univ) (q := fullShare.right) (f := f) (Finset.subset_univ _)) $$ [HS]
  · iexact HS
  iintro HS
  have e : (((Memref.whole main_arg0).access (Rect.unit (s := S65536) off S1.size inb)).read (Elt F) f x : BitVec 32) = slotWord f a := slot_read h inb f x
  rw [e]
  iapply (wp_assume 𝒱 c bd Set.univ hc)
  iapply HK
  iexact HS

variable (sl : S65536.Idx → BitVec 32) (pb : S288.Idx → BitVec 32) (u : SI → BitVec 32) (G : XI → BitVec 32)

/-- Before trip `r` of step `t`'s loop. -/
def issueAt (fX : XI → BitVec 32) (t r : ℕ) : sProp 𝕄 :=
  iprop(SL (F := F) c sl ∗ X (F := F) c (pend sl (2048 * t + 4 * r)) fX ∗ U (F := F) c (urest (t % 3) r) fullShare (loaded (Val := Elt F) u t)
    ∗ scat (F := F) c sl u G t (4 * r) 0)

abbrev t4body (t : Fin grid0.N) :=
  k0_t4_body (F := F) (pt t) (Memref.whole main_arg0) (Memref.isWhole_whole _) (Memref.whole main_arg1) (Memref.isWhole_whole _) (Memref.whole main_arg2) (Memref.isWhole_whole _)
    (Memref.whole main_v0) (Memref.isWhole_whole _) (Memref.whole cc0_scratch0) (Memref.isWhole_whole _) (Memref.whole cc0_scratch1) (Memref.isWhole_whole _)
    cc0_scratch2 cc0_scratch3 cc0_scratch4 (BitVec.ofNat 32 ((pt t) 0).val)

theorem issue_step {sl pb u G} (P : Plan (F := F) sl pb u G) (fX : XI → BitVec 32) (t : Fin grid0.N) (r : Fin k0_t4_loop.trips) (acc : Unit) :
    issueAt (F := F) c sl u G fX t.val r.val ⊢ wp frame (wpE defs₀ 𝒱 (c : Thread nD τ) bd) Set.univ (t4body (F := F) t r acc)
      (fun _ => issueAt (F := F) c sl u G fX t.val (r.val + 1)) := by
  have ht := lt32 t
  have hr := lt_of_lt_of_eq r.isLt trips4
  unfold issueAt
  iintro ⟨HS, HX, HU, HB⟩
  dsimp only [t4body, k0_t4_body]
  rw [k0_part1_eq_skeleton]
  dsimp only [k0_part1_skel, smemLoad]
  simp only [bind_assoc, lift_eq, op_bind, ret_bind, word_bind, pure_bind, pure_eq]
  ihave HU := (pointsTo_split_subset (ℓ := (c : Thread nD τ).loc cc0_scratch0) (urow_sub (t.val % 3) r.val)).1 $$ HU
  icases HU with ⟨HR, HU⟩
  ihave HR := (row_split (F := F) c _ _) $$ HR
  icases HR with ⟨H0, H1, H2, H3⟩
  obtain ⟨w0, o0, a0⟩ : ∃ w, k0_off13 (pt t) r = ![w] ∧ asg (2048 * t.val + (4 * r.val + 0)) = w := ⟨_, off13_eq t r, by unfold asg; omega⟩
  obtain ⟨w1, o1, a1⟩ : ∃ w, k0_off17 (pt t) r = ![w] ∧ asg (2048 * t.val + (4 * r.val + 1)) = w := ⟨_, off17_eq t r, by unfold asg; omega⟩
  obtain ⟨w2, o2, a2⟩ : ∃ w, k0_off21 (pt t) r = ![w] ∧ asg (2048 * t.val + (4 * r.val + 2)) = w := ⟨_, off21_eq t r, by unfold asg; omega⟩
  obtain ⟨w3, o3, a3⟩ : ∃ w, k0_off25 (pt t) r = ![w] ∧ asg (2048 * t.val + (4 * r.val + 3)) = w := ⟨_, off25_eq t r, by unfold asg; omega⟩
  have fit : ∀ {n a}, asg n = a → n < 65536 → ∀ x, (![0, (slotWord sl a).toNat, 0] : Fin 3 → ℕ) x + S4x1x128.size x ≤ S4x73728x128.size x := fun h hn => by
    rw [rowOff h]; exact row_fits (P.range _ hn)
  iapply (wp_slot (F := F) c 𝒱 bd (chk := k0_chk1) o0 _ (fit a0 (by omega))) $$ HS
  iintro HS
  iapply (wp_row (F := F) c 𝒱 bd P (k := 0) ht hr (by omega) (show k0_off15 _ = _ from rowOff a0) (off16_eq t r) (off14_eq t) _ _ _ fX) $$ [H0 HX HB]
  · isplitl [H0]; · iexact H0
    isplitl [HX]; · iexact HX
    iexact HB
  iintro ⟨HX, HB⟩
  iapply (wp_slot (F := F) c 𝒱 bd (chk := k0_chk2) o1 _ (fit a1 (by omega))) $$ HS
  iintro HS
  iapply (wp_row (F := F) c 𝒱 bd P (k := 1) ht hr (by omega) (show k0_off19 _ = _ from rowOff a1) (off20_eq t r) (off18_eq t) _ _ _ fX) $$ [H1 HX HB]
  · isplitl [H1]; · iexact H1
    isplitl [HX]; · iexact HX
    iexact HB
  iintro ⟨HX, HB⟩
  iapply (wp_slot (F := F) c 𝒱 bd (chk := k0_chk3) o2 _ (fit a2 (by omega))) $$ HS
  iintro HS
  iapply (wp_row (F := F) c 𝒱 bd P (k := 2) ht hr (by omega) (show k0_off23 _ = _ from rowOff a2) (off24_eq t r) (off22_eq t) _ _ _ fX) $$ [H2 HX HB]
  · isplitl [H2]; · iexact H2
    isplitl [HX]; · iexact HX
    iexact HB
  iintro ⟨HX, HB⟩
  iapply (wp_slot (F := F) c 𝒱 bd (chk := k0_chk4) o3 _ (fit a3 (by omega))) $$ HS
  iintro HS
  iapply (wp_row (F := F) c 𝒱 bd P (k := 3) ht hr (by omega) (show k0_off27 _ = _ from rowOff a3) (off28_eq t r) (off26_eq t) _ _ _ fX) $$ [H3 HX HB]
  · isplitl [H3]; · iexact H3
    isplitl [HX]; · iexact HX
    iexact HB
  iintro ⟨HX, HB⟩
  rw [wp_ret]
  imodintro
  rw [show 4 * (r.val + 1) = 4 * r.val + (3 + 1) from by omega]
  isplitl [HS]; · iexact HS
  isplitl [HX]; · iexact HX
  isplitl [HU]
  · rw [urest_sdiff]; iexact HU
  iexact HB

end Cert.KernelIdeal.Dispatch
end
-- ==== Proof.Drain.lean ====
/- The loops that start a step's copies and that wait for them. -/
module

public import proofs.«01_k».proof.Proof.Issue

@[expose] public section

noncomputable section

namespace Cert.KernelIdeal.Dispatch

open Idealize.ShloMosaic Idealize.ShloMosaic.ValueIdx Cert.KernelIdeal Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

variable (c : Dev nD) (𝒱 : Variants) (bd : Option 𝒱.V)

/-- What the core owes: nothing, whatever it has waited for. -/
abbrev owe : sProp 𝕄 := iprop(∃ W, owes (c : Thread nD τ) 0 W)

/-- The loop of a step's copies. -/
theorem issue_loop {sl : S65536.Idx → BitVec 32} {pb : S288.Idx → BitVec 32} {u : SI → BitVec 32} {G : XI → BitVec 32} (P : Plan (F := F) sl pb u G) (fX : XI → BitVec 32) (t : Fin grid0.N)
    {α : Type} {K : Unit → Prog (TpuEff nD τ sig (Elt F) Λ₀ .tc) α} {Q : α → sProp 𝕄} :
    issueAt (F := F) c sl u G fX t.val 0
      ⊢ iprop((issueAt (F := F) c sl u G fX t.val 512 -∗ wp frame (wpE defs₀ 𝒱 (c : Thread nD τ) bd) Set.univ (K ⟨⟩) Q)
        -∗ wp frame (wpE defs₀ 𝒱 (c : Thread nD τ) bd) Set.univ (Scf.Loop.for k0_t4_loop k0_t4_ok ⟨⟩ (t4body (F := F) t) >>= K) Q) := by
  iintro H HK
  iapply (Scf.wp_for_bind frame (wpE defs₀ 𝒱 (c : Thread nD τ) bd) Set.univ _ _ _ k0_t4_ok (⟨⟩ : Unit) (t4body (F := F) t)
    (fun r _ => issueAt (F := F) c sl u G fX t.val r) (fun r acc => issue_step (F := F) c 𝒱 bd P fX t r acc)) $$ H
  iintro %acc H
  iapply HK
  rw [show Scf.trips k0_t4_loop.lb k0_t4_loop.ub k0_t4_loop.st = 512 from trips4]
  iexact H

/-- Waiting for one row, out of a loop that waits for the step's 2048. -/
theorem wait_row (sl : S65536.Idx → BitVec 32) (u : SI → BitVec 32) (G : XI → BitVec 32) {t r : ℕ} (hr : r < 2048)
    {sem : DmaSem sig} (hs : sem = outCell t) {src : Memref sig .tc .vmem S4x1x128 .i32}
    {hsrc : src.view.WordExact}
    {hdst : ((Memref.whole main_v0).slice (Rect.unit (s := S4x73728x128) ![0, 0, 0] S4x1x128.size inb_S4x73728x128_S4x1x128_0_0_0) (fun _ => rfl) : Memref sig .tc .hbm S4x1x128 .i32).view.WordExact}
    {α : Type} {K : PUnit → Prog (TpuEff nD τ sig (Elt F) Λ₀ .tc) α} {Q : α → sProp 𝕄} :
    iprop(scat (F := F) c sl u G t 2048 (r * rowN) ∗ owe (F := F) c)
      ⊢ iprop((iprop(scat (F := F) c sl u G t 2048 ((r + 1) * rowN) ∗ owe (F := F) c) -∗ wp frame (wpE defs₀ 𝒱 (c : Thread nD τ) bd) Set.univ (K ⟨⟩) Q)
        -∗ wp frame (wpE defs₀ 𝒱 (c : Thread nD τ) bd) Set.univ
          (.op (.waitDma2 sem src ((Memref.whole main_v0).slice (Rect.unit (s := S4x73728x128) ![0, 0, 0] S4x1x128.size inb_S4x73728x128_S4x1x128_0_0_0) (fun _ => rfl)) hsrc hdst) K) Q) := by
  subst hs
  iintro ⟨HB, %W, HO⟩ HK
  iapply (Transfers.wp_waitBatchMul (countersEmb (U := UD sig nD τ)) 𝒱 (c : Thread nD τ) bd (defs := defs₀) () (N := rowN) 1 (Nat.one_mul _).symm
    (D := scatD (F := F) c sl u G t) (j := 2048) (u := r * rowN) (by
      rw [Nat.mul_comm rowN, ← Nat.add_mul]; exact Nat.mul_le_mul_right _ (by omega))) $$ [HB HO]
  · isplitl [HB]; · iexact HB
    iexact HO
  iintro ⟨HB, HO⟩
  iapply HK
  rw [show (r + 1) * rowN = r * rowN + 1 * rowN from Nat.add_mul _ _ _]
  isplitl [HB]; · iexact HB
  iexists _; iexact HO

abbrev t3body (t : Fin grid0.N) (h5 : k0_cond5 (pt t) = 1#1) :=
  k0_t3_body (F := F) (pt t) (Memref.whole main_arg0) (Memref.isWhole_whole _) (Memref.whole main_arg1) (Memref.isWhole_whole _) (Memref.whole main_arg2) (Memref.isWhole_whole _)
    (Memref.whole main_v0) (Memref.isWhole_whole _) (Memref.whole cc0_scratch0) (Memref.isWhole_whole _) (Memref.whole cc0_scratch1) (Memref.isWhole_whole _)
    cc0_scratch2 cc0_scratch3 cc0_scratch4 h5

theorem drain_loop3 (sl : S65536.Idx → BitVec 32) (u : SI → BitVec 32) (G : XI → BitVec 32) (t : Fin grid0.N) (h5 : k0_cond5 (pt t) = 1#1) {s : ℕ} (ho : k0_off5 (pt t) = ![s % 3])
    {α : Type} {K : Unit → Prog (TpuEff nD τ sig (Elt F) Λ₀ .tc) α} {Q : α → sProp 𝕄} :
    iprop(scat (F := F) c sl u G s 2048 0 ∗ owe (F := F) c)
      ⊢ iprop((iprop(scat (F := F) c sl u G s 2048 (2048 * rowN) ∗ owe (F := F) c) -∗ wp frame (wpE defs₀ 𝒱 (c : Thread nD τ) bd) Set.univ (K ⟨⟩) Q)
        -∗ wp frame (wpE defs₀ 𝒱 (c : Thread nD τ) bd) Set.univ (Scf.Loop.for k0_t3_loop (k0_t3_ok (pt t) h5) ⟨⟩ (t3body (F := F) t h5) >>= K) Q) := by
  iintro H HK
  iapply (Scf.wp_for_bind frame (wpE defs₀ 𝒱 (c : Thread nD τ) bd) Set.univ _ _ _ (k0_t3_ok (pt t) h5) (⟨⟩ : Unit) (t3body (F := F) t h5)
    (fun r _ => iprop(scat (F := F) c sl u G s 2048 (r * rowN) ∗ owe (F := F) c)) (fun r acc => ?_)) $$ [H]
  · iintro ⟨HB, HO⟩
    dsimp only [t3body, k0_t3_body]
    simp only [bind_assoc, lift_eq, op_bind, ret_bind, pure_bind, pure_eq]
    iapply (wait_row (F := F) c 𝒱 bd sl u G (t := s) (lt_of_lt_of_eq r.isLt trips3) (outSem ho _)) $$ [HB HO]
    · isplitl [HB]; · iexact HB
      iexact HO
    iintro H
    rw [wp_ret]
    imodintro
    iexact H
  · rw [Nat.zero_mul]; iexact H
  iintro %acc H
  iapply HK
  rw [show Scf.trips k0_t3_loop.lb k0_t3_loop.ub k0_t3_loop.st = 2048 from trips3]
  iexact H

abbrev t5body (t : Fin grid0.N) (h7 : k0_cond7 (pt t) = 1#1) (h8 : k0_cond8 (pt t) = 1#1) :=
  k0_t5_body (F := F) (pt t) (Memref.whole main_arg0) (Memref.isWhole_whole _) (Memref.whole main_arg1) (Memref.isWhole_whole _) (Memref.whole main_arg2) (Memref.isWhole_whole _)
    (Memref.whole main_v0) (Memref.isWhole_whole _) (Memref.whole cc0_scratch0) (Memref.isWhole_whole _) (Memref.whole cc0_scratch1) (Memref.isWhole_whole _)
    cc0_scratch2 cc0_scratch3 cc0_scratch4 h7 h8

theorem drain_loop5 (sl : S65536.Idx → BitVec 32) (u : SI → BitVec 32) (G : XI → BitVec 32) (t : Fin grid0.N) (h7 : k0_cond7 (pt t) = 1#1) (h8 : k0_cond8 (pt t) = 1#1) {s : ℕ} (ho : k0_off29 (pt t) = ![s % 3])
    {α : Type} {K : Unit → Prog (TpuEff nD τ sig (Elt F) Λ₀ .tc) α} {Q : α → sProp 𝕄} :
    iprop(scat (F := F) c sl u G s 2048 0 ∗ owe (F := F) c)
      ⊢ iprop((iprop(scat (F := F) c sl u G s 2048 (2048 * rowN) ∗ owe (F := F) c) -∗ wp frame (wpE defs₀ 𝒱 (c : Thread nD τ) bd) Set.univ (K ⟨⟩) Q)
        -∗ wp frame (wpE defs₀ 𝒱 (c : Thread nD τ) bd) Set.univ (Scf.Loop.for k0_t5_loop (k0_t5_ok (pt t) h7 h8) ⟨⟩ (t5body (F := F) t h7 h8) >>= K) Q) := by
  iintro H HK
  iapply (Scf.wp_for_bind frame (wpE defs₀ 𝒱 (c : Thread nD τ) bd) Set.univ _ _ _ (k0_t5_ok (pt t) h7 h8) (⟨⟩ : Unit) (t5body (F := F) t h7 h8)
    (fun r _ => iprop(scat (F := F) c sl u G s 2048 (r * rowN) ∗ owe (F := F) c)) (fun r acc => ?_)) $$ [H]
  · iintro ⟨HB, HO⟩
    dsimp only [t5body, k0_t5_body]
    simp only [bind_assoc, lift_eq, op_bind, ret_bind, pure_bind, pure_eq]
    iapply (wait_row (F := F) c 𝒱 bd sl u G (t := s) (lt_of_lt_of_eq r.isLt trips5) (outSem ho _)) $$ [HB HO]
    · isplitl [HB]; · iexact HB
      iexact HO
    iintro H
    rw [wp_ret]
    imodintro
    iexact H
  · rw [Nat.zero_mul]; iexact H
  iintro %acc H
  iapply HK
  rw [show Scf.trips k0_t5_loop.lb k0_t5_loop.ub k0_t5_loop.st = 2048 from trips5]
  iexact H

abbrev t6body (t : Fin grid0.N) (h7 : k0_cond7 (pt t) = 1#1) (h9 : k0_cond9 (pt t) = 1#1) :=
  k0_t6_body (F := F) (pt t) (Memref.whole main_arg0) (Memref.isWhole_whole _) (Memref.whole main_arg1) (Memref.isWhole_whole _) (Memref.whole main_arg2) (Memref.isWhole_whole _)
    (Memref.whole main_v0) (Memref.isWhole_whole _) (Memref.whole cc0_scratch0) (Memref.isWhole_whole _) (Memref.whole cc0_scratch1) (Memref.isWhole_whole _)
    cc0_scratch2 cc0_scratch3 cc0_scratch4 h7 h9

theorem drain_loop6 (sl : S65536.Idx → BitVec 32) (u : SI → BitVec 32) (G : XI → BitVec 32) (t : Fin grid0.N) (h7 : k0_cond7 (pt t) = 1#1) (h9 : k0_cond9 (pt t) = 1#1) {s : ℕ} (ho : k0_off31 (pt t) = ![s % 3])
    {α : Type} {K : Unit → Prog (TpuEff nD τ sig (Elt F) Λ₀ .tc) α} {Q : α → sProp 𝕄} :
    iprop(scat (F := F) c sl u G s 2048 0 ∗ owe (F := F) c)
      ⊢ iprop((iprop(scat (F := F) c sl u G s 2048 (2048 * rowN) ∗ owe (F := F) c) -∗ wp frame (wpE defs₀ 𝒱 (c : Thread nD τ) bd) Set.univ (K ⟨⟩) Q)
        -∗ wp frame (wpE defs₀ 𝒱 (c : Thread nD τ) bd) Set.univ (Scf.Loop.for k0_t6_loop (k0_t6_ok (pt t) h7 h9) ⟨⟩ (t6body (F := F) t h7 h9) >>= K) Q) := by
  iintro H HK
  iapply (Scf.wp_for_bind frame (wpE defs₀ 𝒱 (c : Thread nD τ) bd) Set.univ _ _ _ (k0_t6_ok (pt t) h7 h9) (⟨⟩ : Unit) (t6body (F := F) t h7 h9)
    (fun r _ => iprop(scat (F := F) c sl u G s 2048 (r * rowN) ∗ owe (F := F) c)) (fun r acc => ?_)) $$ [H]
  · iintro ⟨HB, HO⟩
    dsimp only [t6body, k0_t6_body]
    simp only [bind_assoc, lift_eq, op_bind, ret_bind, pure_bind, pure_eq]
    iapply (wait_row (F := F) c 𝒱 bd sl u G (t := s) (lt_of_lt_of_eq r.isLt trips6) (outSem ho _)) $$ [HB HO]
    · isplitl [HB]; · iexact HB
      iexact HO
    iintro H
    rw [wp_ret]
    imodintro
    iexact H
  · rw [Nat.zero_mul]; iexact H
  iintro %acc H
  iapply HK
  rw [show Scf.trips k0_t6_loop.lb k0_t6_loop.ub k0_t6_loop.st = 2048 from trips6]
  iexact H

/-! ### What a step's copies have delivered, put together -/

theorem landed_succ (sl : S65536.Idx → BitVec 32) {n : ℕ} (hn : n < 65536) : landed sl n ∪ rowSet (slotAt sl n) = landed sl (n + 1) := by
  ext y
  rw [Finset.mem_union, mem_landed, mem_landed, mem_rowSet]
  constructor
  · rintro (⟨k, h1, h2, h3⟩ | h)
    · exact ⟨k, by omega, h2, h3⟩
    · exact ⟨n, by omega, hn, h.symm⟩
  · rintro ⟨k, h1, h2, h3⟩
    by_cases e : k = n
    · exact .inr (by rw [← h3, e])
    · exact .inl ⟨k, by omega, h2, h3⟩

theorem landed_disj {sl : S65536.Idx → BitVec 32} {n : ℕ} (hn : n < 65536)
    (inj : ∀ n m, n < 65536 → m < 65536 → slotAt sl n = slotAt sl m → n = m) : Disjoint (landed sl n) (rowSet (slotAt sl n)) := by
  rw [Finset.disjoint_left]
  intro y h1 h2
  rw [mem_landed] at h1
  obtain ⟨k, h1, h3, h4⟩ := h1
  have := inj k n h3 hn (h4.trans (mem_rowSet.1 h2))
  omega

theorem rows_join {sl : S65536.Idx → BitVec 32} (G : XI → BitVec 32) (inj : ∀ n m, n < 65536 → m < 65536 → slotAt sl n = slotAt sl m → n = m)
    (a : ℕ) : ∀ m, a + m ≤ 65536 →
      (iprop(X (F := F) c (landed sl a) G ∗ bigSep (Finset.range m) fun j => X (F := F) c (rowSet (slotAt sl (a + j))) G) : sProp 𝕄) ⊢ X (F := F) c (landed sl (a + m)) G := by
  intro m
  induction m with
  | zero =>
    intro _
    iintro ⟨H, -⟩
    iexact H
  | succ m ih =>
    intro hm
    rw [bigSep_range_succ, ← Nat.add_assoc, ← landed_succ sl (show a + m < 65536 by omega)]
    iintro ⟨H, Hm, HR⟩
    iapply (pointsTo_union (landed_disj (show a + m < 65536 by omega) inj)).2
    isplitl [H HR]
    · iapply (ih (by omega))
      isplitl [H]; · iexact H
      iexact HR
    · iexact Hm

/-- The first `m` rows of slot `s`. -/
def ufirst (s m : ℕ) : Finset UI := Finset.univ.filter fun y => (y 0).val = s ∧ (y 2).val < m
theorem mem_ufirst {s m : ℕ} {y : UI} : y ∈ ufirst s m ↔ (y 0).val = s ∧ (y 2).val < m := by simp [ufirst]
theorem ufirst_zero (s : ℕ) : ufirst s 0 = ∅ := by ext y; simp [mem_ufirst]
theorem ufirst_succ (s m : ℕ) : ufirst s m ∪ urow s m = ufirst s (m + 1) := by
  ext y; rw [Finset.mem_union, mem_ufirst, mem_urow, mem_ufirst]; omega
theorem ufirst_disj (s m : ℕ) : Disjoint (ufirst s m) (urow s m) := by
  rw [Finset.disjoint_left]; intro y h1 h2; rw [mem_ufirst] at h1; rw [mem_urow] at h2; omega
theorem ufirst_end (s : ℕ) : ufirst s 512 = slotSet s := by
  ext y; rw [mem_ufirst, mem_slotSet]
  have : (y 2).val < 512 := (y 2).isLt
  constructor
  · exact fun h => h.1
  · exact fun h => ⟨h, this⟩

theorem slot_join (s : ℕ) (f : UI → BitVec 32) : ∀ m,
    (bigSep (Finset.range (4 * m)) (fun j => U (F := F) c (urow s (j / 4)) (qk (j % 4)) f) : sProp 𝕄) ⊢ U (F := F) c (ufirst s m) fullShare f := by
  intro m
  induction m with
  | zero =>
    rw [ufirst_zero]
    unfold U
    rw [pointsTo_empty]
    iintro -
    iempintro
  | succ m ih =>
    rw [show 4 * (m + 1) = 4 * m + 1 + 1 + 1 + 1 from by omega, bigSep_range_succ, bigSep_range_succ, bigSep_range_succ, bigSep_range_succ, ← ufirst_succ]
    rw [show (4 * m) / 4 = m from by omega, show (4 * m + 1) / 4 = m from by omega, show (4 * m + 1 + 1) / 4 = m from by omega, show (4 * m + 1 + 1 + 1) / 4 = m from by omega,
      show (4 * m) % 4 = 0 from by omega, show (4 * m + 1) % 4 = 1 from by omega, show (4 * m + 1 + 1) % 4 = 2 from by omega, show (4 * m + 1 + 1 + 1) % 4 = 3 from by omega]
    iintro ⟨H3, H2, H1, H0, H⟩
    iapply (pointsTo_union (ufirst_disj s m)).2
    isplitl [H]
    · iapply ih; iexact H
    · iapply (row_join (F := F) c _ _)
      isplitl [H0]; · iexact H0
      isplitl [H1]; · iexact H1
      isplitl [H2]; · iexact H2
      iexact H3

/-- A step's scatter, all of it waited for. -/
theorem scat_done {sl : S65536.Idx → BitVec 32} {u : SI → BitVec 32} {G : XI → BitVec 32} (inj : ∀ n m, n < 65536 → m < 65536 → slotAt sl n = slotAt sl m → n = m)
    {t : ℕ} (ht : t < 32) :
    iprop(scat (F := F) c sl u G t 2048 (2048 * rowN) ∗ X (F := F) c (landed sl (2048 * t)) G)
      ⊢ |={Set.univ}=> (iprop(X (F := F) c (landed sl (2048 * (t + 1))) G ∗ U (F := F) c (slotSet (t % 3)) fullShare (loaded (Val := Elt F) u t) ∗ cell (F := F) c (outCell t)) : sProp 𝕄) := by
  rw [Nat.mul_comm 2048 rowN]
  iintro ⟨HB, HX⟩
  imod (Transfers.batch_collect' (countersEmb (U := UD sig nD τ)) (c : Thread nD τ) rowN_pos (D := scatD (F := F) c sl u G t)) $$ HB with ⟨HD, Hc⟩
  have e : (bigSep Finset.univ (scatD (F := F) c sl u G t) : sProp 𝕄)
      = iprop((bigSep (Finset.range 2048) fun j => X (F := F) c (rowSet (slotAt sl (2048 * t + j))) G)
          ∗ bigSep (Finset.range 2048) fun j => U (F := F) c (urow (t % 3) (j / 4)) (qk (j % 4)) (loaded (Val := Elt F) u t)) :=
    (Ring.bigSep_fin_eq_range 2048 (scatD (F := F) c sl u G t) (fun j => iprop(X (F := F) c (rowSet (slotAt sl (2048 * t + j))) G
      ∗ U (F := F) c (urow (t % 3) (j / 4)) (qk (j % 4)) (loaded (Val := Elt F) u t))) (fun j h => rfl)).trans (bigSep_sep _ _ _)
  ihave HD := (Entails.of_eq e) $$ HD
  icases HD with ⟨HR, HU⟩
  imodintro
  isplitl [HX HR]
  · rw [Nat.mul_add 2048 t 1]
    iapply (rows_join (F := F) c G inj (2048 * t) 2048 (by omega))
    isplitl [HX]; · iexact HX
    iexact HR
  isplitl [HU]
  · rw [← ufirst_end]
    iapply (slot_join (F := F) c (t % 3) _ 512)
    iexact HU
  · iexact Hc

end Cert.KernelIdeal.Dispatch
end
-- ==== Proof.Clear.lean ====
/- The first step's clearing of the blocks the table marks. -/
module

public import proofs.«01_k».proof.Proof.Drain
public import Mathlib.Data.Nat.Count

@[expose] public section

noncomputable section

namespace Cert.KernelIdeal.Dispatch

open Idealize.ShloMosaic Idealize.ShloMosaic.ValueIdx Cert.KernelIdeal Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-! ### The marked blocks -/

/-- Block `b` is marked. -/
abbrev marked (pb : S288.Idx → BitVec 32) (b : ℕ) : Prop := padWord pb b ≠ 0#32
/-- How many of the blocks before `b` are. -/
abbrev marks (pb : S288.Idx → BitVec 32) (b : ℕ) : ℕ := Nat.count (marked pb) b

theorem marks_lt {pb : S288.Idx → BitVec 32} {b : ℕ} (hb : b < 288) (h : marked pb b) : marks pb b < marks pb 288 := Nat.count_strict_mono h hb
theorem marks_le {pb : S288.Idx → BitVec 32} {b : ℕ} (hb : b ≤ 288) : marks pb b ≤ marks pb 288 := Nat.count_monotone _ hb
theorem marks_succ {pb : S288.Idx → BitVec 32} {b : ℕ} (h : marked pb b) : marks pb (b + 1) = marks pb b + 1 := by
  unfold marks; rw [Nat.count_succ, if_pos h]
theorem marks_skip {pb : S288.Idx → BitVec 32} {b : ℕ} (h : ¬ marked pb b) : marks pb (b + 1) = marks pb b := by
  unfold marks; rw [Nat.count_succ, if_neg h, Nat.add_zero]

theorem mark_bit (w : BitVec 32) : Scalar.cmpi .ne (Scalar.extui (Scalar.cmpi .ne w 0#32) : BitVec 32) 0#32 = 1#1 ↔ w ≠ 0#32 := by
  by_cases h : w = 0#32
  · subst h; decide
  · have e : Scalar.cmpi .ne w 0#32 = 1#1 := by
      show BitVec.ofBool (w != 0#32) = 1#1
      rw [bne_iff_ne.2 h]; rfl
    rw [e]
    exact ⟨fun _ => h, fun _ => by decide⟩

open Classical in
/-- What of the result is still untouched before trip `b`. -/
def xrest (pb : S288.Idx → BitVec 32) (b : ℕ) : Finset XI := Finset.univ.filter fun y => b ≤ (y 1).val / 256 ∨ ¬ marked pb ((y 1).val / 256)
open Classical in
/-- The first `m` marked blocks. -/
def cleared (pb : S288.Idx → BitVec 32) (m : ℕ) : Finset XI := Finset.univ.filter fun y => marked pb ((y 1).val / 256) ∧ marks pb ((y 1).val / 256) < m
theorem mem_xrest {pb : S288.Idx → BitVec 32} {b : ℕ} {y : XI} : y ∈ xrest pb b ↔ b ≤ (y 1).val / 256 ∨ ¬ marked pb ((y 1).val / 256) := by simp [xrest]
theorem mem_cleared {pb : S288.Idx → BitVec 32} {m : ℕ} {y : XI} : y ∈ cleared pb m ↔ marked pb ((y 1).val / 256) ∧ marks pb ((y 1).val / 256) < m := by simp [cleared]

theorem xrest_zero (pb : S288.Idx → BitVec 32) : xrest pb 0 = Finset.univ := by
  ext y; rw [mem_xrest]; simp
theorem blk_sub_xrest (pb : S288.Idx → BitVec 32) (b : ℕ) : blkSet b ⊆ xrest pb b := fun y hy => mem_xrest.2 (.inl (mem_blkSet.1 hy).ge)
theorem xrest_sdiff {pb : S288.Idx → BitVec 32} {b : ℕ} (h : marked pb b) : xrest pb b \ blkSet b = xrest pb (b + 1) := by
  ext y
  rw [Finset.mem_sdiff, mem_xrest, mem_blkSet, mem_xrest]
  constructor
  · rintro ⟨h1 | h1, h2⟩
    · exact .inl (by omega)
    · exact .inr h1
  · rintro (h1 | h1)
    · exact ⟨.inl (by omega), by omega⟩
    · exact ⟨.inr h1, fun e => h1 (e ▸ h)⟩
theorem xrest_skip {pb : S288.Idx → BitVec 32} {b : ℕ} (h : ¬ marked pb b) : xrest pb b = xrest pb (b + 1) := by
  ext y
  rw [mem_xrest, mem_xrest]
  constructor
  · rintro (h1 | h1)
    · by_cases e : (y 1).val / 256 = b
      · exact .inr (e ▸ h)
      · exact .inl (by omega)
    · exact .inr h1
  · rintro (h1 | h1)
    · exact .inl (by omega)
    · exact .inr h1

theorem blk_of (y : XI) : (y 1).val / 256 < 288 := by
  have : (y 1).val < 73728 := (y 1).isLt
  omega

theorem cleared_zero (pb : S288.Idx → BitVec 32) : cleared pb 0 = ∅ := by ext y; rw [mem_cleared]; simp
open Classical in
/-- The `m`-th marked block. -/
def markSet (pb : S288.Idx → BitVec 32) (m : ℕ) : Finset XI := Finset.univ.filter fun y => marked pb ((y 1).val / 256) ∧ marks pb ((y 1).val / 256) = m
theorem mem_markSet {pb : S288.Idx → BitVec 32} {m : ℕ} {y : XI} : y ∈ markSet pb m ↔ marked pb ((y 1).val / 256) ∧ marks pb ((y 1).val / 256) = m := by simp [markSet]
theorem markSet_eq {pb : S288.Idx → BitVec 32} {b : ℕ} (h : marked pb b) : markSet pb (marks pb b) = blkSet b := by
  ext y
  rw [mem_markSet, mem_blkSet]
  constructor
  · rintro ⟨h1, h2⟩
    exact Nat.count_injective h1 h h2
  · rintro rfl
    exact ⟨h, rfl⟩
theorem cleared_succ (pb : S288.Idx → BitVec 32) (m : ℕ) : cleared pb m ∪ markSet pb m = cleared pb (m + 1) := by
  ext y
  rw [Finset.mem_union, mem_cleared, mem_markSet, mem_cleared]
  constructor
  · rintro (h | h)
    · exact ⟨h.1, by omega⟩
    · exact ⟨h.1, by omega⟩
  · rintro ⟨h1, h2⟩
    by_cases e : marks pb ((y 1).val / 256) = m
    · exact .inr ⟨h1, e⟩
    · exact .inl ⟨h1, by omega⟩
theorem cleared_disj (pb : S288.Idx → BitVec 32) (m : ℕ) : Disjoint (cleared pb m) (markSet pb m) := by
  rw [Finset.disjoint_left]
  intro y h1 h2
  rw [mem_cleared] at h1
  rw [mem_markSet] at h2
  omega
theorem mem_cleared_all {pb : S288.Idx → BitVec 32} {y : XI} : y ∈ cleared pb (marks pb 288) ↔ marked pb ((y 1).val / 256) := by
  rw [mem_cleared]
  exact ⟨fun h => h.1, fun h => ⟨h, marks_lt (blk_of y) h⟩⟩
theorem mem_xrest_all {pb : S288.Idx → BitVec 32} {y : XI} : y ∈ xrest pb 288 ↔ ¬ marked pb ((y 1).val / 256) := by
  rw [mem_xrest]
  have := blk_of y
  constructor
  · rintro (h | h)
    · omega
    · exact h
  · exact .inr

variable (c : Dev nD) (𝒱 : Variants) (bd : Option 𝒱.V)

/-! ### The clears in flight -/

/-- What the `j`-th clear delivers. -/
def clearD (pb : S288.Idx → BitVec 32) (j : Fin (marks pb 288)) : sProp 𝕄 :=
  iprop(X c (markSet pb j.val) (fun _ => 0#32) ∗ Z c (Transfers.shareTokN fullShare j.val) (fun _ => 0#32))

instance clearD_storable (pb : S288.Idx → BitVec 32) (j : Fin (marks pb 288)) : BI.Storable (upEmb : UEmb _ 𝕄) (clearD (F := F) c pb j) := by
  unfold clearD; infer_instance

abbrev clr (pb : S288.Idx → BitVec 32) (j w : ℕ) : sProp 𝕄 :=
  Transfers.Batch (countersEmb (U := UD sig nD τ)) (c : Thread nD τ) (.dma zCell) () blkN (clearD (F := F) c pb) j w

/-- Before trip `b` of the loop that starts the clears. -/
def clearAt (pb : S288.Idx → BitVec 32) (fX : XI → BitVec 32) (b : ℕ) : sProp 𝕄 :=
  iprop(PB c pb ∗ X c (xrest pb b) fX ∗ Z c (Transfers.shareDrop fullShare (marks pb b)) (fun _ => 0#32) ∗ clr (F := F) c pb (marks pb b) 0)

abbrev t1body (t : Fin grid0.N) (h1 : k0_cond1 (pt t) = 1#1) :=
  k0_t1_body (F := F) (pt t) (Memref.whole main_arg0) (Memref.isWhole_whole _) (Memref.whole main_arg1) (Memref.isWhole_whole _) (Memref.whole main_arg2) (Memref.isWhole_whole _)
    (Memref.whole main_v0) (Memref.isWhole_whole _) (Memref.whole cc0_scratch0) (Memref.isWhole_whole _) (Memref.whole cc0_scratch1) (Memref.isWhole_whole _)
    cc0_scratch2 cc0_scratch3 cc0_scratch4 h1
abbrev t2body (t : Fin grid0.N) (h1 : k0_cond1 (pt t) = 1#1) :=
  k0_t2_body (F := F) (pt t) (Memref.whole main_arg0) (Memref.isWhole_whole _) (Memref.whole main_arg1) (Memref.isWhole_whole _) (Memref.whole main_arg2) (Memref.isWhole_whole _)
    (Memref.whole main_v0) (Memref.isWhole_whole _) (Memref.whole cc0_scratch0) (Memref.isWhole_whole _) (Memref.whole cc0_scratch1) (Memref.isWhole_whole _)
    cc0_scratch2 cc0_scratch3 cc0_scratch4 h1

/-- A word of the table of blocks read. -/
theorem wp_pad {f : S288.Idx → BitVec 32} {a : ℕ} {off : Fin 1 → ℕ} (h : off = ![a]) (inb : ∀ x, off x + S1.size x ≤ S288.size x)
    {hw : ((Memref.whole main_arg1 : Memref sig .tc .smem S288 .i32).access (Rect.unit (s := S288) off S1.size inb)).Loads} {x : S1.Idx}
    {α : Type} {K : BitVec 32 → Prog (TpuEff nD τ sig (Elt F) Λ₀ .tc) α} {Q : α → sProp 𝕄} :
    (PB (F := F) c f : sProp 𝕄) ⊢ iprop((PB (F := F) c f -∗ wp frame (wpE defs₀ 𝒱 (c : Thread nD τ) bd) Set.univ (K (padWord f a)) Q)
      -∗ wp frame (wpE defs₀ 𝒱 (c : Thread nD τ) bd) Set.univ
        (smemLoadElt (Memref.whole main_arg1 : Memref sig .tc .smem S288 .i32) (Rect.unit (s := S288) off S1.size inb) hw x K) Q) := by
  iintro HS HK
  iapply (wp_smemLoadElt 𝒱 c bd Set.univ (defs := defs₀) (m := (Memref.whole main_arg1 : Memref sig .tc .smem S288 .i32)) (r := Rect.unit (s := S288) off S1.size inb)
    (x := x) (S := Finset.univ) (q := fullShare.right) (f := f) (Finset.subset_univ _)) $$ [HS]
  · iexact HS
  iintro HS
  have e : (((Memref.whole main_arg1).access (Rect.unit (s := S288) off S1.size inb)).read (Elt F) f x : BitVec 32) = padWord f a := pad_read h inb f x
  rw [e]
  iapply HK
  iexact HS

/-- One block's clear. -/
theorem wp_clear {pb : S288.Idx → BitVec 32} {b : ℕ} (hb : b < 288) (hm : marked pb b) {off : Fin 3 → ℕ} (h : off = ![0, b * 256, 0])
    (inb : ∀ a, off a + S4x256x128.size a ≤ S4x73728x128.size a)
    {hsrc : (Memref.whole cc0_scratch1 : Memref sig .tc .vmem S4x256x128 .i32).view.WordExact}
    {hdst : ((Memref.whole main_v0).slice (Rect.unit (s := S4x73728x128) off S4x256x128.size inb) (fun _ => rfl) : Memref sig .tc .hbm S4x256x128 .i32).view.WordExact}
    {hsem : DmaTarget.Typed (nD := nD) (p := .tc) .vmem (.dma (cc0_scratch4 : DmaSems sig S_).sem) (.here ((Memref.whole main_v0).slice (Rect.unit (s := S4x73728x128) off S4x256x128.size inb) (fun _ => rfl) : Memref sig .tc .hbm S4x256x128 .i32))}
    {α : Type} {K : PUnit → Prog (TpuEff nD τ sig (Elt F) Λ₀ .tc) α} {Q : α → sProp 𝕄} (fX : XI → BitVec 32) :
    iprop(X (F := F) c (xrest pb b) fX ∗ Z (F := F) c (Transfers.shareDrop fullShare (marks pb b)) (fun _ => 0#32) ∗ clr (F := F) c pb (marks pb b) 0)
      ⊢ iprop((iprop(X (F := F) c (xrest pb (b + 1)) fX ∗ Z (F := F) c (Transfers.shareDrop fullShare (marks pb (b + 1))) (fun _ => 0#32) ∗ clr (F := F) c pb (marks pb (b + 1)) 0)
            -∗ wp frame (wpE defs₀ 𝒱 (c : Thread nD τ) bd) Set.univ (K ⟨⟩) Q)
          -∗ wp frame (wpE defs₀ 𝒱 (c : Thread nD τ) bd) Set.univ
            (.op (.enqueueDma (Memref.whole cc0_scratch1 : Memref sig .tc .vmem S4x256x128 .i32)
              (.here ((Memref.whole main_v0).slice (Rect.unit (s := S4x73728x128) off S4x256x128.size inb) (fun _ => rfl)))
              (.dma (cc0_scratch4 : DmaSems sig S_).sem) hsrc hdst hsem) K) Q) := by
  have hset : (Memref.whole cc0_scratch1 : Memref sig .tc .vmem S4x256x128 .i32).view.set = Finset.univ := View.set_whole _
  have hdset : ((Memref.whole main_v0).slice (Rect.unit (s := S4x73728x128) off S4x256x128.size inb) (fun _ => rfl) : Memref sig .tc .hbm S4x256x128 .i32).view.set = blkSet b :=
    (View.set_slice_whole _ _).trans (set_blk h inb)
  rw [marks_succ hm, ← xrest_sdiff hm]
  iintro ⟨HX, HZ, HB⟩ HK
  ihave HX' := (pointsTo_split_subset (ℓ := (c : Thread nD τ).loc main_v0) (blk_sub_xrest pb b)).1 $$ HX
  icases HX' with ⟨Hb, HX⟩
  ihave HZ' := (show (Z (F := F) c (Transfers.shareDrop fullShare (marks pb b)) (fun _ => 0#32) : sProp 𝕄)
    ⊢ iprop(Z (F := F) c (Transfers.shareDrop fullShare (marks pb b + 1)) (fun _ => 0#32) ∗ Z (F := F) c (Transfers.shareTokN fullShare (marks pb b)) (fun _ => 0#32))
    from (pointsTo_share (PosShare.mem_left_op_right _)).1) $$ HZ
  icases HZ' with ⟨HZ, Hz⟩
  iapply (Transfers.wp_dmaBatch (countersEmb (U := UD sig nD τ)) 𝒱 (c : Thread nD τ) bd (defs := defs₀)
    (src := (Memref.whole cc0_scratch1 : Memref sig .tc .vmem S4x256x128 .i32))
    (via := .same) (dst := (Memref.whole main_v0).slice (Rect.unit (s := S4x73728x128) off S4x256x128.size inb) (fun _ => rfl))
    (Sd := blkSet b) (fd := fX) (fs := fun _ => 0#32) (q := Transfers.shareTokN fullShare (marks pb b))
    (D := clearD (F := F) c pb) (j := marks pb b) (u := 0) () blkN rfl hdset.subset (marks_lt hb hm) (Nat.zero_le _) ?hD) $$ [Hz Hb HB]
  case hD =>
    unfold clearD
    rw [hset, markSet_eq hm]
    iintro ⟨Hd, Hs⟩
    isplitl [Hd]
    · iapply (Entails.of_eq (pointsTo_congr (ℓ := (c : Thread nD τ).loc main_v0) (fun y hy => ?_))) $$ Hd
      exact blk_val (Val := Elt F) h inb fX 0#32 y hy
    · iexact Hs
  · isplitl [Hz]
    · rw [hset]; iexact Hz
    isplitl [Hb]; · iexact Hb
    iexact HB
  iintro HB
  iapply HK
  isplitl [HX]; · iexact HX
  isplitl [HZ]; · iexact HZ
  iexact HB

theorem clear_step (pb : S288.Idx → BitVec 32) (fX : XI → BitVec 32) (t : Fin grid0.N) (h1 : k0_cond1 (pt t) = 1#1) (b : Fin k0_t1_loop.trips) (acc : Unit) :
    clearAt (F := F) c pb fX b.val ⊢ wp frame (wpE defs₀ 𝒱 (c : Thread nD τ) bd) Set.univ (t1body (F := F) t h1 b acc)
      (fun _ => clearAt (F := F) c pb fX (b.val + 1)) := by
  have hb := lt_of_lt_of_eq b.isLt trips1
  unfold clearAt
  iintro ⟨HP, HX, HZ, HB⟩
  dsimp only [t1body, k0_t1_body, smemLoad]
  simp only [bind_assoc, lift_eq, op_bind, ret_bind, word_bind, pure_bind, pure_eq]
  iapply (wp_pad (F := F) c 𝒱 bd (off1_eq b) _) $$ HP
  iintro HP
  by_cases hm : marked pb b.val
  · rw [if_pos ((mark_bit _).2 hm)]
    simp only [bind_assoc, lift_eq, op_bind, ret_bind, word_bind, pure_bind, pure_eq]
    iapply (wp_clear (F := F) c 𝒱 bd hb hm (off2_eq b) _ fX) $$ [HX HZ HB]
    · isplitl [HX]; · iexact HX
      isplitl [HZ]; · iexact HZ
      iexact HB
    iintro ⟨HX, HZ, HB⟩
    rw [wp_ret]
    imodintro
    isplitl [HP]; · iexact HP
    isplitl [HX]; · iexact HX
    isplitl [HZ]; · iexact HZ
    iexact HB
  · rw [if_neg (fun h => hm ((mark_bit _).1 h)), wp_ret]
    imodintro
    rw [marks_skip hm, ← xrest_skip hm]
    isplitl [HP]; · iexact HP
    isplitl [HX]; · iexact HX
    isplitl [HZ]; · iexact HZ
    iexact HB

/-- Before trip `b` of the loop that waits for the clears. -/
def clearedAt (pb : S288.Idx → BitVec 32) (b : ℕ) : sProp 𝕄 :=
  iprop(PB c pb ∗ clr (F := F) c pb (marks pb 288) (marks pb b * blkN) ∗ owe (F := F) c)

theorem cleared_step (pb : S288.Idx → BitVec 32) (t : Fin grid0.N) (h1 : k0_cond1 (pt t) = 1#1) (b : Fin k0_t2_loop.trips) (acc : Unit) :
    clearedAt (F := F) c pb b.val ⊢ wp frame (wpE defs₀ 𝒱 (c : Thread nD τ) bd) Set.univ (t2body (F := F) t h1 b acc)
      (fun _ => clearedAt (F := F) c pb (b.val + 1)) := by
  have hb := lt_of_lt_of_eq b.isLt trips2
  unfold clearedAt
  iintro ⟨HP, HB, %W, HO⟩
  dsimp only [t2body, k0_t2_body, smemLoad]
  simp only [bind_assoc, lift_eq, op_bind, ret_bind, word_bind, pure_bind, pure_eq]
  iapply (wp_pad (F := F) c 𝒱 bd (off3_eq b) _) $$ HP
  iintro HP
  by_cases hm : marked pb b.val
  · rw [if_pos ((mark_bit _).2 hm)]
    simp only [bind_assoc, lift_eq, op_bind, ret_bind, word_bind, pure_bind, pure_eq]
    have hlt := marks_lt hb hm
    iapply (Transfers.wp_waitBatchMul (countersEmb (U := UD sig nD τ)) 𝒱 (c : Thread nD τ) bd (defs := defs₀) () (N := blkN) 1 (Nat.one_mul _).symm
      (D := clearD (F := F) c pb) (j := marks pb 288) (u := marks pb b.val * blkN) (by
        rw [Nat.mul_comm blkN, ← Nat.add_mul]; exact Nat.mul_le_mul_right _ hlt)) $$ [HB HO]
    · isplitl [HB]; · iexact HB
      iexact HO
    iintro ⟨HB, HO⟩
    rw [wp_ret]
    imodintro
    rw [marks_succ hm, Nat.add_mul]
    isplitl [HP]; · iexact HP
    isplitl [HB]; · iexact HB
    iexists _; iexact HO
  · rw [if_neg (fun h => hm ((mark_bit _).1 h)), wp_ret]
    imodintro
    rw [marks_skip hm]
    isplitl [HP]; · iexact HP
    isplitl [HB]; · iexact HB
    iexists _; iexact HO

theorem blks_join (pb : S288.Idx → BitVec 32) : ∀ m,
    (bigSep (Finset.range m) (fun j => X (F := F) c (markSet pb j) (fun _ => 0#32)) : sProp 𝕄) ⊢ X (F := F) c (cleared pb m) (fun _ => 0#32) := by
  intro m
  induction m with
  | zero =>
    rw [cleared_zero]
    unfold X
    rw [pointsTo_empty]
    iintro -
    iempintro
  | succ m ih =>
    rw [bigSep_range_succ, ← cleared_succ]
    iintro ⟨Hm, HR⟩
    iapply (pointsTo_union (cleared_disj pb m)).2
    isplitl [HR]
    · iapply ih
      iexact HR
    · iexact Hm

/-- The clears, all of them waited for. -/
theorem clear_done (pb : S288.Idx → BitVec 32) :
    iprop(clr (F := F) c pb (marks pb 288) (marks pb 288 * blkN) ∗ Z (F := F) c (Transfers.shareDrop fullShare (marks pb 288)) (fun _ => 0#32))
      ⊢ |={Set.univ}=> (iprop(X (F := F) c (cleared pb (marks pb 288)) (fun _ => 0#32) ∗ Z (F := F) c fullShare (fun _ => 0#32) ∗ cell (F := F) c zCell) : sProp 𝕄) := by
  rw [Nat.mul_comm _ blkN]
  iintro ⟨HB, HZ⟩
  imod (Transfers.batch_collect' (countersEmb (U := UD sig nD τ)) (c : Thread nD τ) blkN_pos (D := clearD (F := F) c pb)) $$ HB with ⟨HD, Hc⟩
  have e : (bigSep Finset.univ (clearD (F := F) c pb) : sProp 𝕄)
      = iprop((bigSep (Finset.range (marks pb 288)) fun j => X (F := F) c (markSet pb j) (fun _ => 0#32))
          ∗ bigSep (Finset.range (marks pb 288)) fun j => Z (F := F) c (Transfers.shareTokN fullShare j) (fun _ => 0#32)) :=
    (Ring.bigSep_fin_eq_range (marks pb 288) (clearD (F := F) c pb) (fun j => iprop(X (F := F) c (markSet pb j) (fun _ => 0#32)
      ∗ Z (F := F) c (Transfers.shareTokN fullShare j) (fun _ => 0#32))) (fun j h => rfl)).trans (bigSep_sep _ _ _)
  ihave HD := (Entails.of_eq e) $$ HD
  icases HD with ⟨HX, Hz⟩
  imodintro
  isplitl [HX]
  · iapply (blks_join (F := F) c pb _)
    iexact HX
  isplitl [HZ Hz]
  · iapply (Transfers.pointsTo_toks_range fullShare (marks pb 288)).2
    isplitl [HZ]; · iexact HZ
    iexact Hz
  · iexact Hc

/-- The result after the clears: what no copy goes to is final, the rest is still to come. -/
theorem clear_split {sl : S65536.Idx → BitVec 32} {pb : S288.Idx → BitVec 32} {u : SI → BitVec 32} {G : XI → BitVec 32} (P : Plan (F := F) sl pb u G) (fX : XI → BitVec 32) :
    iprop(X (F := F) c (cleared pb (marks pb 288)) (fun _ => 0#32) ∗ X (F := F) c (xrest pb 288) fX)
      ⊢ (iprop(X (F := F) c (unhit sl) G ∗ ∃ f, X (F := F) c (pend sl 0) f) : sProp 𝕄) := by
  have hsub : unhit sl ⊆ cleared pb (marks pb 288) := fun y hy => mem_cleared_all.2 (P.miss y (mem_unhit.1 hy)).1
  have hdis : Disjoint (cleared pb (marks pb 288) \ unhit sl) (xrest pb 288) := by
    rw [Finset.disjoint_left]
    intro y h1 h2
    exact mem_xrest_all.1 h2 (mem_cleared_all.1 (Finset.mem_sdiff.1 h1).1)
  have hall : (cleared pb (marks pb 288) \ unhit sl) ∪ xrest pb 288 = pend sl 0 := by
    ext y
    rw [Finset.mem_union, Finset.mem_sdiff, mem_cleared_all, mem_unhit, mem_xrest_all, mem_pend]
    constructor
    · intro h
      by_contra hn
      have hu : ∀ k, k < 65536 → slotAt sl k ≠ (y 1).val := fun k hk e => hn ⟨k, Nat.zero_le _, hk, e⟩
      rcases h with ⟨-, h⟩ | h
      · exact h hu
      · exact h (P.miss y hu).1
    · rintro ⟨k, -, h2, h3⟩
      by_cases hm : marked pb ((y 1).val / 256)
      · exact .inl ⟨hm, fun h => h k h2 h3⟩
      · exact .inr hm
  iintro ⟨HC, HX⟩
  ihave HC := (pointsTo_split_subset (ℓ := (c : Thread nD τ).loc main_v0) hsub).1 $$ HC
  icases HC with ⟨HU, HC⟩
  isplitl [HU]
  · iapply (Entails.of_eq (pointsTo_congr (ℓ := (c : Thread nD τ).loc main_v0) (fun y hy => ?_))) $$ HU
    exact (P.miss y (mem_unhit.1 hy)).2.symm
  · ihave HX := (pointsTo_join (ℓ := (c : Thread nD τ).loc main_v0) hdis) $$ [HC HX]
    · isplitl [HC]; · iexact HC
      iexact HX
    rw [hall]
    iexists _
    iexact HX

/-- The clearing phase: the buffer of zeros filled, the clears started, the clears waited for. -/
theorem clear_phase {sl : S65536.Idx → BitVec 32} {pb : S288.Idx → BitVec 32} {u : SI → BitVec 32} {G : XI → BitVec 32} (P : Plan (F := F) sl pb u G) (fX : XI → BitVec 32)
    (z : S4x256x128.Idx → BitVec 32) (t : Fin grid0.N) (h1 : k0_cond1 (pt t) = 1#1)
    {hl : (Memref.whole cc0_scratch1 : Memref sig .tc .vmem S4x256x128 .i32).view.LoadsAt (Rect.unit (s := S4x256x128) ![0, 0, 0] S4x256x128.size inb_S4x256x128_S4x256x128_0_0_0).toLoadRect}
    {hx : ((Memref.whole cc0_scratch1 : Memref sig .tc .vmem S4x256x128 .i32).access (Rect.unit (s := S4x256x128) ![0, 0, 0] S4x256x128.size inb_S4x256x128_S4x256x128_0_0_0)).Stores Finset.univ}
    {hm : (Finset.univ : Finset (Rect.unit (s := S4x256x128) ![0, 0, 0] S4x256x128.size inb_S4x256x128_S4x256x128_0_0_0).shape.Idx) = Finset.univ ∨ ∀ a, (Rect.unit (s := S4x256x128) ![0, 0, 0] S4x256x128.size inb_S4x256x128_S4x256x128_0_0_0).stride a = 1}
    {α : Type} {K : Unit → Prog (TpuEff nD τ sig (Elt F) Λ₀ .tc) α} {Q : α → sProp 𝕄} :
    iprop(PB (F := F) c pb ∗ X (F := F) c Finset.univ fX ∗ Z (F := F) c fullShare z ∗ cell (F := F) c zCell ∗ owe (F := F) c)
      ⊢ iprop((iprop(PB (F := F) c pb ∗ (X (F := F) c (unhit sl) G ∗ ∃ f, X (F := F) c (pend sl 0) f) ∗ Z (F := F) c fullShare (fun _ => 0#32) ∗ cell (F := F) c zCell ∗ owe (F := F) c)
            -∗ wp frame (wpE defs₀ 𝒱 (c : Thread nD τ) bd) Set.univ (K ⟨⟩) Q)
        -∗ wp frame (wpE defs₀ 𝒱 (c : Thread nD τ) bd) Set.univ
          (.op (.load (Memref.whole cc0_scratch1 : Memref sig .tc .vmem S4x256x128 .i32) (Rect.unit (s := S4x256x128) ![0, 0, 0] S4x256x128.size inb_S4x256x128_S4x256x128_0_0_0).toLoadRect hl) fun _ =>
            .op (.store (Memref.whole cc0_scratch1 : Memref sig .tc .vmem S4x256x128 .i32) (Rect.unit (s := S4x256x128) ![0, 0, 0] S4x256x128.size inb_S4x256x128_S4x256x128_0_0_0) k0_pay1 Finset.univ hx hm) fun _ =>
              Scf.Loop.for k0_t1_loop (k0_t1_ok (pt t) h1) ⟨⟩ (t1body (F := F) t h1) >>= fun _ =>
                Scf.Loop.for k0_t2_loop (k0_t2_ok (pt t) h1) ⟨⟩ (t2body (F := F) t h1) >>= K) Q) := by
  iintro ⟨HP, HX, HZ, Hc, HO⟩ HK
  iapply (wp_load 𝒱 (c : Thread nD τ) bd Set.univ (defs := defs₀) (m := (Memref.whole cc0_scratch1 : Memref sig .tc .vmem S4x256x128 .i32)) (S := Finset.univ) (q := fullShare) (f := z) (Finset.subset_univ _)) $$ [HZ]
  · iexact HZ
  iintro HZ
  iapply (wp_store 𝒱 (c : Thread nD τ) bd Set.univ (defs := defs₀) (m := (Memref.whole cc0_scratch1 : Memref sig .tc .vmem S4x256x128 .i32)) (S := Finset.univ) (f := z) (Finset.subset_univ _)) $$ [HZ]
  · iexact HZ
  iintro HZ
  have ez : (((Memref.whole cc0_scratch1 : Memref sig .tc .vmem S4x256x128 .i32).access (Rect.unit (s := S4x256x128) ![0, 0, 0] S4x256x128.size inb_S4x256x128_S4x256x128_0_0_0)).write (Elt F) z k0_pay1 Finset.univ : S4x256x128.Idx → BitVec 32) = fun _ => 0#32 := by
    funext y
    have e : y = ((Memref.whole cc0_scratch1 : Memref sig .tc .vmem S4x256x128 .i32).access (Rect.unit (s := S4x256x128) ![0, 0, 0] S4x256x128.size inb_S4x256x128_S4x256x128_0_0_0)).emb y := by
      show y = (Rect.unit (s := S4x256x128) _ S4x256x128.size inb_S4x256x128_S4x256x128_0_0_0).emb y
      funext a
      apply Fin.ext
      rw [Rect.emb_apply]
      match a with
      | 0 => show (y 0).val = 0 + 1 * (y 0).val; omega
      | 1 => show (y 1).val = 0 + 1 * (y 1).val; omega
      | 2 => show (y 2).val = 0 + 1 * (y 2).val; omega
    conv_lhs => rw [e]
    rw [View.write_emb_of_mem _ _ (Finset.mem_univ _)]
    rfl
  rw [ez]
  imod (Transfers.batch_alloc' (countersEmb (U := UD sig nD τ)) (c : Thread nD τ) () blkN (clearD (F := F) c pb) (E := Set.univ)) $$ Hc with HB
  iapply (Scf.wp_for_bind frame (wpE defs₀ 𝒱 (c : Thread nD τ) bd) Set.univ _ _ _ (k0_t1_ok (pt t) h1) (⟨⟩ : Unit) (t1body (F := F) t h1)
    (fun r _ => clearAt (F := F) c pb fX r) (fun r acc => clear_step (F := F) c 𝒱 bd pb fX t h1 r acc)) $$ [HP HX HZ HB]
  · unfold clearAt
    rw [xrest_zero]
    isplitl [HP]; · iexact HP
    isplitl [HX]; · iexact HX
    isplitl [HZ]; · iexact HZ
    iexact HB
  iintro %acc H
  rw [show Scf.trips k0_t1_loop.lb k0_t1_loop.ub k0_t1_loop.st = 288 from trips1]
  unfold clearAt
  icases H with ⟨HP, HX, HZ, HB⟩
  iapply (Scf.wp_for_bind frame (wpE defs₀ 𝒱 (c : Thread nD τ) bd) Set.univ _ _ _ (k0_t2_ok (pt t) h1) (⟨⟩ : Unit) (t2body (F := F) t h1)
    (fun r _ => clearedAt (F := F) c pb r) (fun r acc => cleared_step (F := F) c 𝒱 bd pb t h1 r acc)) $$ [HP HB HO]
  · unfold clearedAt
    rw [show marks pb 0 * blkN = 0 from Nat.zero_mul _]
    isplitl [HP]; · iexact HP
    isplitl [HB]; · iexact HB
    iexact HO
  iintro %acc' H
  rw [show Scf.trips k0_t2_loop.lb k0_t2_loop.ub k0_t2_loop.st = 288 from trips2]
  unfold clearedAt
  icases H with ⟨HP, HB, HO⟩
  imod (clear_done (F := F) c pb) $$ [HB HZ] with ⟨HC, HZ, Hc⟩
  · isplitl [HB]; · iexact HB
    iexact HZ
  iapply HK
  isplitl [HP]; · iexact HP
  isplitl [HC HX]
  · iapply (clear_split (F := F) c P fX)
    isplitl [HC]; · iexact HC
    iexact HX
  isplitl [HZ]; · iexact HZ
  isplitl [Hc]; · iexact Hc
  iexact HO

end Cert.KernelIdeal.Dispatch
end
-- ==== Proof.Body.lean ====
/- One grid point of the dispatch, phase by phase. -/
module

public import proofs.«01_k».proof.Proof.Clear

@[expose] public section

noncomputable section

namespace Cert.KernelIdeal.Dispatch

open Idealize.ShloMosaic Idealize.ShloMosaic.ValueIdx Cert.KernelIdeal Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- The programs of the body. -/
abbrev Pg (F : FTy → Type) : Type 1 := Prog (TpuEff nD τ sig (Elt F) Λ₀ .tc) PUnit

/-! ### The body's phases -/

/-- A tile's tokens, and the slot they go to, as the program slices them. -/
abbrev srcM (off : Fin 3 → ℕ) (inb : ∀ a, off a + S4x512x128.size a ≤ S4x16384x128.size a) : Memref sig .tc .hbm S4x512x128 .i32 :=
  (Memref.whole main_arg2).slice (Rect.unit (s := S4x16384x128) off S4x512x128.size inb) (fun _ => rfl)
abbrev dstM (off : Fin 4 → ℕ) (inb : ∀ a, off a + S1x4x512x128.size a ≤ S3x4x512x128.size a) : Memref sig .tc .vmem S4x512x128 .i32 :=
  ((Memref.whole cc0_scratch0).slice (Rect.unit (s := S3x4x512x128) off S1x4x512x128.size inb) (fun _ => rfl)).squeeze S4x512x128 squeezes_S1x4x512x128_S4x512x128
abbrev semM (off : Fin 1 → ℕ) (inb : ∀ a, off a + S1.size a ≤ S3.size a) : DmaSem sig :=
  ((cc0_scratch2.slice (Rect.unit (s := S3) off S1.size inb)).squeeze S_ squeezes_S1_S_).sem

def ph1 (t : Fin grid0.N) (K : Pg F) : Pg F :=
  if h1 : k0_cond1 (pt t) = 1#1 then
    .op (.load (Memref.whole cc0_scratch1 : Memref sig .tc .vmem S4x256x128 .i32) (Rect.unit (s := S4x256x128) ![0, 0, 0] S4x256x128.size inb_S4x256x128_S4x256x128_0_0_0).toLoadRect (View.loadsAt_vmem h_S4x256x128)) fun _ =>
      .op (.store (Memref.whole cc0_scratch1 : Memref sig .tc .vmem S4x256x128 .i32) (Rect.unit (s := S4x256x128) ![0, 0, 0] S4x256x128.size inb_S4x256x128_S4x256x128_0_0_0) k0_pay1 Finset.univ (View.stores_vmem_bits_univ h_S4x256x128 rfl) (.inl rfl)) fun _ =>
        Scf.Loop.for k0_t1_loop (k0_t1_ok (pt t) h1) ⟨⟩ (t1body (F := F) t h1) >>= fun _ =>
          Scf.Loop.for k0_t2_loop (k0_t2_ok (pt t) h1) ⟨⟩ (t2body (F := F) t h1) >>= fun _ => K
  else K

def ph2 (t : Fin grid0.N) (K : Pg F) : Pg F :=
  if _h4 : Scalar.cmpi .ne (Scalar.extui (Scalar.cmpi .eq (BitVec.ofNat 32 ((pt t) 0).val) 0#32) : BitVec 32) 0#32 = 1#1 then
    .op (.enqueueDma (srcM ![0, 0, 0] inb_S4x16384x128_S4x512x128_0_0_0) (.here (dstM ![0, 0, 0, 0] inb_S3x4x512x128_S1x4x512x128_0_0_0_0)) (.dma (semM ![0] inb_S3_S1_0))
      (View.wordExact_bits rfl) ((View.wordExact_bits rfl).reshape _ _) ⟨Or.inl rfl, trivial⟩) fun _ => K
  else K

def ph3 (t : Fin grid0.N) (K : Pg F) : Pg F :=
  if h5 : k0_cond5 (pt t) = 1#1 then
    Scf.Loop.for k0_t3_loop (k0_t3_ok (pt t) h5) ⟨⟩ (t3body (F := F) t h5) >>= fun _ => K
  else K

def ph4 (t : Fin grid0.N) (K : Pg F) : Pg F :=
  if h6 : k0_cond6 (pt t) = 1#1 then
    .op (.enqueueDma (srcM (k0_off9 (pt t)) (k0_off9_inb (pt t) h6)) (.here (dstM (k0_off8 (pt t)) (k0_off8_inb (pt t) h6))) (.dma (semM (k0_off7 (pt t)) (k0_off7_inb (pt t) h6)))
      (View.wordExact_bits rfl) ((View.wordExact_bits rfl).reshape _ _) ⟨Or.inl rfl, trivial⟩) fun _ => K
  else K

def ph5 (t : Fin grid0.N) (K : Pg F) : Pg F :=
  .op (.waitDma2 (semM (k0_off10 (pt t)) (k0_off10_inb (pt t))) (srcM (k0_off12 (pt t)) (k0_off12_inb (pt t))) (dstM (k0_off11 (pt t)) (k0_off11_inb (pt t)))
    (View.wordExact_bits rfl) ((View.wordExact_bits rfl).reshape _ _)) fun _ => K

def ph6 (t : Fin grid0.N) (K : Pg F) : Pg F :=
  Scf.Loop.for k0_t4_loop k0_t4_ok ⟨⟩ (t4body (F := F) t) >>= fun _ => K

def ph9 (t : Fin grid0.N) (h7 : k0_cond7 (pt t) = 1#1) (K : Pg F) : Pg F :=
  if h9 : k0_cond9 (pt t) = 1#1 then
    Scf.Loop.for k0_t6_loop (k0_t6_ok (pt t) h7 h9) ⟨⟩ (t6body (F := F) t h7 h9) >>= fun _ => K
  else K
def ph8 (t : Fin grid0.N) (h7 : k0_cond7 (pt t) = 1#1) (K : Pg F) : Pg F :=
  if h8 : k0_cond8 (pt t) = 1#1 then
    Scf.Loop.for k0_t5_loop (k0_t5_ok (pt t) h7 h8) ⟨⟩ (t5body (F := F) t h7 h8) >>= fun _ => K
  else K
def ph7 (t : Fin grid0.N) (K : Pg F) : Pg F :=
  if h7 : k0_cond7 (pt t) = 1#1 then ph8 t h7 (ph9 t h7 K) else K

theorem body_eq (t : Fin grid0.N) : cc0_moe_dispatch (F := F) (pt t) (Memref.whole main_arg0) (Memref.isWhole_whole _) (Memref.whole main_arg1) (Memref.isWhole_whole _) (Memref.whole main_arg2) (Memref.isWhole_whole _)
    (Memref.whole main_v0) (Memref.isWhole_whole _) (Memref.whole cc0_scratch0) (Memref.isWhole_whole _) (Memref.whole cc0_scratch1) (Memref.isWhole_whole _)
    cc0_scratch2 cc0_scratch3 cc0_scratch4
    = ph1 t (ph2 t (ph3 t (ph4 t (ph5 t (ph6 t (ph7 t (.ret ⟨⟩))))))) := by
  rw [cc0_moe_dispatch_eq_skeleton]
  rfl

/-! ### A tile's load -/

variable (c : Dev nD) (𝒱 : Variants) (bd : Option 𝒱.V)

theorem wp_start (u : SI → BitVec 32) {t : ℕ} (ht : t < 32) {off : Fin 3 → ℕ} {off4 : Fin 4 → ℕ} {offs : Fin 1 → ℕ}
    (h : off = ![0, t * 512, 0]) (h4 : off4 = ![t % 3, 0, 0, 0]) (hs : offs = ![t % 3])
    (inb : ∀ a, off a + S4x512x128.size a ≤ S4x16384x128.size a) (inb4 : ∀ a, off4 a + S1x4x512x128.size a ≤ S3x4x512x128.size a)
    (inbs : ∀ a, offs a + S1.size a ≤ S3.size a)
    {hsrc : (srcM off inb).view.WordExact} {hdst : (dstM off4 inb4).view.WordExact}
    {hsem : DmaTarget.Typed (nD := nD) (p := .tc) .hbm (.dma (semM offs inbs)) (.here (dstM off4 inb4))}
    {α : Type} {K : PUnit → Prog (TpuEff nD τ sig (Elt F) Λ₀ .tc) α} {Q : α → sProp 𝕄} (f : UI → BitVec 32) :
    iprop(cell (F := F) c (inCell t) ∗ U (F := F) c (slotSet (t % 3)) fullShare f ∗ T (F := F) c (tile t) u)
      ⊢ iprop((load (F := F) c u t 1 0 -∗ wp frame (wpE defs₀ 𝒱 (c : Thread nD τ) bd) Set.univ (K ⟨⟩) Q)
          -∗ wp frame (wpE defs₀ 𝒱 (c : Thread nD τ) bd) Set.univ
            (.op (.enqueueDma (srcM off inb) (.here (dstM off4 inb4)) (.dma (semM offs inbs)) hsrc hdst hsem) K) Q) := by
  have hset : (srcM off inb).view.set = tile t := (View.set_slice_whole _ _).trans (set_tile h inb)
  have hdset : (dstM off4 inb4).view.set = slotSet (t % 3) := (View.set_reshape _ _).trans ((View.set_slice_whole _ _).trans (set_slot h4 inb4))
  iintro ⟨Hc, HU, HT⟩ HK
  imod (Transfers.batch_alloc' (countersEmb (U := UD sig nD τ)) (c : Thread nD τ) () tileN (loadD (F := F) c u t) (E := Set.univ)) $$ Hc with HB
  iapply (Transfers.wp_dmaBatch (countersEmb (U := UD sig nD τ)) 𝒱 (c : Thread nD τ) bd (defs := defs₀)
    (src := srcM off inb) (via := .same) (dst := dstM off4 inb4)
    (Sd := slotSet (t % 3)) (fd := f) (fs := u) (q := fullShare)
    (D := loadD (F := F) c u t) (j := 0) (u := 0) () tileN rfl hdset.subset (Nat.one_pos) (Nat.zero_le _) ?hD) $$ [HU HT HB]
  case hD =>
    unfold loadD
    rw [hset]
    iintro ⟨Hd, Hs⟩
    isplitl [Hd]
    · iapply (Entails.of_eq (pointsTo_congr (ℓ := (c : Thread nD τ).loc cc0_scratch0) (fun y hy => ?_))) $$ Hd
      exact load_val (Val := Elt F) ht h h4 inb inb4 f u y hy
    · iexact Hs
  · isplitl [HT]
    · rw [hset]; iexact HT
    isplitl [HU]; · iexact HU
    rw [show semM offs inbs = inCell t from inSem hs inbs]
    iexact HB
  iintro HB
  iapply HK
  rw [show semM offs inbs = inCell t from inSem hs inbs]
  iexact HB

theorem wp_loaded (u : SI → BitVec 32) {t : ℕ} {off : Fin 3 → ℕ} {off4 : Fin 4 → ℕ} {offs : Fin 1 → ℕ} (hs : offs = ![t % 3])
    (inb : ∀ a, off a + S4x512x128.size a ≤ S4x16384x128.size a) (inb4 : ∀ a, off4 a + S1x4x512x128.size a ≤ S3x4x512x128.size a)
    (inbs : ∀ a, offs a + S1.size a ≤ S3.size a)
    {hsrc : (srcM off inb).view.WordExact} {hdst : (dstM off4 inb4).view.WordExact}
    {α : Type} {K : PUnit → Prog (TpuEff nD τ sig (Elt F) Λ₀ .tc) α} {Q : α → sProp 𝕄} :
    iprop(load (F := F) c u t 1 0 ∗ owe (F := F) c)
      ⊢ iprop((iprop(U (F := F) c (slotSet (t % 3)) fullShare (loaded (Val := Elt F) u t) ∗ T (F := F) c (tile t) u ∗ cell (F := F) c (inCell t) ∗ owe (F := F) c)
            -∗ wp frame (wpE defs₀ 𝒱 (c : Thread nD τ) bd) Set.univ (K ⟨⟩) Q)
          -∗ wp frame (wpE defs₀ 𝒱 (c : Thread nD τ) bd) Set.univ
            (.op (.waitDma2 (semM offs inbs) (srcM off inb) (dstM off4 inb4) hsrc hdst) K) Q) := by
  iintro ⟨HB, %W, HO⟩ HK
  rw [show semM offs inbs = inCell t from inSem hs inbs]
  iapply (Transfers.wp_waitBatchLast (countersEmb (U := UD sig nD τ)) 𝒱 (c : Thread nD τ) bd (defs := defs₀) () (N := tileN) rfl tileN_pos
    (D := loadD (F := F) c u t) (u := 0) (by rw [Nat.zero_add, Nat.mul_one])) $$ [HB HO]
  · isplitl [HB]; · iexact HB
    iexact HO
  iintro ⟨HD, Hc, HO⟩
  iapply HK
  have e : (bigSep Finset.univ (loadD (F := F) c u t) : sProp 𝕄) = loadD (F := F) c u t 0 := by
    rw [show (Finset.univ : Finset (Fin 1)) = {0} from by decide, bigSep_singleton]
  ihave HD := (Entails.of_eq e) $$ HD
  unfold loadD
  icases HD with ⟨HU, HT⟩
  isplitl [HU]; · iexact HU
  isplitl [HT]; · iexact HT
  isplitl [Hc]; · iexact Hc
  iexists _; iexact HO

/-! ### The body's invariant -/

variable (sl : S65536.Idx → BitVec 32) (pb : S288.Idx → BitVec 32) (u : SI → BitVec 32) (G : XI → BitVec 32)

/-- Slot `j + 1`: its scatter of three steps before in flight, or free. -/
def slotAtStep (j : ℕ) : sProp 𝕄 :=
  if 2 ≤ j then scat (F := F) c sl u G (j - 2) 2048 0 else iprop(cell (F := F) c (outCell (j + 1)) ∗ ∃ f, U (F := F) c (slotSet ((j + 1) % 3)) fullShare f)
/-- Slot `t`: tile `t` on its way into it, or, past the last, free. -/
def inFlight (t : ℕ) : sProp 𝕄 :=
  if t < 32 then load (F := F) c u t 1 0 else iprop(cell (F := F) c (inCell t) ∗ ∃ f, U (F := F) c (slotSet (t % 3)) fullShare f)

/-- What no step touches. -/
def steady : sProp 𝕄 :=
  iprop(SL (F := F) c sl ∗ PB (F := F) c pb ∗ (∃ z, Z (F := F) c fullShare z) ∗ cell (F := F) c zCell ∗ X (F := F) c (unhit sl) G)

/-- Before step `t`: tile `t` on its way, the scatters of the two steps before in flight. -/
def before (t : ℕ) : sProp 𝕄 :=
  iprop(steady (F := F) c sl pb G ∗ (∃ f, X (F := F) c (pend sl (2048 * t)) f) ∗ X (F := F) c (landed sl (2048 * (t - 2))) G
    ∗ T (F := F) c (Finset.univ \ tile t) u ∗ inFlight (F := F) c u t ∗ cell (F := F) c (inCell (t + 1)) ∗ cell (F := F) c (inCell (t + 2))
    ∗ cell (F := F) c (outCell t) ∗ slotAtStep (F := F) c sl u G t ∗ slotAtStep (F := F) c sl u G (t + 1))

theorem inCell_three (t : ℕ) : inCell (t + 3) = inCell t := Fin.ext (by show (t + 3) % 3 = t % 3; omega)
theorem outCell_three (t : ℕ) : outCell (t + 3) = outCell t := Fin.ext (by show 3 + (t + 3) % 3 = 3 + t % 3; omega)
theorem tile_out {t : ℕ} (ht : 32 ≤ t) : tile t = ∅ := by
  ext y; rw [mem_tile]
  have : (y 1).val < 16384 := (y 1).isLt
  simp only [Finset.notMem_empty, iff_false]; omega
theorem tile_sub {s t : ℕ} (h : s ≠ t) : tile t ⊆ Finset.univ \ tile s := fun y hy => by
  rw [mem_tile] at hy
  rw [Finset.mem_sdiff, mem_tile]
  exact ⟨Finset.mem_univ _, by omega⟩

/-- The wait for the step before last's scatter. -/
theorem wp_ph3 {sl pb u G} (P : Plan (F := F) sl pb u G) (t : Fin grid0.N) (K : Pg F) {Q : PUnit → sProp 𝕄} :
    iprop(slotAtStep (F := F) c sl u G t.val ∗ X (F := F) c (landed sl (2048 * (t.val - 2))) G ∗ owe (F := F) c)
      ⊢ iprop((iprop((∃ f, U (F := F) c (slotSet ((t.val + 1) % 3)) fullShare f) ∗ cell (F := F) c (outCell (t.val + 1)) ∗ X (F := F) c (landed sl (2048 * (t.val + 1 - 2))) G ∗ owe (F := F) c)
            -∗ wp frame (wpE defs₀ 𝒱 (c : Thread nD τ) bd) Set.univ K Q)
          -∗ wp frame (wpE defs₀ 𝒱 (c : Thread nD τ) bd) Set.univ (ph3 t K) Q) := by
  have ht := lt32 t
  unfold ph3 slotAtStep
  by_cases h : 2 ≤ t.val
  · have h5 := (cond5_iff t).2 h
    rw [if_pos h, dif_pos h5]
    have hm : (t.val - 2) % 3 = (t.val + 1) % 3 := by omega
    iintro ⟨HB, HX, HO⟩ HK
    iapply (drain_loop3 (F := F) c 𝒱 bd sl u G t h5 (s := t.val - 2) ((off5_eq t h).trans (by rw [hm]))) $$ [HB HO]
    · isplitl [HB]; · iexact HB
      iexact HO
    iintro ⟨HB, HO⟩
    imod (scat_done (F := F) c P.inj (show t.val - 2 < 32 by omega)) $$ [HB HX] with ⟨HX, HU, Hc⟩
    · isplitl [HB]; · iexact HB
      iexact HX
    iapply HK
    rw [hm, show t.val + 1 - 2 = t.val - 2 + 1 by omega, show outCell (t.val + 1) = outCell (t.val - 2) from
      (by rw [← outCell_three (t.val - 2)]; congr 1; omega)]
    isplitl [HU]; · iexists _; iexact HU
    isplitl [Hc]; · iexact Hc
    isplitl [HX]; · iexact HX
    iexact HO
  · rw [if_neg h, dif_neg (fun h5 => h ((cond5_iff t).1 h5))]
    iintro ⟨⟨Hc, HU⟩, HX, HO⟩ HK
    iapply HK
    rw [show t.val + 1 - 2 = t.val - 2 by omega]
    isplitl [HU]; · iexact HU
    isplitl [Hc]; · iexact Hc
    isplitl [HX]; · iexact HX
    iexact HO

/-- The start of the next tile's load. -/
theorem wp_ph4 (t : Fin grid0.N) (K : Pg F) {Q : PUnit → sProp 𝕄} :
    iprop((∃ f, U (F := F) c (slotSet ((t.val + 1) % 3)) fullShare f) ∗ cell (F := F) c (inCell (t.val + 1)) ∗ T (F := F) c (Finset.univ \ tile t.val) u)
      ⊢ iprop((iprop(inFlight (F := F) c u (t.val + 1) ∗ T (F := F) c ((Finset.univ \ tile t.val) \ tile (t.val + 1)) u)
            -∗ wp frame (wpE defs₀ 𝒱 (c : Thread nD τ) bd) Set.univ K Q)
          -∗ wp frame (wpE defs₀ 𝒱 (c : Thread nD τ) bd) Set.univ (ph4 t K) Q) := by
  unfold ph4 inFlight
  by_cases h : t.val + 1 < 32
  · have h6 := (cond6_iff t).2 h
    rw [if_pos h, dif_pos h6]
    iintro ⟨⟨%f, HU⟩, Hc, HT⟩ HK
    ihave HT := (pointsTo_split_subset (ℓ := (c : Thread nD τ).loc main_arg2) (tile_sub (show t.val ≠ t.val + 1 by omega))).1 $$ HT
    icases HT with ⟨Ht, HT⟩
    iapply (wp_start (F := F) c 𝒱 bd u h (off9_eq t) (off8_eq t) (off7_eq t) _ _ _ f) $$ [HU Hc Ht]
    · isplitl [Hc]; · iexact Hc
      isplitl [HU]; · iexact HU
      iexact Ht
    iintro HB
    iapply HK
    isplitl [HB]; · iexact HB
    iexact HT
  · rw [if_neg h, dif_neg (fun h6 => h ((cond6_iff t).1 h6)), tile_out (show 32 ≤ t.val + 1 by omega), Finset.sdiff_empty]
    iintro ⟨HU, Hc, HT⟩ HK
    iapply HK
    isplitl [HU Hc]
    · isplitl [Hc]; · iexact Hc
      iexact HU
    · iexact HT

theorem tile_join (t : ℕ) : (Finset.univ \ tile (t + 1) : Finset SI) = tile t ∪ ((Finset.univ \ tile t) \ tile (t + 1)) := by
  ext y
  simp only [Finset.mem_sdiff, Finset.mem_univ, true_and, Finset.mem_union, mem_tile]
  omega

/-- The step from the load under way to the next step's. -/
theorem wp_step {sl pb u G} (P : Plan (F := F) sl pb u G) (t : Fin grid0.N) (K : Pg F) {Q : PUnit → sProp 𝕄} :
    iprop(before (F := F) c sl pb u G t.val ∗ owe (F := F) c)
      ⊢ iprop((iprop(before (F := F) c sl pb u G (t.val + 1) ∗ owe (F := F) c) -∗ wp frame (wpE defs₀ 𝒱 (c : Thread nD τ) bd) Set.univ K Q)
          -∗ wp frame (wpE defs₀ 𝒱 (c : Thread nD τ) bd) Set.univ (ph3 t (ph4 t (ph5 t (ph6 t K)))) Q) := by
  have ht := lt32 t
  unfold before
  iintro ⟨⟨HS, ⟨%fX, HP⟩, HL, HT, HB, Hc1, Hc2, Ho, Hs, Hs'⟩, HO⟩ HK
  iapply (wp_ph3 (F := F) c 𝒱 bd P t _) $$ [Hs HL HO]
  · isplitl [Hs]; · iexact Hs
    isplitl [HL]; · iexact HL
    iexact HO
  iintro ⟨HU, Ho1, HL, HO⟩
  iapply (wp_ph4 (F := F) c 𝒱 bd u t _) $$ [HU Hc1 HT]
  · isplitl [HU]; · iexact HU
    isplitl [Hc1]; · iexact Hc1
    iexact HT
  iintro ⟨HB1, HT⟩
  unfold ph5
  ihave HB := (Entails.of_eq (show inFlight (F := F) c u t.val = load (F := F) c u t.val 1 0 from if_pos ht)) $$ HB
  iapply (wp_loaded (F := F) c 𝒱 bd u (off10_eq t) _ _ _) $$ [HB HO]
  · isplitl [HB]; · iexact HB
    iexact HO
  iintro ⟨HU, Ht, Hc, HO⟩
  unfold ph6
  imod (Transfers.batch_alloc' (countersEmb (U := UD sig nD τ)) (c : Thread nD τ) () rowN (scatD (F := F) c sl u G t.val) (E := Set.univ)) $$ Ho with HB
  unfold steady
  icases HS with ⟨HSL, HS⟩
  iapply (issue_loop (F := F) c 𝒱 bd P fX t) $$ [HSL HP HU HB]
  · unfold issueAt
    rw [urest_zero]
    isplitl [HSL]; · iexact HSL
    isplitl [HP]; · iexact HP
    isplitl [HU]; · iexact HU
    iexact HB
  iintro H
  unfold issueAt
  icases H with ⟨HSL, HP, -, HB⟩
  iapply HK
  isplitr [HO]
  · isplitl [HSL HS]
    · isplitl [HSL]; · iexact HSL
      iexact HS
    isplitl [HP]
    · iexists fX
      rw [show 2048 * (t.val + 1) = 2048 * t.val + 4 * 512 by omega]
      iexact HP
    isplitl [HL]; · iexact HL
    isplitl [Ht HT]
    · rw [tile_join]
      iapply (pointsTo_union (ℓ := (c : Thread nD τ).loc main_arg2) (show Disjoint (tile t.val) ((Finset.univ \ tile t.val) \ tile (t.val + 1)) from
        Finset.disjoint_left.2 fun y h1 h2 => (Finset.mem_sdiff.1 (Finset.mem_sdiff.1 h2).1).2 h1)).2
      isplitl [Ht]; · iexact Ht
      iexact HT
    isplitl [HB1]; · iexact HB1
    isplitl [Hc2]; · iexact Hc2
    isplitl [Hc]
    · rw [show t.val + 1 + 2 = t.val + 3 from rfl, inCell_three]; iexact Hc
    isplitl [Ho1]; · iexact Ho1
    isplitl [Hs']; · iexact Hs'
    rw [show slotAtStep (F := F) c sl u G (t.val + 1 + 1) = scat (F := F) c sl u G t.val 2048 0 from if_pos (by omega)]
    iexact HB
  · iexact HO

end Cert.KernelIdeal.Dispatch
end
-- ==== Proof.Ends.lean ====
/- The dispatch's first step, its last, and its body at every point. -/
module

public import proofs.«01_k».proof.Proof.Body

@[expose] public section

noncomputable section

namespace Cert.KernelIdeal.Dispatch

open Idealize.ShloMosaic Idealize.ShloMosaic.ValueIdx Cert.KernelIdeal Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

variable (c : Dev nD) (𝒱 : Variants) (bd : Option 𝒱.V)

/-- Nothing in flight, the result at `x`. -/
def idle (sl : S65536.Idx → BitVec 32) (pb : S288.Idx → BitVec 32) (u : SI → BitVec 32) (x : XI → BitVec 32) : sProp 𝕄 :=
  iprop(SL (F := F) c sl ∗ PB (F := F) c pb ∗ (∃ z, Z (F := F) c fullShare z) ∗ cell (F := F) c zCell ∗ X (F := F) c Finset.univ x ∗ T (F := F) c Finset.univ u
    ∗ (∃ f, U (F := F) c Finset.univ fullShare f)
    ∗ cell (F := F) c (inCell 0) ∗ cell (F := F) c (inCell 1) ∗ cell (F := F) c (inCell 2) ∗ cell (F := F) c (outCell 0) ∗ cell (F := F) c (outCell 1) ∗ cell (F := F) c (outCell 2))

theorem slots_all : (Finset.univ : Finset UI) = (slotSet 0 ∪ slotSet 1) ∪ slotSet 2 := by
  ext y
  have : (y 0).val < 3 := (y 0).isLt
  simp only [Finset.mem_univ, Finset.mem_union, mem_slotSet, true_iff]
  omega
theorem slots_disj {s s' : ℕ} (h : s ≠ s') : Disjoint (slotSet s) (slotSet s') :=
  Finset.disjoint_left.2 fun y h1 h2 => by rw [mem_slotSet] at h1 h2; omega
theorem slots_disj' : Disjoint (slotSet 0 ∪ slotSet 1) (slotSet 2) :=
  Finset.disjoint_union_left.2 ⟨slots_disj (by decide), slots_disj (by decide)⟩

theorem slots_split (f : UI → BitVec 32) :
    (U (F := F) c Finset.univ fullShare f : sProp 𝕄) ⊢ iprop(U (F := F) c (slotSet 0) fullShare f ∗ U (F := F) c (slotSet 1) fullShare f ∗ U (F := F) c (slotSet 2) fullShare f) := by
  rw [slots_all]
  iintro H
  ihave H := (pointsTo_union (ℓ := (c : Thread nD τ).loc cc0_scratch0) slots_disj').1 $$ H
  icases H with ⟨H, H2⟩
  ihave H := (pointsTo_union (ℓ := (c : Thread nD τ).loc cc0_scratch0) (slots_disj (s := 0) (s' := 1) (by decide))).1 $$ H
  icases H with ⟨H0, H1⟩
  isplitl [H0]; · iexact H0
  isplitl [H1]; · iexact H1
  iexact H2

theorem slots_join (f g h : UI → BitVec 32) :
    (iprop(U (F := F) c (slotSet 0) fullShare f ∗ U (F := F) c (slotSet 1) fullShare g ∗ U (F := F) c (slotSet 2) fullShare h) : sProp 𝕄) ⊢ iprop(∃ f, U (F := F) c Finset.univ fullShare f) := by
  rw [slots_all]
  iintro ⟨H0, H1, H2⟩
  iexists _
  iapply (pointsTo_join (ℓ := (c : Thread nD τ).loc cc0_scratch0) slots_disj')
  isplitl [H0 H1]
  · iapply (pointsTo_join (ℓ := (c : Thread nD τ).loc cc0_scratch0) (slots_disj (s := 0) (s' := 1) (by decide)))
    isplitl [H0]; · iexact H0
    iexact H1
  iexact H2

theorem whole_eq (sl : S65536.Idx → BitVec 32) : (Finset.univ : Finset XI) = unhit sl ∪ landed sl 65536 := by
  ext y
  simp only [Finset.mem_univ, Finset.mem_union, true_iff, mem_unhit, mem_landed]
  by_cases h : ∃ k, k < 65536 ∧ slotAt sl k = (y 1).val
  · obtain ⟨k, hk, e⟩ := h; exact Or.inr ⟨k, hk, hk, e⟩
  · exact Or.inl fun k hk e => h ⟨k, hk, e⟩
theorem whole_disj (sl : S65536.Idx → BitVec 32) : Disjoint (unhit sl) (landed sl 65536) :=
  Finset.disjoint_left.2 fun y h1 h2 => by
    rw [mem_unhit] at h1; rw [mem_landed] at h2
    obtain ⟨k, hk, _, e⟩ := h2
    exact h1 k hk e

/-- The first step's clearing and its own load. -/
theorem wp_first {sl : S65536.Idx → BitVec 32} {pb : S288.Idx → BitVec 32} {u : SI → BitVec 32} {G : XI → BitVec 32} (P : Plan (F := F) sl pb u G)
    (x : XI → BitVec 32) (t : Fin grid0.N) (h : t.val = 0) (K : Pg F) {Q : PUnit → sProp 𝕄} :
    iprop(idle (F := F) c sl pb u x ∗ owe (F := F) c)
      ⊢ iprop((iprop(before (F := F) c sl pb u G t.val ∗ owe (F := F) c) -∗ wp frame (wpE defs₀ 𝒱 (c : Thread nD τ) bd) Set.univ K Q)
          -∗ wp frame (wpE defs₀ 𝒱 (c : Thread nD τ) bd) Set.univ (ph1 t (ph2 t K)) Q) := by
  unfold ph1
  have h1 := (cond1_iff t).2 h
  rw [dif_pos h1, show before (F := F) c sl pb u G t.val = before (F := F) c sl pb u G 0 from congrArg _ h]
  unfold idle
  iintro ⟨⟨HSL, HPB, ⟨%z, HZ⟩, Hz, HX, HT, ⟨%f, HU⟩, Hi0, Hi1, Hi2, Ho0, Ho1, Ho2⟩, HO⟩ HK
  iapply (clear_phase (F := F) c 𝒱 bd P x z t h1) $$ [HPB HX HZ Hz HO]
  · isplitl [HPB]; · iexact HPB
    isplitl [HX]; · iexact HX
    isplitl [HZ]; · iexact HZ
    isplitl [Hz]; · iexact Hz
    iexact HO
  iintro ⟨HPB, ⟨HX, HP⟩, HZ, Hz, HO⟩
  unfold ph2
  rw [dif_pos ((cond4_iff t).2 h)]
  ihave HU := (slots_split (F := F) c f) $$ HU
  icases HU with ⟨HU0, HU1, HU2⟩
  ihave HT := (pointsTo_split_subset (ℓ := (c : Thread nD τ).loc main_arg2) (Finset.subset_univ (tile 0))).1 $$ HT
  icases HT with ⟨Ht, HT⟩
  iapply (wp_start (F := F) c 𝒱 bd u (t := 0) (by decide) rfl rfl rfl _ _ _ f) $$ [HU0 Hi0 Ht]
  · isplitl [Hi0]; · iexact Hi0
    isplitl [HU0]; · iexact HU0
    iexact Ht
  iintro HB
  iapply HK
  isplitr [HO]
  · unfold before steady inFlight slotAtStep
    rw [if_pos (show 0 < 32 by decide), if_neg (show ¬ 2 ≤ 0 by decide), if_neg (show ¬ 2 ≤ 0 + 1 by decide)]
    isplitl [HSL HPB HZ Hz HX]
    · isplitl [HSL]; · iexact HSL
      isplitl [HPB]; · iexact HPB
      isplitl [HZ]; · iexists _; iexact HZ
      isplitl [Hz]; · iexact Hz
      iexact HX
    isplitl [HP]; · iexact HP
    isplitr [HT HB Hi1 Hi2 Ho0 Ho1 Ho2 HU1 HU2]
    · rw [show 2048 * (0 - 2) = 0 from rfl, landed_zero]
      unfold X
      rw [pointsTo_empty]; iempintro
    isplitl [HT]; · iexact HT
    isplitl [HB]; · iexact HB
    isplitl [Hi1]; · iexact Hi1
    isplitl [Hi2]; · iexact Hi2
    isplitl [Ho0]; · iexact Ho0
    isplitl [Ho1 HU1]
    · isplitl [Ho1]; · iexact Ho1
      iexists f; iexact HU1
    · isplitl [Ho2]; · iexact Ho2
      iexists f; iexact HU2
  · iexact HO

theorem wp_skip (t : Fin grid0.N) (h : t.val ≠ 0) (K : Pg F) : ph1 t (ph2 t K) = K := by
  unfold ph1 ph2
  rw [dif_neg fun h1 => h ((cond1_iff t).1 h1), dif_neg fun h4 => h ((cond4_iff t).1 h4)]

/-- The last step's waits. -/
theorem wp_last {sl : S65536.Idx → BitVec 32} {pb : S288.Idx → BitVec 32} {u : SI → BitVec 32} {G : XI → BitVec 32} (P : Plan (F := F) sl pb u G)
    (t : Fin grid0.N) (h : t.val = 31) (K : Pg F) {Q : PUnit → sProp 𝕄} :
    iprop(before (F := F) c sl pb u G (t.val + 1) ∗ owe (F := F) c)
      ⊢ iprop((iprop(idle (F := F) c sl pb u G ∗ owe (F := F) c) -∗ wp frame (wpE defs₀ 𝒱 (c : Thread nD τ) bd) Set.univ K Q)
          -∗ wp frame (wpE defs₀ 𝒱 (c : Thread nD τ) bd) Set.univ (ph7 t K) Q) := by
  unfold ph7 ph8 ph9
  have h7 := (cond7_iff t).2 h
  have h8 := cond8_last t h
  have h9 := cond9_last t h
  rw [dif_pos h7, dif_pos h8, dif_pos h9, show before (F := F) c sl pb u G (t.val + 1) = before (F := F) c sl pb u G (31 + 1) from congrArg (fun n => before (F := F) c sl pb u G (n + 1)) h]
  unfold before steady inFlight slotAtStep
  rw [if_neg (show ¬ 31 + 1 < 32 by decide), if_pos (show 2 ≤ 31 + 1 by decide), if_pos (show 2 ≤ 31 + 1 + 1 by decide)]
  iintro ⟨⟨⟨HSL, HPB, HZ, Hz, HX⟩, -, HL, HT, ⟨Hi2, ⟨%f, HU2⟩⟩, Hi0, Hi1, Ho2, HB0, HB1⟩, HO⟩ HK
  iapply (drain_loop5 (F := F) c 𝒱 bd sl u G t h7 h8 (s := 31) (off29_eq t h)) $$ [HB1 HO]
  · isplitl [HB1]; · iexact HB1
    iexact HO
  iintro ⟨HB1, HO⟩
  iapply (drain_loop6 (F := F) c 𝒱 bd sl u G t h7 h9 (s := 30) (off31_eq t h)) $$ [HB0 HO]
  · isplitl [HB0]; · iexact HB0
    iexact HO
  iintro ⟨HB0, HO⟩
  imod (scat_done (F := F) c P.inj (show 30 < 32 by decide)) $$ [HB0 HL] with ⟨HL, HU0, Ho0⟩
  · isplitl [HB0]; · iexact HB0
    iexact HL
  imod (scat_done (F := F) c P.inj (show 31 < 32 by decide)) $$ [HB1 HL] with ⟨HL, HU1, Ho1⟩
  · isplitl [HB1]; · iexact HB1
    iexact HL
  iapply HK
  isplitr [HO]
  · unfold idle
    isplitl [HSL]; · iexact HSL
    isplitl [HPB]; · iexact HPB
    isplitl [HZ]; · iexact HZ
    isplitl [Hz]; · iexact Hz
    isplitl [HX HL]
    · rw [whole_eq sl]
      iapply (pointsTo_union (ℓ := (c : Thread nD τ).loc main_v0) (whole_disj sl)).2
      isplitl [HX]; · iexact HX
      iexact HL
    isplitl [HT]
    · rw [tile_out (show 32 ≤ 31 + 1 by decide), Finset.sdiff_empty]; iexact HT
    isplitl [HU0 HU1 HU2]
    · iapply (slots_join (F := F) c (loaded (Val := Elt F) u 30) (loaded (Val := Elt F) u 31) f)
      isplitl [HU0]; · iexact HU0
      isplitl [HU1]; · iexact HU1
      iexact HU2
    isplitl [Hi0]; · iexact Hi0
    isplitl [Hi1]; · iexact Hi1
    isplitl [Hi2]; · iexact Hi2
    isplitl [Ho0]; · iexact Ho0
    isplitl [Ho1]; · iexact Ho1
    iexact Ho2
  · iexact HO

theorem wp_noLast (t : Fin grid0.N) (h : t.val ≠ 31) (K : Pg F) : ph7 t K = K := by
  unfold ph7
  rw [dif_neg fun h7 => h ((cond7_iff t).1 h7)]

/-- What holds before step `n`. -/
def held (sl : S65536.Idx → BitVec 32) (pb : S288.Idx → BitVec 32) (u : SI → BitVec 32) (x G : XI → BitVec 32) (n : ℕ) : sProp 𝕄 :=
  if n = 0 then idle (F := F) c sl pb u x else if n < 32 then before (F := F) c sl pb u G n else idle (F := F) c sl pb u G

/-- The body at a point takes what holds before it to what holds before the next. -/
theorem wp_body {sl : S65536.Idx → BitVec 32} {pb : S288.Idx → BitVec 32} {u : SI → BitVec 32} {G : XI → BitVec 32} (P : Plan (F := F) sl pb u G)
    (x : XI → BitVec 32) (t : Fin grid0.N) {Q : PUnit → sProp 𝕄} :
    iprop(held (F := F) c sl pb u x G t.val ∗ owe (F := F) c)
      ⊢ iprop((iprop(held (F := F) c sl pb u x G (t.val + 1) ∗ owe (F := F) c) -∗ Q ⟨⟩)
          -∗ wp frame (wpE defs₀ 𝒱 (c : Thread nD τ) bd) Set.univ (ph1 t (ph2 t (ph3 t (ph4 t (ph5 t (ph6 t (ph7 t (.ret ⟨⟩)))))))) Q) := by
  have ht := lt32 t
  have first : iprop(held (F := F) c sl pb u x G t.val ∗ owe (F := F) c)
      ⊢ iprop((iprop(before (F := F) c sl pb u G t.val ∗ owe (F := F) c) -∗ wp frame (wpE defs₀ 𝒱 (c : Thread nD τ) bd) Set.univ (ph3 t (ph4 t (ph5 t (ph6 t (ph7 t (.ret ⟨⟩)))))) Q)
          -∗ wp frame (wpE defs₀ 𝒱 (c : Thread nD τ) bd) Set.univ (ph1 t (ph2 t (ph3 t (ph4 t (ph5 t (ph6 t (ph7 t (.ret ⟨⟩)))))))) Q) := by
    by_cases h : t.val = 0
    · rw [show held (F := F) c sl pb u x G t.val = idle (F := F) c sl pb u x from if_pos h]
      exact wp_first (F := F) c 𝒱 bd P x t h _
    · rw [show held (F := F) c sl pb u x G t.val = before (F := F) c sl pb u G t.val from (if_neg h).trans (if_pos ht), wp_skip t h]
      iintro H HK
      iapply HK; iexact H
  have last : iprop(before (F := F) c sl pb u G (t.val + 1) ∗ owe (F := F) c)
      ⊢ iprop((iprop(held (F := F) c sl pb u x G (t.val + 1) ∗ owe (F := F) c) -∗ Q ⟨⟩)
          -∗ wp frame (wpE defs₀ 𝒱 (c : Thread nD τ) bd) Set.univ (ph7 t (.ret ⟨⟩)) Q) := by
    by_cases h : t.val = 31
    · rw [show held (F := F) c sl pb u x G (t.val + 1) = idle (F := F) c sl pb u G from (if_neg (Nat.succ_ne_zero _)).trans (if_neg (by omega))]
      iintro H HK
      iapply (wp_last (F := F) c 𝒱 bd P t h _) $$ H
      rw [wp_ret]
      iintro H
      imodintro
      iapply HK; iexact H
    · rw [show held (F := F) c sl pb u x G (t.val + 1) = before (F := F) c sl pb u G (t.val + 1) from (if_neg (Nat.succ_ne_zero _)).trans (if_pos (by omega)), wp_noLast t h, wp_ret]
      iintro H HK
      imodintro
      iapply HK; iexact H
  iintro H HK
  iapply first $$ H
  iintro H
  iapply (wp_step (F := F) c 𝒱 bd P t _) $$ H
  iintro H
  iapply last $$ H
  iexact HK

end Cert.KernelIdeal.Dispatch
end
-- ==== Proof.Run.lean ====
/- The launch: every run of the dispatch ends with the planned result and its arguments unchanged. -/
module

public import proofs.«01_k».proof.Proof.Ends
public import proofs.«01_k».proof.Proof.Gen.KernelIdeal.Launch
public import Idealize.ShloMosaic.Lib.Pipeline.FrameValue

@[expose] public section

noncomputable section

namespace Cert.KernelIdeal.Dispatch

open Idealize.ShloMosaic Idealize.ShloMosaic.ValueIdx Cert.KernelIdeal Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

variable (m : (ℓ : Loc nD τ sig) → Buf (Elt F) ℓ)

/-- The tables, the tokens and the result's first contents as a launch memory has them. -/
abbrev slotsOf : S65536.Idx → BitVec 32 := m (((0 : Dev nD) : Thread nD τ).loc main_arg0)
abbrev padsOf : S288.Idx → BitVec 32 := m (((0 : Dev nD) : Thread nD τ).loc main_arg1)
abbrev toksOf : SI → BitVec 32 := m (((0 : Dev nD) : Thread nD τ).loc main_arg2)
abbrev outOf : XI → BitVec 32 := m (((0 : Dev nD) : Thread nD τ).loc main_v0)

def tables (_ : Fin 1) : (pcfg0 (F := F)).Adm := ⟨fun k => m (((0 : Dev nD) : Thread nD τ).loc (pre0.ref k)), trivial⟩

abbrev V (c : Dev nD) (b : Ref sig .tc) : Buf (Elt F) ((c : Thread nD τ).loc b) := m ((c : Thread nD τ).loc b)
/-- The buffers at the end: the result planned. -/
def ends (G : XI → BitVec 32) (c : Dev nD) : (b : Ref sig .tc) → Buf (Elt F) ((c : Thread nD τ).loc b) := Function.update (V m c) main_v0 G

/-- The kernel's own semaphores. -/
abbrev own : Fin 7 → SemLoc sig := fun k => .dma ⟨k.val, lt_of_lt_of_le k.isLt (by decide : 7 ≤ sig.nDmaSem)⟩
theorem ownFacts : Pipeline.OwnSemFacts spec0 own := by decide
abbrev 𝒱₀ : Variants := Variants.none

def dats (G : XI → BitVec 32) (p : Fin 1) (c : Dev nD) : Pipeline.Dat τ (Elt F) Unit ℕ (UD sig nD τ) ℕ (Pipeline.pin (pcfgs (F := F)) (tables m) p) c where
  A := fun w => w.elim0
  after := fun w => w.elim0
  Φ := fun t => iprop(held (F := F) c (slotsOf m) (padsOf m) (toksOf m) (outOf m) G t.val ∗ ∃ r, prngReg c r)
  q := fun w => w.elim0
  owed := fun _ => 0

theorem body_ok {G : XI → BitVec 32} (P : Plan (F := F) (slotsOf m) (padsOf m) (toksOf m) G) (c : Dev nD) :
    Pipeline.BodyObligationLoose (dats m G 0 c) defs₀ 𝒱₀ () Set.univ := by
  intro t
  have hdef : defs₀ (F := F) .tc ((Pipeline.pin (pcfgs (F := F)) (tables m) 0).body) ((Pipeline.pin (pcfgs (F := F)) (tables m) 0).bodyArgs t ((Pipeline.pin (pcfgs (F := F)) (tables m) 0).slots t))
      = ph1 t (ph2 t (ph3 t (ph4 t (ph5 t (ph6 t (ph7 t (.ret ⟨⟩))))))) := by
    rw [← body_eq t]
    unfold defs₀
    rw [Defs.onTc_tc]
  rw [hdef]
  dsimp only [dats]
  iintro ⟨⟨HΦ, HR⟩, ⟨%W, %hW, HO⟩, HB⟩
  iapply (wp_body (F := F) c 𝒱₀ none P (outOf m) t) $$ [HΦ HO]
  · isplitl [HΦ]; · iexact HΦ
    iexists W; iexact HO
  iintro ⟨HΦ, %W', HO⟩
  isplitl [HΦ HR]
  · isplitl [HΦ]; · iexact HΦ
    iexact HR
  isplitl [HO]
  · iexists W'
    isplitr; · ipureintro; exact fun _ _ => Or.inl trivial
    iexact HO
  · iexact HB

theorem own_eq (c : Dev nD) : (Pipeline.ownSems0 (Ix := Unit) (Name := ℕ) (U := UD sig nD τ) (Lvl := ℕ) (Val := Elt F) (τ := τ) own c : sProp 𝕄)
    = iprop(cell (F := F) c (inCell 0) ∗ cell (F := F) c (inCell 1) ∗ cell (F := F) c (inCell 2) ∗ cell (F := F) c (outCell 0) ∗ cell (F := F) c (outCell 1) ∗ cell (F := F) c (outCell 2) ∗ cell (F := F) c zCell) := by
  rw [Pipeline.ownSems0_eq_of_list c own [0, 1, 2, 3, 4, 5, 6] (by decide) (by decide)]
  rfl

/-- The launch's invariant, conjunct by conjunct. -/
theorem phi_eq (A B : (c : Dev nD) → (b : Ref sig .tc) → Buf (Elt F) ((c : Thread nD τ).loc b)) (c : Dev nD) :
    (Pipeline.ΦDRG own spec0 {main_arg2} {main_v0} A B c : sProp 𝕄)
      = iprop(((∃ f : UI → BitVec 32, U (F := F) c Finset.univ fullShare f) ∗ (∃ z : S4x256x128.Idx → BitVec 32, Z (F := F) c fullShare z)) ∗ (∃ r, prngReg c r)
          ∗ (cell (F := F) c (inCell 0) ∗ cell (F := F) c (inCell 1) ∗ cell (F := F) c (inCell 2) ∗ cell (F := F) c (outCell 0) ∗ cell (F := F) c (outCell 1) ∗ cell (F := F) c (outCell 2) ∗ cell (F := F) c zCell)
          ∗ T (F := F) c Finset.univ (A c main_arg2) ∗ X (F := F) c Finset.univ (B c main_v0)) := by
  rw [Pipeline.ΦDRG_eq, scopedRest0_eq, own_eq, bigSep_singleton, Pipeline.routed_singleton]
  rfl

theorem tables_eq (c : Dev nD) (a : pre0.Contents (Elt F)) :
    (Pipeline.ΦT (U := UD sig nD τ) pre0 a c : sProp 𝕄) = iprop(SL (F := F) c (a 0) ∗ PB (F := F) c (a 1)) := by
  unfold Pipeline.ΦT Pipeline.prefHeld
  rw [show (Finset.univ : Finset (Fin pre0.K)) = {0, 1} from by decide, bigSep_insert (by decide), bigSep_singleton]
  rfl

theorem toks_rest : ({main_arg2} : Finset (Ref sig .tc)) ⊆ Pipeline.restRefsP sig pre0 spec0 := by decide
theorem out_rest : ({main_v0} : Finset (Ref sig .tc)) ⊆ Pipeline.restRefsP sig pre0 spec0 \ {main_arg2} := by decide
theorem slots_kept : main_arg0 ∈ Pipeline.restRefs sig spec0 \ {main_v0} := by decide
theorem pads_kept : main_arg1 ∈ Pipeline.restRefs sig spec0 \ {main_v0} := by decide
theorem toks_kept : main_arg2 ∈ Pipeline.restRefs sig spec0 \ {main_v0} := by decide

theorem run_main (g : Dev nD → PrngReg) {G : XI → BitVec 32} (P : Plan (F := F) (slotsOf m) (padsOf m) (toksOf m) G) :
    θ_run (defs (F := F)) (onTc (τ := τ) (main (F := F))) ⟨m, fun _ => 0, g⟩ (fun r => (∀ c : Dev nD,
      r.2.mem ((c : Thread nD τ).loc main_v0) = G
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) := by
  refine (θ_run defs _ _).mono (fun r (h : Pipeline.FramePostRG (Pipeline.pin (pcfgs (F := F)) (tables m)) (dats m G) 0 {main_v0} (V m) (ends m G) r ∧ r.2.sem = fun _ => 0) => ⟨fun c => ?_, h.2⟩)
    (Pipeline.θ_run_frameP_dmaRG (pcfgs (F := F)) (tables m) (dats m G) 0 launch0 own defs₀ 𝒱₀ ownFacts {main_arg2} {main_v0} toks_rest out_rest m g main
      (body_ok m P) (fun c w => w.elim0) (fun c t => rfl) (V m) (Pipeline.hmainP_region pcfgs 0 defs₀ 𝒱₀ m main (fun c => rfl)) (fun c w => w.elim0) ?_ (ends m G) ?_ ?_
      (Q' := fun r => Pipeline.FramePostRG (Pipeline.pin (pcfgs (F := F)) (tables m)) (dats m G) 0 {main_v0} (V m) (ends m G) r ∧ r.2.sem = fun _ => 0) (fun _ h => h))
  · obtain ⟨hr, hw⟩ := h.1
    have hrest := (hr c).2
    refine ⟨(hw c main_v0 (Finset.mem_singleton_self _)).trans (Function.update_self _ _ _), hrest _ slots_kept, hrest _ pads_kept, hrest _ toks_kept⟩
  · intro c k
    rw [Subsingleton.elim c 0]
    rfl
  · intro c
    rw [phi_eq, tables_eq, Subsingleton.elim c 0]
    show _ ⊢ iprop(held (F := F) 0 (slotsOf m) (padsOf m) (toksOf m) (outOf m) G 0 ∗ ∃ r, prngReg (0 : Dev nD) r)
    rw [show held (F := F) 0 (slotsOf m) (padsOf m) (toksOf m) (outOf m) G 0 = idle (F := F) 0 (slotsOf m) (padsOf m) (toksOf m) (outOf m) from if_pos rfl]
    unfold idle
    iintro ⟨⟨⟨HU, HZ⟩, HR, ⟨Hi0, Hi1, Hi2, Ho0, Ho1, Ho2, Hz⟩, HT, HX⟩, HSL, HPB⟩
    isplitr [HR]
    · isplitl [HSL]; · iexact HSL
      isplitl [HPB]; · iexact HPB
      isplitl [HZ]; · iexact HZ
      isplitl [Hz]; · iexact Hz
      isplitl [HX]; · iexact HX
      isplitl [HT]; · iexact HT
      isplitl [HU]; · iexact HU
      isplitl [Hi0]; · iexact Hi0
      isplitl [Hi1]; · iexact Hi1
      isplitl [Hi2]; · iexact Hi2
      isplitl [Ho0]; · iexact Ho0
      isplitl [Ho1]; · iexact Ho1
      iexact Ho2
    · iexact HR
  · intro c
    rw [phi_eq, Subsingleton.elim c 0]
    show iprop(held (F := F) 0 (slotsOf m) (padsOf m) (toksOf m) (outOf m) G 32 ∗ ∃ r, prngReg (0 : Dev nD) r) ⊢ _
    rw [show held (F := F) 0 (slotsOf m) (padsOf m) (toksOf m) (outOf m) G 32 = idle (F := F) 0 (slotsOf m) (padsOf m) (toksOf m) G from (if_neg (by decide)).trans (if_neg (by decide)),
      show ends m G 0 main_v0 = G from Function.update_self _ _ _]
    unfold idle
    iintro ⟨⟨HSL, HPB, HZ, Hz, HX, HT, HU, Hi0, Hi1, Hi2, Ho0, Ho1, Ho2⟩, HR⟩
    isplitl [HU HZ]
    · isplitl [HU]; · iexact HU
      iexact HZ
    isplitl [HR]; · iexact HR
    isplitl [Hi0 Hi1 Hi2 Ho0 Ho1 Ho2 Hz]
    · isplitl [Hi0]; · iexact Hi0
      isplitl [Hi1]; · iexact Hi1
      isplitl [Hi2]; · iexact Hi2
      isplitl [Ho0]; · iexact Ho0
      isplitl [Ho1]; · iexact Ho1
      isplitl [Ho2]; · iexact Ho2
      iexact Hz
    isplitl [HT]; · iexact HT
    iexact HX

end Cert.KernelIdeal.Dispatch
end
-- ==== Proof.Value.lean ====
/- The result as the scatter of the token rows, and the plan read off the precondition. -/
module

public import proofs.«01_k».proof.Proof.Plan
public import proofs.«01_k».proof.Proof.Gen.Pre_planned
public import proofs.«01_k».proof.Proof.Gen.ReferenceIdeal
public import Idealize.ShloMosaic.Lib.Routing.OpsSet
public import Idealize.ShloMosaic.Lib.SortFacts
public import Idealize.ShloMosaic.Lib.ReduceAll
public import Idealize.ShloMosaic.Lib.Pipeline.Value
public import Idealize.ShloMosaic.Lib.StableHlo.Predicate

@[expose] public section

noncomputable section

namespace Cert.KernelIdeal.Dispatch

open Idealize.ShloMosaic Idealize.ShloMosaic.ValueIdx Idealize.ShloMosaic.Routing

variable {F : FTy → Type} [FloatOps F]

/-! ### The tables -/

/-- What the precondition says of the two tables, in naturals. -/
structure Tables (sl : S65536.Idx → BitVec 32) (pb : S288.Idx → BitVec 32) : Prop where
  small : ∀ a : Fin 65536, (sl (ix1 a)).toNat < 73728
  inj : ∀ a b : Fin 65536, (sl (ix1 a)).toNat = (sl (ix1 b)).toNat → a = b
  cover : ∀ y : Fin 73728, (∀ a : Fin 65536, (sl (ix1 a)).toNat ≠ y.val) → padWord pb (y.val / 256) ≠ 0#32

/-- The index words as both the precondition and the reference wrap them. -/
abbrev wrapped (sl : S65536.Idx → BitVec 32) (h : (⟨0, ![]⟩ : Shape).BroadcastsInDim S65536 ![]) (h' : S65536.BroadcastsInDim ⟨2, ![65536, 1]⟩ ![0]) :
    (⟨2, ![65536, 1]⟩ : Shape).Idx → BitVec 32 :=
  broadcastInDim ⟨2, ![65536, 1]⟩ ![0] h' (select (cmpi .slt sl (broadcastInDim S65536 ![] h (constantI ⟨0, ![]⟩ 32 0#32)))
    (addi sl (broadcastInDim S65536 ![] h (constantI ⟨0, ![]⟩ 32 73728#32))) sl)

theorem wrapped_at {sl : S65536.Idx → BitVec 32} (hs : ∀ a : Fin 65536, (sl (ix1 a)).toNat < 73728) (h h') (a : Fin 65536) (z : Fin 1) :
    wrapped sl h h' (ix2 a z) = sl (ix1 a) := by
  refine (broadcastInDim_apply _ h' _ (ix2 a z) (ix1 a) fun b => ?_).trans ?_
  · obtain rfl : b = 0 := Subsingleton.elim _ _
    exact (if_neg (by decide)).symm
  · exact wrap_of_lt (sl (ix1 a)) (IntOp.addi (sl (ix1 a)) 73728#32) (by have := hs a; omega)

theorem toInt_small {w : BitVec 32} (h : w.toNat < 73728) : w.toInt = (w.toNat : Int) := StableHlo.Predicate.toInt_eq_toNat_of_lt (by omega)

/-! ### The scatter of the rows -/

abbrev SW : Shape := ⟨2, ![65536, 1]⟩
abbrev SR : Shape := ⟨3, ![4, 65536, 128]⟩

section Rows
variable (d : ScatterDims S4x73728x128 SW SR) (hu : d.updateWindowDims = [0, 2]) (hi : d.insertedWindowDims = [1]) (hs : d.scatterDimsToOperandDims = [1])
  (hv : d.indexVectorDim = 1)
include hu hi hs hv

/-- The update at part `p`, assignment `a`, lane `l` goes to part `p`, lane `l` of the row that `a`'s word names. -/
theorem lands (idx : SW.Idx → BitVec 32) (k : SR.Idx) (y : XI) :
    d.resultIdx? k idx = some y ↔ (k 0).val = (y 0).val ∧ (idx (ix2 (k 1 : Fin 65536) (0 : Fin 1))).toInt = ((y 1).val : Int) ∧ (k 2).val = (y 2).val := by
  obtain ⟨du, di, ds, dv, wf⟩ := d
  subst hu hi hs hv
  rw [resultIdx?_eq_some]
  have e0 : (ScatterDims.mk (s := S4x73728x128) (si := SW) (u := SR) [0, 2] [1] [1] 1 wf).start k idx 0 = 0 := rfl
  have e2 : (ScatterDims.mk (s := S4x73728x128) (si := SW) (u := SR) [0, 2] [1] [1] 1 wf).start k idx 2 = 0 := rfl
  have e1 : (ScatterDims.mk (s := S4x73728x128) (si := SW) (u := SR) [0, 2] [1] [1] 1 wf).start k idx 1 = (idx (ix2 (k 1) 0)).toInt := by
    refine congrArg (fun i => (idx i).toInt) (funext fun b => ?_)
    match b with
    | ⟨0, _⟩ => rfl
    | ⟨1, _⟩ => rfl
  have w0 : (ScatterDims.mk (s := S4x73728x128) (si := SW) (u := SR) [0, 2] [1] [1] 1 wf).window k 0 = (k 0).val := rfl
  have w1 : (ScatterDims.mk (s := S4x73728x128) (si := SW) (u := SR) [0, 2] [1] [1] 1 wf).window k 1 = 0 := rfl
  have w2 : (ScatterDims.mk (s := S4x73728x128) (si := SW) (u := SR) [0, 2] [1] [1] 1 wf).window k 2 = (k 2).val := rfl
  constructor
  · intro h
    have h0 := h 0; have h1 := h 1; have h2 := h 2
    rw [e0, w0] at h0; rw [e1, w1] at h1; rw [e2, w2] at h2
    exact ⟨by omega, by omega, by omega⟩
  · rintro ⟨h0, h1, h2⟩ a
    match a with
    | ⟨0, _⟩ => exact (congrArg₂ (fun x y => x + ((y : ℕ) : Int)) e0 w0).trans (by show (0 : Int) + ((k 0).val : Int) = ((y 0).val : Int); omega)
    | ⟨1, _⟩ => exact (congrArg₂ (fun x y => x + ((y : ℕ) : Int)) e1 w1).trans (by show (idx (ix2 (k 1 : Fin 65536) (0 : Fin 1))).toInt + ((0 : ℕ) : Int) = ((y 1).val : Int); omega)
    | ⟨2, _⟩ => exact (congrArg₂ (fun x y => x + ((y : ℕ) : Int)) e2 w2).trans (by show (0 : Int) + ((k 2).val : Int) = ((y 2).val : Int); omega)

end Rows

theorem four_get {α : Type} {x : α} : ∀ (q : ℕ) (h : q < [x, x, x, x].length), [x, x, x, x][q] = x
  | 0, _ => rfl
  | 1, _ => rfl
  | 2, _ => rfl
  | 3, _ => rfl

theorem four_sum (u : SI → BitVec 32) (q : ℕ) (h : q < 4) :
    (((([⟨S4x16384x128, u⟩, ⟨S4x16384x128, u⟩, ⟨S4x16384x128, u⟩, ⟨S4x16384x128, u⟩] : List ((s : Shape) × (s.Idx → BitVec 32))).take q).map (·.1)).map
      fun s => if h : s.rank = SR.rank then s.size ((1 : Fin SR.rank).cast h.symm) else 0).sum = q * 16384 := by
  have : q = 0 ∨ q = 1 ∨ q = 2 ∨ q = 3 := by omega
  rcases this with rfl | rfl | rfl | rfl <;> simp

/-- The token rows once for each choice, read at an assignment: the row of its token. -/
theorem rows_at (u : SI → BitVec 32) (h) (k : SR.Idx) :
    concatenate SR 1 [⟨S4x16384x128, u⟩, ⟨S4x16384x128, u⟩, ⟨S4x16384x128, u⟩, ⟨S4x16384x128, u⟩] h k = tokAt (Val := Elt F) u (k 0) (k 1).val (k 2) := by
  have hk : (k 1).val < 65536 := (k 1).isLt
  refine concatenate_apply_piece 1 _ h k ((k 1).val / 16384) ?_ S4x16384x128 u ?_ rfl ((k 1).val / 16384 * 16384) ?_
    (ix3 (k 0) ⟨(k 1).val % 16384, Nat.mod_lt _ (by decide)⟩ (k 2)) ?_ ?_
  · show (k 1).val / 16384 < 4
    omega
  · exact four_get _ (by show (k 1).val / 16384 < 4; omega)
  · exact four_sum u _ (by omega)
  · intro b hb
    match b with
    | ⟨0, _⟩ => rfl
    | ⟨1, _⟩ => exact absurd rfl hb
    | ⟨2, _⟩ => rfl
  · show (k 1).val / 16384 * 16384 + (k 1).val % 16384 = (k 1).val
    omega

/-- Where an update goes, in naturals: by the tables. -/
theorem lands_row {sl : S65536.Idx → BitVec 32} (hsm : ∀ a : Fin 65536, (sl (ix1 a)).toNat < 73728)
    (d : ScatterDims S4x73728x128 SW SR) (hu : d.updateWindowDims = [0, 2]) (hi : d.insertedWindowDims = [1]) (hs : d.scatterDimsToOperandDims = [1])
    (hv : d.indexVectorDim = 1) (h h') (k : SR.Idx) (y : XI) :
    d.resultIdx? k (wrapped sl h h') = some y ↔ (k 0).val = (y 0).val ∧ (sl (ix1 (k 1 : Fin 65536))).toNat = (y 1).val ∧ (k 2).val = (y 2).val := by
  refine (lands d hu hi hs hv _ k y).trans (and_congr_right fun _ => and_congr_left fun _ => ?_)
  have e : (wrapped sl h h' (ix2 (k 1 : Fin 65536) (0 : Fin 1))).toInt = ((sl (ix1 (k 1 : Fin 65536))).toNat : Int) :=
    (congrArg BitVec.toInt (wrapped_at hsm h h' (k 1) 0)).trans (toInt_small (hsm _))
  rw [e]
  exact Int.natCast_inj

theorem asg_lt {n : ℕ} (h : n < 65536) : asg n < 65536 := by unfold asg; omega
theorem asg_mod (n : ℕ) (h : n < 65536) : asg n % 16384 = n / 2048 * 512 + n % 2048 / 4 := by unfold asg; omega
theorem asg_split (t j k : ℕ) (hj : j < 512) (hk : k < 4) : asg (t * 2048 + j * 4 + k) = k * 16384 + (t * 512 + j) := by
  unfold asg
  rw [show (t * 2048 + j * 4 + k) % 4 = k by omega, show (t * 2048 + j * 4 + k) / 2048 = t by omega, show (t * 2048 + j * 4 + k) % 2048 / 4 = j by omega]
theorem asg_inj {n m : ℕ} (hn : n < 65536) (hm : m < 65536) (h : asg n = asg m) : n = m := by
  have dn : n = n / 2048 * 2048 + n % 2048 / 4 * 4 + n % 4 := by omega
  have dm : m = m / 2048 * 2048 + m % 2048 / 4 * 4 + m % 4 := by omega
  rw [dn, dm, asg_split _ _ _ (by omega) (by omega), asg_split _ _ _ (by omega) (by omega)] at h
  omega
/-- Every assignment is some copy's. -/
theorem asg_surj (a : ℕ) (h : a < 65536) : ∃ n, n < 65536 ∧ asg n = a :=
  ⟨a % 16384 / 512 * 2048 + a % 512 * 4 + a / 16384, by omega, by rw [asg_split _ _ _ (by omega) (by omega)]; omega⟩

theorem slotAt_eq (sl : S65536.Idx → BitVec 32) {n : ℕ} (h : n < 65536) : slotAt sl n = (sl (ix1 ⟨asg n, asg_lt h⟩)).toNat := by
  unfold slotAt slotWord
  exact congrArg (fun i => (sl (ix1 i)).toNat) (Fin.ext (Nat.mod_eq_of_lt (asg_lt h)))

theorem plan_of {sl : S65536.Idx → BitVec 32} {pb : S288.Idx → BitVec 32} (T : Tables sl pb) (u : SI → BitVec 32)
    (d : ScatterDims S4x73728x128 SW SR) (hu : d.updateWindowDims = [0, 2]) (hi : d.insertedWindowDims = [1]) (hs : d.scatterDimsToOperandDims = [1])
    (hv : d.indexVectorDim = 1) (z : XI → BitVec 32) (hz : ∀ y, z y = 0#32) (h h' hc) :
    Plan (F := F) sl pb u (Host.scatter d (fun _ b => b) z (wrapped sl h h')
      (concatenate SR 1 [⟨S4x16384x128, u⟩, ⟨S4x16384x128, u⟩, ⟨S4x16384x128, u⟩, ⟨S4x16384x128, u⟩] hc)) where
  range n hn := by rw [slotAt_eq sl hn]; exact T.small _
  inj n m hn hm e := by
    rw [slotAt_eq sl hn, slotAt_eq sl hm] at e
    exact asg_inj hn hm (congrArg Fin.val (T.inj _ _ e))
  hit n hn y hy := by
    rw [slotAt_eq sl hn] at hy
    have h1 : (y 1).val = (sl (ix1 ⟨asg n, asg_lt hn⟩)).toNat := hy
    refine scatter_set_hit d z _ _ y _ (fun k hk => ?_) (ix3 (y 0 : Fin 4) (⟨asg n, asg_lt hn⟩ : Fin 65536) (y 2 : Fin 128))
      ((lands_row T.small d hu hi hs hv h h' _ y).2 ⟨rfl, h1.symm, rfl⟩)
    obtain ⟨k0, k1, k2⟩ := (lands_row T.small d hu hi hs hv h h' k y).1 hk
    have ka : (k 1 : Fin 65536) = ⟨asg n, asg_lt hn⟩ := T.inj _ _ (k1.trans h1)
    refine (rows_at (F := F) u hc k).trans ?_
    unfold tokAt
    refine congrArg u (funext fun b => ?_)
    match b with
    | ⟨0, _⟩ => exact Fin.ext k0
    | ⟨1, _⟩ => exact Fin.ext ((congrArg (fun i : Fin 65536 => i.val % 16384) ka).trans ((asg_mod n hn).trans (by show _ = _ % 16384; omega)))
    | ⟨2, _⟩ => exact Fin.ext k2
  miss y hy := by
    have hno : ∀ a : Fin 65536, (sl (ix1 a)).toNat ≠ (y 1).val := fun a => by
      obtain ⟨n, hn, e⟩ := asg_surj a.val a.isLt
      have := hy n hn
      rw [slotAt_eq sl hn] at this
      exact fun q => this ((congrArg (fun i => (sl (ix1 i)).toNat) (Fin.ext e)).trans q)
    refine ⟨T.cover (y 1) hno, ?_⟩
    exact (scatter_set_miss d z _ _ y fun k hk => hno _ ((lands_row T.small d hu hi hs hv h h' k y).1 hk).2.1).trans (hz y)

/-! ### The precondition -/

/-- A table strictly increasing from each position to the next is strictly increasing. -/
theorem strict_of_next {n : ℕ} (f : Fin (n + 1) → Int) (h : ∀ i : Fin n, f i.castSucc < f i.succ) : StrictMono f := Fin.strictMono_iff_lt_succ.2 h

/-- A row that no index word names is not counted as taken. -/
theorem taken_zero {sl : S65536.Idx → BitVec 32} (hsm : ∀ a : Fin 65536, (sl (ix1 a)).toNat < 73728)
    (d : ScatterDims ⟨1, ![73728]⟩ SW S65536) (hi : d.insertedWindowDims = [0]) (hs : d.scatterDimsToOperandDims = [0]) (hu : d.updateWindowDims = [])
    (hv : d.indexVectorDim = 1) {z : (⟨1, ![73728]⟩ : Shape).Idx → BitVec 32} {upd : S65536.Idx → BitVec 32} (hz : ∀ y, z y = 0#32) (h h') (y : Fin 73728) (hy : ∀ a : Fin 65536, (sl (ix1 a)).toNat ≠ y.val) :
    Host.scatter d (fun _ b => b) z (wrapped sl h h') upd (ix1 y) = 0#32 := by
  obtain ⟨du, di, ds, dv, wf⟩ := d
  subst hu hi hs hv
  refine (scatter_set_miss _ z _ _ (ix1 y) fun k hk => ?_).trans (hz _)
  have h0 := (resultIdx?_ix1 _ _ _ _).1 hk
  have e1 : (ScatterDims.mk (s := ⟨1, ![73728]⟩) (si := SW) (u := S65536) [] [0] [0] 1 wf).start k (wrapped sl h h') 0 = (wrapped sl h h' (ix2 (k 0 : Fin 65536) (0 : Fin 1))).toInt := by
    refine congrArg (fun i => (wrapped sl h h' i).toInt) (funext fun b => ?_)
    match b with
    | ⟨0, _⟩ => rfl
    | ⟨1, _⟩ => rfl
  have w1 : (ScatterDims.mk (s := ⟨1, ![73728]⟩) (si := SW) (u := S65536) [] [0] [0] 1 wf).window k 0 = 0 := rfl
  rw [e1, w1] at h0
  have e : (wrapped sl h h' (ix2 (k 0 : Fin 65536) (0 : Fin 1))).toInt = ((sl (ix1 (k 0 : Fin 65536))).toNat : Int) :=
    (congrArg BitVec.toInt (wrapped_at hsm h h' (k 0) 0)).trans (toInt_small (hsm _))
  rw [e] at h0
  exact hy (k 0) (by omega)

theorem tables_of (sl : S65536.Idx → BitVec 32) (pb : S288.Idx → BitVec 32) (u : SI → BitVec 32)
    (e : Cert.Pre_planned.fn (F := F) sl pb u = fun _ => 1#1) : Tables sl pb := by
  have e0 := congrFun e (Shape.Idx.first Cert.Pre_planned.Facts.h_S_)
  dsimp only [Cert.Pre_planned.fn, Cert.Pre_planned.fn_part1] at e0
  haveI : Subsingleton Cert.Pre_planned.S_.Idx := ⟨fun a b => funext fun i => i.elim0⟩
  obtain ⟨e1, ec⟩ := IntOp.andi_eq_one.1 e0
  obtain ⟨ea, eb⟩ := IntOp.andi_eq_one.1 e1
  have hr : ∀ a : Fin 65536, (sl (ix1 a)).toNat < 73728 := fun a => by
    obtain ⟨h1, h2⟩ := IntOp.andi_eq_one.1 (Host.reduce_andi_all _ _ _ _ _ ea (ix1 a))
    have h1' : (0#32 : BitVec 32).toInt ≤ (sl (ix1 a)).toInt := IntOp.cmpi_sge.1 h1
    have h2' : (sl (ix1 a)).toInt < (73728#32 : BitVec 32).toInt := IntOp.cmpi_slt.1 h2
    rw [show (0#32 : BitVec 32).toInt = 0 by decide] at h1'
    rw [show (73728#32 : BitVec 32).toInt = 73728 by decide] at h2'
    have := (sl (ix1 a)).isLt
    rw [BitVec.toInt_eq_toNat_cond] at h1' h2'
    split at h1' <;> omega
  have hsort : StrictMono fun k : Fin (65535 + 1) => (Host.sort (⟨1, ![65536]⟩ : Shape) 0 Cert.Pre_planned.comparator_i32_d0 sl (Shape.Idx.ofFin k)).toInt :=
    strict_of_next _ fun i => by
      have := IntOp.cmpi_slt.1 (Host.reduce_andi_all _ _ _ _ _ eb (ix1 i))
      refine lt_of_eq_of_lt ?_ (lt_of_lt_of_eq this ?_)
      · refine congrArg (fun j => (Host.sort (⟨1, ![65536]⟩ : Shape) 0 Cert.Pre_planned.comparator_i32_d0 sl j).toInt) (funext fun b => Fin.ext ?_)
        obtain rfl : b = 0 := Subsingleton.elim _ _
        show i.val = 0 + i.val
        omega
      · refine congrArg (fun j => (Host.sort (⟨1, ![65536]⟩ : Shape) 0 Cert.Pre_planned.comparator_i32_d0 sl j).toInt) (funext fun b => Fin.ext ?_)
        obtain rfl : b = 0 := Subsingleton.elim _ _
        show 1 + i.val = i.val + 1
        omega
  have hword : ∀ k : Fin 65536, ∃ a : Fin 65536, Host.sort (⟨1, ![65536]⟩ : Shape) 0 Cert.Pre_planned.comparator_i32_d0 sl (Shape.Idx.ofFin k) = sl (ix1 a) := fun k => by
    rw [Host.sort_rank1]
    exact ⟨_, congrArg sl ((Shape.Idx.eq_ofFin (ix1 _)).symm)⟩
  have hinj : Function.Injective fun j : S65536.Idx => (sl j).toNat := injective_toNat_of_sort_strict Cert.Pre_planned.comparator_i32_d0 sl fun k k' hk => by
    have h := hsort (show (k : Fin (65535 + 1)) < k' from hk)
    obtain ⟨a, ha⟩ := hword k
    obtain ⟨b, hb⟩ := hword k'
    simp only at h
    rw [ha, hb, toInt_small (hr a), toInt_small (hr b)] at h
    rw [ha, hb]
    omega
  refine ⟨hr, fun a b h => congrFun (hinj h) 0, fun y hy => ?_⟩
  have hy256 : y.val / 256 < 288 := by omega
  rcases IntOp.ori_eq_one.1 (Host.reduce_andi_all _ _ _ _ _ ec (ix2 (⟨y.val / 256, hy256⟩ : Fin 288) (⟨y.val % 256, by omega⟩ : Fin 256))) with h | h
  · have h1 := IntOp.cmpi_eq.1 h
    have hc := (shapeCast_apply _ Cert.Pre_planned.Facts.shapeCasts_S73728_S288x256 (ix2 (⟨y.val / 256, hy256⟩ : Fin 288) (⟨y.val % 256, by omega⟩ : Fin 256)) (ix1 y) ?_).symm.trans h1
    · exact absurd (show (0#32 : BitVec 32) = 1#32 from (taken_zero hr Cert.Pre_planned.scatter_S73728_S65536x1_S65536_n_0_0_1 rfl rfl rfl rfl (fun _ => rfl) _ _ y hy).symm.trans hc) (by decide)
    · rw [Shape.rowMajor_val_one, Shape.rowMajor_val_two]
      show y.val = y.val / 256 * 256 + y.val % 256
      omega
  · have h1 := (broadcastInDim_apply _ _ _ _ (ix2 (⟨y.val / 256, hy256⟩ : Fin 288) (0 : Fin 1)) ?_).symm.trans h
    · have h2 := IntOp.cmpi_ne.1 h1
      have h3 := (broadcastInDim_apply _ Cert.Pre_planned.Facts.bcast_S288_S288x1_0 pb (ix2 (⟨y.val / 256, hy256⟩ : Fin 288) (0 : Fin 1)) (ix1 (⟨y.val / 256, hy256⟩ : Fin 288)) ?_)
      · rw [h3] at h2
        have hp : padWord pb (y.val / 256) = pb (ix1 (⟨y.val / 256, hy256⟩ : Fin 288)) := congrArg (fun i => pb (ix1 i)) (Fin.ext (Nat.mod_eq_of_lt hy256))
        rw [hp]
        exact h2
      · intro b
        obtain rfl : b = 0 := Subsingleton.elim _ _
        exact (if_neg (by decide)).symm
    · intro b
      match b with
      | ⟨0, _⟩ => exact (if_neg (show ¬ (288 : ℕ) = 1 by decide)).symm
      | ⟨1, _⟩ => exact (if_pos rfl).symm

end Cert.KernelIdeal.Dispatch
-- ==== Proof.Words.lean ====
/- The experts' tables: which expert each row block is for, which expert comes after it, and the offsets and the conditions a
   grid point computes of them. -/
module

public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Batch
public import Idealize.ShloMosaic.Lib.Ring
public import Idealize.ShloMosaic.Lib.ValueLayout
public import Idealize.ShloMosaic.Lib.VecWindow
public import Idealize.ShloMosaic.Lib.Pipeline.FrameValue

@[expose] public section

noncomputable section

namespace Cert.ExpertsIdeal.Experts

open Idealize.ShloMosaic Idealize.ShloMosaic.ValueIdx Cert.ExpertsIdeal Cert.ExpertsIdeal.Gen

variable {F : FTy → Type} [FloatOps F]

/-- The grid point. -/
abbrev pt (t : Fin grid0.N) : grid0.Coords := grid0.coords t

theorem lt288 (t : Fin grid0.N) : t.val < 288 := lt_of_lt_of_eq t.isLt N_0

/-- The word of block `i` in a table of the row blocks. -/
def word (f : S288.Idx → BitVec 32) (i : ℕ) : BitVec 32 := f (ix1 ⟨i % 288, Nat.mod_lt _ (by decide)⟩)
/-- The number of row blocks in use. -/
def used (f : S1.Idx → BitVec 32) : BitVec 32 := f (ix1 ⟨0, by decide⟩)

/-- An expert follows. -/
abbrev live (w : BitVec 32) : Prop := k0_cond3 w = 1#1

/-- The tables' chain: every block's expert is one of the 32; the expert after a block's is the next block's, unless that is
    the block's own, in which case it is the one after the next block's; nothing follows the last block's. -/
structure Chain (be nx : S288.Idx → BitVec 32) : Prop where
  range : ∀ i, i < 288 → (word be i).toNat < 32
  next : ∀ i, i + 1 < 288 → word nx i = if word be (i + 1) = word be i then word nx (i + 1) else word be (i + 1)
  last : ¬ live (word nx 287)

theorem Chain.next_lt {be nx : S288.Idx → BitVec 32} (C : Chain be nx) : ∀ k, k < 288 → live (word nx (287 - k)) → (word nx (287 - k)).toNat < 32 := by
  intro k
  induction k with
  | zero => exact fun _ h => absurd h C.last
  | succ k ih =>
    intro hk h
    have e := C.next (287 - (k + 1)) (by omega)
    rw [show 287 - (k + 1) + 1 = 287 - k by omega] at e
    by_cases hb : word be (287 - k) = word be (287 - (k + 1))
    · rw [if_pos hb] at e
      rw [e] at h ⊢
      exact ih (by omega) h
    · rw [if_neg hb] at e
      rw [e]
      exact C.range _ (by omega)

theorem Chain.next_range {be nx : S288.Idx → BitVec 32} (C : Chain be nx) {i : ℕ} (hi : i < 288) (h : live (word nx i)) : (word nx i).toNat < 32 := by
  have := C.next_lt (287 - i) (by omega)
  rw [show 287 - (287 - i) = i by omega] at this
  exact this h

theorem pt_val : ∀ t : Fin grid0.N, ((pt t) 0).val = t.val := by decide +kernel
theorem off1_eq (t : Fin grid0.N) : k0_off1 (pt t) = ![t.val] := by rw [k0_off1_eq, pt_val]
theorem off2_eq : ∀ t : Fin grid0.N, k0_off2 (pt t) = ![t.val - 1] := by decide +kernel
theorem off7_eq (t : Fin grid0.N) : k0_off7 (pt t) = ![t.val] := by rw [k0_off7_eq, pt_val]
theorem off8_eq (t : Fin grid0.N) : k0_off8 (pt t) = ![t.val] := by rw [k0_off8_eq, pt_val]
theorem cond1_iff : ∀ t : Fin grid0.N, k0_cond1 (pt t) = 1#1 ↔ t.val = 0 := by decide +kernel

theorem cond2_iff (t : Fin grid0.N) (v w : BitVec 32) : k0_cond2 (pt t) v w = 1#1 ↔ t.val = 0 ∨ v ≠ w := by
  have e : ∀ t : Fin grid0.N, Scalar.cmpi .eq (BitVec.ofNat 32 ((pt t) 0).val) 0#32 = BitVec.ofBool (decide (t.val = 0)) := by decide +kernel
  unfold k0_cond2
  dsimp only
  rw [e t]
  have e2 : Scalar.cmpi .ne v w = BitVec.ofBool (decide (v ≠ w)) := by
    show BitVec.ofBool (v != w) = _
    congr 1
    by_cases h : v = w
    · simp [h]
    · simp [h, bne_iff_ne]
  rw [e2]
  by_cases h : t.val = 0 <;> by_cases h' : v = w <;> simp [h, h'] <;> decide

theorem cond5_iff (t : Fin grid0.N) (n : BitVec 32) : k0_cond5 (pt t) n = 1#1 ↔ ¬ k0_cond4 (pt t) n = 1#1 := by
  unfold k0_cond5 k0_cond4
  dsimp only
  have e4 : Scalar.cmpi .slt (BitVec.ofNat 32 ((pt t) 0).val) n = BitVec.ofBool ((BitVec.ofNat 32 ((pt t) 0).val).slt n) := rfl
  have e5 : Scalar.cmpi .sge (BitVec.ofNat 32 ((pt t) 0).val) n = BitVec.ofBool (!(BitVec.ofNat 32 ((pt t) 0).val).slt n) := by
    show BitVec.ofBool (n.sle (BitVec.ofNat 32 ((pt t) 0).val)) = _
    congr 1
    rw [BitVec.sle_eq_not_slt]
  rw [e4, e5]
  cases (BitVec.ofNat 32 ((pt t) 0).val).slt n <;> decide

end Cert.ExpertsIdeal.Experts
end
-- ==== Proof.Slabs.lean ====
/- The experts' weights: which elements one expert's are, and the copies that bring them into the scratch buffers. -/
module

public import proofs.«01_k».proof.Proof.Words

@[expose] public section

noncomputable section

namespace Cert.ExpertsIdeal.Experts

open Idealize.ShloMosaic Idealize.ShloMosaic.ValueIdx Cert.ExpertsIdeal Cert.ExpertsIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- The programs of the body. -/
abbrev Pg (F : FTy → Type) : Type 1 := Prog (TpuEff nD τ sig (Elt F) Λ₀ .tc) PUnit

theorem lift_eq {α : Type} (e : TpuEff nD τ sig (Elt F) Λ₀ .tc α) : Prog.lift e = .op e .ret := rfl
theorem op_bind {X α β : Type} (e : TpuEff nD τ sig (Elt F) Λ₀ .tc X) (k : X → Prog (TpuEff nD τ sig (Elt F) Λ₀ .tc) α) (K : α → Prog (TpuEff nD τ sig (Elt F) Λ₀ .tc) β) :
    Prog.op e k >>= K = .op e (fun x => k x >>= K) := rfl
theorem ret_bind {α β : Type} (a : α) (K : α → Prog (TpuEff nD τ sig (Elt F) Λ₀ .tc) β) : Prog.ret a >>= K = K a := rfl
theorem pure_eq {α : Type} (a : α) : (Pure.pure a : Prog (TpuEff nD τ sig (Elt F) Λ₀ .tc) α) = .ret a := rfl
theorem word_bind {s : Shape} {m : Memref sig .tc .smem s .i32} {r : Rect s} {h : (m.access r).Loads} {x : r.shape.Idx} {α β : Type}
    (k : Elt F .i32 → Prog (TpuEff nD τ sig (Elt F) Λ₀ .tc) α) (K : α → Prog (TpuEff nD τ sig (Elt F) Λ₀ .tc) β) :
    smemLoadElt m r h x k >>= K = smemLoadElt m r h x (fun w => k w >>= K) := rfl

variable (c : Dev nD) (𝒱 : Variants) (bd : Option 𝒱.V)

abbrev cell (s : DmaSem sig) : sProp 𝕄 := semVal ((c : Thread nD τ), SemLoc.dma s) 0
abbrev owe : sProp 𝕄 := iprop(∃ W, owes (c : Thread nD τ) 0 W)

/-! ### The weights of layer 1 -/

abbrev W1I := S32x1024x2048.Idx
abbrev B1I := S1024x2048.Idx
/-- Expert `e`'s weights. -/
def slab1 (e : ℕ) : Finset W1I := Finset.univ.filter fun y => (y 0).val = e
theorem mem_slab1 {e : ℕ} {y : W1I} : y ∈ slab1 e ↔ (y 0).val = e := by simp [slab1]
/-- Expert `e`'s weights as a matrix. -/
def sheet1 (w : W1I → F .f32) (e : ℕ) : B1I → F .f32 := fun y => w (ix3 ⟨e % 32, Nat.mod_lt _ (by decide)⟩ (y 0) (y 1))

abbrev srcM1 (off : Fin 3 → ℕ) (inb : ∀ a, off a + S1x1024x2048.size a ≤ S32x1024x2048.size a) : Memref sig .tc .hbm S1024x2048 .f32 :=
  ((Memref.whole main_arg4).slice (Rect.unit (s := S32x1024x2048) off S1x1024x2048.size inb) (fun _ => rfl)).squeeze S1024x2048 squeezes_S1x1024x2048_S1024x2048
abbrev dstM1 : Memref sig .tc .vmem S1024x2048 .f32 := Memref.whole cc0_scratch0

theorem set_slab1 {e : ℕ} {off : Fin 3 → ℕ} (h : off = ![e, 0, 0]) (inb : ∀ a, off a + S1x1024x2048.size a ≤ S32x1024x2048.size a) :
    (Rect.unit (s := S32x1024x2048) off S1x1024x2048.size inb).set = slab1 e := by
  subst h; ext y
  rw [Rect.mem_set_unit, mem_slab1]
  have h1 : (y 1).val < 1024 := (y 1).isLt
  have h2 : (y 2).val < 2048 := (y 2).isLt
  constructor
  · intro h
    have e0 : e ≤ (y 0).val ∧ (y 0).val < e + 1 := h 0
    omega
  · intro h a
    match a with
    | 0 => exact ⟨by show e ≤ (y 0).val; omega, by show (y 0).val < e + 1; omega⟩
    | 1 => exact ⟨Nat.zero_le _, by show (y 1).val < 0 + 1024; omega⟩
    | 2 => exact ⟨Nat.zero_le _, by show (y 2).val < 0 + 2048; omega⟩

theorem read_slab1 {e : ℕ} (he : e < 32) {off : Fin 3 → ℕ} (h : off = ![e, 0, 0]) (inb : ∀ a, off a + S1x1024x2048.size a ≤ S32x1024x2048.size a)
    (w : W1I → F .f32) (y : B1I) : ((srcM1 off inb).view.read (Elt F) w y : F .f32) = sheet1 w e y := by
  subst h
  obtain ⟨p, q, rfl⟩ : ∃ p q, y = ix2 p q := ⟨y 0, y 1, by funext a; match a with | 0 => rfl | 1 => rfl⟩
  show w ((Rect.unit (s := S32x1024x2048) _ S1x1024x2048.size inb).emb (Shape.reshapeEquiv _ (ix2 p q))) = _
  erw [reshapeEquiv_ix2_1ab]
  unfold sheet1
  congr 1
  funext a
  apply Fin.ext
  rw [Rect.emb_apply]
  match a with
  | 0 => show e + 1 * 0 = e % 32; omega
  | 1 => show 0 + 1 * p.val = p.val; omega
  | 2 => show 0 + 1 * q.val = q.val; omega

/-- The completion cell of the copies of layer 1's weights, and what one credits it. -/
def cell1S : DmaSem sig := ⟨8, by decide⟩
def len1 : ℕ := cc0_scratch0.dmaCredit S1024x2048 .f32
theorem len1_pos : 0 < len1 := by unfold len1; decide +kernel
abbrev semM1 : DmaSem sig := ((cc0_scratch4.slice (Rect.unit (s := S2) ![0] S1.size inb_S2_S1_0)).squeeze S_ squeezes_S1_S_).sem
theorem sem1_eq : semM1 = cell1S := Fin.ext (by decide +kernel)

abbrev W1 (S : Finset W1I) (w : W1I → F .f32) : sProp 𝕄 := ((c : Thread nD τ).loc main_arg4) ↦[S]{fullShare} w
abbrev B1 (f : B1I → F .f32) : sProp 𝕄 := ((c : Thread nD τ).loc cc0_scratch0) ↦{fullShare} f

/-- What the copy of expert `e`'s weights delivers. -/
def fetch1D (w : W1I → F .f32) (e : ℕ) (_ : Fin 1) : sProp 𝕄 := iprop(B1 (F := F) c (sheet1 w e) ∗ W1 (F := F) c (slab1 e) w)
instance fetch1D_storable (w : W1I → F .f32) (e : ℕ) (j : Fin 1) : BI.Storable (upEmb : UEmb _ 𝕄) (fetch1D (F := F) c w e j) := by
  unfold fetch1D; infer_instance
abbrev fetch1 (w : W1I → F .f32) (e : ℕ) : sProp 𝕄 :=
  Transfers.Batch (countersEmb (U := UD sig nD τ)) (c : Thread nD τ) (.dma cell1S) () len1 (fetch1D (F := F) c w e) 1 0

/-- The buffer free, all the weights at hand. -/
def free1 (w : W1I → F .f32) : sProp 𝕄 := iprop(cell (F := F) c cell1S ∗ (∃ f, B1 (F := F) c f) ∗ W1 (F := F) c Finset.univ w)
/-- Expert `e`'s weights on their way. -/
def coming1 (w : W1I → F .f32) (e : ℕ) : sProp 𝕄 := iprop(fetch1 (F := F) c w e ∗ W1 (F := F) c (Finset.univ \ slab1 e) w)
/-- Expert `e`'s weights there. -/
def there1 (w : W1I → F .f32) (e : ℕ) : sProp 𝕄 := iprop(cell (F := F) c cell1S ∗ B1 (F := F) c (sheet1 w e) ∗ W1 (F := F) c Finset.univ w)

theorem wp_send1 (w : W1I → F .f32) {e : ℕ} (he : e < 32) {off : Fin 3 → ℕ} (h : off = ![e, 0, 0]) (inb : ∀ a, off a + S1x1024x2048.size a ≤ S32x1024x2048.size a)
    {hsrc : (srcM1 off inb).view.WordExact} {hdst : dstM1.view.WordExact}
    {hsem : DmaTarget.Typed (nD := nD) (p := .tc) .hbm (.dma semM1) (.here dstM1)}
    {α : Type} {K : PUnit → Prog (TpuEff nD τ sig (Elt F) Λ₀ .tc) α} {Q : α → sProp 𝕄} :
    free1 (F := F) c w
      ⊢ iprop((coming1 (F := F) c w e -∗ wp frame (wpE defs₀ 𝒱 (c : Thread nD τ) bd) Set.univ (K ⟨⟩) Q)
          -∗ wp frame (wpE defs₀ 𝒱 (c : Thread nD τ) bd) Set.univ
            (.op (.enqueueDma (srcM1 off inb) (.here dstM1) (.dma semM1) hsrc hdst hsem) K) Q) := by
  have hset : (srcM1 off inb).view.set = slab1 e := (View.set_reshape _ _).trans ((View.set_slice_whole _ _).trans (set_slab1 h inb))
  unfold free1 coming1
  iintro ⟨Hc, ⟨%f, HB⟩, HW⟩ HK
  ihave HW := (pointsTo_split_subset (ℓ := (c : Thread nD τ).loc main_arg4) (Finset.subset_univ (slab1 e))).1 $$ HW
  icases HW with ⟨Hs, HW⟩
  imod (Transfers.batch_alloc' (countersEmb (U := UD sig nD τ)) (c : Thread nD τ) () len1 (fetch1D (F := F) c w e) (E := Set.univ)) $$ Hc with HT
  iapply (Transfers.wp_dmaBatch (countersEmb (U := UD sig nD τ)) 𝒱 (c : Thread nD τ) bd (defs := defs₀)
    (src := srcM1 off inb) (via := .same) (dst := dstM1)
    (Sd := Finset.univ) (fd := f) (fs := w) (q := fullShare)
    (D := fetch1D (F := F) c w e) (j := 0) (u := 0) () len1 rfl (Finset.subset_univ _) (Nat.one_pos) (Nat.zero_le _) ?hD) $$ [HB Hs HT]
  case hD =>
    unfold fetch1D
    rw [hset]
    iintro ⟨Hd, Hs⟩
    isplitl [Hd]
    · iapply (Entails.of_eq (pointsTo_congr (ℓ := (c : Thread nD τ).loc cc0_scratch0) (fun y _ => ?_))) $$ Hd
      refine Eq.trans (congrFun (View.write_whole_univ (Val := Elt F) cc0_scratch0 f _) y) ?_
      exact read_slab1 he h inb w y
    · iexact Hs
  · isplitl [Hs]
    · rw [hset]; iexact Hs
    isplitl [HB]; · iexact HB
    rw [sem1_eq]
    iexact HT
  iintro HT
  iapply HK
  rw [sem1_eq]
  isplitl [HT]; · iexact HT
  iexact HW

theorem wp_await1 (w : W1I → F .f32) {e : ℕ} {off : Fin 3 → ℕ} (inb : ∀ a, off a + S1x1024x2048.size a ≤ S32x1024x2048.size a)
    {hsrc : (srcM1 off inb).view.WordExact} {hdst : dstM1.view.WordExact}
    {α : Type} {K : PUnit → Prog (TpuEff nD τ sig (Elt F) Λ₀ .tc) α} {Q : α → sProp 𝕄} :
    iprop(coming1 (F := F) c w e ∗ owe (F := F) c)
      ⊢ iprop((iprop(there1 (F := F) c w e ∗ owe (F := F) c) -∗ wp frame (wpE defs₀ 𝒱 (c : Thread nD τ) bd) Set.univ (K ⟨⟩) Q)
          -∗ wp frame (wpE defs₀ 𝒱 (c : Thread nD τ) bd) Set.univ (.op (.waitDma2 semM1 (srcM1 off inb) dstM1 hsrc hdst) K) Q) := by
  unfold coming1 there1
  iintro ⟨⟨HT, HW⟩, %W, HO⟩ HK
  rw [sem1_eq]
  iapply (Transfers.wp_waitBatchLast (countersEmb (U := UD sig nD τ)) 𝒱 (c : Thread nD τ) bd (defs := defs₀) () (N := len1) rfl len1_pos
    (D := fetch1D (F := F) c w e) (u := 0) (by rw [Nat.zero_add, Nat.mul_one])) $$ [HT HO]
  · isplitl [HT]; · iexact HT
    iexact HO
  iintro ⟨HD, Hc, HO⟩
  iapply HK
  have e1 : (bigSep Finset.univ (fetch1D (F := F) c w e) : sProp 𝕄) = fetch1D (F := F) c w e 0 := by
    rw [show (Finset.univ : Finset (Fin 1)) = {0} from by decide, bigSep_singleton]
  ihave HD := (Entails.of_eq e1) $$ HD
  unfold fetch1D
  icases HD with ⟨HB, Hs⟩
  isplitr [HO]
  · isplitl [Hc]; · iexact Hc
    isplitl [HB]; · iexact HB
    iapply (pointsTo_split_subset (ℓ := (c : Thread nD τ).loc main_arg4) (Finset.subset_univ (slab1 e))).2
    isplitl [Hs]; · iexact Hs
    iexact HW
  · iexists _; iexact HO

/-! ### The weights of layer 2 -/

abbrev W2I := S32x1024x1024.Idx
abbrev B2I := S1024x1024.Idx
/-- Expert `e`'s weights. -/
def slab2 (e : ℕ) : Finset W2I := Finset.univ.filter fun y => (y 0).val = e
theorem mem_slab2 {e : ℕ} {y : W2I} : y ∈ slab2 e ↔ (y 0).val = e := by simp [slab2]
/-- Expert `e`'s weights as a matrix. -/
def sheet2 (w : W2I → F .f32) (e : ℕ) : B2I → F .f32 := fun y => w (ix3 ⟨e % 32, Nat.mod_lt _ (by decide)⟩ (y 0) (y 1))

abbrev srcM2 (off : Fin 3 → ℕ) (inb : ∀ a, off a + S1x1024x1024.size a ≤ S32x1024x1024.size a) : Memref sig .tc .hbm S1024x1024 .f32 :=
  ((Memref.whole main_arg6).slice (Rect.unit (s := S32x1024x1024) off S1x1024x1024.size inb) (fun _ => rfl)).squeeze S1024x1024 squeezes_S1x1024x1024_S1024x1024
abbrev dstM2 : Memref sig .tc .vmem S1024x1024 .f32 := Memref.whole cc0_scratch1

theorem set_slab2 {e : ℕ} {off : Fin 3 → ℕ} (h : off = ![e, 0, 0]) (inb : ∀ a, off a + S1x1024x1024.size a ≤ S32x1024x1024.size a) :
    (Rect.unit (s := S32x1024x1024) off S1x1024x1024.size inb).set = slab2 e := by
  subst h; ext y
  rw [Rect.mem_set_unit, mem_slab2]
  have h1 : (y 1).val < 1024 := (y 1).isLt
  have h2 : (y 2).val < 1024 := (y 2).isLt
  constructor
  · intro h
    have e0 : e ≤ (y 0).val ∧ (y 0).val < e + 1 := h 0
    omega
  · intro h a
    match a with
    | 0 => exact ⟨by show e ≤ (y 0).val; omega, by show (y 0).val < e + 1; omega⟩
    | 1 => exact ⟨Nat.zero_le _, by show (y 1).val < 0 + 1024; omega⟩
    | 2 => exact ⟨Nat.zero_le _, by show (y 2).val < 0 + 1024; omega⟩

theorem read_slab2 {e : ℕ} (he : e < 32) {off : Fin 3 → ℕ} (h : off = ![e, 0, 0]) (inb : ∀ a, off a + S1x1024x1024.size a ≤ S32x1024x1024.size a)
    (w : W2I → F .f32) (y : B2I) : ((srcM2 off inb).view.read (Elt F) w y : F .f32) = sheet2 w e y := by
  subst h
  obtain ⟨p, q, rfl⟩ : ∃ p q, y = ix2 p q := ⟨y 0, y 1, by funext a; match a with | 0 => rfl | 1 => rfl⟩
  show w ((Rect.unit (s := S32x1024x1024) _ S1x1024x1024.size inb).emb (Shape.reshapeEquiv _ (ix2 p q))) = _
  erw [reshapeEquiv_ix2_1ab]
  unfold sheet2
  congr 1
  funext a
  apply Fin.ext
  rw [Rect.emb_apply]
  match a with
  | 0 => show e + 1 * 0 = e % 32; omega
  | 1 => show 0 + 1 * p.val = p.val; omega
  | 2 => show 0 + 1 * q.val = q.val; omega

/-- The completion cell of the copies of layer 2's weights, and what one credits it. -/
def cell2S : DmaSem sig := ⟨9, by decide⟩
def len2 : ℕ := cc0_scratch1.dmaCredit S1024x1024 .f32
theorem len2_pos : 0 < len2 := by unfold len2; decide +kernel
abbrev semM2 : DmaSem sig := ((cc0_scratch4.slice (Rect.unit (s := S2) ![1] S1.size inb_S2_S1_1)).squeeze S_ squeezes_S1_S_).sem
theorem sem2_eq : semM2 = cell2S := Fin.ext (by decide +kernel)

abbrev W2 (S : Finset W2I) (w : W2I → F .f32) : sProp 𝕄 := ((c : Thread nD τ).loc main_arg6) ↦[S]{fullShare} w
abbrev B2 (f : B2I → F .f32) : sProp 𝕄 := ((c : Thread nD τ).loc cc0_scratch1) ↦{fullShare} f

/-- What the copy of expert `e`'s weights delivers. -/
def fetch2D (w : W2I → F .f32) (e : ℕ) (_ : Fin 1) : sProp 𝕄 := iprop(B2 (F := F) c (sheet2 w e) ∗ W2 (F := F) c (slab2 e) w)
instance fetch2D_storable (w : W2I → F .f32) (e : ℕ) (j : Fin 1) : BI.Storable (upEmb : UEmb _ 𝕄) (fetch2D (F := F) c w e j) := by
  unfold fetch2D; infer_instance
abbrev fetch2 (w : W2I → F .f32) (e : ℕ) : sProp 𝕄 :=
  Transfers.Batch (countersEmb (U := UD sig nD τ)) (c : Thread nD τ) (.dma cell2S) () len2 (fetch2D (F := F) c w e) 1 0

/-- The buffer free, all the weights at hand. -/
def free2 (w : W2I → F .f32) : sProp 𝕄 := iprop(cell (F := F) c cell2S ∗ (∃ f, B2 (F := F) c f) ∗ W2 (F := F) c Finset.univ w)
/-- Expert `e`'s weights on their way. -/
def coming2 (w : W2I → F .f32) (e : ℕ) : sProp 𝕄 := iprop(fetch2 (F := F) c w e ∗ W2 (F := F) c (Finset.univ \ slab2 e) w)
/-- Expert `e`'s weights there. -/
def there2 (w : W2I → F .f32) (e : ℕ) : sProp 𝕄 := iprop(cell (F := F) c cell2S ∗ B2 (F := F) c (sheet2 w e) ∗ W2 (F := F) c Finset.univ w)

theorem wp_send2 (w : W2I → F .f32) {e : ℕ} (he : e < 32) {off : Fin 3 → ℕ} (h : off = ![e, 0, 0]) (inb : ∀ a, off a + S1x1024x1024.size a ≤ S32x1024x1024.size a)
    {hsrc : (srcM2 off inb).view.WordExact} {hdst : dstM2.view.WordExact}
    {hsem : DmaTarget.Typed (nD := nD) (p := .tc) .hbm (.dma semM2) (.here dstM2)}
    {α : Type} {K : PUnit → Prog (TpuEff nD τ sig (Elt F) Λ₀ .tc) α} {Q : α → sProp 𝕄} :
    free2 (F := F) c w
      ⊢ iprop((coming2 (F := F) c w e -∗ wp frame (wpE defs₀ 𝒱 (c : Thread nD τ) bd) Set.univ (K ⟨⟩) Q)
          -∗ wp frame (wpE defs₀ 𝒱 (c : Thread nD τ) bd) Set.univ
            (.op (.enqueueDma (srcM2 off inb) (.here dstM2) (.dma semM2) hsrc hdst hsem) K) Q) := by
  have hset : (srcM2 off inb).view.set = slab2 e := (View.set_reshape _ _).trans ((View.set_slice_whole _ _).trans (set_slab2 h inb))
  unfold free2 coming2
  iintro ⟨Hc, ⟨%f, HB⟩, HW⟩ HK
  ihave HW := (pointsTo_split_subset (ℓ := (c : Thread nD τ).loc main_arg6) (Finset.subset_univ (slab2 e))).1 $$ HW
  icases HW with ⟨Hs, HW⟩
  imod (Transfers.batch_alloc' (countersEmb (U := UD sig nD τ)) (c : Thread nD τ) () len2 (fetch2D (F := F) c w e) (E := Set.univ)) $$ Hc with HT
  iapply (Transfers.wp_dmaBatch (countersEmb (U := UD sig nD τ)) 𝒱 (c : Thread nD τ) bd (defs := defs₀)
    (src := srcM2 off inb) (via := .same) (dst := dstM2)
    (Sd := Finset.univ) (fd := f) (fs := w) (q := fullShare)
    (D := fetch2D (F := F) c w e) (j := 0) (u := 0) () len2 rfl (Finset.subset_univ _) (Nat.one_pos) (Nat.zero_le _) ?hD) $$ [HB Hs HT]
  case hD =>
    unfold fetch2D
    rw [hset]
    iintro ⟨Hd, Hs⟩
    isplitl [Hd]
    · iapply (Entails.of_eq (pointsTo_congr (ℓ := (c : Thread nD τ).loc cc0_scratch1) (fun y _ => ?_))) $$ Hd
      refine Eq.trans (congrFun (View.write_whole_univ (Val := Elt F) cc0_scratch1 f _) y) ?_
      exact read_slab2 he h inb w y
    · iexact Hs
  · isplitl [Hs]
    · rw [hset]; iexact Hs
    isplitl [HB]; · iexact HB
    rw [sem2_eq]
    iexact HT
  iintro HT
  iapply HK
  rw [sem2_eq]
  isplitl [HT]; · iexact HT
  iexact HW

theorem wp_await2 (w : W2I → F .f32) {e : ℕ} {off : Fin 3 → ℕ} (inb : ∀ a, off a + S1x1024x1024.size a ≤ S32x1024x1024.size a)
    {hsrc : (srcM2 off inb).view.WordExact} {hdst : dstM2.view.WordExact}
    {α : Type} {K : PUnit → Prog (TpuEff nD τ sig (Elt F) Λ₀ .tc) α} {Q : α → sProp 𝕄} :
    iprop(coming2 (F := F) c w e ∗ owe (F := F) c)
      ⊢ iprop((iprop(there2 (F := F) c w e ∗ owe (F := F) c) -∗ wp frame (wpE defs₀ 𝒱 (c : Thread nD τ) bd) Set.univ (K ⟨⟩) Q)
          -∗ wp frame (wpE defs₀ 𝒱 (c : Thread nD τ) bd) Set.univ (.op (.waitDma2 semM2 (srcM2 off inb) dstM2 hsrc hdst) K) Q) := by
  unfold coming2 there2
  iintro ⟨⟨HT, HW⟩, %W, HO⟩ HK
  rw [sem2_eq]
  iapply (Transfers.wp_waitBatchLast (countersEmb (U := UD sig nD τ)) 𝒱 (c : Thread nD τ) bd (defs := defs₀) () (N := len2) rfl len2_pos
    (D := fetch2D (F := F) c w e) (u := 0) (by rw [Nat.zero_add, Nat.mul_one])) $$ [HT HO]
  · isplitl [HT]; · iexact HT
    iexact HO
  iintro ⟨HD, Hc, HO⟩
  iapply HK
  have e1 : (bigSep Finset.univ (fetch2D (F := F) c w e) : sProp 𝕄) = fetch2D (F := F) c w e 0 := by
    rw [show (Finset.univ : Finset (Fin 1)) = {0} from by decide, bigSep_singleton]
  ihave HD := (Entails.of_eq e1) $$ HD
  unfold fetch2D
  icases HD with ⟨HB, Hs⟩
  isplitr [HO]
  · isplitl [Hc]; · iexact Hc
    isplitl [HB]; · iexact HB
    iapply (pointsTo_split_subset (ℓ := (c : Thread nD τ).loc main_arg6) (Finset.subset_univ (slab2 e))).2
    isplitl [Hs]; · iexact Hs
    iexact HW
  · iexists _; iexact HO

end Cert.ExpertsIdeal.Experts
end
-- ==== Proof.Block.lean ====
/- The experts' loads and stores, and the program of one row block phase by phase. -/
module

public import proofs.«01_k».proof.Proof.Slabs

@[expose] public section

noncomputable section

namespace Cert.ExpertsIdeal.Experts

open Idealize.ShloMosaic Idealize.ShloMosaic.ValueIdx Cert.ExpertsIdeal Cert.ExpertsIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

open Idealize.ShloMosaic.VecWindow (window put)

variable (c : Dev nD) (𝒱 : Variants) (bd : Option 𝒱.V)

/-! ### Loads and stores of a buffer's window -/

/-- A load reads a window of what the buffer holds. -/
theorem wp_ld {sp : CoreSpace} {s : Shape} {e : EltTy} {m : Memref sig .tc sp s e} {q : PosShare TreeShare} {X : s.Idx → Elt F e}
    {off size : Fin s.rank → ℕ} (inb : ∀ a, off a + size a ≤ s.size a) {hl : m.view.LoadsAt (Rect.unit off size inb).toLoadRect}
    {α : Type} {K : ((Rect.unit off size inb).shape.Idx → Elt F e) → Prog (TpuEff nD τ sig (Elt F) Λ₀ .tc) α} {Q : α → sProp 𝕄} :
    (owns (c : Thread nD τ) m q X : sProp 𝕄)
      ⊢ iprop((owns (c : Thread nD τ) m q X -∗ wp frame (wpE defs₀ 𝒱 (c : Thread nD τ) bd) Set.univ (K (window X off size inb)) Q)
          -∗ wp frame (wpE defs₀ 𝒱 (c : Thread nD τ) bd) Set.univ (.op (.load m (Rect.unit off size inb).toLoadRect hl) K) Q) := by
  unfold owns
  iintro ⟨%f, %hf, HP⟩ HK
  iapply (wp_load 𝒱 (c : Thread nD τ) bd Set.univ (defs := defs₀) (m := m) (S := m.view.set) (q := q) (f := f) (View.setOn_subset_set _ _)) $$ [HP]
  · iexact HP
  iintro HP
  rw [View.readAt_unit m.view f inb rfl inb, hf]
  iapply HK
  iexists f
  isplitr; · ipureintro; exact hf
  iexact HP

/-- A load of the whole buffer reads what it holds. -/
theorem wp_ldw {sp : CoreSpace} {s : Shape} {e : EltTy} {m : Memref sig .tc sp s e} {q : PosShare TreeShare} {X : s.Idx → Elt F e}
    {off : Fin s.rank → ℕ} (inb : ∀ a, off a + s.size a ≤ s.size a) {hl : m.view.LoadsAt (Rect.unit off s.size inb).toLoadRect}
    {α : Type} {K : (s.Idx → Elt F e) → Prog (TpuEff nD τ sig (Elt F) Λ₀ .tc) α} {Q : α → sProp 𝕄} :
    (owns (c : Thread nD τ) m q X : sProp 𝕄)
      ⊢ iprop((owns (c : Thread nD τ) m q X -∗ wp frame (wpE defs₀ 𝒱 (c : Thread nD τ) bd) Set.univ (K X) Q)
          -∗ wp frame (wpE defs₀ 𝒱 (c : Thread nD τ) bd) Set.univ (.op (.load m (Rect.unit off s.size inb).toLoadRect hl) K) Q) := by
  unfold owns
  iintro ⟨%f, %hf, HP⟩ HK
  iapply (wp_load 𝒱 (c : Thread nD τ) bd Set.univ (defs := defs₀) (m := m) (r := (Rect.unit off s.size inb).toLoadRect) (hl := hl) (k := K) (S := m.view.set) (q := q) (f := f) (View.setOn_subset_set _ _)) $$ [HP]
  · iexact HP
  iintro HP
  rw [View.readAt_full m.view f inb, hf]
  iapply HK
  iexists f
  isplitr; · ipureintro; exact hf
  iexact HP

/-- A store puts its payload over a window of what the buffer holds. -/
theorem wp_st {sp : CoreSpace} {s : Shape} {e : EltTy} {m : Memref sig .tc sp s e} {X : s.Idx → Elt F e}
    {off size : Fin s.rank → ℕ} (inb : ∀ a, off a + size a ≤ s.size a) {w : (Rect.unit off size inb).shape.Idx → Elt F e}
    {hx : (m.access (Rect.unit off size inb)).Stores Finset.univ} {hm : (Finset.univ : Finset (Rect.unit off size inb).shape.Idx) = Finset.univ ∨ ∀ a, (Rect.unit off size inb).stride a = 1}
    {α : Type} {K : PUnit → Prog (TpuEff nD τ sig (Elt F) Λ₀ .tc) α} {Q : α → sProp 𝕄} :
    (owns (c : Thread nD τ) m fullShare X : sProp 𝕄)
      ⊢ iprop((owns (c : Thread nD τ) m fullShare (put X off size w) -∗ wp frame (wpE defs₀ 𝒱 (c : Thread nD τ) bd) Set.univ (K ⟨⟩) Q)
          -∗ wp frame (wpE defs₀ 𝒱 (c : Thread nD τ) bd) Set.univ (.op (.store m (Rect.unit off size inb) w Finset.univ hx hm) K) Q) := by
  unfold owns
  iintro ⟨%f, %hf, HP⟩ HK
  iapply (wp_store 𝒱 (c : Thread nD τ) bd Set.univ (defs := defs₀) (m := m) (r := Rect.unit off size inb) (Mk := Finset.univ) (S := m.view.set) (f := f)
    ((View.setOn_subset_set _ _).trans (View.set_slice_subset _ _))) $$ [HP]
  · iexact HP
  iintro HP
  iapply HK
  iexists _
  isplitr
  rotate_left
  · iexact HP
  · ipureintro
    have e1 := View.read_writes_cons_put (Val := Elt F) m.view f inb w [] rfl
    rw [View.writes_nil, hf] at e1
    rw [← e1, View.writes_singleton]

/-- A store over the whole buffer leaves its payload. -/
theorem wp_stw {sp : CoreSpace} {s : Shape} {e : EltTy} {m : Memref sig .tc sp s e} {X : s.Idx → Elt F e}
    {off : Fin s.rank → ℕ} (inb : ∀ a, off a + s.size a ≤ s.size a) {w : s.Idx → Elt F e}
    {hx : (m.access (Rect.unit off s.size inb)).Stores Finset.univ} {hm : (Finset.univ : Finset (Rect.unit off s.size inb).shape.Idx) = Finset.univ ∨ ∀ a, (Rect.unit off s.size inb).stride a = 1}
    {α : Type} {K : PUnit → Prog (TpuEff nD τ sig (Elt F) Λ₀ .tc) α} {Q : α → sProp 𝕄} :
    (owns (c : Thread nD τ) m fullShare X : sProp 𝕄)
      ⊢ iprop((owns (c : Thread nD τ) m fullShare w -∗ wp frame (wpE defs₀ 𝒱 (c : Thread nD τ) bd) Set.univ (K ⟨⟩) Q)
          -∗ wp frame (wpE defs₀ 𝒱 (c : Thread nD τ) bd) Set.univ (.op (.store m (Rect.unit off s.size inb) w Finset.univ hx hm) K) Q) := by
  iintro HP HK
  iapply (wp_st (F := F) c 𝒱 bd inb) $$ HP
  iintro HP
  iapply HK
  have e1 : put X off s.size w = w := by
    funext y
    unfold put
    have hy : ∀ a, off a ≤ (y a).val ∧ (y a).val < off a + s.size a := fun a => by have := inb a; have := (y a).isLt; omega
    rw [dif_pos hy]
    congr 1
    funext a
    apply Fin.ext
    show (y a).val - off a = (y a).val
    have := inb a
    omega
  rw [e1]
  iexact HP

/-! ### The tables -/

abbrev BE (f : S288.Idx → BitVec 32) : sProp 𝕄 := ((c : Thread nD τ).loc main_arg0) ↦{fullShare.right} f
abbrev NX (f : S288.Idx → BitVec 32) : sProp 𝕄 := ((c : Thread nD τ).loc main_arg1) ↦{fullShare.right} f
abbrev NU (f : S1.Idx → BitVec 32) : sProp 𝕄 := ((c : Thread nD τ).loc main_arg2) ↦{fullShare.right} f

theorem block_read {a : ℕ} {off : Fin 1 → ℕ} (h : off = ![a]) (inb : ∀ x, off x + S1.size x ≤ S288.size x)
    (f : S288.Idx → BitVec 32) (x : S1.Idx) :
    (((Memref.whole main_arg0).access (Rect.unit (s := S288) off S1.size inb)).read (Elt F) f x : BitVec 32) = word f a := by
  subst h
  have hx : (x 0).val = 0 := by have := (x 0).isLt; have e : S1.size 0 = 1 := rfl; omega
  have hb : a + 1 ≤ 288 := inb 0
  show f ((Rect.unit (s := S288) _ S1.size inb).emb x) = _
  unfold word
  congr 1
  funext d
  apply Fin.ext
  rw [Rect.emb_apply]
  match d with
  | 0 => show a + 1 * (x 0).val = a % 288; omega

theorem wp_block {f : S288.Idx → BitVec 32} {a : ℕ} {off : Fin 1 → ℕ} (h : off = ![a]) (inb : ∀ x, off x + S1.size x ≤ S288.size x)
    {hw : ((Memref.whole main_arg0 : Memref sig .tc .smem S288 .i32).access (Rect.unit (s := S288) off S1.size inb)).Loads} {x : S1.Idx}
    {α : Type} {K : BitVec 32 → Prog (TpuEff nD τ sig (Elt F) Λ₀ .tc) α} {Q : α → sProp 𝕄} :
    (BE (F := F) c f : sProp 𝕄) ⊢ iprop((BE (F := F) c f -∗ wp frame (wpE defs₀ 𝒱 (c : Thread nD τ) bd) Set.univ (K (word f a)) Q)
      -∗ wp frame (wpE defs₀ 𝒱 (c : Thread nD τ) bd) Set.univ
        (smemLoadElt (Memref.whole main_arg0 : Memref sig .tc .smem S288 .i32) (Rect.unit (s := S288) off S1.size inb) hw x K) Q) := by
  iintro HS HK
  iapply (wp_smemLoadElt 𝒱 c bd Set.univ (defs := defs₀) (m := (Memref.whole main_arg0 : Memref sig .tc .smem S288 .i32)) (r := Rect.unit (s := S288) off S1.size inb)
    (x := x) (S := Finset.univ) (q := fullShare.right) (f := f) (Finset.subset_univ _)) $$ [HS]
  · iexact HS
  iintro HS
  rw [show (((Memref.whole main_arg0).access (Rect.unit (s := S288) off S1.size inb)).read (Elt F) f x : BitVec 32) = word f a from block_read h inb f x]
  iapply HK
  iexact HS

theorem next_read {a : ℕ} {off : Fin 1 → ℕ} (h : off = ![a]) (inb : ∀ x, off x + S1.size x ≤ S288.size x)
    (f : S288.Idx → BitVec 32) (x : S1.Idx) :
    (((Memref.whole main_arg1).access (Rect.unit (s := S288) off S1.size inb)).read (Elt F) f x : BitVec 32) = word f a := by
  subst h
  have hx : (x 0).val = 0 := by have := (x 0).isLt; have e : S1.size 0 = 1 := rfl; omega
  have hb : a + 1 ≤ 288 := inb 0
  show f ((Rect.unit (s := S288) _ S1.size inb).emb x) = _
  unfold word
  congr 1
  funext d
  apply Fin.ext
  rw [Rect.emb_apply]
  match d with
  | 0 => show a + 1 * (x 0).val = a % 288; omega

theorem wp_next {f : S288.Idx → BitVec 32} {a : ℕ} {off : Fin 1 → ℕ} (h : off = ![a]) (inb : ∀ x, off x + S1.size x ≤ S288.size x)
    {hw : ((Memref.whole main_arg1 : Memref sig .tc .smem S288 .i32).access (Rect.unit (s := S288) off S1.size inb)).Loads} {x : S1.Idx}
    {α : Type} {K : BitVec 32 → Prog (TpuEff nD τ sig (Elt F) Λ₀ .tc) α} {Q : α → sProp 𝕄} :
    (NX (F := F) c f : sProp 𝕄) ⊢ iprop((NX (F := F) c f -∗ wp frame (wpE defs₀ 𝒱 (c : Thread nD τ) bd) Set.univ (K (word f a)) Q)
      -∗ wp frame (wpE defs₀ 𝒱 (c : Thread nD τ) bd) Set.univ
        (smemLoadElt (Memref.whole main_arg1 : Memref sig .tc .smem S288 .i32) (Rect.unit (s := S288) off S1.size inb) hw x K) Q) := by
  iintro HS HK
  iapply (wp_smemLoadElt 𝒱 c bd Set.univ (defs := defs₀) (m := (Memref.whole main_arg1 : Memref sig .tc .smem S288 .i32)) (r := Rect.unit (s := S288) off S1.size inb)
    (x := x) (S := Finset.univ) (q := fullShare.right) (f := f) (Finset.subset_univ _)) $$ [HS]
  · iexact HS
  iintro HS
  rw [show (((Memref.whole main_arg1).access (Rect.unit (s := S288) off S1.size inb)).read (Elt F) f x : BitVec 32) = word f a from next_read h inb f x]
  iapply HK
  iexact HS

theorem wp_used {f : S1.Idx → BitVec 32} (inb : ∀ x, (![0] : Fin 1 → ℕ) x + S1.size x ≤ S1.size x)
    {hw : ((Memref.whole main_arg2 : Memref sig .tc .smem S1 .i32).access (Rect.unit (s := S1) ![0] S1.size inb)).Loads} {x : S1.Idx}
    {α : Type} {K : BitVec 32 → Prog (TpuEff nD τ sig (Elt F) Λ₀ .tc) α} {Q : α → sProp 𝕄} :
    (NU (F := F) c f : sProp 𝕄) ⊢ iprop((NU (F := F) c f -∗ wp frame (wpE defs₀ 𝒱 (c : Thread nD τ) bd) Set.univ (K (used f)) Q)
      -∗ wp frame (wpE defs₀ 𝒱 (c : Thread nD τ) bd) Set.univ
        (smemLoadElt (Memref.whole main_arg2 : Memref sig .tc .smem S1 .i32) (Rect.unit (s := S1) ![0] S1.size inb) hw x K) Q) := by
  iintro HS HK
  iapply (wp_smemLoadElt 𝒱 c bd Set.univ (defs := defs₀) (m := (Memref.whole main_arg2 : Memref sig .tc .smem S1 .i32)) (r := Rect.unit (s := S1) ![0] S1.size inb)
    (x := x) (S := Finset.univ) (q := fullShare.right) (f := f) (Finset.subset_univ _)) $$ [HS]
  · iexact HS
  iintro HS
  rw [show (((Memref.whole main_arg2).access (Rect.unit (s := S1) ![0] S1.size inb)).read (Elt F) f x : BitVec 32) = used f by
    show f ((Rect.unit (s := S1) _ S1.size inb).emb x) = _
    unfold used
    congr 1
    funext d
    apply Fin.ext
    rw [Rect.emb_apply]
    have hx : (x 0).val = 0 := by have := (x 0).isLt; have e : S1.size 0 = 1 := rfl; omega
    match d with
    | 0 => show 0 + 1 * (x 0).val = 0; omega]
  iapply HK
  iexact HS

/-! ### The body's phases -/

variable (t : Fin grid0.N)

/-- The weights of the first block's expert are sent for. -/
def phA (v1 : BitVec 32) (p1 : k0_chk1 (pt t) v1) (K : Pg F) : Pg F :=
  if h : k0_cond1 (pt t) = 1#1 then
    .op (.enqueueDma (srcM1 (k0_off3 v1) (k0_off3_inb (pt t) v1 p1 h)) (.here dstM1) (.dma semM1) ((View.wordExact_bits rfl).reshape _ _) (Memref.isWhole_whole _).wordExact ⟨Or.inl rfl, trivial⟩) fun _ =>
    .op (.enqueueDma (srcM2 (k0_off4 v1) (k0_off4_inb (pt t) v1 p1 h)) (.here dstM2) (.dma semM2) ((View.wordExact_bits rfl).reshape _ _) (Memref.isWhole_whole _).wordExact ⟨Or.inl rfl, trivial⟩) fun _ => K
  else K

/-- The next expert's are sent for. -/
def phN (v1 v5 : BitVec 32) (h2 : k0_cond2 (pt t) v1 v5 = 1#1) (v41 : BitVec 32) (K : Pg F) : Pg F :=
  if h : k0_cond3 v41 = 1#1 then
    smemLoadElt (Memref.whole main_arg1 : Memref sig .tc .smem S288 .i32) (Rect.unit (s := S288) (k0_off8 (pt t)) S1.size (k0_off8_inb (pt t))) (View.loads_smem_one rfl numel1_S1) (Shape.Idx.first (numel1_S1.symm ▸ Nat.one_pos)) fun v46 =>
    .op (.assume (k0_chk3 (pt t) v1 v5 v41 v46) (k0_chk3.dec (pt t) v1 v5 v41 v46)) fun p3 =>
    .op (.enqueueDma (srcM1 (k0_off9 v46) (k0_off9_inb (pt t) v1 v5 v41 v46 p3.down h2 h)) (.here dstM1) (.dma semM1) ((View.wordExact_bits rfl).reshape _ _) (Memref.isWhole_whole _).wordExact ⟨Or.inl rfl, trivial⟩) fun _ =>
    .op (.enqueueDma (srcM2 (k0_off10 v46) (k0_off10_inb (pt t) v1 v5 v41 v46 p3.down h2 h)) (.here dstM2) (.dma semM2) ((View.wordExact_bits rfl).reshape _ _) (Memref.isWhole_whole _).wordExact ⟨Or.inl rfl, trivial⟩) fun _ => K
  else K

abbrev cvtM1 : Memref sig .tc .vmem S1024x2048 .bf16 := Memref.whole cc0_scratch2
abbrev cvtM2 : Memref sig .tc .vmem S1024x1024 .bf16 := Memref.whole cc0_scratch3

/-- At a block of another expert than the one before: the weights sent for are there and are rounded. -/
def phB (v1 v5 : BitVec 32) (p2 : k0_chk2 (pt t) v1 v5) (K : Pg F) : Pg F :=
  if h : k0_cond2 (pt t) v1 v5 = 1#1 then
    .op (.waitDma2 semM1 (srcM1 (k0_off5 v1) (k0_off5_inb (pt t) v1 v5 p2 h)) dstM1 ((View.wordExact_bits rfl).reshape _ _) (Memref.isWhole_whole _).wordExact) fun _ =>
    .op (.waitDma2 semM2 (srcM2 (k0_off6 v1) (k0_off6_inb (pt t) v1 v5 p2 h)) dstM2 ((View.wordExact_bits rfl).reshape _ _) (Memref.isWhole_whole _).wordExact) fun _ =>
    .op (.load dstM1 (Rect.unit (s := S1024x2048) ![0, 0] S1024x2048.size inb_S1024x2048_S1024x2048_0_0).toLoadRect (View.loadsAt_vmem h_S1024x2048)) fun v30 =>
    .op (.load cvtM1 (Rect.unit (s := S1024x2048) ![0, 0] S1024x2048.size inb_S1024x2048_S1024x2048_0_0).toLoadRect (View.loadsAt_vmem h_S1024x2048)) fun _ =>
    .op (.store cvtM1 (Rect.unit (s := S1024x2048) ![0, 0] S1024x2048.size inb_S1024x2048_S1024x2048_0_0) (k0_pay1 v30) Finset.univ (View.stores_vmem h_S1024x2048 ((Memref.isWhole_whole _).storeExact_slice rfl _ packedbf16_S1024x2048_S1024x2048_0_0) (fun _ => rfl)) (.inl rfl)) fun _ =>
    .op (.load dstM2 (Rect.unit (s := S1024x1024) ![0, 0] S1024x1024.size inb_S1024x1024_S1024x1024_0_0).toLoadRect (View.loadsAt_vmem h_S1024x1024)) fun v35 =>
    .op (.load cvtM2 (Rect.unit (s := S1024x1024) ![0, 0] S1024x1024.size inb_S1024x1024_S1024x1024_0_0).toLoadRect (View.loadsAt_vmem h_S1024x1024)) fun _ =>
    .op (.store cvtM2 (Rect.unit (s := S1024x1024) ![0, 0] S1024x1024.size inb_S1024x1024_S1024x1024_0_0) (k0_pay2 v35) Finset.univ (View.stores_vmem h_S1024x1024 ((Memref.isWhole_whole _).storeExact_slice rfl _ packedbf16_S1024x1024_S1024x1024_0_0) (fun _ => rfl)) (.inl rfl)) fun _ =>
    smemLoadElt (Memref.whole main_arg1 : Memref sig .tc .smem S288 .i32) (Rect.unit (s := S288) (k0_off7 (pt t)) S1.size (k0_off7_inb (pt t))) (View.loads_smem_one rfl numel1_S1) (Shape.Idx.first (numel1_S1.symm ▸ Nat.one_pos)) fun v41 =>
    phN t v1 v5 h v41 K
  else K

variable (M4 : Memref sig .tc .vmem S4x256x128 .i32) (h4 : M4.IsWhole) (M6 : Memref sig .tc .vmem S1x1x2048 .f32) (h6 : M6.IsWhole)
  (M8 : Memref sig .tc .vmem S1x1x1024 .f32) (h8 : M8.IsWhole) (M9 : Memref sig .tc .vmem S8x256x128 .f32) (h9 : M9.IsWhole)

/-- The block's result put by planes of 128 columns. -/
def phP (v94 : FVec F S256x128 .f32) (v89 : FVec F S256x1024 .f32) (K : Pg F) : Pg F :=
  .op (.load M9 (Rect.unit (s := S8x256x128) ![1, 0, 0] S1x256x128.size inb_S8x256x128_S1x256x128_1_0_0).toLoadRect (View.loadsAt_vmem h_S1x256x128)) fun _ =>
  .op (.store M9 (Rect.unit (s := S8x256x128) ![1, 0, 0] S1x256x128.size inb_S8x256x128_S1x256x128_1_0_0) (k0_pay3 v94) Finset.univ (View.stores_vmem_bits_univ h_S1x256x128 rfl) (.inl rfl)) fun _ =>
  .op (.load M9 (Rect.unit (s := S8x256x128) ![2, 0, 0] S1x256x128.size inb_S8x256x128_S1x256x128_2_0_0).toLoadRect (View.loadsAt_vmem h_S1x256x128)) fun _ =>
  .op (.store M9 (Rect.unit (s := S8x256x128) ![2, 0, 0] S1x256x128.size inb_S8x256x128_S1x256x128_2_0_0) (k0_pay4 v89) Finset.univ (View.stores_vmem_bits_univ h_S1x256x128 rfl) (.inl rfl)) fun _ =>
  .op (.load M9 (Rect.unit (s := S8x256x128) ![3, 0, 0] S1x256x128.size inb_S8x256x128_S1x256x128_3_0_0).toLoadRect (View.loadsAt_vmem h_S1x256x128)) fun _ =>
  .op (.store M9 (Rect.unit (s := S8x256x128) ![3, 0, 0] S1x256x128.size inb_S8x256x128_S1x256x128_3_0_0) (k0_pay5 v89) Finset.univ (View.stores_vmem_bits_univ h_S1x256x128 rfl) (.inl rfl)) fun _ =>
  .op (.load M9 (Rect.unit (s := S8x256x128) ![4, 0, 0] S1x256x128.size inb_S8x256x128_S1x256x128_4_0_0).toLoadRect (View.loadsAt_vmem h_S1x256x128)) fun _ =>
  .op (.store M9 (Rect.unit (s := S8x256x128) ![4, 0, 0] S1x256x128.size inb_S8x256x128_S1x256x128_4_0_0) (k0_pay6 v89) Finset.univ (View.stores_vmem_bits_univ h_S1x256x128 rfl) (.inl rfl)) fun _ =>
  .op (.load M9 (Rect.unit (s := S8x256x128) ![5, 0, 0] S1x256x128.size inb_S8x256x128_S1x256x128_5_0_0).toLoadRect (View.loadsAt_vmem h_S1x256x128)) fun _ =>
  .op (.store M9 (Rect.unit (s := S8x256x128) ![5, 0, 0] S1x256x128.size inb_S8x256x128_S1x256x128_5_0_0) (k0_pay7 v89) Finset.univ (View.stores_vmem_bits_univ h_S1x256x128 rfl) (.inl rfl)) fun _ =>
  .op (.load M9 (Rect.unit (s := S8x256x128) ![6, 0, 0] S1x256x128.size inb_S8x256x128_S1x256x128_6_0_0).toLoadRect (View.loadsAt_vmem h_S1x256x128)) fun _ =>
  .op (.store M9 (Rect.unit (s := S8x256x128) ![6, 0, 0] S1x256x128.size inb_S8x256x128_S1x256x128_6_0_0) (k0_pay8 v89) Finset.univ (View.stores_vmem_bits_univ h_S1x256x128 rfl) (.inl rfl)) fun _ =>
  .op (.load M9 (Rect.unit (s := S8x256x128) ![7, 0, 0] S1x256x128.size inb_S8x256x128_S1x256x128_7_0_0).toLoadRect (View.loadsAt_vmem h_S1x256x128)) fun _ =>
  .op (.store M9 (Rect.unit (s := S8x256x128) ![7, 0, 0] S1x256x128.size inb_S8x256x128_S1x256x128_7_0_0) (k0_pay9 v89) Finset.univ (View.stores_vmem_bits_univ h_S1x256x128 rfl) (.inl rfl)) fun _ =>
  K

/-- The block's product and activation. -/
def phC (v14 : BitVec 32) (K : Pg F) : Pg F :=
  if _h : k0_cond4 (pt t) v14 = 1#1 then
    .op (.load M4 (Rect.unit (s := S4x256x128) ![0, 0, 0] S1x256x128.size inb_S4x256x128_S1x256x128_0_0_0).toLoadRect (View.loadsAt_vmem h_S1x256x128)) fun v22 =>
    .op (.load M4 (Rect.unit (s := S4x256x128) ![1, 0, 0] S1x256x128.size inb_S4x256x128_S1x256x128_1_0_0).toLoadRect (View.loadsAt_vmem h_S1x256x128)) fun v24 =>
    .op (.load M4 (Rect.unit (s := S4x256x128) ![2, 0, 0] S1x256x128.size inb_S4x256x128_S1x256x128_2_0_0).toLoadRect (View.loadsAt_vmem h_S1x256x128)) fun v26 =>
    .op (.load M4 (Rect.unit (s := S4x256x128) ![3, 0, 0] S1x256x128.size inb_S4x256x128_S1x256x128_3_0_0).toLoadRect (View.loadsAt_vmem h_S1x256x128)) fun v28 =>
    .op (.load cvtM1 (Rect.unit (s := S1024x2048) ![0, 0] S1024x2048.size inb_S1024x2048_S1024x2048_0_0).toLoadRect (View.loadsAt_vmem h_S1024x2048)) fun v56 =>
    .op (.load M6 (Rect.unit (s := S1x1x2048) ![0, 0, 0] S1x1x2048.size inb_S1x1x2048_S1x1x2048_0_0_0).toLoadRect (View.loadsAt_vmem h_S1x1x2048)) fun v58 =>
    .op (.load cvtM2 (Rect.unit (s := S1024x1024) ![0, 0] S1024x1024.size inb_S1024x1024_S1024x1024_0_0).toLoadRect (View.loadsAt_vmem h_S1024x1024)) fun v84 =>
    .op (.load M8 (Rect.unit (s := S1x1x1024) ![0, 0, 0] S1x1x1024.size inb_S1x1x1024_S1x1x1024_0_0_0).toLoadRect (View.loadsAt_vmem h_S1x1x1024)) fun v86 =>
    .op (.load M9 (Rect.unit (s := S8x256x128) ![0, 0, 0] S1x256x128.size inb_S8x256x128_S1x256x128_0_0_0).toLoadRect (View.loadsAt_vmem h_S1x256x128)) fun _ =>
    .op (.store M9 (Rect.unit (s := S8x256x128) ![0, 0, 0] S1x256x128.size inb_S8x256x128_S1x256x128_0_0_0) (k0_pay13 (k0_pay11 v22 v24 v26 v28 v56) v58 v84 v86) Finset.univ (View.stores_vmem_bits_univ h_S1x256x128 rfl) (.inl rfl)) fun _ =>
    phP M9 (k0_pay14 (k0_pay11 v22 v24 v26 v28 v56) v58 v84 v86) (k0_pay12 (k0_pay11 v22 v24 v26 v28 v56) v58 v84 v86) K
  else K

/-- A block not in use is zeros. -/
def phD (v18 : BitVec 32) (K : Pg F) : Pg F :=
  if _h : k0_cond5 (pt t) v18 = 1#1 then
    .op (.load M9 (Rect.unit (s := S8x256x128) ![0, 0, 0] S8x256x128.size inb_S8x256x128_S8x256x128_0_0_0).toLoadRect (View.loadsAt_vmem h_S8x256x128)) fun _ =>
    .op (.store M9 (Rect.unit (s := S8x256x128) ![0, 0, 0] S8x256x128.size inb_S8x256x128_S8x256x128_0_0_0) (k0_pay10 (F := F)) Finset.univ (View.stores_vmem_bits_univ h_S8x256x128 rfl) (.inl rfl)) fun _ => K
  else K

/-- One row block's program. -/
def body : Pg F :=
  smemLoadElt (Memref.whole main_arg0 : Memref sig .tc .smem S288 .i32) (Rect.unit (s := S288) (k0_off1 (pt t)) S1.size (k0_off1_inb (pt t))) (View.loads_smem_one rfl numel1_S1) (Shape.Idx.first (numel1_S1.symm ▸ Nat.one_pos)) fun v1 =>
  .op (.assume (k0_chk1 (pt t) v1) (k0_chk1.dec (pt t) v1)) fun p1 =>
  smemLoadElt (Memref.whole main_arg0 : Memref sig .tc .smem S288 .i32) (Rect.unit (s := S288) (k0_off2 (pt t)) S1.size (k0_off2_inb (pt t))) (View.loads_smem_one rfl numel1_S1) (Shape.Idx.first (numel1_S1.symm ▸ Nat.one_pos)) fun v5 =>
  .op (.assume (k0_chk2 (pt t) v1 v5) (k0_chk2.dec (pt t) v1 v5)) fun p2 =>
  phA t v1 p1.down (phB t v1 v5 p2.down
    (smemLoadElt (Memref.whole main_arg2 : Memref sig .tc .smem S1 .i32) (Rect.unit (s := S1) ![0] S1.size inb_S1_S1_0) (View.loads_smem_one rfl numel1_S1) (Shape.Idx.first (numel1_S1.symm ▸ Nat.one_pos)) fun v14 =>
      phC t M4 M6 M8 M9 v14
        (smemLoadElt (Memref.whole main_arg2 : Memref sig .tc .smem S1 .i32) (Rect.unit (s := S1) ![0] S1.size inb_S1_S1_0) (View.loads_smem_one rfl numel1_S1) (Shape.Idx.first (numel1_S1.symm ▸ Nat.one_pos)) fun v18 =>
          phD t M9 v18 (.ret ⟨⟩))))

theorem body_eq : cc0_moe_experts (F := F) (pt t) (Memref.whole main_arg0) (Memref.isWhole_whole _) (Memref.whole main_arg1) (Memref.isWhole_whole _) (Memref.whole main_arg2) (Memref.isWhole_whole _)
    M4 h4 (Memref.whole main_arg4) (Memref.isWhole_whole _) M6 h6 (Memref.whole main_arg6) (Memref.isWhole_whole _) M8 h8 M9 h9
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4
    = body t M4 M6 M8 M9 := by
  rw [cc0_moe_experts_eq_skeleton]
  dsimp only [cc0_moe_experts_skel]
  rw [k0_part1_eq_skeleton, k0_part2_eq_skeleton]
  rfl

end Cert.ExpertsIdeal.Experts
end
-- ==== Proof.Step.lean ====
/- The experts' row block by row block: what is held before a block, and a block's step. -/
module

public import proofs.«01_k».proof.Proof.Block

@[expose] public section

noncomputable section

namespace Cert.ExpertsIdeal.Experts

open Idealize.ShloMosaic Idealize.ShloMosaic.ValueIdx Cert.ExpertsIdeal Cert.ExpertsIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

open Idealize.ShloMosaic.VecWindow (window put)

/-! ### A block's result -/

/-- Planes of 128 columns side by side. -/
def planes (y : S256x1024.Idx → F .f32) : S8x256x128.Idx → F .f32 := fun j =>
  y (ix2 (j 1) ⟨(j 0).val * 128 + (j 2).val, by
    have h0 : (j 0).val < 8 := (j 0).isLt
    have h2 : (j 2).val < 128 := (j 2).isLt
    show (j 0).val * 128 + (j 2).val < 1024
    omega⟩)

theorem put_plane {p : ℕ} (X : S8x256x128.Idx → F .f32) (w : S1x256x128.Idx → F .f32) (j : S8x256x128.Idx) :
    put X ![p, 0, 0] S1x256x128.size w j = if (j 0).val = p then w (ix3 0 (j 1) (j 2)) else X j := by
  have h1 : (j 1).val < 256 := (j 1).isLt
  have h2 : (j 2).val < 128 := (j 2).isLt
  unfold put
  by_cases h : (j 0).val = p
  · rw [if_pos h, dif_pos (show ∀ a, (![p, 0, 0] : Fin 3 → ℕ) a ≤ (j a).val ∧ (j a).val < (![p, 0, 0] : Fin 3 → ℕ) a + S1x256x128.size a from fun a =>
      match a with
      | 0 => ⟨by show p ≤ (j 0).val; omega, by show (j 0).val < p + 1; omega⟩
      | 1 => ⟨Nat.zero_le _, by show (j 1).val < 0 + 256; omega⟩
      | 2 => ⟨Nat.zero_le _, by show (j 2).val < 0 + 128; omega⟩)]
    congr 1
    funext a
    apply Fin.ext
    match a with
    | 0 => show (j 0).val - p = 0; omega
    | 1 => rfl
    | 2 => rfl
  · rw [if_neg h, dif_neg (fun hh => by
      have e : p ≤ (j 0).val ∧ (j 0).val < p + 1 := hh 0
      omega)]

theorem plane_apply {o : ℕ} (y : S256x1024.Idx → F .f32) (hs : S256x1024.Slices ![0, o] S256x128) (hc : S256x128.ShapeCasts S1x256x128) (j : S8x256x128.Idx) (h : o = (j 0).val * 128) :
    shapeCast S1x256x128 (extractStridedSlice S256x128 ![0, o] y hs) hc (ix3 0 (j 1) (j 2)) = planes y j := by
  refine (shapeCast_ab_1ab_apply (a := 256) (b := 128) _ hc 0 (j 1) (j 2)).trans ?_
  unfold planes
  show y _ = y _
  congr 1
  funext a
  apply Fin.ext
  match a with
  | 0 => show 0 + (j 1).val = (j 1).val; omega
  | 1 => show o + (j 2).val = (j 0).val * 128 + (j 2).val; omega

theorem planes_eq (X : S8x256x128.Idx → F .f32) (v57 : FVec F S256x2048 .f32) (v58 : Vec F S1x1x2048 .f32) (v84 : Vec F S1024x1024 .bf16) (v86 : Vec F S1x1x1024 .f32) :
    put (put (put (put (put (put (put (put X ![0, 0, 0] S1x256x128.size (k0_pay13 v57 v58 v84 v86)) ![1, 0, 0] S1x256x128.size (k0_pay3 (k0_pay14 v57 v58 v84 v86)))
      ![2, 0, 0] S1x256x128.size (k0_pay4 (k0_pay12 v57 v58 v84 v86))) ![3, 0, 0] S1x256x128.size (k0_pay5 (k0_pay12 v57 v58 v84 v86)))
      ![4, 0, 0] S1x256x128.size (k0_pay6 (k0_pay12 v57 v58 v84 v86))) ![5, 0, 0] S1x256x128.size (k0_pay7 (k0_pay12 v57 v58 v84 v86)))
      ![6, 0, 0] S1x256x128.size (k0_pay8 (k0_pay12 v57 v58 v84 v86))) ![7, 0, 0] S1x256x128.size (k0_pay9 (k0_pay12 v57 v58 v84 v86))
      = planes (k0_pay12 v57 v58 v84 v86) := by
  funext j
  have h0 : (j 0).val < 8 := (j 0).isLt
  refine (put_plane _ _ j).trans ?_
  by_cases h7 : (j 0).val = 7
  · rw [if_pos h7]; exact plane_apply _ _ _ j (by omega)
  rw [if_neg h7]
  refine (put_plane _ _ j).trans ?_
  by_cases h6 : (j 0).val = 6
  · rw [if_pos h6]; exact plane_apply _ _ _ j (by omega)
  rw [if_neg h6]
  refine (put_plane _ _ j).trans ?_
  by_cases h5 : (j 0).val = 5
  · rw [if_pos h5]; exact plane_apply _ _ _ j (by omega)
  rw [if_neg h5]
  refine (put_plane _ _ j).trans ?_
  by_cases h4 : (j 0).val = 4
  · rw [if_pos h4]; exact plane_apply _ _ _ j (by omega)
  rw [if_neg h4]
  refine (put_plane _ _ j).trans ?_
  by_cases h3 : (j 0).val = 3
  · rw [if_pos h3]; exact plane_apply _ _ _ j (by omega)
  rw [if_neg h3]
  refine (put_plane _ _ j).trans ?_
  by_cases h2 : (j 0).val = 2
  · rw [if_pos h2]; exact plane_apply _ _ _ j (by omega)
  rw [if_neg h2]
  refine (put_plane _ _ j).trans ?_
  by_cases h1 : (j 0).val = 1
  · rw [if_pos h1]; exact plane_apply (o := 128) (k0_pay12 v57 v58 v84 v86) slices_S256x1024_o0_128_S256x128 shapeCasts_S256x128_S1x256x128 j (by omega)
  rw [if_neg h1]
  refine (put_plane _ _ j).trans ?_
  rw [if_pos (show (j 0).val = 0 by omega)]
  exact plane_apply (o := 0) (k0_pay12 v57 v58 v84 v86) _ _ j (by omega)

/-- The block's hidden layer before its bias, and the block's result. -/
def hid (X : S4x256x128.Idx → BitVec 32) (u1 : S1024x2048.Idx → F .bf16) : FVec F S256x2048 .f32 :=
  k0_pay11 (F := F) (window X ![0, 0, 0] S1x256x128.size inb_S4x256x128_S1x256x128_0_0_0) (window X ![1, 0, 0] S1x256x128.size inb_S4x256x128_S1x256x128_1_0_0)
    (window X ![2, 0, 0] S1x256x128.size inb_S4x256x128_S1x256x128_2_0_0) (window X ![3, 0, 0] S1x256x128.size inb_S4x256x128_S1x256x128_3_0_0) u1
def res (X : S4x256x128.Idx → BitVec 32) (u1 : S1024x2048.Idx → F .bf16) (b1 : S1x1x2048.Idx → F .f32) (u2 : S1024x1024.Idx → F .bf16) (b2 : S1x1x1024.Idx → F .f32) :
    S256x1024.Idx → F .f32 := k0_pay12 (hid X u1) b1 u2 b2
/-- What block `t` writes. -/
def out (nu : S1.Idx → BitVec 32) (t : Fin grid0.N) (X : S4x256x128.Idx → BitVec 32) (u1 : S1024x2048.Idx → F .bf16) (b1 : S1x1x2048.Idx → F .f32)
    (u2 : S1024x1024.Idx → F .bf16) (b2 : S1x1x1024.Idx → F .f32) : S8x256x128.Idx → F .f32 :=
  if k0_cond4 (pt t) (used nu) = 1#1 then planes (res X u1 b1 u2 b2) else k0_pay10 (F := F)

/-! ### What is held before a block -/

variable (c : Dev nD) (𝒱 : Variants) (bd : Option 𝒱.V)
variable (be nx : S288.Idx → BitVec 32) (nu : S1.Idx → BitVec 32) (w1 : W1I → F .f32) (w2 : W2I → F .f32)

/-- The scratch buffers: the next expert's weights on their way, or nothing. -/
def wts (t : ℕ) : sProp 𝕄 :=
  if 0 < t ∧ live (word nx (t - 1)) then iprop(coming1 (F := F) c w1 (word nx (t - 1)).toNat ∗ coming2 (F := F) c w2 (word nx (t - 1)).toNat)
  else iprop(free1 (F := F) c w1 ∗ free2 (F := F) c w2)
/-- The rounded weights: those of the block before. -/
abbrev U1 (u : S1024x2048.Idx → F .bf16) : sProp 𝕄 := owns (c : Thread nD τ) cvtM1 fullShare u
abbrev U2 (u : S1024x1024.Idx → F .bf16) : sProp 𝕄 := owns (c : Thread nD τ) cvtM2 fullShare u
def u1 (i : ℕ) : S1024x2048.Idx → F .bf16 := k0_pay1 (F := F) (sheet1 w1 (word be i).toNat)
def u2 (i : ℕ) : S1024x1024.Idx → F .bf16 := k0_pay2 (F := F) (sheet2 w2 (word be i).toNat)
def cvt (t : ℕ) : sProp 𝕄 :=
  if 0 < t then iprop(U1 (F := F) c (u1 be w1 (t - 1)) ∗ U2 (F := F) c (u2 be w2 (t - 1)))
  else iprop((∃ u, U1 (F := F) c u) ∗ (∃ u, U2 (F := F) c u))

theorem live_of_lt {w : BitVec 32} (h : w.toNat < 32) : live w := by
  have e : ∀ k : Fin 32, live (BitVec.ofNat 32 k.val) := by decide +kernel
  have := e ⟨w.toNat, h⟩
  rwa [show BitVec.ofNat 32 (⟨w.toNat, h⟩ : Fin 32).val = w from by show BitVec.ofNat 32 w.toNat = w; rw [BitVec.ofNat_toNat, BitVec.setWidth_eq]] at this

theorem fits1 {w : BitVec 32} (h : w.toNat < 32) : ∀ a, (![w.toNat, 0, 0] : Fin 3 → ℕ) a + S1x1024x2048.size a ≤ S32x1024x2048.size a := fun a =>
  match a with
  | 0 => by show w.toNat + 1 ≤ 32; omega
  | 1 => (by decide : 0 + 1024 ≤ 1024)
  | 2 => (by decide : 0 + 2048 ≤ 2048)
theorem fits2 {w : BitVec 32} (h : w.toNat < 32) : ∀ a, (![w.toNat, 0, 0] : Fin 3 → ℕ) a + S1x1024x1024.size a ≤ S32x1024x1024.size a := fun a =>
  match a with
  | 0 => by show w.toNat + 1 ≤ 32; omega
  | 1 => (by decide : 0 + 1024 ≤ 1024)
  | 2 => (by decide : 0 + 1024 ≤ 1024)

theorem chk1_ok (i : grid0.Coords) {v : BitVec 32} (h : v.toNat < 32) : k0_chk1 i v := ⟨fun _ => fits1 h, fun _ => fits2 h⟩
theorem chk2_ok (i : grid0.Coords) {v w : BitVec 32} (h : v.toNat < 32) : k0_chk2 i v w := ⟨fun _ => fits1 h, fun _ => fits2 h⟩
theorem chk3_ok (i : grid0.Coords) {v w x y : BitVec 32} (h : y.toNat < 32) : k0_chk3 i v w x y := ⟨fun _ _ => fits1 h, fun _ _ => fits2 h⟩

variable (t : Fin grid0.N)

/-- The weights sent for are there, rounded, and the next sent for. -/
theorem wp_phB {be nx : S288.Idx → BitVec 32} (C : Chain be nx) (v1 v5 : BitVec 32) (p2 : k0_chk2 (pt t) v1 v5) (h2 : k0_cond2 (pt t) v1 v5 = 1#1) (K : Pg F) {Q : PUnit → sProp 𝕄} :
    iprop(coming1 (F := F) c w1 (word be t.val).toNat ∗ coming2 (F := F) c w2 (word be t.val).toNat ∗ (∃ u, U1 (F := F) c u) ∗ (∃ u, U2 (F := F) c u) ∗ NX (F := F) c nx ∗ owe (F := F) c)
      ⊢ iprop((iprop(wts (F := F) c nx w1 w2 (t.val + 1) ∗ cvt (F := F) c be w1 w2 (t.val + 1) ∗ NX (F := F) c nx ∗ owe (F := F) c)
            -∗ wp frame (wpE defs₀ 𝒱 (c : Thread nD τ) bd) Set.univ K Q)
          -∗ wp frame (wpE defs₀ 𝒱 (c : Thread nD τ) bd) Set.univ (phB t v1 v5 p2 K) Q) := by
  have ht := lt288 t
  unfold phB
  rw [dif_pos h2]
  iintro ⟨H1, H2, ⟨%f1, HU1⟩, ⟨%f2, HU2⟩, HN, HO⟩ HK
  iapply (wp_await1 (F := F) c 𝒱 bd w1 _) $$ [H1 HO]
  · isplitl [H1]; · iexact H1
    iexact HO
  iintro ⟨H1, HO⟩
  iapply (wp_await2 (F := F) c 𝒱 bd w2 _) $$ [H2 HO]
  · isplitl [H2]; · iexact H2
    iexact HO
  iintro ⟨H2, HO⟩
  unfold there1 there2
  icases H1 with ⟨Hc1, HB1, HW1⟩
  icases H2 with ⟨Hc2, HB2, HW2⟩
  ihave HB1 := (Entails.of_eq (owns_whole (Val := Elt F) (c : Thread nD τ) cc0_scratch0 fullShare (sheet1 w1 (word be t.val).toNat)).symm) $$ HB1
  ihave HB2 := (Entails.of_eq (owns_whole (Val := Elt F) (c : Thread nD τ) cc0_scratch1 fullShare (sheet2 w2 (word be t.val).toNat)).symm) $$ HB2
  iapply (wp_ldw (F := F) c 𝒱 bd (m := dstM1) inb_S1024x2048_S1024x2048_0_0) $$ HB1
  iintro HB1
  iapply (wp_ldw (F := F) c 𝒱 bd (m := cvtM1) inb_S1024x2048_S1024x2048_0_0) $$ HU1
  iintro HU1
  iapply (wp_stw (F := F) c 𝒱 bd (m := cvtM1) inb_S1024x2048_S1024x2048_0_0) $$ HU1
  iintro HU1
  iapply (wp_ldw (F := F) c 𝒱 bd (m := dstM2) inb_S1024x1024_S1024x1024_0_0) $$ HB2
  iintro HB2
  iapply (wp_ldw (F := F) c 𝒱 bd (m := cvtM2) inb_S1024x1024_S1024x1024_0_0) $$ HU2
  iintro HU2
  iapply (wp_stw (F := F) c 𝒱 bd (m := cvtM2) inb_S1024x1024_S1024x1024_0_0) $$ HU2
  iintro HU2
  ihave HB1 := (Entails.of_eq (owns_whole (Val := Elt F) (c : Thread nD τ) cc0_scratch0 fullShare (sheet1 w1 (word be t.val).toNat))) $$ HB1
  ihave HB2 := (Entails.of_eq (owns_whole (Val := Elt F) (c : Thread nD τ) cc0_scratch1 fullShare (sheet2 w2 (word be t.val).toNat))) $$ HB2
  iapply (wp_next (F := F) c 𝒱 bd (off7_eq t) _) $$ HN
  iintro HN
  unfold phN wts cvt
  rw [if_pos (Nat.succ_pos _), Nat.add_sub_cancel]
  by_cases h3 : live (word nx t.val)
  · rw [dif_pos h3, if_pos (show 0 < t.val + 1 ∧ live (word nx t.val) from ⟨Nat.succ_pos _, h3⟩)]
    have hn := C.next_range ht h3
    iapply (wp_next (F := F) c 𝒱 bd (off8_eq t) _) $$ HN
    iintro HN
    iapply (wp_assume 𝒱 c bd Set.univ (chk3_ok (pt t) (v := v1) (w := v5) (x := word nx t.val) hn))
    iapply (wp_send1 (F := F) c 𝒱 bd w1 hn rfl _) $$ [Hc1 HB1 HW1]
    · unfold free1
      isplitl [Hc1]; · iexact Hc1
      isplitl [HB1]; · iexists _; iexact HB1
      iexact HW1
    iintro H1
    iapply (wp_send2 (F := F) c 𝒱 bd w2 hn rfl _) $$ [Hc2 HB2 HW2]
    · unfold free2
      isplitl [Hc2]; · iexact Hc2
      isplitl [HB2]; · iexists _; iexact HB2
      iexact HW2
    iintro H2
    iapply HK
    isplitl [H1 H2]
    · isplitl [H1]; · iexact H1
      iexact H2
    isplitl [HU1 HU2]
    · isplitl [HU1]; · iexact HU1
      iexact HU2
    isplitl [HN]; · iexact HN
    iexact HO
  · rw [dif_neg h3, if_neg (show ¬ (0 < t.val + 1 ∧ live (word nx t.val)) from fun h => h3 h.2)]
    iapply HK
    unfold free1 free2
    isplitr [HU1 HU2 HN HO]
    · isplitl [Hc1 HB1 HW1]
      · isplitl [Hc1]; · iexact Hc1
        isplitl [HB1]; · iexists _; iexact HB1
        iexact HW1
      · isplitl [Hc2]; · iexact Hc2
        isplitl [HB2]; · iexists _; iexact HB2
        iexact HW2
    isplitl [HU1 HU2]
    · isplitl [HU1]; · iexact HU1
      iexact HU2
    isplitl [HN]; · iexact HN
    iexact HO

/-- The weights' step from a block to the next. -/
theorem wp_turn {be nx : S288.Idx → BitVec 32} (C : Chain be nx) (p1 : k0_chk1 (pt t) (word be t.val)) (p2 : k0_chk2 (pt t) (word be t.val) (word be (t.val - 1))) (K : Pg F) {Q : PUnit → sProp 𝕄} :
    iprop(wts (F := F) c nx w1 w2 t.val ∗ cvt (F := F) c be w1 w2 t.val ∗ NX (F := F) c nx ∗ owe (F := F) c)
      ⊢ iprop((iprop(wts (F := F) c nx w1 w2 (t.val + 1) ∗ cvt (F := F) c be w1 w2 (t.val + 1) ∗ NX (F := F) c nx ∗ owe (F := F) c)
            -∗ wp frame (wpE defs₀ 𝒱 (c : Thread nD τ) bd) Set.univ K Q)
          -∗ wp frame (wpE defs₀ 𝒱 (c : Thread nD τ) bd) Set.univ (phA t (word be t.val) p1 (phB t (word be t.val) (word be (t.val - 1)) p2 K)) Q) := by
  have ht := lt288 t
  have hr := C.range _ ht
  iintro ⟨HW, HC, HN, HO⟩ HK
  unfold phA
  by_cases h0 : t.val = 0
  · rw [dif_pos ((cond1_iff t).2 h0)]
    ihave HW := (Entails.of_eq (show wts (F := F) c nx w1 w2 t.val = iprop(free1 (F := F) c w1 ∗ free2 (F := F) c w2) from if_neg (fun h => absurd h.1 (by omega)))) $$ HW
    ihave HC := (Entails.of_eq (show cvt (F := F) c be w1 w2 t.val = iprop((∃ u, U1 (F := F) c u) ∗ (∃ u, U2 (F := F) c u)) from if_neg (by omega))) $$ HC
    icases HW with ⟨H1, H2⟩
    icases HC with ⟨HU1, HU2⟩
    iapply (wp_send1 (F := F) c 𝒱 bd w1 hr rfl _) $$ H1
    iintro H1
    iapply (wp_send2 (F := F) c 𝒱 bd w2 hr rfl _) $$ H2
    iintro H2
    iapply (wp_phB (F := F) c 𝒱 bd w1 w2 t C _ _ p2 ((cond2_iff t _ _).2 (Or.inl h0)) K) $$ [H1 H2 HU1 HU2 HN HO]
    · isplitl [H1]; · iexact H1
      isplitl [H2]; · iexact H2
      isplitl [HU1]; · iexact HU1
      isplitl [HU2]; · iexact HU2
      isplitl [HN]; · iexact HN
      iexact HO
    iexact HK
  · rw [dif_neg (fun h => h0 ((cond1_iff t).1 h))]
    have e := C.next (t.val - 1) (by omega)
    rw [show t.val - 1 + 1 = t.val by omega] at e
    ihave HC := (Entails.of_eq (show cvt (F := F) c be w1 w2 t.val = iprop(U1 (F := F) c (u1 be w1 (t.val - 1)) ∗ U2 (F := F) c (u2 be w2 (t.val - 1))) from if_pos (by omega))) $$ HC
    icases HC with ⟨HU1, HU2⟩
    by_cases hb : word be t.val = word be (t.val - 1)
    · rw [if_pos hb] at e
      unfold phB
      rw [dif_neg (fun h => by rcases (cond2_iff t _ _).1 h with h | h; exacts [h0 h, h hb])]
      iapply HK
      isplitl [HW]
      · unfold wts
        rw [e, Nat.add_sub_cancel]
        simp only [show 0 < t.val by omega, Nat.succ_pos, true_and]
        iexact HW
      isplitl [HU1 HU2]
      · unfold cvt u1 u2
        rw [if_pos (Nat.succ_pos _), Nat.add_sub_cancel, hb]
        isplitl [HU1]; · iexact HU1
        iexact HU2
      isplitl [HN]; · iexact HN
      iexact HO
    · rw [if_neg hb] at e
      have hl : live (word nx (t.val - 1)) := by rw [e]; exact live_of_lt hr
      ihave HW := (Entails.of_eq (show wts (F := F) c nx w1 w2 t.val = iprop(coming1 (F := F) c w1 (word be t.val).toNat ∗ coming2 (F := F) c w2 (word be t.val).toNat) by
        unfold wts; rw [if_pos ⟨by omega, hl⟩, e])) $$ HW
      icases HW with ⟨H1, H2⟩
      iapply (wp_phB (F := F) c 𝒱 bd w1 w2 t C _ _ p2 ((cond2_iff t _ _).2 (Or.inr hb)) K) $$ [H1 H2 HU1 HU2 HN HO]
      · isplitl [H1]; · iexact H1
        isplitl [H2]; · iexact H2
        isplitl [HU1]; · iexists _; iexact HU1
        isplitl [HU2]; · iexists _; iexact HU2
        isplitl [HN]; · iexact HN
        iexact HO
      iexact HK

variable (M4 : Memref sig .tc .vmem S4x256x128 .i32) (M6 : Memref sig .tc .vmem S1x1x2048 .f32) (M8 : Memref sig .tc .vmem S1x1x1024 .f32) (M9 : Memref sig .tc .vmem S8x256x128 .f32)

/-- A block in use. -/
theorem wp_phC (h : k0_cond4 (pt t) (used nu) = 1#1) (X : S4x256x128.Idx → BitVec 32) (Y : S8x256x128.Idx → F .f32) (a1 : S1024x2048.Idx → F .bf16) (b1 : S1x1x2048.Idx → F .f32)
    (a2 : S1024x1024.Idx → F .bf16) (b2 : S1x1x1024.Idx → F .f32) (K : Pg F) {Q : PUnit → sProp 𝕄} :
    iprop(owns (c : Thread nD τ) M4 fullShare X ∗ U1 (F := F) c a1 ∗ owns (c : Thread nD τ) M6 fullShare b1 ∗ U2 (F := F) c a2 ∗ owns (c : Thread nD τ) M8 fullShare b2 ∗ owns (c : Thread nD τ) M9 fullShare Y)
      ⊢ iprop((iprop(owns (c : Thread nD τ) M4 fullShare X ∗ U1 (F := F) c a1 ∗ owns (c : Thread nD τ) M6 fullShare b1 ∗ U2 (F := F) c a2 ∗ owns (c : Thread nD τ) M8 fullShare b2
              ∗ owns (c : Thread nD τ) M9 fullShare (planes (res X a1 b1 a2 b2)))
            -∗ wp frame (wpE defs₀ 𝒱 (c : Thread nD τ) bd) Set.univ K Q)
          -∗ wp frame (wpE defs₀ 𝒱 (c : Thread nD τ) bd) Set.univ (phC t M4 M6 M8 M9 (used nu) K) Q) := by
  unfold phC
  rw [dif_pos h]
  iintro ⟨H4, HU1, H6, HU2, H8, H9⟩ HK
  iapply (wp_ld (F := F) c 𝒱 bd (m := M4) inb_S4x256x128_S1x256x128_0_0_0) $$ H4
  iintro H4
  iapply (wp_ld (F := F) c 𝒱 bd (m := M4) inb_S4x256x128_S1x256x128_1_0_0) $$ H4
  iintro H4
  iapply (wp_ld (F := F) c 𝒱 bd (m := M4) inb_S4x256x128_S1x256x128_2_0_0) $$ H4
  iintro H4
  iapply (wp_ld (F := F) c 𝒱 bd (m := M4) inb_S4x256x128_S1x256x128_3_0_0) $$ H4
  iintro H4
  iapply (wp_ldw (F := F) c 𝒱 bd (m := cvtM1) inb_S1024x2048_S1024x2048_0_0) $$ HU1
  iintro HU1
  iapply (wp_ldw (F := F) c 𝒱 bd (m := M6) inb_S1x1x2048_S1x1x2048_0_0_0) $$ H6
  iintro H6
  iapply (wp_ldw (F := F) c 𝒱 bd (m := cvtM2) inb_S1024x1024_S1024x1024_0_0) $$ HU2
  iintro HU2
  iapply (wp_ldw (F := F) c 𝒱 bd (m := M8) inb_S1x1x1024_S1x1x1024_0_0_0) $$ H8
  iintro H8
  iapply (wp_ld (F := F) c 𝒱 bd (m := M9) inb_S8x256x128_S1x256x128_0_0_0) $$ H9
  iintro H9
  iapply (wp_st (F := F) c 𝒱 bd (m := M9) inb_S8x256x128_S1x256x128_0_0_0) $$ H9
  iintro H9
  unfold phP
  iapply (wp_ld (F := F) c 𝒱 bd (m := M9) inb_S8x256x128_S1x256x128_1_0_0) $$ H9
  iintro H9
  iapply (wp_st (F := F) c 𝒱 bd (m := M9) inb_S8x256x128_S1x256x128_1_0_0) $$ H9
  iintro H9
  iapply (wp_ld (F := F) c 𝒱 bd (m := M9) inb_S8x256x128_S1x256x128_2_0_0) $$ H9
  iintro H9
  iapply (wp_st (F := F) c 𝒱 bd (m := M9) inb_S8x256x128_S1x256x128_2_0_0) $$ H9
  iintro H9
  iapply (wp_ld (F := F) c 𝒱 bd (m := M9) inb_S8x256x128_S1x256x128_3_0_0) $$ H9
  iintro H9
  iapply (wp_st (F := F) c 𝒱 bd (m := M9) inb_S8x256x128_S1x256x128_3_0_0) $$ H9
  iintro H9
  iapply (wp_ld (F := F) c 𝒱 bd (m := M9) inb_S8x256x128_S1x256x128_4_0_0) $$ H9
  iintro H9
  iapply (wp_st (F := F) c 𝒱 bd (m := M9) inb_S8x256x128_S1x256x128_4_0_0) $$ H9
  iintro H9
  iapply (wp_ld (F := F) c 𝒱 bd (m := M9) inb_S8x256x128_S1x256x128_5_0_0) $$ H9
  iintro H9
  iapply (wp_st (F := F) c 𝒱 bd (m := M9) inb_S8x256x128_S1x256x128_5_0_0) $$ H9
  iintro H9
  iapply (wp_ld (F := F) c 𝒱 bd (m := M9) inb_S8x256x128_S1x256x128_6_0_0) $$ H9
  iintro H9
  iapply (wp_st (F := F) c 𝒱 bd (m := M9) inb_S8x256x128_S1x256x128_6_0_0) $$ H9
  iintro H9
  iapply (wp_ld (F := F) c 𝒱 bd (m := M9) inb_S8x256x128_S1x256x128_7_0_0) $$ H9
  iintro H9
  iapply (wp_st (F := F) c 𝒱 bd (m := M9) inb_S8x256x128_S1x256x128_7_0_0) $$ H9
  iintro H9
  iapply HK
  isplitl [H4]; · iexact H4
  isplitl [HU1]; · iexact HU1
  isplitl [H6]; · iexact H6
  isplitl [HU2]; · iexact HU2
  isplitl [H8]; · iexact H8
  rw [show planes (res X a1 b1 a2 b2) = _ from (planes_eq Y (hid X a1) b1 a2 b2).symm]
  unfold hid
  iexact H9

end Cert.ExpertsIdeal.Experts
end
-- ==== Proof.Turn.lean ====
/- One row block of the experts, whole: its tables, the weights' step, and its product or its zeros. -/
module

public import proofs.«01_k».proof.Proof.Step

@[expose] public section

noncomputable section

namespace Cert.ExpertsIdeal.Experts

open Idealize.ShloMosaic Idealize.ShloMosaic.ValueIdx Cert.ExpertsIdeal Cert.ExpertsIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

variable (c : Dev nD) (𝒱 : Variants) (bd : Option 𝒱.V)
variable (be nx : S288.Idx → BitVec 32) (nu : S1.Idx → BitVec 32) (w1 : W1I → F .f32) (w2 : W2I → F .f32)

/-- What is held before block `t`. -/
def held (t : ℕ) : sProp 𝕄 :=
  iprop(BE (F := F) c be ∗ NX (F := F) c nx ∗ NU (F := F) c nu ∗ wts (F := F) c nx w1 w2 t ∗ cvt (F := F) c be w1 w2 t)

variable (t : Fin grid0.N)
variable (M4 : Memref sig .tc .vmem S4x256x128 .i32) (M6 : Memref sig .tc .vmem S1x1x2048 .f32) (M8 : Memref sig .tc .vmem S1x1x1024 .f32) (M9 : Memref sig .tc .vmem S8x256x128 .f32)

/-- A block's windows. -/
abbrev wins (X : S4x256x128.Idx → BitVec 32) (b1 : S1x1x2048.Idx → F .f32) (b2 : S1x1x1024.Idx → F .f32) (Y : S8x256x128.Idx → F .f32) : sProp 𝕄 :=
  iprop(owns (c : Thread nD τ) M4 fullShare X ∗ owns (c : Thread nD τ) M6 fullShare b1 ∗ owns (c : Thread nD τ) M8 fullShare b2 ∗ owns (c : Thread nD τ) M9 fullShare Y)

/-- The product or the zeros. -/
theorem wp_put (X : S4x256x128.Idx → BitVec 32) (b1 : S1x1x2048.Idx → F .f32) (b2 : S1x1x1024.Idx → F .f32) (Y : S8x256x128.Idx → F .f32)
    (a1 : S1024x2048.Idx → F .bf16) (a2 : S1024x1024.Idx → F .bf16) {Q : PUnit → sProp 𝕄} :
    iprop(NU (F := F) c nu ∗ U1 (F := F) c a1 ∗ U2 (F := F) c a2 ∗ wins (F := F) c M4 M6 M8 M9 X b1 b2 Y)
      ⊢ iprop((iprop(NU (F := F) c nu ∗ U1 (F := F) c a1 ∗ U2 (F := F) c a2 ∗ wins (F := F) c M4 M6 M8 M9 X b1 b2 (out nu t X a1 b1 a2 b2)) -∗ Q ⟨⟩)
          -∗ wp frame (wpE defs₀ 𝒱 (c : Thread nD τ) bd) Set.univ
            (phC t M4 M6 M8 M9 (used nu)
              (smemLoadElt (Memref.whole main_arg2 : Memref sig .tc .smem S1 .i32) (Rect.unit (s := S1) ![0] S1.size inb_S1_S1_0) (View.loads_smem_one rfl numel1_S1) (Shape.Idx.first (numel1_S1.symm ▸ Nat.one_pos)) fun v18 =>
                phD t M9 v18 (.ret ⟨⟩))) Q) := by
  iintro ⟨HN, HU1, HU2, H4, H6, H8, H9⟩ HK
  by_cases h : k0_cond4 (pt t) (used nu) = 1#1
  · iapply (wp_phC (F := F) c 𝒱 bd nu t M4 M6 M8 M9 h X Y a1 b1 a2 b2 _) $$ [HU1 HU2 H4 H6 H8 H9]
    · isplitl [H4]; · iexact H4
      isplitl [HU1]; · iexact HU1
      isplitl [H6]; · iexact H6
      isplitl [HU2]; · iexact HU2
      isplitl [H8]; · iexact H8
      iexact H9
    iintro ⟨H4, HU1, H6, HU2, H8, H9⟩
    iapply (wp_used (F := F) c 𝒱 bd inb_S1_S1_0) $$ HN
    iintro HN
    unfold phD
    rw [dif_neg (fun h5 => (cond5_iff t (used nu)).1 h5 h), wp_ret]
    imodintro
    iapply HK
    isplitl [HN]; · iexact HN
    isplitl [HU1]; · iexact HU1
    isplitl [HU2]; · iexact HU2
    isplitl [H4]; · iexact H4
    isplitl [H6]; · iexact H6
    isplitl [H8]; · iexact H8
    rw [show out nu t X a1 b1 a2 b2 = planes (res X a1 b1 a2 b2) from if_pos h]
    iexact H9
  · unfold phC
    rw [dif_neg h]
    iapply (wp_used (F := F) c 𝒱 bd inb_S1_S1_0) $$ HN
    iintro HN
    unfold phD
    rw [dif_pos ((cond5_iff t (used nu)).2 h)]
    iapply (wp_ldw (F := F) c 𝒱 bd (m := M9) inb_S8x256x128_S8x256x128_0_0_0) $$ H9
    iintro H9
    iapply (wp_stw (F := F) c 𝒱 bd (m := M9) inb_S8x256x128_S8x256x128_0_0_0) $$ H9
    iintro H9
    rw [wp_ret]
    imodintro
    iapply HK
    isplitl [HN]; · iexact HN
    isplitl [HU1]; · iexact HU1
    isplitl [HU2]; · iexact HU2
    isplitl [H4]; · iexact H4
    isplitl [H6]; · iexact H6
    isplitl [H8]; · iexact H8
    rw [show out nu t X a1 b1 a2 b2 = k0_pay10 (F := F) from if_neg h]
    iexact H9

/-- One row block. -/
theorem wp_body {be nx : S288.Idx → BitVec 32} (C : Chain be nx) (X : S4x256x128.Idx → BitVec 32) (b1 : S1x1x2048.Idx → F .f32) (b2 : S1x1x1024.Idx → F .f32) (Y : S8x256x128.Idx → F .f32)
    {Q : PUnit → sProp 𝕄} :
    iprop(held (F := F) c be nx nu w1 w2 t.val ∗ owe (F := F) c ∗ wins (F := F) c M4 M6 M8 M9 X b1 b2 Y)
      ⊢ iprop((iprop(held (F := F) c be nx nu w1 w2 (t.val + 1) ∗ owe (F := F) c
              ∗ wins (F := F) c M4 M6 M8 M9 X b1 b2 (out nu t X (u1 be w1 t.val) b1 (u2 be w2 t.val) b2)) -∗ Q ⟨⟩)
          -∗ wp frame (wpE defs₀ 𝒱 (c : Thread nD τ) bd) Set.univ (body t M4 M6 M8 M9) Q) := by
  have hr := C.range _ (lt288 t)
  unfold held body
  iintro ⟨⟨HB, HN, HNU, HW, HC⟩, HO, HM⟩ HK
  iapply (wp_block (F := F) c 𝒱 bd (off1_eq t) (k0_off1_inb (pt t))) $$ HB
  iintro HB
  iapply (wp_assume 𝒱 c bd Set.univ (chk1_ok (pt t) (v := word be t.val) hr))
  iapply (wp_block (F := F) c 𝒱 bd (off2_eq t) (k0_off2_inb (pt t))) $$ HB
  iintro HB
  iapply (wp_assume 𝒱 c bd Set.univ (chk2_ok (pt t) (v := word be t.val) (w := word be (t.val - 1)) hr))
  iapply (wp_turn (F := F) c 𝒱 bd w1 w2 t C _ _ _) $$ [HW HC HN HO]
  · isplitl [HW]; · iexact HW
    isplitl [HC]; · iexact HC
    isplitl [HN]; · iexact HN
    iexact HO
  iintro ⟨HW, HC, HN, HO⟩
  have e : cvt (F := F) c be w1 w2 (t.val + 1) = iprop(U1 (F := F) c (u1 be w1 t.val) ∗ U2 (F := F) c (u2 be w2 t.val)) := by
    unfold cvt
    rw [if_pos (Nat.succ_pos _), Nat.add_sub_cancel]
  ihave HC := (Entails.of_eq e) $$ HC
  icases HC with ⟨HU1, HU2⟩
  iapply (wp_used (F := F) c 𝒱 bd inb_S1_S1_0) $$ HNU
  iintro HNU
  iapply (wp_put (F := F) c 𝒱 bd nu t M4 M6 M8 M9 X b1 b2 Y (u1 be w1 t.val) (u2 be w2 t.val)) $$ [HNU HU1 HU2 HM]
  · isplitl [HNU]; · iexact HNU
    isplitl [HU1]; · iexact HU1
    isplitl [HU2]; · iexact HU2
    iexact HM
  iintro ⟨HNU, HU1, HU2, HM⟩
  iapply HK
  isplitr [HO HM]
  · isplitl [HB]; · iexact HB
    isplitl [HN]; · iexact HN
    isplitl [HNU]; · iexact HNU
    isplitl [HW]; · iexact HW
    rw [e]
    isplitl [HU1]; · iexact HU1
    iexact HU2
  isplitl [HO]; · iexact HO
  iexact HM

end Cert.ExpertsIdeal.Experts
end
-- ==== Proof.Fire.lean ====
/- The experts' launch: its windows' blocks at every grid point, and every run of it. -/
module

public import proofs.«01_k».proof.Proof.Turn
public import Idealize.ShloMosaic.Lib.Pipeline.ValueKit
public import Idealize.ShloMosaic.Lib.Pipeline.Covers
public import Idealize.ShloMosaic.Lib.StableHlo.Run

@[expose] public section

set_option maxRecDepth 16384

noncomputable section

namespace Cert.ExpertsIdeal.Experts

open Idealize.ShloMosaic Idealize.ShloMosaic.ValueIdx Cert.ExpertsIdeal Cert.ExpertsIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

variable (m : (ℓ : Loc nD τ sig) → Buf (Elt F) ℓ)

/-- The arguments as a launch memory has them. -/
abbrev beOf : S288.Idx → BitVec 32 := m (((0 : Dev nD) : Thread nD τ).loc main_arg0)
abbrev nxOf : S288.Idx → BitVec 32 := m (((0 : Dev nD) : Thread nD τ).loc main_arg1)
abbrev nuOf : S1.Idx → BitVec 32 := m (((0 : Dev nD) : Thread nD τ).loc main_arg2)
abbrev xsOf : S4x73728x128.Idx → BitVec 32 := m (((0 : Dev nD) : Thread nD τ).loc main_arg3)
abbrev w1Of : W1I → F .f32 := m (((0 : Dev nD) : Thread nD τ).loc main_arg4)
abbrev b1Of : S32x2048.Idx → F .f32 := m (((0 : Dev nD) : Thread nD τ).loc main_arg5)
abbrev w2Of : W2I → F .f32 := m (((0 : Dev nD) : Thread nD τ).loc main_arg6)
abbrev b2Of : S32x1024.Idx → F .f32 := m (((0 : Dev nD) : Thread nD τ).loc main_arg7)

/-- The buffers at the launch, the biases given a unit axis. -/
abbrev V (c : Dev nD) (b : Ref sig .tc) : Buf (Elt F) ((c : Thread nD τ).loc b) := StableHlo.after hostOps0 (fun b => m (c, b)) b

theorem V_be (c : Dev nD) : V m c main_arg0 = m ((c : Thread nD τ).loc main_arg0) := by unfold_abbrev_sides; after_results
theorem V_nx (c : Dev nD) : V m c main_arg1 = m ((c : Thread nD τ).loc main_arg1) := by unfold_abbrev_sides; after_results
theorem V_nu (c : Dev nD) : V m c main_arg2 = m ((c : Thread nD τ).loc main_arg2) := by unfold_abbrev_sides; after_results
theorem V_xs (c : Dev nD) : V m c main_arg3 = m ((c : Thread nD τ).loc main_arg3) := by unfold_abbrev_sides; after_results
theorem V_w1 (c : Dev nD) : V m c main_arg4 = m ((c : Thread nD τ).loc main_arg4) := by unfold_abbrev_sides; after_results
theorem V_b1 (c : Dev nD) : V m c main_arg5 = m ((c : Thread nD τ).loc main_arg5) := by unfold_abbrev_sides; after_results
theorem V_w2 (c : Dev nD) : V m c main_arg6 = m ((c : Thread nD τ).loc main_arg6) := by unfold_abbrev_sides; after_results
theorem V_b2 (c : Dev nD) : V m c main_arg7 = m ((c : Thread nD τ).loc main_arg7) := by unfold_abbrev_sides; after_results
theorem V_b1u : V m 0 main_v0 = shapeCast S32x1x2048 (b1Of m) shapeCasts_S32x2048_S32x1x2048 := by unfold_abbrev_sides; after_results; rfl
theorem V_b2u : V m 0 main_v1 = shapeCast S32x1x1024 (b2Of m) shapeCasts_S32x1024_S32x1x1024 := by unfold_abbrev_sides; after_results; rfl

/-- The block of the packed tokens at a grid point, and the biases of its expert. -/
def xBlk (t : Fin grid0.N) : S4x256x128.Idx → BitVec 32 := fun j => xsOf m (ValueIdx.ix3 (j 0) ⟨t.val * 256 + (j 1).val, by
  have h := lt288 t
  have h1 : (j 1).val < 256 := (j 1).isLt
  show t.val * 256 + (j 1).val < 73728
  omega⟩ (j 2))
def b1Blk (t : Fin grid0.N) : S1x1x2048.Idx → F .f32 := fun j => b1Of m (ValueIdx.ix2 ⟨(word (beOf m) t.val).toNat % 32, Nat.mod_lt _ (by decide)⟩ (j 2))
def b2Blk (t : Fin grid0.N) : S1x1x1024.Idx → F .f32 := fun j => b2Of m (ValueIdx.ix2 ⟨(word (beOf m) t.val).toNat % 32, Nat.mod_lt _ (by decide)⟩ (j 2))
/-- What block `t` writes. -/
def outBlk (t : Fin grid0.N) : S8x256x128.Idx → F .f32 :=
  out (nuOf m) t (xBlk m t) (u1 (beOf m) (w1Of m) t.val) (b1Blk m t) (u2 (beOf m) (w2Of m) t.val) (b2Blk m t)

theorem word_at (f : S288.Idx → BitVec 32) (t : Fin grid0.N) (h : 0 < (Rect.unit (s := S288) (k0_off1 (pt t)) S1.size (k0_off1_inb (pt t))).shape.numel) :
    f ((Rect.unit (s := S288) (k0_off1 (pt t)) S1.size (k0_off1_inb (pt t))).emb (Shape.Idx.first h)) = word f t.val := by
  unfold word
  congr 1
  funext d
  apply Fin.ext
  rw [Rect.emb_apply]
  have ht := lt288 t
  have hk : k0_off1 (pt t) 0 = t.val := congrFun (off1_eq t) 0
  match d with
  | 0 => show k0_off1 (pt t) 0 + 1 * 0 = t.val % 288; rw [hk]; omega

theorem map1_eq (pf : pre0.Contents (Elt F)) (t : Fin grid0.N) : cc0_transform_2 k0_off1_inb numel1_S1 pf (pt t) = ![(word (pf 0) t.val).toNat, 0, 0] := by
  have e : (pf.at 0 (Rect.unit (s := S288) (k0_off1 (pt t)) S1.size (k0_off1_inb (pt t))) numel1_S1 : BitVec 32) = word (pf 0) t.val :=
    word_at (pf 0) t _
  show ![(pf.at 0 (Rect.unit (s := S288) (k0_off1 (pt t)) S1.size (k0_off1_inb (pt t))) numel1_S1 : BitVec 32).toNat, 0, 0] = _
  rw [e]
theorem map2_eq (pf : pre0.Contents (Elt F)) (t : Fin grid0.N) : cc0_transform_4 k0_off1_inb numel1_S1 pf (pt t) = ![(word (pf 0) t.val).toNat, 0, 0] :=
  map1_eq pf t

theorem tables_ok (pf : pre0.Contents (Elt F)) {nx : S288.Idx → BitVec 32} (C : Chain (pf 0) nx) : ok0 (F := F) pf := by
  refine ⟨fun i => ?_, fun i => ?_⟩
  · obtain ⟨t, rfl⟩ := Pipeline.Grid.coords_surjective grid0 i
    refine ⟨?_, Or.inl rfl⟩
    rw [map1_eq]
    have h := C.range _ (lt288 t)
    intro a
    match a with
    | 0 => show ((word (pf 0) t.val).toNat + 1) * 1 ≤ 32; omega
    | 1 => show (0 + 1) * 1 ≤ 1; omega
    | 2 => show (0 + 1) * 2048 ≤ 2048; omega
  · obtain ⟨t, rfl⟩ := Pipeline.Grid.coords_surjective grid0 i
    refine ⟨?_, Or.inl rfl⟩
    rw [map2_eq]
    have h := C.range _ (lt288 t)
    intro a
    match a with
    | 0 => show ((word (pf 0) t.val).toNat + 1) * 1 ≤ 32; omega
    | 1 => show (0 + 1) * 1 ≤ 1; omega
    | 2 => show (0 + 1) * 1024 ≤ 1024; omega

/-- The tables' contents. -/
def tables (C : Chain (beOf m) (nxOf m)) (_ : Fin 1) : (pcfg0 (F := F)).Adm :=
  ⟨fun k => m (((0 : Dev nD) : Thread nD τ).loc (pre0.ref k)), tables_ok _ (nx := nxOf m) C⟩

variable (C : Chain (beOf m) (nxOf m))

abbrev cfgT : Pipeline.Cfg sig Λ₀ := Pipeline.pin (pcfgs (F := F)) (tables m C) 0

def dats (p : Fin 1) (c : Dev nD) : Pipeline.Dat τ (Elt F) Unit ℕ (UD sig nD τ) ℕ (Pipeline.pin (pcfgs (F := F)) (tables m C) p) c where
  A := fun w => V m c (Pipeline.arrRef spec0 w)
  after := fun w t => match w with
    | 0 => xBlk m t
    | 1 => b1Blk m t
    | 2 => b2Blk m t
    | 3 => outBlk m t
    | ⟨_ + 4, h⟩ => absurd h (Nat.not_lt.2 (Nat.le_add_left _ _))
  Φ := fun t => iprop(held (F := F) c (beOf m) (nxOf m) (nuOf m) (w1Of m) (w2Of m) t.val ∗ ∃ r, prngReg c r)
  q := fun _ => fullShare
  owed := fun _ => 0

/-- An input the blocks only read holds its block at every point, fetched there or not. -/
theorem fetched_held (c : Dev nD) (w : Fin 4) (hw : ((cfgT m C).win w).isOut = false) (hclip : ∀ (i : grid0.Coords) a, ((cfgT m C).win w).clip i a = none) :
    ∀ (n : ℕ) (h : n < grid0.N), Pipeline.heldIn (cfgT m C) (dats m C 0 c).A w n h = (dats m C 0 c).fetched w ⟨n, h⟩ (fun _ => Classical.arbitrary _) := by
  intro n
  induction n with
  | zero => exact fun h => rfl
  | succ n ih =>
    intro h
    by_cases hf : ((cfgT m C).win w).fetch ⟨n + 1, h⟩ = true
    · exact Pipeline.heldIn_of_fetch (dats m C 0 c).A w ⟨n + 1, h⟩ hf
    · rw [Pipeline.heldIn_of_not_fetch (dats m C 0 c).A w n h (Bool.eq_false_iff.mpr hf), ih (Nat.lt_of_succ_lt h)]
      refine (dats m C 0 c).fetched_congr w ?_ (funext fun a => (hclip _ a).trans (hclip _ a).symm) _
      by_contra hne
      exact hf ((((cfgT m C).win w).fetch_in hw _).2 (Or.inr ⟨Nat.succ_pos _, fun e => hne e.symm⟩))

theorem blk0_emb (t : Fin grid0.N) (j : S4x256x128.Idx) : ((((cfgT m C).win 0).blk t).view.emb j : S4x73728x128.Idx) = ValueIdx.ix3 (j 0) ⟨t.val * 256 + (j 1).val, by
    have h := lt288 t
    have h1 : (j 1).val < 256 := (j 1).isLt
    show t.val * 256 + (j 1).val < 73728
    omega⟩ (j 2) := by
  have hv : (BitVec.ofNat 32 ((pt t) 0).val).toNat = t.val := by
    rw [pt_val, BitVec.toNat_ofNat]
    have h := lt288 t
    omega
  refine funext fun (a : Fin 3) => Fin.ext ?_
  match a with
  | 0 => show 0 * 4 + 1 * (j 0).val = (j 0).val; omega
  | 1 => show (BitVec.ofNat 32 ((pt t) 0).val).toNat * 256 + 1 * (j 1).val = t.val * 256 + (j 1).val; omega
  | 2 => show 0 * 128 + 1 * (j 2).val = (j 2).val; omega
theorem blk1_emb (t : Fin grid0.N) (j : S1x1x2048.Idx) : ((((cfgT m C).win 1).blk t).view.emb j : S32x1x2048.Idx)
    = ValueIdx.ix3 ⟨(word (beOf m) t.val).toNat % 32, Nat.mod_lt _ (by decide)⟩ (0 : Fin 1) (j 2) := by
  have hm := map1_eq (F := F) (tables m C 0).1 t
  have h0 : (j 0).val < 1 := (j 0).isLt
  have h1 : (j 1).val < 1 := (j 1).isLt
  have hr := C.range _ (lt288 t)
  refine funext fun (a : Fin 3) => Fin.ext ?_
  match a with
  | 0 =>
    show cc0_transform_2 k0_off1_inb numel1_S1 (tables m C 0).1 (pt t) 0 * 1 + 1 * (j 0).val = (word (beOf m) t.val).toNat % 32
    rw [hm]
    show (word (beOf m) t.val).toNat * 1 + 1 * (j 0).val = _
    omega
  | 1 => show 0 * 1 + 1 * (j 1).val = 0; omega
  | 2 => show 0 * 2048 + 1 * (j 2).val = (j 2).val; omega
theorem blk2_emb (t : Fin grid0.N) (j : S1x1x1024.Idx) : ((((cfgT m C).win 2).blk t).view.emb j : S32x1x1024.Idx)
    = ValueIdx.ix3 ⟨(word (beOf m) t.val).toNat % 32, Nat.mod_lt _ (by decide)⟩ (0 : Fin 1) (j 2) := by
  have hm := map2_eq (F := F) (tables m C 0).1 t
  have h0 : (j 0).val < 1 := (j 0).isLt
  have h1 : (j 1).val < 1 := (j 1).isLt
  have hr := C.range _ (lt288 t)
  refine funext fun (a : Fin 3) => Fin.ext ?_
  match a with
  | 0 =>
    show cc0_transform_4 k0_off1_inb numel1_S1 (tables m C 0).1 (pt t) 0 * 1 + 1 * (j 0).val = (word (beOf m) t.val).toNat % 32
    rw [hm]
    show (word (beOf m) t.val).toNat * 1 + 1 * (j 0).val = _
    omega
  | 1 => show 0 * 1 + 1 * (j 1).val = 0; omega
  | 2 => show 0 * 1024 + 1 * (j 2).val = (j 2).val; omega
theorem blk3_emb (t : Fin grid0.N) (j : S8x256x128.Idx) : ((((cfgT m C).win 3).blk t).view.emb j : S8x73728x128.Idx) = ValueIdx.ix3 (j 0) ⟨t.val * 256 + (j 1).val, by
    have h := lt288 t
    have h1 : (j 1).val < 256 := (j 1).isLt
    show t.val * 256 + (j 1).val < 73728
    omega⟩ (j 2) := by
  have hv : (BitVec.ofNat 32 ((pt t) 0).val).toNat = t.val := by
    rw [pt_val, BitVec.toNat_ofNat]
    have h := lt288 t
    omega
  refine funext fun (a : Fin 3) => Fin.ext ?_
  match a with
  | 0 => show 0 * 8 + 1 * (j 0).val = (j 0).val; omega
  | 1 => show (BitVec.ofNat 32 ((pt t) 0).val).toNat * 256 + 1 * (j 1).val = t.val * 256 + (j 1).val; omega
  | 2 => show 0 * 128 + 1 * (j 2).val = (j 2).val; omega

theorem found0 (t : Fin grid0.N) (d) : (dats m C 0 0).fetched 0 t d = xBlk m t := by
  unfold Pipeline.Dat.fetched Pipeline.Dat.blockOf
  dsimp only [dats]
  funext j
  have e : (V m 0 main_arg3 : S4x73728x128.Idx → BitVec 32) ((((cfgT m C).win 0).blk t).view.emb j) = xBlk m t j := by
    rw [V_xs]
    exact congrArg (xsOf m) (blk0_emb m C t j)
  exact e
theorem unit_row {n : ℕ} (f : (⟨2, ![32, n]⟩ : Shape).Idx → F .f32) (h : (⟨2, ![32, n]⟩ : Shape).ShapeCasts ⟨3, ![32, 1, n]⟩) (e : Fin 32) (z : Fin 1) (k : Fin n) :
    shapeCast (⟨3, ![32, 1, n]⟩ : Shape) f h (ValueIdx.ix3 e z k) = f (ValueIdx.ix2 e k) := by
  refine shapeCast_apply f h _ _ ?_
  rw [Shape.rowMajor_val_two, Shape.rowMajor_val_three]
  have hz : z.val = 0 := by omega
  show e.val * n + k.val = (e.val * 1 + z.val) * n + k.val
  rw [hz, Nat.mul_one, Nat.add_zero]
theorem found1 (t : Fin grid0.N) (d) : (dats m C 0 0).fetched 1 t d = b1Blk m t := by
  unfold Pipeline.Dat.fetched Pipeline.Dat.blockOf
  dsimp only [dats]
  funext j
  have e : (V m 0 main_v0 : S32x1x2048.Idx → F .f32) ((((cfgT m C).win 1).blk t).view.emb j) = b1Blk m t j := by
    rw [V_b1u]
    refine (congrArg (shapeCast S32x1x2048 (b1Of m) shapeCasts_S32x2048_S32x1x2048) (blk1_emb m C t j)).trans ?_
    exact unit_row _ _ _ _ _
  exact e
theorem found2 (t : Fin grid0.N) (d) : (dats m C 0 0).fetched 2 t d = b2Blk m t := by
  unfold Pipeline.Dat.fetched Pipeline.Dat.blockOf
  dsimp only [dats]
  funext j
  have e : (V m 0 main_v1 : S32x1x1024.Idx → F .f32) ((((cfgT m C).win 2).blk t).view.emb j) = b2Blk m t j := by
    rw [V_b2u]
    refine (congrArg (shapeCast S32x1x1024 (b2Of m) shapeCasts_S32x1024_S32x1x1024) (blk2_emb m C t j)).trans ?_
    exact unit_row _ _ _ _ _
  exact e

theorem before0 (t : Fin grid0.N) (d) : (dats m C 0 0).before 0 t d = xBlk m t :=
  ((dats m C 0 0).before_eq_heldIn 0 rfl (fun _ => rfl) (fun _ _ => rfl)
    (fun t' => ((fetched_held m C 0 0 rfl (fun _ _ => rfl) t'.val t'.isLt).trans (found0 m C t' _)).symm) t d).trans
    ((fetched_held m C 0 0 rfl (fun _ _ => rfl) t.val t.isLt).trans (found0 m C t _))
theorem before1 (t : Fin grid0.N) (d) : (dats m C 0 0).before 1 t d = b1Blk m t :=
  ((dats m C 0 0).before_eq_heldIn 1 rfl (fun _ => rfl) (fun _ _ => rfl)
    (fun t' => ((fetched_held m C 0 1 rfl (fun _ _ => rfl) t'.val t'.isLt).trans (found1 m C t' _)).symm) t d).trans
    ((fetched_held m C 0 1 rfl (fun _ _ => rfl) t.val t.isLt).trans (found1 m C t _))
theorem before2 (t : Fin grid0.N) (d) : (dats m C 0 0).before 2 t d = b2Blk m t :=
  ((dats m C 0 0).before_eq_heldIn 2 rfl (fun _ => rfl) (fun _ _ => rfl)
    (fun t' => ((fetched_held m C 0 2 rfl (fun _ _ => rfl) t'.val t'.isLt).trans (found2 m C t' _)).symm) t d).trans
    ((fetched_held m C 0 2 rfl (fun _ _ => rfl) t.val t.isLt).trans (found2 m C t _))

theorem busy3 (t : Fin grid0.N) : (cfgT m C).idle 3 ((cfgT m C).grid.coords t) = false := by
  show (!(k0_cond4 (pt t) ((tables m C 0).1.atD 2 ![0]) == 1#1) && !(k0_cond5 (pt t) ((tables m C 0).1.atD 2 ![0]) == 1#1)) = false
  generalize ((tables m C 0).1.atD 2 ![0] : BitVec 32) = n
  by_cases h : k0_cond4 (pt t) n = 1#1
  · rw [h]; rfl
  · rw [(cond5_iff t n).2 h]; rw [show ((1#1 : BitVec 1) == 1#1) = true from rfl]; exact Bool.and_false _

/-- A window's staging buffer at a point. -/
abbrev stg (t : Fin grid0.N) (w : Fin 4) := ((cfgT m C).win w).stage ((cfgT m C).slots t w)

theorem leaves0 (t : Fin grid0.N) : (owns ((0 : Dev nD) : Thread nD τ) (stg m C t 0) fullShare (xBlk m t) : sProp 𝕄) ⊢ (dats m C 0 0).leaves 0 t := .rfl
theorem leaves1 (t : Fin grid0.N) : (owns ((0 : Dev nD) : Thread nD τ) (stg m C t 1) fullShare (b1Blk m t) : sProp 𝕄) ⊢ (dats m C 0 0).leaves 1 t := .rfl
theorem leaves2 (t : Fin grid0.N) : (owns ((0 : Dev nD) : Thread nD τ) (stg m C t 2) fullShare (b2Blk m t) : sProp 𝕄) ⊢ (dats m C 0 0).leaves 2 t := .rfl
theorem leaves3 (t : Fin grid0.N) : (owns ((0 : Dev nD) : Thread nD τ) (stg m C t 3) fullShare (outBlk m t) : sProp 𝕄) ⊢ (dats m C 0 0).leaves 3 t := by
  unfold Pipeline.Dat.leaves
  rw [busy3]
  exact .rfl

theorem leaves_all (t : Fin grid0.N) :
    wins (F := F) 0 (stg m C t 0) (stg m C t 1) (stg m C t 2) (stg m C t 3) (xBlk m t) (b1Blk m t) (b2Blk m t) (outBlk m t)
      ⊢ iprop((dats m C 0 0).leaves 0 t ∗ (dats m C 0 0).leaves 1 t ∗ (dats m C 0 0).leaves 2 t ∗ (dats m C 0 0).leaves 3 t) :=
  BIClass.sep_mono (leaves0 m C t) (BIClass.sep_mono (leaves1 m C t) (BIClass.sep_mono (leaves2 m C t) (leaves3 m C t)))

abbrev 𝒱₀ : Variants := Variants.none

theorem defs_body (t : Fin grid0.N) : defs₀ (F := F) .tc ((cfgT m C).body) ((cfgT m C).bodyArgs t ((cfgT m C).slots t))
    = body t (stg m C t 0) (stg m C t 1) (stg m C t 2) (stg m C t 3) := by
  refine Eq.trans ?_ (body_eq (F := F) t (stg m C t 0) (stage_whole0 0 _) (stg m C t 1) (stage_whole0 1 _) (stg m C t 2) (stage_whole0 2 _) (stg m C t 3) (stage_whole0 3 _))
  unfold defs₀
  rw [Defs.onTc_tc]

theorem body_ok (c : Dev nD) : Pipeline.BodyObligationLoose (dats m C 0 c) defs₀ 𝒱₀ () Set.univ := by
  rw [Subsingleton.elim c 0]
  intro t
  rw [defs_body]
  show iprop((held (F := F) 0 (beOf m) (nxOf m) (nuOf m) (w1Of m) (w2Of m) t.val ∗ ∃ r, prngReg (0 : Dev nD) r) ∗ (dats m C 0 0).owesAt () t.castSucc
      ∗ bigSep Finset.univ fun w : Fin 4 => iprop(∃ d, owns ((0 : Dev nD) : Thread nD τ) (stg m C t w) fullShare ((dats m C 0 0).before w t d)))
    ⊢ wp frame (wpE defs₀ 𝒱₀ ((0 : Dev nD) : Thread nD τ) none) Set.univ (body t (stg m C t 0) (stg m C t 1) (stg m C t 2) (stg m C t 3)) fun _ =>
      iprop((held (F := F) 0 (beOf m) (nxOf m) (nuOf m) (w1Of m) (w2Of m) (t.val + 1) ∗ ∃ r, prngReg (0 : Dev nD) r) ∗ (dats m C 0 0).owesAt () t.succ
        ∗ bigSep Finset.univ fun w : Fin 4 => (dats m C 0 0).leaves w t)
  rw [bigSep_W0, bigSep_W0]
  iintro ⟨⟨HΦ, HR⟩, ⟨%W, %hW, HO⟩, ⟨%d0, H0⟩, ⟨%d1, H1⟩, ⟨%d2, H2⟩, ⟨%d3, H3⟩⟩
  ihave H0 := (Entails.of_eq (congrArg (fun X => (owns ((0 : Dev nD) : Thread nD τ) (stg m C t 0) fullShare X : sProp 𝕄)) (before0 m C t d0))) $$ H0
  ihave H1 := (Entails.of_eq (congrArg (fun X => (owns ((0 : Dev nD) : Thread nD τ) (stg m C t 1) fullShare X : sProp 𝕄)) (before1 m C t d1))) $$ H1
  ihave H2 := (Entails.of_eq (congrArg (fun X => (owns ((0 : Dev nD) : Thread nD τ) (stg m C t 2) fullShare X : sProp 𝕄)) (before2 m C t d2))) $$ H2
  iapply (wp_body (F := F) 0 𝒱₀ none (nuOf m) (w1Of m) (w2Of m) t (stg m C t 0) (stg m C t 1) (stg m C t 2) (stg m C t 3) C (xBlk m t) (b1Blk m t) (b2Blk m t) _) $$ [HΦ HO H0 H1 H2 H3]
  · isplitl [HΦ]; · iexact HΦ
    isplitl [HO]; · iexists W; iexact HO
    isplitl [H0]; · iexact H0
    isplitl [H1]; · iexact H1
    isplitl [H2]; · iexact H2
    iexact H3
  iintro ⟨HΦ, ⟨%W', HO⟩, H0, H1, H2, H3⟩
  isplitl [HΦ HR]
  · isplitl [HΦ]; · iexact HΦ
    iexact HR
  isplitl [HO]
  · iexists W'
    isplitr; · ipureintro; exact fun _ _ => Or.inl trivial
    iexact HO
  iapply (leaves_all m C t)
  isplitl [H0]; · iexact H0
  isplitl [H1]; · iexact H1
  isplitl [H2]; · iexact H2
  iexact H3

/-- The kernel's own semaphores. -/
abbrev own : Fin 2 → SemLoc sig := fun k => .dma ⟨8 + k.val, by have := k.isLt; have e : sig.nDmaSem = 10 := rfl; omega⟩
theorem ownFacts : Pipeline.OwnSemFacts spec0 own := by decide

theorem own_eq (c : Dev nD) : (Pipeline.ownSems0 (Ix := Unit) (Name := ℕ) (U := UD sig nD τ) (Lvl := ℕ) (Val := Elt F) (τ := τ) own c : sProp 𝕄)
    = iprop(cell (F := F) c cell1S ∗ cell (F := F) c cell2S) := by
  rw [Pipeline.ownSems0_eq_of_list c own [0, 1] (by decide) (by decide)]
  rfl

/-- The launch's invariant, conjunct by conjunct. -/
theorem phi_eq (A : (c : Dev nD) → (b : Ref sig .tc) → Buf (Elt F) ((c : Thread nD τ).loc b)) (c : Dev nD) :
    (Pipeline.ΦD own spec0 {main_arg4, main_arg6} A c : sProp 𝕄)
      = iprop(((∃ f, B1 (F := F) c f) ∗ (∃ f, B2 (F := F) c f)
            ∗ (∃ f : S1024x2048.Idx → F .bf16, ((c : Thread nD τ).loc cc0_scratch2) ↦{fullShare} f) ∗ (∃ f : S1024x1024.Idx → F .bf16, ((c : Thread nD τ).loc cc0_scratch3) ↦{fullShare} f))
          ∗ (∃ r, prngReg c r) ∗ (cell (F := F) c cell1S ∗ cell (F := F) c cell2S)
          ∗ W1 (F := F) c Finset.univ (A c main_arg4) ∗ W2 (F := F) c Finset.univ (A c main_arg6)) := by
  rw [Pipeline.ΦD_eq, scopedRest0_eq, own_eq, bigSep_insert (by decide), bigSep_singleton]
  rfl

theorem tables_eq (c : Dev nD) (a : pre0.Contents (Elt F)) :
    (Pipeline.ΦT (U := UD sig nD τ) pre0 a c : sProp 𝕄) = iprop(BE (F := F) c (a 0) ∗ NX (F := F) c (a 1) ∗ NU (F := F) c (a 2)) := by
  unfold Pipeline.ΦT Pipeline.prefHeld
  rw [show (Finset.univ : Finset (Fin pre0.K)) = {0, 1, 2} from by decide, bigSep_insert (by decide), bigSep_insert (by decide), bigSep_singleton]
  rfl

theorem weights_rest : ({main_arg4, main_arg6} : Finset (Ref sig .tc)) ⊆ Pipeline.restRefsP sig pre0 spec0 := by decide

/-- The result: block by block. -/
def result : S8x73728x128.Idx → F .f32 := fun j =>
  outBlk m ⟨(j 1).val / 256, by
    have h1 : (j 1).val < 73728 := (j 1).isLt
    show (j 1).val / 256 < grid0.N
    rw [N_0]
    omega⟩ (ValueIdx.ix3 (j 0) ⟨(j 1).val % 256, Nat.mod_lt _ (by decide)⟩ (j 2))

theorem covers3 : ((cfgT m C).win 3).Covers :=
  ((cfgT m C).win 3).covers_of_index_surj rfl (by decide : ∀ a : Fin 3, 0 < S8x256x128.size a) fun β => by
    have h0 : (β (0 : Fin 3)).val < (8 + 8 - 1) / 8 := (β (0 : Fin 3)).isLt
    have h1 : (β (1 : Fin 3)).val < (73728 + 256 - 1) / 256 := (β (1 : Fin 3)).isLt
    have h2 : (β (2 : Fin 3)).val < (128 + 128 - 1) / 128 := (β (2 : Fin 3)).isLt
    have hv := pt_val ⟨(β (1 : Fin 3)).val, by rw [N_0]; omega⟩
    refine ⟨⟨(β (1 : Fin 3)).val, by show _ < grid0.N; rw [N_0]; omega⟩, fun (a : Fin 3) => ?_⟩
    match a with
    | 0 => show 0 = (β (0 : Fin 3)).val; omega
    | 1 =>
      show (BitVec.ofNat 32 ((pt ⟨(β (1 : Fin 3)).val, _⟩) 0).val).toNat = (β (1 : Fin 3)).val
      rw [hv, BitVec.toNat_ofNat]
      show (β (1 : Fin 3)).val % 2 ^ 32 = _
      omega
    | 2 => show 0 = (β (2 : Fin 3)).val; omega

theorem result_at (t : Fin grid0.N) (y : S8x256x128.Idx) : outBlk m t y = result m ((((cfgT m C).win 3).blk t).view.emb y) := by
  refine Eq.trans ?_ (congrArg (result m) (blk3_emb m C t y)).symm
  have h1 : (y 1).val < 256 := (y 1).isLt
  unfold result
  have et : ∀ h, (⟨(t.val * 256 + (y 1).val) / 256, h⟩ : Fin grid0.N) = t := fun h => Fin.ext (by show (t.val * 256 + (y 1).val) / 256 = t.val; omega)
  have ey : ∀ h, (ValueIdx.ix3 (y 0) (⟨(t.val * 256 + (y 1).val) % 256, h⟩ : Fin 256) (y 2) : S8x256x128.Idx) = y := fun h => by
    refine funext fun (a : Fin 3) => Fin.ext ?_
    match a with
    | 0 => rfl
    | 1 => show (t.val * 256 + (y 1).val) % 256 = (y 1).val; omega
    | 2 => rfl
  exact (congrArg₂ (fun t y => outBlk m t y) (et _) (ey _)).symm

theorem result_eq : (dats m C 0 0).arrAt 3 (cfgT m C).N = result m :=
  (dats m C 0 0).arrAt_eq_of_covers 3 _ (covers3 m C) fun t _ y => result_at m C t y

include C in
theorem run_main (g : Dev nD → PrngReg) :
    θ_run (defs (F := F)) (onTc (τ := τ) (main (F := F))) ⟨m, fun _ => 0, g⟩ (fun r => (∀ c : Dev nD,
      r.2.mem ((c : Thread nD τ).loc main_v2) = result m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0) := by
  refine (θ_run defs _ _).mono (fun r (h : Pipeline.FramePost (Pipeline.pin (pcfgs (F := F)) (tables m C)) (dats m C) 0 (V m) r ∧ r.2.sem = fun _ => 0) => ⟨fun c => ?_, h.2⟩)
    (Pipeline.θ_run_frameP_dma (pcfgs (F := F)) (tables m C) (dats m C) 0 launch0 own defs₀ 𝒱₀ ownFacts {main_arg4, main_arg6} weights_rest m g main
      (body_ok m C) (fun c w => ?_) (fun c t => rfl) (V m) (Pipeline.hmainP_prefix pcfgs 0 defs₀ 𝒱₀ m main hostOps0 hostOps0_sub ⟨rfl, rfl⟩ main_chain) (fun c w => rfl) ?_ ?_ ?_
      (Q' := fun r => Pipeline.FramePost (Pipeline.pin (pcfgs (F := F)) (tables m C)) (dats m C) 0 (V m) r ∧ r.2.sem = fun _ => 0) (fun _ h => h))
  · obtain ⟨ha, hrest⟩ := h.1 c
    rw [Subsingleton.elim c 0] at ha hrest ⊢
    refine ⟨(ha 3).trans (result_eq m C), (hrest main_arg0 (by decide : main_arg0 ∈ Pipeline.restRefs sig spec0)).trans (V_be m 0), (hrest main_arg1 (by decide : main_arg1 ∈ Pipeline.restRefs sig spec0)).trans (V_nx m 0), (hrest main_arg2 (by decide : main_arg2 ∈ Pipeline.restRefs sig spec0)).trans (V_nu m 0), ((ha 0).trans ((dats m C 0 0).arrAt_in 0 rfl _)).trans (V_xs m 0),
      (hrest main_arg4 (by decide : main_arg4 ∈ Pipeline.restRefs sig spec0)).trans (V_w1 m 0), (hrest main_arg5 (by decide : main_arg5 ∈ Pipeline.restRefs sig spec0)).trans (V_b1 m 0), (hrest main_arg6 (by decide : main_arg6 ∈ Pipeline.restRefs sig spec0)).trans (V_w2 m 0), (hrest main_arg7 (by decide : main_arg7 ∈ Pipeline.restRefs sig spec0)).trans (V_b2 m 0)⟩
  · exact ite_self _
  · intro c k
    rw [Subsingleton.elim c 0]
    match k with
    | 0 => exact V_be m 0
    | 1 => exact V_nx m 0
    | 2 => exact V_nu m 0
  · intro c
    rw [phi_eq, tables_eq, Subsingleton.elim c 0]
    show _ ⊢ iprop(held (F := F) 0 (beOf m) (nxOf m) (nuOf m) (w1Of m) (w2Of m) 0 ∗ ∃ r, prngReg (0 : Dev nD) r)
    unfold held
    rw [show wts (F := F) 0 (nxOf m) (w1Of m) (w2Of m) 0 = iprop(free1 (F := F) 0 (w1Of m) ∗ free2 (F := F) 0 (w2Of m)) from if_neg (fun h => absurd h.1 (by decide)),
      show cvt (F := F) 0 (beOf m) (w1Of m) (w2Of m) 0 = iprop((∃ u, U1 (F := F) 0 u) ∗ (∃ u, U2 (F := F) 0 u)) from if_neg (by decide), V_w1, V_w2]
    unfold free1 free2
    iintro ⟨⟨⟨HB1, HB2, ⟨%f1, HU1⟩, ⟨%f2, HU2⟩⟩, HR, ⟨Hc1, Hc2⟩, HW1, HW2⟩, HBE, HNX, HNU⟩
    isplitr [HR]
    · isplitl [HBE]; · iexact HBE
      isplitl [HNX]; · iexact HNX
      isplitl [HNU]; · iexact HNU
      isplitl [HB1 HB2 Hc1 Hc2 HW1 HW2]
      · isplitl [HB1 Hc1 HW1]
        · isplitl [Hc1]; · iexact Hc1
          isplitl [HB1]; · iexact HB1
          iexact HW1
        isplitl [Hc2]; · iexact Hc2
        isplitl [HB2]; · iexact HB2
        iexact HW2
      isplitl [HU1]
      · iexists f1
        rw [show (U1 (F := F) 0 f1 : sProp 𝕄) = _ from owns_whole (Val := Elt F) ((0 : Dev nD) : Thread nD τ) cc0_scratch2 fullShare f1]
        iexact HU1
      iexists f2
      rw [show (U2 (F := F) 0 f2 : sProp 𝕄) = _ from owns_whole (Val := Elt F) ((0 : Dev nD) : Thread nD τ) cc0_scratch3 fullShare f2]
      iexact HU2
    · iexact HR
  · intro c
    rw [phi_eq, Subsingleton.elim c 0]
    show iprop(held (F := F) 0 (beOf m) (nxOf m) (nuOf m) (w1Of m) (w2Of m) 288 ∗ ∃ r, prngReg (0 : Dev nD) r) ⊢ _
    unfold held
    rw [show wts (F := F) 0 (nxOf m) (w1Of m) (w2Of m) 288 = iprop(free1 (F := F) 0 (w1Of m) ∗ free2 (F := F) 0 (w2Of m)) from if_neg (fun h => C.last h.2),
      show cvt (F := F) 0 (beOf m) (w1Of m) (w2Of m) 288 = iprop(U1 (F := F) 0 (u1 (beOf m) (w1Of m) 287) ∗ U2 (F := F) 0 (u2 (beOf m) (w2Of m) 287)) from if_pos (by decide), V_w1, V_w2]
    unfold free1 free2
    rw [show (U1 (F := F) 0 (u1 (beOf m) (w1Of m) 287) : sProp 𝕄) = _ from owns_whole (Val := Elt F) ((0 : Dev nD) : Thread nD τ) cc0_scratch2 fullShare _,
      show (U2 (F := F) 0 (u2 (beOf m) (w2Of m) 287) : sProp 𝕄) = _ from owns_whole (Val := Elt F) ((0 : Dev nD) : Thread nD τ) cc0_scratch3 fullShare _]
    iintro ⟨⟨HBE, HNX, HNU, ⟨⟨Hc1, HB1, HW1⟩, Hc2, HB2, HW2⟩, HU1, HU2⟩, HR⟩
    isplitl [HB1 HB2 HU1 HU2]
    · isplitl [HB1]; · iexact HB1
      isplitl [HB2]; · iexact HB2
      isplitl [HU1]; · iexists _; iexact HU1
      iexists _; iexact HU2
    isplitl [HR]; · iexact HR
    isplitl [Hc1 Hc2]
    · isplitl [Hc1]; · iexact Hc1
      iexact Hc2
    isplitl [HW1]; · iexact HW1
    iexact HW2

end Cert.ExpertsIdeal.Experts
end
-- ==== Proof.Chained.lean ====
/- The tables' chain, read off the precondition. -/
module

public import proofs.«01_k».proof.Proof.Words
public import proofs.«01_k».proof.Proof.Gen.Pre_chained
public import Idealize.ShloMosaic.Lib.ReduceAll
public import Idealize.ShloMosaic.Lib.Pipeline.Value
public import Idealize.ShloMosaic.Lib.StableHlo.Predicate

@[expose] public section

noncomputable section

namespace Cert.ExpertsIdeal.Experts

open Idealize.ShloMosaic Idealize.ShloMosaic.ValueIdx Cert.ExpertsIdeal Cert.ExpertsIdeal.Gen

variable {F : FTy → Type} [FloatOps F]

/-- A word that is not below zero and below 32, read signed, is below 32. -/
theorem small_word {w : BitVec 32} (h1 : IntOp.cmpi .sge w 0#32 = 1#1) (h2 : IntOp.cmpi .slt w 32#32 = 1#1) : w.toNat < 32 := by
  have h1' : (0#32 : BitVec 32).toInt ≤ w.toInt := IntOp.cmpi_sge.1 h1
  have h2' : w.toInt < (32#32 : BitVec 32).toInt := IntOp.cmpi_slt.1 h2
  rw [show (0#32 : BitVec 32).toInt = 0 by decide] at h1'
  rw [show (32#32 : BitVec 32).toInt = 32 by decide] at h2'
  have := w.isLt
  rw [BitVec.toInt_eq_toNat_cond] at h1' h2'
  split at h1' <;> omega

theorem word_ix (f : S288.Idx → BitVec 32) {i : ℕ} (h : i < 288) : word f i = f (ix1 ⟨i, h⟩) :=
  congrArg (fun k => f (ix1 k)) (Fin.ext (Nat.mod_eq_of_lt h))

theorem live_iff (w : BitVec 32) : live w ↔ 0 ≤ w.toInt := by
  have e := @IntOp.cmpi_sge 32 w 0#32
  rw [show (0#32 : BitVec 32).toInt = 0 by decide] at e
  rw [← e]
  unfold live k0_cond3
  show IntOp.cmpi .ne ((IntOp.cmpi .sge w 0#32).setWidth 32) 0#32 = 1#1 ↔ _
  generalize IntOp.cmpi .sge w 0#32 = b
  revert b
  decide

theorem chain_of (be nx : S288.Idx → BitVec 32) (nu : S1.Idx → BitVec 32) (xs : S4x73728x128.Idx → BitVec 32)
    (w1 : FVec F S32x1024x2048 .f32) (b1 : FVec F S32x2048 .f32) (w2 : FVec F S32x1024x1024 .f32) (b2 : FVec F S32x1024 .f32)
    (e : Cert.Pre_chained.fn (F := F) be nx nu xs w1 b1 w2 b2 = fun _ => 1#1) : Chain be nx := by
  have e0 := congrFun e (Shape.Idx.first Cert.Pre_chained.Facts.h_S_)
  dsimp only [Cert.Pre_chained.fn, Cert.Pre_chained.fn_part1, Cert.Pre_chained.fn_where] at e0
  haveI : Subsingleton Cert.Pre_chained.S_.Idx := ⟨fun a b => funext fun i => i.elim0⟩
  obtain ⟨e1, ec⟩ := IntOp.andi_eq_one.1 e0
  obtain ⟨ea, eb⟩ := IntOp.andi_eq_one.1 e1
  have cut : ∀ (f : S288.Idx → BitVec 32) (o : ℕ) (h) (a : Fin 287), o + a.val < 288 →
      extractStridedSlice Cert.Pre_chained.S287 ![o] f h (ix1 a) = word f (o + a.val) := fun f o h a ho => by
    rw [word_ix f ho]
    refine congrArg f (funext fun b => Fin.ext ?_)
    obtain rfl : b = 0 := Subsingleton.elim _ _
    show o + a.val = _
    rfl
  refine ⟨fun i hi => ?_, fun i hi => ?_, fun hl => ?_⟩
  · obtain ⟨h1, h2⟩ := IntOp.andi_eq_one.1 (Host.reduce_andi_all _ _ _ _ _ ea (ix1 ⟨i, hi⟩))
    rw [word_ix be hi]
    exact small_word h1 h2
  · have h := IntOp.cmpi_eq.1 (Host.reduce_andi_all _ _ _ _ _ eb (ix1 ⟨i, by omega⟩))
    have h0 := cut nx 0 Cert.Pre_chained.Facts.slices_S288_S287_0 ⟨i, by omega⟩ (by show 0 + i < 288; omega)
    have hn := cut nx 1 Cert.Pre_chained.Facts.slices_S288_S287_1 ⟨i, by omega⟩ (by show 1 + i < 288; omega)
    have hb0 := cut be 0 Cert.Pre_chained.Facts.slices_S288_S287_0 ⟨i, by omega⟩ (by show 0 + i < 288; omega)
    have hb1 := cut be 1 Cert.Pre_chained.Facts.slices_S288_S287_1 ⟨i, by omega⟩ (by show 1 + i < 288; omega)
    simp only [Nat.zero_add, Nat.add_comm 1] at h0 hn hb0 hb1
    have h' := h0.symm.trans (h.trans (select_apply _ _ _ _))
    rw [hn, hb1] at h'
    rw [h']
    have hc : cmpi .eq (extractStridedSlice Cert.Pre_chained.S287 ![1] be Cert.Pre_chained.Facts.slices_S288_S287_1)
        (extractStridedSlice Cert.Pre_chained.S287 ![0] be Cert.Pre_chained.Facts.slices_S288_S287_0) (ix1 ⟨i, by omega⟩)
        = IntOp.cmpi .eq (word be (i + 1)) (word be i) := congrArg₂ (IntOp.cmpi .eq) hb1 hb0
    rw [hc]
    by_cases hw : word be (i + 1) = word be i
    · rw [if_pos hw]
      exact if_pos (IntOp.cmpi_eq.2 hw)
    · rw [if_neg hw]
      exact if_neg fun h => hw (IntOp.cmpi_eq.1 h)
  · have h : _ < (0#32 : BitVec 32).toInt := IntOp.cmpi_slt.1 (Host.reduce_andi_all _ _ _ _ _ ec (ix1 0))
    rw [show (0#32 : BitVec 32).toInt = 0 by decide] at h
    have := (live_iff _).1 hl
    rw [word_ix nx (by decide)] at this
    refine absurd h (not_lt.2 (this.trans_eq (congrArg (fun j => (nx j).toInt) (funext fun b => Fin.ext ?_))))
    obtain rfl : b = 0 := Subsingleton.elim _ _
    rfl

end Cert.ExpertsIdeal.Experts

end
-- ==== Proof.Halves.lean ====
/- A word's two halves as floats: the kernel's, shifted and masked, are what the half's own pattern denotes. -/
module

public import Idealize.ShloMosaic.PureOps.Ideal
public import Idealize.ShloMosaic.PureOps.Vector

@[expose] public section

noncomputable section

namespace Cert.ExpertsIdeal.Experts

open Idealize.ShloMosaic

theorem ieee_upper (w : BitVec 32) (b : BitVec 16) (h : w.toNat = b.toNat * 65536) : Ideal.ieee 8 23 w = Ideal.ieee 8 7 b := by
  have hb := b.isLt
  have eneg : (w.extractLsb' (8 + 23) 1 == 1#1) = (b.extractLsb' (8 + 7) 1 == 1#1) := by
    congr 1
    apply BitVec.eq_of_toNat_eq
    rw [BitVec.extractLsb'_toNat, BitVec.extractLsb'_toNat, Nat.shiftRight_eq_div_pow, Nat.shiftRight_eq_div_pow, h]
    omega
  have eex : (w.extractLsb' 23 8).toNat = (b.extractLsb' 7 8).toNat := by
    rw [BitVec.extractLsb'_toNat, BitVec.extractLsb'_toNat, Nat.shiftRight_eq_div_pow, Nat.shiftRight_eq_div_pow, h]
    omega
  have efr : (w.extractLsb' 0 23).toNat = (b.extractLsb' 0 7).toNat * 65536 := by
    rw [BitVec.extractLsb'_toNat, BitVec.extractLsb'_toNat, Nat.shiftRight_eq_div_pow, Nat.shiftRight_eq_div_pow, h]
    omega
  unfold Ideal.ieee
  simp only [eneg, eex, efr]
  generalize (b.extractLsb' 0 7).toNat = fr
  generalize (b.extractLsb' 7 8).toNat = ex
  generalize (if (b.extractLsb' (8 + 7) 1 == 1#1) = true then (-1 : ℝ) else 1) = sg
  have e16 : ∀ k : ℤ, (2 : ℝ) ^ (k - 7) = 65536 * (2 : ℝ) ^ (k - 23) := fun k => by
    rw [show k - 7 = 16 + (k - 23) by ring, zpow_add₀ (by norm_num)]
    norm_num
  have z : (fr * 65536 = 0) ↔ fr = 0 := by omega
  simp only [z]
  split
  · rfl
  · split
    · congr 1
      have := e16 (1 - (2 ^ (8 - 1) - 1))
      push_cast at this ⊢
      rw [this]
      ring
    · congr 1
      have := e16 ((ex : ℤ) - (2 ^ (8 - 1) - 1))
      push_cast at this ⊢
      rw [this]
      ring

theorem lower_half (w : BitVec 32) : Ideal.ofBits .f32 (IntOp.shli .vector w 16#32) = Ideal.ofBits .bf16 (w.extractLsb' (0 * 16) 16) := by
  refine ieee_upper _ _ ?_
  have : IntOp.shli .vector w 16#32 = w <<< 16 := by simp [IntOp.shli]
  rw [this, BitVec.extractLsb'_toNat, BitVec.toNat_shiftLeft, Nat.shiftLeft_eq, Nat.shiftRight_eq_div_pow]
  omega

theorem upper_half (w : BitVec 32) : Ideal.ofBits .f32 (IntOp.andi w 4294901760#32) = Ideal.ofBits .bf16 (w.extractLsb' (1 * 16) 16) := by
  refine ieee_upper _ _ ?_
  have hw := w.isLt
  show (w &&& 4294901760#32).toNat = _
  have e : w &&& 4294901760#32 = (w >>> 16) <<< 16 := by
    apply BitVec.eq_of_getLsbD_eq
    intro i hi
    rw [BitVec.getLsbD_and, BitVec.getLsbD_shiftLeft, BitVec.getLsbD_ushiftRight]
    interval_cases i <;> simp
  rw [e, BitVec.extractLsb'_toNat, BitVec.toNat_shiftLeft, BitVec.toNat_ushiftRight, Nat.shiftLeft_eq, Nat.shiftRight_eq_div_pow]
  omega

end Cert.ExpertsIdeal.Experts

end
-- ==== Proof.Formula.lean ====
/- The experts' mathematics at one entry, and the kernel's blocks as that. -/
module

public import proofs.«01_k».proof.Proof.Step
public import proofs.«01_k».proof.Proof.Halves
public import Idealize.ShloMosaic.Lib.MatmulPlain
public import Idealize.ShloMosaic.Lib.KernelVsHost
public import Idealize.ShloMosaic.Lib.StackMember
public import Idealize.ShloMosaic.Lib.IdealHost

@[expose] public section

noncomputable section

namespace Cert.ExpertsIdeal.Experts

open Idealize.ShloMosaic Idealize.ShloMosaic.ValueIdx Cert.ExpertsIdeal Cert.ExpertsIdeal.Gen
open Idealize.ShloMosaic.VecWindow (window)

/-! ### The mathematics -/

/-- Feature `d` of the row at `R` of the packed rows: the low halves of the four planes, then the high halves. -/
def feat (xs : S4x73728x128.Idx → BitVec 32) (R : Fin 73728) (d : Fin 1024) : Ideal .f32 :=
  Ideal.ofBits .bf16 ((xs (ix3 (⟨d.val % 512 / 128, by omega⟩ : Fin 4) R (⟨d.val % 128, by omega⟩ : Fin 128))).extractLsb' (d.val / 512 * 16) 16)

/-- The gated activation of the gate's and the linear part's entry. -/
def gated (g l : Ideal .f32) : Ideal .f32 :=
  FloatOps.mulf (FloatOps.addf (FloatOps.minimumf (FloatOps.ofBits .f32 0x40E00000#32) (FloatOps.maximumf (FloatOps.ofBits .f32 0xC0E00000#32) l)) (FloatOps.ofBits .f32 0x3F800000#32))
    (FloatOps.mulf (FloatOps.minimumf g (FloatOps.ofBits .f32 0x40E00000#32))
      (FloatOps.divf (FloatOps.ofBits .f32 0x3F800000#32)
        (FloatOps.addf (FloatOps.ofBits .f32 0x3F800000#32)
          (FloatOps.exp (FloatOps.subf (FloatOps.ofBits .f32 0x00000000#32)
            (FloatOps.mulf (FloatOps.ofBits .f32 0x3FD9DB23#32) (FloatOps.minimumf g (FloatOps.ofBits .f32 0x40E00000#32))))))))

/-- The hidden layer. -/
def hidAt (xs : S4x73728x128.Idx → BitVec 32) (w1 : S32x1024x2048.Idx → Ideal .f32) (b1 : S32x2048.Idx → Ideal .f32) (e : Fin 32) (R : Fin 73728) (n : Fin 2048) : Ideal .f32 :=
  FloatOps.addf (∑ k : Fin 1024, feat xs R k * w1 (ix3 e k n) : EReal) (b1 (ix2 e n))

/-- The result of expert `e` on row `R`. -/
def resAt (xs : S4x73728x128.Idx → BitVec 32) (w1 : S32x1024x2048.Idx → Ideal .f32) (b1 : S32x2048.Idx → Ideal .f32) (w2 : S32x1024x1024.Idx → Ideal .f32)
    (b2 : S32x1024.Idx → Ideal .f32) (e : Fin 32) (R : Fin 73728) (n : Fin 1024) : Ideal .f32 :=
  FloatOps.addf (∑ k : Fin 1024, (gated (hidAt xs w1 b1 e R ⟨k.val, by omega⟩) (hidAt xs w1 b1 e R ⟨1024 + k.val, by omega⟩) : EReal) * w2 (ix3 e k n) : EReal) (b2 (ix2 e n))

/-! ### The kernel's features -/

/-- A plane of the block, as the kernel loads it. -/
theorem plane_at (X : S4x256x128.Idx → BitVec 32) (p : Fin 4) (off : Fin 3 → ℕ) (ho : off = ![p.val, 0, 0]) (inb : ∀ a, off a + S1x256x128.size a ≤ S4x256x128.size a) (r : Fin 256) (l : Fin 128) :
    shapeCast S256x128 (window X off S1x256x128.size inb) shapeCasts_S1x256x128_S256x128 (ix2 r l) = X (ix3 p r l) := by
  refine (shapeCast_1ab_ab_apply _ _ r l).trans ?_
  subst ho
  refine congrArg X (funext fun a => Fin.ext ?_)
  rw [Rect.emb_apply]
  match a with
  | 0 => show p.val + 1 * 0 = p.val; omega
  | 1 => show 0 + 1 * r.val = r.val; omega
  | 2 => show 0 + 1 * l.val = l.val; omega

/-- Eight planes side by side. -/
abbrev pieces {α : Type} (f : Fin 8 → S256x128.Idx → α) : List ((s : Shape) × (s.Idx → α)) :=
  [⟨S256x128, f 0⟩, ⟨S256x128, f 1⟩, ⟨S256x128, f 2⟩, ⟨S256x128, f 3⟩, ⟨S256x128, f 4⟩, ⟨S256x128, f 5⟩, ⟨S256x128, f 6⟩, ⟨S256x128, f 7⟩]

theorem cat8_at {α : Type} (f : Fin 8 → S256x128.Idx → α) (h : Shape.Concatenates [S256x128, S256x128, S256x128, S256x128, S256x128, S256x128, S256x128, S256x128] S256x1024 1)
    (r : Fin 256) (d : Fin 1024) :
    concatenate S256x1024 1 (pieces f) h (ix2 r d)
      = f ⟨d.val / 128, by omega⟩ (ix2 r (⟨d.val % 128, by omega⟩ : Fin 128)) := by
  have main : ∀ (k : ℕ) (hk : k < 8) (g : S256x128.Idx → α),
      (pieces f)[k]'hk = ⟨S256x128, g⟩ →
      d.val / 128 = k →
      (((pieces f).take k |>.map (·.1)).map
        fun s => if h : s.rank = S256x1024.rank then s.size ((1 : Fin S256x1024.rank).cast h.symm) else 0).sum = k * 128 →
      concatenate S256x1024 1 (pieces f) h (ix2 r d)
        = g (ix2 r (⟨d.val % 128, by omega⟩ : Fin 128)) := fun k hk g hg hdk hpre =>
    concatenate_apply_piece 1 (pieces f) h (ix2 r d) k hk S256x128 g hg rfl (k * 128) hpre _
      (fun b hb => match b with
        | 0 => rfl
        | 1 => absurd rfl hb)
      (by show k * 128 + d.val % 128 = d.val; omega)
  rcases (by omega : d.val / 128 = 0 ∨ d.val / 128 = 1 ∨ d.val / 128 = 2 ∨ d.val / 128 = 3 ∨ d.val / 128 = 4 ∨ d.val / 128 = 5 ∨ d.val / 128 = 6 ∨ d.val / 128 = 7) with h | h | h | h | h | h | h | h
  · exact (main 0 (by decide) _ rfl h rfl).trans (congrArg (fun q => f q _) (Fin.ext h.symm))
  · exact (main 1 (by decide) _ rfl h rfl).trans (congrArg (fun q => f q _) (Fin.ext h.symm))
  · exact (main 2 (by decide) _ rfl h rfl).trans (congrArg (fun q => f q _) (Fin.ext h.symm))
  · exact (main 3 (by decide) _ rfl h rfl).trans (congrArg (fun q => f q _) (Fin.ext h.symm))
  · exact (main 4 (by decide) _ rfl h rfl).trans (congrArg (fun q => f q _) (Fin.ext h.symm))
  · exact (main 5 (by decide) _ rfl h rfl).trans (congrArg (fun q => f q _) (Fin.ext h.symm))
  · exact (main 6 (by decide) _ rfl h rfl).trans (congrArg (fun q => f q _) (Fin.ext h.symm))
  · exact (main 7 (by decide) _ rfl h rfl).trans (congrArg (fun q => f q _) (Fin.ext h.symm))

/-- Plane `q` of the block's features: the low halves of plane `q`, or the high halves of plane `q - 4`. -/
def halfPlane (X : S4x256x128.Idx → BitVec 32) : Fin 8 → S256x128.Idx → Ideal .f32 :=
  ![bitcastToFloat .f32 (shli (shapeCast S256x128 (window X ![0, 0, 0] S1x256x128.size inb_S4x256x128_S1x256x128_0_0_0) shapeCasts_S1x256x128_S256x128) (broadcast S256x128 16#32)),
    bitcastToFloat .f32 (shli (shapeCast S256x128 (window X ![1, 0, 0] S1x256x128.size inb_S4x256x128_S1x256x128_1_0_0) shapeCasts_S1x256x128_S256x128) (broadcast S256x128 16#32)),
    bitcastToFloat .f32 (shli (shapeCast S256x128 (window X ![2, 0, 0] S1x256x128.size inb_S4x256x128_S1x256x128_2_0_0) shapeCasts_S1x256x128_S256x128) (broadcast S256x128 16#32)),
    bitcastToFloat .f32 (shli (shapeCast S256x128 (window X ![3, 0, 0] S1x256x128.size inb_S4x256x128_S1x256x128_3_0_0) shapeCasts_S1x256x128_S256x128) (broadcast S256x128 16#32)),
    bitcastToFloat .f32 (andi (shapeCast S256x128 (window X ![0, 0, 0] S1x256x128.size inb_S4x256x128_S1x256x128_0_0_0) shapeCasts_S1x256x128_S256x128) (broadcast S256x128 4294901760#32)),
    bitcastToFloat .f32 (andi (shapeCast S256x128 (window X ![1, 0, 0] S1x256x128.size inb_S4x256x128_S1x256x128_1_0_0) shapeCasts_S1x256x128_S256x128) (broadcast S256x128 4294901760#32)),
    bitcastToFloat .f32 (andi (shapeCast S256x128 (window X ![2, 0, 0] S1x256x128.size inb_S4x256x128_S1x256x128_2_0_0) shapeCasts_S1x256x128_S256x128) (broadcast S256x128 4294901760#32)),
    bitcastToFloat .f32 (andi (shapeCast S256x128 (window X ![3, 0, 0] S1x256x128.size inb_S4x256x128_S1x256x128_3_0_0) shapeCasts_S1x256x128_S256x128) (broadcast S256x128 4294901760#32))]

/-- The half `h` of the word at `(p, r, l)` of the block. -/
def halfAt (X : S4x256x128.Idx → BitVec 32) (p : Fin 4) (h : ℕ) (r : Fin 256) (l : Fin 128) : Ideal .f32 := Ideal.ofBits .bf16 ((X (ix3 p r l)).extractLsb' (h * 16) 16)

theorem halfPlane_at (X : S4x256x128.Idx → BitVec 32) (r : Fin 256) (l : Fin 128) : ∀ q : Fin 8, halfPlane X q (ix2 r l) = halfAt X ⟨q.val % 4, by omega⟩ (q.val / 4) r l := by
  have lo : ∀ (p : Fin 4) (off : Fin 3 → ℕ) (ho : off = ![p.val, 0, 0]) (inb : ∀ a, off a + S1x256x128.size a ≤ S4x256x128.size a),
      (bitcastToFloat .f32 (shli (shapeCast S256x128 (window X off S1x256x128.size inb) shapeCasts_S1x256x128_S256x128) (broadcast S256x128 16#32)) : FVec Ideal S256x128 .f32) (ix2 r l)
        = halfAt X p 0 r l := fun p off ho inb =>
    (congrArg (fun w => Ideal.ofBits .f32 (IntOp.shli .vector w 16#32)) (plane_at X p off ho inb r l)).trans (lower_half _)
  have hi : ∀ (p : Fin 4) (off : Fin 3 → ℕ) (ho : off = ![p.val, 0, 0]) (inb : ∀ a, off a + S1x256x128.size a ≤ S4x256x128.size a),
      (bitcastToFloat .f32 (andi (shapeCast S256x128 (window X off S1x256x128.size inb) shapeCasts_S1x256x128_S256x128) (broadcast S256x128 4294901760#32)) : FVec Ideal S256x128 .f32) (ix2 r l)
        = halfAt X p 1 r l := fun p off ho inb =>
    (congrArg (fun w => Ideal.ofBits .f32 (IntOp.andi w 4294901760#32)) (plane_at X p off ho inb r l)).trans (upper_half _)
  intro q
  match q with
  | 0 => exact lo 0 _ rfl _
  | 1 => exact lo 1 _ rfl _
  | 2 => exact lo 2 _ rfl _
  | 3 => exact lo 3 _ rfl _
  | 4 => exact hi 0 _ rfl _
  | 5 => exact hi 1 _ rfl _
  | 6 => exact hi 2 _ rfl _
  | 7 => exact hi 3 _ rfl _

/-- The block's features as a matrix. -/
def feats (X : S4x256x128.Idx → BitVec 32) : FVec Ideal ⟨2, ![256, 1024]⟩ .bf16 :=
  truncf .bf16 (concatenate S256x1024 1 [⟨S256x128, halfPlane X 0⟩, ⟨S256x128, halfPlane X 1⟩, ⟨S256x128, halfPlane X 2⟩, ⟨S256x128, halfPlane X 3⟩, ⟨S256x128, halfPlane X 4⟩,
    ⟨S256x128, halfPlane X 5⟩, ⟨S256x128, halfPlane X 6⟩, ⟨S256x128, halfPlane X 7⟩] concatenates_S256x128_S256x128_S256x128_S256x128_S256x128_S256x128_S256x128_S256x128_S256x1024_d1 : FVec Ideal S256x1024 .f32) bitsLt_bf16_f32

theorem feats_at (X : S4x256x128.Idx → BitVec 32) (r : Fin 256) (k : Fin 1024) :
    feats X (ix2 r k) = halfAt X ⟨k.val % 512 / 128, by omega⟩ (k.val / 512) r ⟨k.val % 128, by omega⟩ := by
  refine (cat8_at (halfPlane X) concatenates_S256x128_S256x128_S256x128_S256x128_S256x128_S256x128_S256x128_S256x128_S256x1024_d1 r k).trans ((halfPlane_at X r _ _).trans ?_)
  unfold halfAt
  have e1 : k.val / 128 % 4 = k.val % 512 / 128 := by omega
  have e2 : k.val / 128 / 4 = k.val / 512 := by omega
  simp only [e1, e2]

/-- The first product, at an entry. -/
theorem hid_at (X : S4x256x128.Idx → BitVec 32) (u : S1024x2048.Idx → Ideal .bf16) (r : Fin 256) (n : Fin 2048) :
    (hid (F := Ideal) X u (ix2 r n) : EReal) = ∑ k : Fin 1024, (feats X (ix2 r k) : EReal) * (u (ix2 k n) : EReal) := by
  have e : hid (F := Ideal) X u = matmul (DotDims.plain 256 1024 2048) none (feats X) (u : FVec Ideal ⟨2, ![1024, 2048]⟩ .bf16) (constant ⟨2, ![256, 2048]⟩ .f32 0x00000000#32) := rfl
  rw [e, matmul_zero_eq_dotGeneral]
  exact StackMember.dotGeneral_plain_apply none (feats X) u r n

/-- The activation, at an entry. -/
def acts (h : FVec Ideal S256x2048 .f32) (b1 : S1x1x2048.Idx → Ideal .f32) : FVec Ideal ⟨2, ![256, 1024]⟩ .bf16 := fun i =>
  gated (FloatOps.addf (h (ix2 (i 0) (⟨(i 1).val, lt_trans (i 1).isLt (by decide : 1024 < 2048)⟩ : Fin 2048))) (b1 (ix3 0 0 (⟨(i 1).val, lt_trans (i 1).isLt (by decide : 1024 < 2048)⟩ : Fin 2048))))
    (FloatOps.addf (h (ix2 (i 0) (⟨1024 + (i 1).val, Nat.add_lt_add_left (i 1).isLt 1024⟩ : Fin 2048))) (b1 (ix3 0 0 (⟨1024 + (i 1).val, Nat.add_lt_add_left (i 1).isLt 1024⟩ : Fin 2048))))

theorem biased_at (h : FVec Ideal S256x2048 .f32) (b1 : S1x1x2048.Idx → Ideal .f32) (r : Fin 256) (n : Fin 2048) :
    addf h (broadcastTo S256x2048 (shapeCast S1x2048 b1 shapeCasts_S1x1x2048_S1x2048) broadcasts_S1x2048_S256x2048) (ix2 r n)
      = FloatOps.addf (h (ix2 r n)) (b1 (ix3 0 0 n)) :=
  congrArg (FloatOps.addf (h (ix2 r n))) ((broadcastTo_1b_ab_apply _ _ r n).trans (shapeCast_1ab_ab_apply _ _ 0 n))

theorem res_at (X : S4x256x128.Idx → BitVec 32) (u1 : S1024x2048.Idx → Ideal .bf16) (b1 : S1x1x2048.Idx → Ideal .f32) (u2 : S1024x1024.Idx → Ideal .bf16) (b2 : S1x1x1024.Idx → Ideal .f32)
    (r : Fin 256) (n : Fin 1024) :
    res (F := Ideal) X u1 b1 u2 b2 (ix2 r n)
      = FloatOps.addf (∑ k : Fin 1024, (acts (hid (F := Ideal) X u1) b1 (ix2 r k) : EReal) * (u2 (ix2 k n) : EReal) : EReal) (b2 (ix3 0 0 n)) := by
  unfold res
  generalize hid (F := Ideal) X u1 = h
  let v61 : FVec Ideal S256x2048 .f32 := addf h (broadcastTo S256x2048 (shapeCast S1x2048 b1 shapeCasts_S1x1x2048_S1x2048) broadcasts_S1x2048_S256x2048)
  let A : FVec Ideal ⟨2, ![256, 1024]⟩ .bf16 := fun i => gated
    (extractStridedSlice S256x1024 ![0, 0] v61 slices_S256x2048_o0_0_S256x1024 i) (extractStridedSlice S256x1024 ![0, 1024] v61 slices_S256x2048_o0_1024_S256x1024 i)
  have hA : A = acts h b1 := funext fun i => by
    obtain ⟨a, b, rfl⟩ : ∃ (a : Fin 256) (b : Fin 1024), i = ix2 a b := ⟨i 0, i 1, eq_ix2 i⟩
    exact congrArg₂ gated ((slice2_axis1_apply 0 v61 _ a b (⟨b.val, by omega⟩ : Fin 2048) (by simp)).trans (biased_at h b1 a _))
      ((slice2_axis1_apply 1024 v61 _ a b (⟨1024 + b.val, by omega⟩ : Fin 2048) rfl).trans (biased_at h b1 a _))
  have e : k0_pay12 (F := Ideal) h b1 u2 b2 = addf (matmul (DotDims.plain 256 1024 1024) none A (u2 : FVec Ideal ⟨2, ![1024, 1024]⟩ .bf16) (constant ⟨2, ![256, 1024]⟩ .f32 0x00000000#32))
      (broadcastTo S256x1024 (shapeCast S1x1024 b2 shapeCasts_S1x1x1024_S1x1024) broadcasts_S1x1024_S256x1024) := rfl
  rw [e, hA, matmul_zero_eq_dotGeneral]
  refine congrArg₂ FloatOps.addf ?_ ((broadcastTo_1b_ab_apply _ _ r n).trans (shapeCast_1ab_ab_apply _ _ 0 n))
  exact StackMember.dotGeneral_plain_apply none (acts h b1) u2 r n

end Cert.ExpertsIdeal.Experts

end
-- ==== Proof.Blocks.lean ====
/- The launch's result at an entry: the experts' mathematics there. -/
module

public import proofs.«01_k».proof.Proof.Fire
public import proofs.«01_k».proof.Proof.Formula

@[expose] public section

set_option maxRecDepth 16384

noncomputable section

namespace Cert.ExpertsIdeal.Experts

open Idealize.ShloMosaic hiding ix1 ix2 ix3
open Cert.ExpertsIdeal Cert.ExpertsIdeal.Gen
open Idealize.ShloMosaic.ValueIdx (ix1 ix2 ix3)

variable (m : (ℓ : Loc nD τ sig) → Buf (Elt Ideal) ℓ)

/-- Whether row block `t` is in use, as the reference asks it. -/
abbrev inUse (nu : S1.Idx → BitVec 32) (t : ℕ) : BitVec 1 := IntOp.cmpi .slt (BitVec.ofNat 32 t) (used nu)

theorem cond4_iff (t : Fin grid0.N) (n : BitVec 32) : k0_cond4 (pt t) n = 1#1 ↔ IntOp.cmpi .slt (BitVec.ofNat 32 t.val) n = 1#1 := by
  unfold k0_cond4
  dsimp only
  rw [pt_val t]
  show IntOp.cmpi .ne ((IntOp.cmpi .slt (BitVec.ofNat 32 t.val) n).setWidth 32) 0#32 = 1#1 ↔ _
  generalize IntOp.cmpi .slt (BitVec.ofNat 32 t.val) n = b
  revert b
  decide

theorem u1_at (be : S288.Idx → BitVec 32) (w1 : W1I → Ideal .f32) (i : ℕ) (e : Fin 32) (he : (word be i).toNat = e.val) (k : Fin 1024) (n : Fin 2048) :
    u1 (F := Ideal) be w1 i (ix2 k n) = w1 (ix3 e k n) := by
  unfold u1 k0_pay1
  refine (shapeCast_apply _ _ (ix2 k n) (ix2 k n) rfl).trans ?_
  show w1 (ix3 (⟨(word be i).toNat % 32, _⟩ : Fin 32) k n) = _
  exact congrArg (fun q => w1 (ix3 q k n)) (Fin.ext (by show (word be i).toNat % 32 = e.val; omega))

theorem u2_at (be : S288.Idx → BitVec 32) (w2 : W2I → Ideal .f32) (i : ℕ) (e : Fin 32) (he : (word be i).toNat = e.val) (k : Fin 1024) (n : Fin 1024) :
    u2 (F := Ideal) be w2 i (ix2 k n) = w2 (ix3 e k n) := by
  unfold u2 k0_pay2
  refine (shapeCast_apply _ _ (ix2 k n) (ix2 k n) rfl).trans ?_
  show w2 (ix3 (⟨(word be i).toNat % 32, _⟩ : Fin 32) k n) = _
  exact congrArg (fun q => w2 (ix3 q k n)) (Fin.ext (by show (word be i).toNat % 32 = e.val; omega))

theorem halfs_at (t : Fin grid0.N) (r : Fin 256) (R : Fin 73728) (hR : t.val * 256 + r.val = R.val) (d : Fin 1024) : halfAt (xBlk m t) ⟨d.val % 512 / 128, by omega⟩ (d.val / 512) r ⟨d.val % 128, by omega⟩ = feat (xsOf m) R d := by
  unfold halfAt feat
  refine congrArg (fun q : Fin 73728 => Ideal.ofBits .bf16 ((xsOf m (ix3 (⟨d.val % 512 / 128, by omega⟩ : Fin 4) q (⟨d.val % 128, by omega⟩ : Fin 128))).extractLsb' (d.val / 512 * 16) 16)) (Fin.ext ?_)
  exact hR

theorem hidden_at (t : Fin grid0.N) (e : Fin 32) (he : (word (beOf m) t.val).toNat = e.val) (r : Fin 256) (R : Fin 73728) (hR : t.val * 256 + r.val = R.val) (n : Fin 2048) :
    FloatOps.addf (hid (F := Ideal) (xBlk m t) (u1 (beOf m) (w1Of m) t.val) (ix2 r n)) (b1Blk m t (ix3 0 0 n)) = hidAt (xsOf m) (w1Of m) (b1Of m) e R n := by
  unfold hidAt
  refine congrArg₂ FloatOps.addf ?_ ?_
  · refine (hid_at _ _ r n).trans (Finset.sum_congr rfl fun k _ => ?_)
    rw [feats_at, halfs_at m t r R hR k, u1_at _ _ _ e he]
  · exact congrArg (fun q => b1Of m (ix2 q n)) (Fin.ext (by show (word (beOf m) t.val).toNat % 32 = e.val; omega))

theorem block_at (t : Fin grid0.N) (e : Fin 32) (he : (word (beOf m) t.val).toNat = e.val) (r : Fin 256) (R : Fin 73728) (hR : t.val * 256 + r.val = R.val) (n : Fin 1024) :
    res (F := Ideal) (xBlk m t) (u1 (beOf m) (w1Of m) t.val) (b1Blk m t) (u2 (beOf m) (w2Of m) t.val) (b2Blk m t) (ix2 r n)
      = resAt (xsOf m) (w1Of m) (b1Of m) (w2Of m) (b2Of m) e R n := by
  refine (res_at _ _ _ _ _ r n).trans ?_
  unfold resAt
  refine congrArg₂ FloatOps.addf (Finset.sum_congr rfl fun k _ => ?_) ?_
  · rw [u2_at _ _ _ e he]
    refine congrArg (· * w2Of m (ix3 e k n)) ?_
    exact congrArg₂ gated (hidden_at m t e he r R hR _) (hidden_at m t e he r R hR _)
  · exact congrArg (fun q => b2Of m (ix2 q n)) (Fin.ext (by show (word (beOf m) t.val).toNat % 32 = e.val; omega))

/-- The result at plane `p`, row `R`, lane `l`. -/
theorem result_entry (p : Fin 8) (R : Fin 73728) (l : Fin 128) (e : Fin 32) (he : (word (beOf m) (R.val / 256)).toNat = e.val) :
    result m (ix3 p R l) = if inUse (nuOf m) (R.val / 256) = 1#1 then resAt (xsOf m) (w1Of m) (b1Of m) (w2Of m) (b2Of m) e R ⟨p.val * 128 + l.val, by omega⟩
      else FloatOps.ofBits .f32 0x00000000#32 := by
  have ht : R.val / 256 < grid0.N := by rw [N_0]; omega
  show outBlk m ⟨R.val / 256, ht⟩ (ix3 p (⟨R.val % 256, _⟩ : Fin 256) l) = _
  unfold outBlk out
  by_cases h : inUse (nuOf m) (R.val / 256) = 1#1
  · rw [if_pos h, if_pos ((cond4_iff ⟨R.val / 256, ht⟩ _).2 h)]
    exact block_at m ⟨R.val / 256, ht⟩ e he ⟨R.val % 256, Nat.mod_lt _ (by decide)⟩ R (by show R.val / 256 * 256 + R.val % 256 = R.val; omega) _
  · rw [if_neg h, if_neg fun h' => h ((cond4_iff ⟨R.val / 256, ht⟩ _).1 h')]
    rfl

end Cert.ExpertsIdeal.Experts

end
-- ==== Proof.Rows.lean ====
/- The reference's result at an entry: the experts' mathematics there. -/
module

public import proofs.«01_k».proof.Proof.Formula
public import proofs.«01_k».proof.Proof.Gen.ExpertsReferenceIdeal
public import proofs.«01_k».proof.Proof.Gen.ExpertsReferenceIdeal.Run
public import Idealize.ShloMosaic.Lib.Routing.OpsSet
public import Idealize.ShloMosaic.Lib.Pipeline.Value
public import Idealize.ShloMosaic.Lib.StableHlo.Predicate

@[expose] public section

set_option maxRecDepth 16384

noncomputable section

namespace Cert.ExpertsReferenceIdeal.Rows

open Idealize.ShloMosaic
open Cert.ExpertsReferenceIdeal Cert.ExpertsReferenceIdeal.Facts₀
open Idealize.ShloMosaic.ValueIdx (ix0 ix1 ix2 ix3 ix4 broadcastInDim_scalar_apply)
open Cert.ExpertsIdeal.Experts (feat gated hidAt resAt used)

/-! ### The gathered slabs -/

/-- The leading coordinate of a gather along axis 0, where the index words are small. -/
theorem clamp_small (w : BitVec 32) (e : Fin 32) (h : w.toNat = e.val) : min w.toInt.toNat 31 = e.val := by
  rw [StableHlo.Predicate.toInt_eq_toNat_of_lt (by omega)]
  omega

theorem slab_at {α : Type} {K N : ℕ} (wf : GatherDims.WF ⟨3, ![32, K, N]⟩ S288x1 ⟨3, ![288, K, N]⟩ [1, 2] [0] [] [0] [] 1 ![1, K, N])
    (x : (⟨3, ![32, K, N]⟩ : Shape).Idx → α) (idx : IVec S288x1 32) (t : Fin 288) (k : Fin K) (n : Fin N) (e : Fin 32) (h : (idx (ix2 t (0 : Fin 1))).toNat = e.val) :
    Host.gather (⟨[1, 2], [0], [], [], [0], 1, ![1, K, N], wf⟩ : GatherDims _ _ _) x idx (ix3 t k n) = x (ix3 e k n) := by
  unfold Host.gather
  refine congrArg x (funext fun a => Fin.ext ?_)
  have b0 : ∀ a : Fin 3, (⟨[1, 2], [0], [], [], [0], 1, ![1, K, N], wf⟩ : GatherDims ⟨3, ![32, K, N]⟩ S288x1 ⟨3, ![288, K, N]⟩).batchCoord (ix3 t k n) a = 0 :=
    fun a => GatherDims.batchCoord_eq_zero _ _ _ List.not_mem_nil
  show GatherDims.start _ (ix3 t k n) idx a + GatherDims.batchCoord _ (ix3 t k n) a + GatherDims.offCoord _ (ix3 t k n) a = _
  rw [b0, Nat.add_zero]
  match a with
  | 0 =>
    rw [GatherDims.offCoord_eq_zero _ _ _ (fun h => ((GatherDims.mem_sKept _ _).mp h).1 (List.mem_singleton.mpr rfl)), Nat.add_zero]
    unfold GatherDims.start
    rw [dif_pos (List.mem_singleton.mpr rfl)]
    refine (congrArg (fun i => min (idx i).toInt.toNat 31) (funext fun b => ?_)).trans (clamp_small _ e h)
    match b with
    | 0 => rfl
    | 1 => rfl
  | 1 =>
    unfold GatherDims.start GatherDims.offCoord
    rw [dif_neg (show (1 : Fin 3) ∉ [0] by decide), dif_pos ((GatherDims.mem_sKept _ _).2 ⟨(show (1 : Fin 3) ∉ [0] by decide), List.not_mem_nil⟩), Nat.zero_add]
    rfl
  | 2 =>
    unfold GatherDims.start GatherDims.offCoord
    rw [dif_neg (show (2 : Fin 3) ∉ [0] by decide), dif_pos ((GatherDims.mem_sKept _ _).2 ⟨(show (2 : Fin 3) ∉ [0] by decide), List.not_mem_nil⟩), Nat.zero_add]
    rfl

theorem line_at {α : Type} {N : ℕ} (wf : GatherDims.WF ⟨2, ![32, N]⟩ S288x1 ⟨2, ![288, N]⟩ [1] [0] [] [0] [] 1 ![1, N])
    (x : (⟨2, ![32, N]⟩ : Shape).Idx → α) (idx : IVec S288x1 32) (t : Fin 288) (n : Fin N) (e : Fin 32) (h : (idx (ix2 t (0 : Fin 1))).toNat = e.val) :
    Host.gather (⟨[1], [0], [], [], [0], 1, ![1, N], wf⟩ : GatherDims _ _ _) x idx (ix2 t n) = x (ix2 e n) := by
  unfold Host.gather
  refine congrArg x (funext fun a => Fin.ext ?_)
  have b0 : ∀ a : Fin 2, (⟨[1], [0], [], [], [0], 1, ![1, N], wf⟩ : GatherDims ⟨2, ![32, N]⟩ S288x1 ⟨2, ![288, N]⟩).batchCoord (ix2 t n) a = 0 :=
    fun a => GatherDims.batchCoord_eq_zero _ _ _ List.not_mem_nil
  show GatherDims.start _ (ix2 t n) idx a + GatherDims.batchCoord _ (ix2 t n) a + GatherDims.offCoord _ (ix2 t n) a = _
  rw [b0, Nat.add_zero]
  match a with
  | 0 =>
    rw [GatherDims.offCoord_eq_zero _ _ _ (fun h => ((GatherDims.mem_sKept _ _).mp h).1 (List.mem_singleton.mpr rfl)), Nat.add_zero]
    unfold GatherDims.start
    rw [dif_pos (List.mem_singleton.mpr rfl)]
    refine (congrArg (fun i => min (idx i).toInt.toNat 31) (funext fun b => ?_)).trans (clamp_small _ e h)
    match b with
    | 0 => rfl
    | 1 => rfl
  | 1 =>
    unfold GatherDims.start GatherDims.offCoord
    rw [dif_neg (show (1 : Fin 2) ∉ [0] by decide), dif_pos ((GatherDims.mem_sKept _ _).2 ⟨(show (1 : Fin 2) ∉ [0] by decide), List.not_mem_nil⟩), Nat.zero_add]
    rfl

/-! ### The reference's stages -/

variable (be : S288.Idx → BitVec 32) (nu : S1.Idx → BitVec 32) (xs : S4x73728x128.Idx → BitVec 32) (w1 : FVec Ideal S32x1024x2048 .f32) (b1 : FVec Ideal S32x2048 .f32)
  (w2 : FVec Ideal S32x1024x1024 .f32) (b2 : FVec Ideal S32x1024 .f32)

/-- The experts of the row blocks, as indices. -/
def owners : IVec S288x1 32 :=
  broadcastInDim S288x1 ![0] bcast_S288_S288x1_0 (select (cmpi .slt be (broadcastInDim S288 ![] bcast_S_S288 (constantI S_ 32 0#32)))
    (addi be (broadcastInDim S288 ![] bcast_S_S288 (constantI S_ 32 32#32))) be)

theorem owners_at (t : Fin 288) (e : Fin 32) (h : (be (ix1 t)).toNat = e.val) : (owners be (ix2 t (0 : Fin 1))).toNat = e.val := by
  refine (congrArg BitVec.toNat ?_).trans h
  refine (broadcastInDim_apply _ bcast_S288_S288x1_0 _ (ix2 t (0 : Fin 1)) (ix1 t) fun b => ?_).trans ?_
  · obtain rfl : b = 0 := Subsingleton.elim _ _
    exact (if_neg (by decide)).symm
  · exact Routing.wrap_of_lt (be (ix1 t)) (IntOp.addi (be (ix1 t)) 32#32) (by omega)

/-- The features of every row, block by block. -/
def inputs : FVec Ideal S288x256x1024 .f32 :=
  shapeCast _ (transpose S73728x2x4x128 [1, 3, 0, 2] (extf .f32 (bitcastToFloat (F := Ideal) .bf16 (Host.bitcastConvertNarrow S4x73728x128x2 16 xs splits_S4x73728x128_w32_S4x73728x128x2_w16)) bitsLt_bf16_f32)
    transposes_S4x73728x128x2_S73728x2x4x128_1_3_0_2) shapeCasts_S73728x2x4x128_S288x256x1024

theorem inputs_at (t : Fin 288) (r : Fin 256) (d : Fin 1024) (R : Fin 73728) (hR : t.val * 256 + r.val = R.val) : inputs xs (ix3 t r d) = feat xs R d := by
  let p : Fin 4 := ⟨d.val % 512 / 128, by omega⟩
  let h : Fin 2 := ⟨d.val / 512, by omega⟩
  let l : Fin 128 := ⟨d.val % 128, by omega⟩
  refine (shapeCast_apply _ _ (ix3 t r d) (ix4 R h p l) ?_).trans ?_
  · rw [Shape.rowMajor_val_four, Shape.rowMajor_val_three]
    show ((R.val * 2 + d.val / 512) * 4 + d.val % 512 / 128) * 128 + d.val % 128 = (t.val * 256 + r.val) * 1024 + d.val
    omega
  refine (transpose_apply _ _ _ (ix4 R h p l) (ix4 p R l h) fun b => ?_).trans ?_
  · match b with
    | 0 => rfl
    | 1 => rfl
    | 2 => rfl
    | 3 => rfl
  · show Ideal.ofBits .bf16 ((xs (splits_S4x73728x128_w32_S4x73728x128x2_w16.drop (ix4 p R l h))).extractLsb' (d.val / 512 * 16) 16) = feat xs R d
    unfold feat
    refine congrArg (fun i => Ideal.ofBits .bf16 ((xs i).extractLsb' (d.val / 512 * 16) 16)) (funext fun a => ?_)
    match a with
    | 0 => rfl
    | 1 => rfl
    | 2 => rfl

/-- The hidden layer. -/
def hiddens : FVec Ideal S288x256x2048 .f32 :=
  addf (Host.dotGeneral dot_S288x256x1024_S288x1024x2048_S288x256x2048_2_1_1_2_0_0 none (inputs xs) (Host.gather gather_S32x1024x2048_S288x1_S288x1024x2048_12_0_n_n_0_1_110242048 w1 (owners be)))
    (broadcastInDim S288x256x2048 ![0, 1, 2] bcast_S288x1x2048_S288x256x2048_0_1_2
      (broadcastInDim S288x1x2048 ![0, 2] bcast_S288x2048_S288x1x2048_0_2 (Host.gather gather_S32x2048_S288x1_S288x2048_1_0_n_n_0_1_12048 b1 (owners be))))

theorem spread_at {α : Type} {N : ℕ} (hN : N ≠ 1) (h : (⟨2, ![288, N]⟩ : Shape).BroadcastsInDim ⟨3, ![288, 1, N]⟩ ![0, 2])
    (h' : (⟨3, ![288, 1, N]⟩ : Shape).BroadcastsInDim ⟨3, ![288, 256, N]⟩ ![0, 1, 2]) (x : (⟨2, ![288, N]⟩ : Shape).Idx → α) (t : Fin 288) (r : Fin 256) (n : Fin N) :
    broadcastInDim ⟨3, ![288, 256, N]⟩ ![0, 1, 2] h' (broadcastInDim ⟨3, ![288, 1, N]⟩ ![0, 2] h x) (ix3 t r n) = x (ix2 t n) := by
  refine (broadcastInDim_apply _ h' _ (ix3 t r n) (ix3 t (0 : Fin 1) n) fun b => ?_).trans (broadcastInDim_apply _ h _ (ix3 t (0 : Fin 1) n) (ix2 t n) fun b => ?_)
  · match b with
    | 0 => exact (if_neg (show ¬288 = 1 by decide)).symm
    | 1 => exact (if_pos rfl).symm
    | 2 => exact (if_neg hN).symm
  · match b with
    | 0 => exact (if_neg (show ¬288 = 1 by decide)).symm
    | 1 => exact (if_neg hN).symm

theorem hiddens_at (t : Fin 288) (r : Fin 256) (R : Fin 73728) (hR : t.val * 256 + r.val = R.val) (e : Fin 32) (he : (be (ix1 t)).toNat = e.val) (n : Fin 2048) :
    hiddens be xs w1 b1 (ix3 t r n) = hidAt xs w1 b1 e R n := by
  refine congrArg₂ FloatOps.addf ?_ ?_
  · refine (StackMember.dotGeneral_stack_apply dot_S288x256x1024_S288x1024x2048_S288x256x2048_2_1_1_2_0_0_wf none (inputs xs)
      (Host.gather gather_S32x1024x2048_S288x1_S288x1024x2048_12_0_n_n_0_1_110242048 w1 (owners be)) t r n).trans (Finset.sum_congr rfl fun k _ => ?_)
    exact congrArg₂ (fun a b : EReal => a * b) (inputs_at xs t r k R hR) (slab_at _ w1 (owners be) t k n e (owners_at be t e he))
  · exact (spread_at (by decide) _ _ _ t r n).trans (line_at _ b1 (owners be) t n e (owners_at be t e he))

/-- A number everywhere. -/
abbrev every (w : BitVec 32) : FVec Ideal S288x256x1024 .f32 := broadcastInDim S288x256x1024 ![] bcast_S_S288x256x1024 (constant S_ .f32 w)

/-- The activations of a hidden layer. -/
def activated (H : FVec Ideal S288x256x2048 .f32) : FVec Ideal S288x256x1024 .f32 :=
  mulf (addf (minimumf (every 0x40E00000#32) (maximumf (every 0xC0E00000#32) (extractStridedSlice S288x256x1024 ![0, 0, 1024] H slices_S288x256x2048_S288x256x1024_0_0_1024))) (every 0x3F800000#32))
    (mulf (minimumf (extractStridedSlice S288x256x1024 ![0, 0, 0] H slices_S288x256x2048_S288x256x1024_0_0_0) (every 0x40E00000#32))
      (Host.divf (every 0x3F800000#32) (addf (every 0x3F800000#32) (Host.exp (Host.negf (mulf (every 0x3FD9DB23#32)
        (minimumf (extractStridedSlice S288x256x1024 ![0, 0, 0] H slices_S288x256x2048_S288x256x1024_0_0_0) (every 0x40E00000#32))))))))

theorem part_at (o : ℕ) (h : S288x256x2048.Slices ![0, 0, o] S288x256x1024) (H : FVec Ideal S288x256x2048 .f32) (t : Fin 288) (r : Fin 256) (k : Fin 1024) (n : Fin 2048) (hn : n.val = o + k.val) :
    extractStridedSlice S288x256x1024 ![0, 0, o] H h (ix3 t r k) = H (ix3 t r n) :=
  extractStridedSlice_apply _ _ _ _ _ fun a => by
    match a with
    | 0 => exact (Nat.zero_add _).symm
    | 1 => exact (Nat.zero_add _).symm
    | 2 => exact hn

/-- The gated activation as the host computes it. -/
theorem gated_host (g l : Ideal .f32) :
    FloatOps.mulf (FloatOps.addf (FloatOps.minimumf (FloatOps.ofBits .f32 0x40E00000#32) (FloatOps.maximumf (FloatOps.ofBits .f32 0xC0E00000#32) l)) (FloatOps.ofBits .f32 0x3F800000#32))
      (FloatOps.mulf (FloatOps.minimumf g (FloatOps.ofBits .f32 0x40E00000#32))
        (FloatOps.hostDivf (FloatOps.ofBits .f32 0x3F800000#32) (FloatOps.addf (FloatOps.ofBits .f32 0x3F800000#32)
          (FloatOps.hostUnary .exp (FloatOps.hostNegf (FloatOps.mulf (FloatOps.ofBits .f32 0x3FD9DB23#32) (FloatOps.minimumf g (FloatOps.ofBits .f32 0x40E00000#32)))))))) = gated g l := by
  unfold gated
  rw [Ideal.subf_zero_eq_hostNegf]
  rfl

theorem activated_at (H : FVec Ideal S288x256x2048 .f32) (t : Fin 288) (r : Fin 256) (k : Fin 1024) :
    activated H (ix3 t r k) = gated (H (ix3 t r (⟨k.val, by omega⟩ : Fin 2048))) (H (ix3 t r (⟨1024 + k.val, by omega⟩ : Fin 2048))) := by
  refine Eq.trans ?_ (congrArg₂ gated (part_at 0 slices_S288x256x2048_S288x256x1024_0_0_0 H t r k _ (by show k.val = 0 + k.val; omega))
    (part_at 1024 slices_S288x256x2048_S288x256x1024_0_0_1024 H t r k _ rfl))
  exact gated_host _ _

/-- The results of all blocks. -/
def results : FVec Ideal S288x256x1024 .f32 :=
  addf (Host.dotGeneral dot_S288x256x1024_S288x1024x1024_S288x256x1024_2_1_1_2_0_0 none (activated (hiddens be xs w1 b1)) (Host.gather gather_S32x1024x1024_S288x1_S288x1024x1024_12_0_n_n_0_1_110241024 w2 (owners be)))
    (broadcastInDim S288x256x1024 ![0, 1, 2] bcast_S288x1x1024_S288x256x1024_0_1_2
      (broadcastInDim S288x1x1024 ![0, 2] bcast_S288x1024_S288x1x1024_0_2 (Host.gather gather_S32x1024_S288x1_S288x1024_1_0_n_n_0_1_11024 b2 (owners be))))

theorem results_at (t : Fin 288) (r : Fin 256) (R : Fin 73728) (hR : t.val * 256 + r.val = R.val) (e : Fin 32) (he : (be (ix1 t)).toNat = e.val) (n : Fin 1024) :
    results be xs w1 b1 w2 b2 (ix3 t r n) = resAt xs w1 b1 w2 b2 e R n := by
  refine congrArg₂ FloatOps.addf ?_ ?_
  · refine (StackMember.dotGeneral_stack_apply dot_S288x256x1024_S288x1024x1024_S288x256x1024_2_1_1_2_0_0_wf none (activated (hiddens be xs w1 b1))
      (Host.gather gather_S32x1024x1024_S288x1_S288x1024x1024_12_0_n_n_0_1_110241024 w2 (owners be)) t r n).trans (Finset.sum_congr rfl fun k _ => ?_)
    refine congrArg₂ (fun a b : EReal => a * b) ((activated_at _ t r k).trans ?_) (slab_at _ w2 (owners be) t k n e (owners_at be t e he))
    exact congrArg₂ gated (hiddens_at be xs w1 b1 t r R hR e he _) (hiddens_at be xs w1 b1 t r R hR e he _)
  · exact (spread_at (by decide) _ _ _ t r n).trans (line_at _ b2 (owners be) t n e (owners_at be t e he))

/-- Which blocks are in use. -/
def inUses : IVec S288x256x1024 1 :=
  broadcastInDim S288x256x1024 ![0, 1, 2] bcast_S288x1x1_S288x256x1024_0_1_2 (broadcastInDim S288x1x1 ![0] bcast_S288_S288x1x1_0
    (cmpi .slt (iotaInDim S288 32 0) (broadcastInDim S288 ![] bcast_S_S288 (shapeCast S_ nu shapeCasts_S1_S_))))

theorem inUses_at (t : Fin 288) (r : Fin 256) (n : Fin 1024) : inUses nu (ix3 t r n) = IntOp.cmpi .slt (BitVec.ofNat 32 t.val) (used nu) := by
  refine (broadcastInDim_apply _ bcast_S288x1x1_S288x256x1024_0_1_2 _ (ix3 t r n) (ix3 t (0 : Fin 1) (0 : Fin 1)) fun b => ?_).trans
    ((broadcastInDim_apply _ bcast_S288_S288x1x1_0 _ (ix3 t (0 : Fin 1) (0 : Fin 1)) (ix1 t) fun b => ?_).trans ?_)
  · match b with
    | 0 => exact (if_neg (by decide)).symm
    | 1 => exact (if_pos rfl).symm
    | 2 => exact (if_pos rfl).symm
  · obtain rfl : b = 0 := Subsingleton.elim _ _
    exact (if_neg (by decide)).symm
  · refine congrArg (IntOp.cmpi .slt (BitVec.ofNat 32 t.val)) ((broadcastInDim_scalar_apply _ _ _).trans ?_)
    exact shapeCast_apply _ _ ix0 (ix1 (⟨0, by decide⟩ : Fin 1)) (by decide)

/-- The reference's result. -/
def out : FVec Ideal S8x73728x128 .f32 :=
  transpose S8x73728x128 [1, 0, 2] (shapeCast S73728x8x128 (select (inUses nu) (results be xs w1 b1 w2 b2) (every 0x00000000#32)) shapeCasts_S288x256x1024_S73728x8x128)
    transposes_S73728x8x128_S8x73728x128_1_0_2

theorem out_at (p : Fin 8) (R : Fin 73728) (l : Fin 128) (e : Fin 32) (he : (be (ix1 (⟨R.val / 256, by omega⟩ : Fin 288))).toNat = e.val) :
    out be nu xs w1 b1 w2 b2 (ix3 p R l) = if IntOp.cmpi .slt (BitVec.ofNat 32 (R.val / 256)) (used nu) = 1#1 then resAt xs w1 b1 w2 b2 e R ⟨p.val * 128 + l.val, by omega⟩
      else FloatOps.ofBits .f32 0x00000000#32 := by
  refine (transpose_apply _ _ _ (ix3 p R l) (ix3 R p l) fun b => ?_).trans ?_
  · match b with
    | 0 => rfl
    | 1 => rfl
    | 2 => rfl
  let t : Fin 288 := ⟨R.val / 256, by omega⟩
  let r : Fin 256 := ⟨R.val % 256, by omega⟩
  let n : Fin 1024 := ⟨p.val * 128 + l.val, by omega⟩
  refine (shapeCast_apply _ _ (ix3 R p l) (ix3 t r n) ?_).trans ?_
  · rw [Shape.rowMajor_val_three, Shape.rowMajor_val_three]
    show (R.val / 256 * 256 + R.val % 256) * 1024 + (p.val * 128 + l.val) = (R.val * 8 + p.val) * 128 + l.val
    omega
  show Scalar.select (inUses nu (ix3 t r n)) (results be xs w1 b1 w2 b2 (ix3 t r n)) (FloatOps.ofBits .f32 0x00000000#32) = _
  rw [inUses_at, results_at be xs w1 b1 w2 b2 t r R (by show R.val / 256 * 256 + R.val % 256 = R.val; omega) e he n]
  rfl

end Cert.ExpertsReferenceIdeal.Rows

end
-- ==== Proof.Meet.lean ====
/- The two programs' results are the same. -/
module

public import proofs.«01_k».proof.Proof.Blocks
public import proofs.«01_k».proof.Proof.Rows
public import proofs.«01_k».proof.Proof.Chained

@[expose] public section

set_option maxRecDepth 16384

noncomputable section

namespace Cert.ExpertsIdeal.Experts

open Idealize.ShloMosaic hiding ix1 ix2 ix3
open Idealize.ShloMosaic.ValueIdx (ix1 ix2 ix3)

/-- The reference's result is its stages'. -/
theorem reference_eq (m : (ℓ : Loc ExpertsReferenceIdeal.nD ExpertsReferenceIdeal.τ ExpertsReferenceIdeal.sig) → Buf (Elt Ideal) ℓ) :
    ExpertsReferenceIdeal.Value.res_main_v64 (F := Ideal) m 0
      = ExpertsReferenceIdeal.Rows.out (m (((0 : Dev ExpertsReferenceIdeal.nD).tc : Thread ExpertsReferenceIdeal.nD ExpertsReferenceIdeal.τ).loc ExpertsReferenceIdeal.main_arg0))
        (m (((0 : Dev ExpertsReferenceIdeal.nD).tc : Thread ExpertsReferenceIdeal.nD ExpertsReferenceIdeal.τ).loc ExpertsReferenceIdeal.main_arg2))
        (m (((0 : Dev ExpertsReferenceIdeal.nD).tc : Thread ExpertsReferenceIdeal.nD ExpertsReferenceIdeal.τ).loc ExpertsReferenceIdeal.main_arg3))
        (m (((0 : Dev ExpertsReferenceIdeal.nD).tc : Thread ExpertsReferenceIdeal.nD ExpertsReferenceIdeal.τ).loc ExpertsReferenceIdeal.main_arg4))
        (m (((0 : Dev ExpertsReferenceIdeal.nD).tc : Thread ExpertsReferenceIdeal.nD ExpertsReferenceIdeal.τ).loc ExpertsReferenceIdeal.main_arg5))
        (m (((0 : Dev ExpertsReferenceIdeal.nD).tc : Thread ExpertsReferenceIdeal.nD ExpertsReferenceIdeal.τ).loc ExpertsReferenceIdeal.main_arg6))
        (m (((0 : Dev ExpertsReferenceIdeal.nD).tc : Thread ExpertsReferenceIdeal.nD ExpertsReferenceIdeal.τ).loc ExpertsReferenceIdeal.main_arg7)) := by
  unfold ExpertsReferenceIdeal.Value.res_main_v64
  rfl

theorem meets (m : (ℓ : Loc nD τ sig) → Buf (Elt Ideal) ℓ) (C : Chain (beOf m) (nxOf m)) :
    ExpertsReferenceIdeal.Rows.out (beOf m) (nuOf m) (xsOf m) (w1Of m) (b1Of m) (w2Of m) (b2Of m) = result m := by
  funext j
  obtain ⟨p, R, l, rfl⟩ : ∃ (p : Fin 8) (R : Fin 73728) (l : Fin 128), j = ix3 p R l := ⟨j 0, j 1, j 2, ValueIdx.eq_ix3 j⟩
  have hR : R.val / 256 < 288 := by omega
  have hw := C.range (R.val / 256) hR
  let e : Fin 32 := ⟨(word (beOf m) (R.val / 256)).toNat, hw⟩
  refine (ExpertsReferenceIdeal.Rows.out_at (beOf m) (nuOf m) (xsOf m) (w1Of m) (b1Of m) (w2Of m) (b2Of m) p R l e ?_).trans (result_entry m p R l e rfl).symm
  exact congrArg BitVec.toNat (word_ix (beOf m) hR).symm

end Cert.ExpertsIdeal.Experts

end
-- ==== Proof.Same.lean ====
/- The experts' program as printed for the machine and as printed for the ideal values are one program, over any values. -/
module

public import proofs.«01_k».proof.Proof.Gen.Experts
public import proofs.«01_k».proof.Proof.Gen.ExpertsIdeal

@[expose] public section

namespace Cert.ExpertsIdeal.Experts

open Idealize.ShloMosaic Idealize.SL.Sem

variable {F : FTy → Type} [FloatOps F]

set_option maxHeartbeats 800000 in
theorem body_same : @Cert.Experts.cc0_moe_experts F _ _ = @Cert.ExpertsIdeal.cc0_moe_experts F _ _ := rfl

set_option maxHeartbeats 800000 in
theorem table_same : @Cert.Experts.defs₀ F _ _ = @Cert.ExpertsIdeal.defs₀ F _ _ := by
  unfold Cert.Experts.defs₀ Cert.ExpertsIdeal.defs₀
  refine congrArg (Defs.onTc (nD := Cert.Experts.nD) (τ := Cert.Experts.τ) (sig := Cert.Experts.sig) (Λ := Cert.Experts.Λ₀)) (funext fun l => funext fun a => ?_)
  match l, a with
  | 0, (t, s) =>
    dsimp only
    rw [body_same]
    rfl

theorem defs_same : @Cert.Experts.defs F _ _ = @Cert.ExpertsIdeal.defs F _ _ :=
  congrArg (Pipeline.defs (Cert.Experts.pcfgs (F := F))) table_same

theorem main_same : @Cert.Experts.main F _ _ = @Cert.ExpertsIdeal.main F _ _ := rfl

/-- A run of the one is a run of the other. -/
theorem run_same (s) (φ) (h : θ_run (Cert.ExpertsIdeal.defs (F := F)) (onTc (τ := Cert.ExpertsIdeal.τ) (Cert.ExpertsIdeal.main (F := F))) s φ) :
    θ_run (Cert.Experts.defs (F := F)) (onTc (τ := Cert.Experts.τ) (Cert.Experts.main (F := F))) s φ := by
  rw [defs_same, main_same]
  exact h

end Cert.ExpertsIdeal.Experts
-- ==== Proof.Projected.lean ====
/- The input projection's results: the reference's, block by block. -/
module

public import proofs.«01_k».proof.Proof.Gen.ProjectionsIdeal.Frame
public import proofs.«01_k».proof.Proof.Gen.ProjectionsReferenceIdeal
public import proofs.«01_k».proof.Proof.Gen.ProjectionsReferenceIdeal.Run
public import Idealize.ShloMosaic.Lib.Pipeline.ValueKit
public import Idealize.ShloMosaic.Lib.StackMember

@[expose] public section

set_option maxRecDepth 16384

noncomputable section

namespace Cert.ProjectionsIdeal.Projected

open Idealize.ShloMosaic Idealize.ShloMosaic.TcCoe Idealize.SL.Sem
open Cert.ProjectionsIdeal Cert.ProjectionsIdeal.Gen

variable (m : (ℓ : Loc nD τ sig) → Buf (Elt Ideal) ℓ)

/-- The windows' blocks at a grid point. -/
theorem places : ∀ t : Fin cfg0.N, win0_0.index t = ![t.val / 16, t.val % 16, 0] ∧ win0_1.index t = ![0, 0] ∧ win0_2.index t = ![0, 0] ∧ win0_3.index t = ![0, 0]
    ∧ win0_4.index t = ![t.val / 16, t.val % 16, 0] ∧ win0_5.index t = ![t.val / 16, t.val % 16, 0] :=
  (by decide +kernel : ∀ t : Fin grid0.N, _)

/-- The normalized rows, by the reference's operations. -/
def rowed (X : FVec Ideal S2x8192x1024 .f32) (G : FVec Ideal S1x1024 .f32) : FVec Ideal S2x8192x1024 .f32 :=
  mulf (mulf X (broadcastInDim S2x8192x1024 ![0, 1, 2] ProjectionsReferenceIdeal.Gen.bcast_S2x8192x1_S2x8192x1024_0_1_2 (Host.rsqrt (addf (Host.divf (broadcastInDim ProjectionsReferenceIdeal.S2x8192x1 ![0, 1] ProjectionsReferenceIdeal.Gen.bcast_S2x8192_S2x8192x1_0_1
    (Host.reduceAdd (mulf X X) (constant S_ .f32 0x00000000#32) ProjectionsReferenceIdeal.Gen.reducesTo_S2x8192x1024_S2x8192_d2 ProjectionsReferenceIdeal.Gen.h_S_))
      (broadcastInDim ProjectionsReferenceIdeal.S2x8192x1 ![] ProjectionsReferenceIdeal.Gen.bcast_S_S2x8192x1 (constant S_ .f32 0x44800000#32)))
        (broadcastInDim ProjectionsReferenceIdeal.S2x8192x1 ![] ProjectionsReferenceIdeal.Gen.bcast_S_S2x8192x1 (constant S_ .f32 0x358637BD#32))))))
    (broadcastInDim S2x8192x1024 ![0, 1, 2] ProjectionsReferenceIdeal.Gen.bcast_S1x1x1024_S2x8192x1024_0_1_2 (broadcastInDim ProjectionsReferenceIdeal.S1x1x1024 ![2] ProjectionsReferenceIdeal.Gen.bcast_S1024_S1x1x1024_2
      (shapeCast S1024 G ProjectionsReferenceIdeal.Gen.shapeCasts_S1x1024_S1024)))

/-- The whole projection, by the reference's operations. -/
def whole (X : FVec Ideal S2x8192x1024 .f32) (G : FVec Ideal S1x1024 .f32) (W : FVec Ideal S1x1024x3344 .f32) : FVec Ideal ProjectionsReferenceIdeal.S2x8192x3344 .f32 :=
  Host.dotGeneral ProjectionsReferenceIdeal.dot_S2x8192x1024_S1024x3344_S2x8192x3344_2_0_01_1_n_n none (rowed X G) (shapeCast S1024x3344 W ProjectionsReferenceIdeal.Gen.shapeCasts_S1x1024x3344_S1024x3344)

/-- Its first 1792 columns. -/
abbrev first (X : FVec Ideal S2x8192x1024 .f32) (G : FVec Ideal S1x1024 .f32) (W : FVec Ideal S1x1024x3344 .f32) : FVec Ideal S2x8192x1792 .f32 :=
  extractStridedSlice S2x8192x1792 ![0, 0, 0] (whole X G W) ProjectionsReferenceIdeal.Gen.slices_S2x8192x3344_S2x8192x1792_0_0_0

/-- The rest of them, with 112 zero columns. -/
abbrev second (X : FVec Ideal S2x8192x1024 .f32) (G : FVec Ideal S1x1024 .f32) (W : FVec Ideal S1x1024x3344 .f32) : FVec Ideal S2x8192x1664 .f32 :=
  pad S2x8192x1664 ![0, 0, 0] ![0, 0, 112] ![0, 0, 0] (extractStridedSlice ProjectionsReferenceIdeal.S2x8192x1552 ![0, 0, 1792] (whole X G W) ProjectionsReferenceIdeal.Gen.slices_S2x8192x3344_S2x8192x1552_0_0_1792)
    (sitofp .f32 (constantI S_ 32 0#32)) ProjectionsReferenceIdeal.Gen.pads_S2x8192x1552_S2x8192x1664_000_000_01120 ProjectionsReferenceIdeal.Gen.h_S_

/-- The gains that the region finds. -/
theorem gain_at (k : Fin 1024) : (V m 0 main_v8 : FVec Ideal S1x1024 .f32) (ix2 0 k) = m (((0 : Dev nD) : Thread nD τ).loc main_arg1) (ix2 0 k) := by
  show StableHlo.after (List.flatten [hostOps0, hostOps0_1, hostOps0_2]) (fun b => m (0, b)) (Proc.tc.devRef main_v8) _ = _
  simp only [hostOps0, hostOps0_1, hostOps0_2, List.flatten_cons, List.flatten_nil, List.append_nil, List.cons_append, List.nil_append]
  after_results
  pointwise []

/-- The first weights that the region finds. -/
theorem left_at (k : Fin 1024) (n : Fin 1792) : (V m 0 main_v2 : FVec Ideal S1024x1792 .bf16) (ix2 k n)
    = m (((0 : Dev nD) : Thread nD τ).loc main_arg2) (ix3 0 k ⟨n.val, by omega⟩) := by
  show StableHlo.after (List.flatten [hostOps0, hostOps0_1, hostOps0_2]) (fun b => m (0, b)) (Proc.tc.devRef main_v2) _ = _
  simp only [hostOps0, hostOps0_1, hostOps0_2, List.flatten_cons, List.flatten_nil, List.append_nil, List.cons_append, List.nil_append]
  after_results
  pointwise []

/-- The second weights that the region finds: zero in the columns that fill up. -/
theorem right_at (k : Fin 1024) (n : Fin 1664) : (V m 0 main_v6 : FVec Ideal S1024x1664 .bf16) (ix2 k n)
    = if h : n.val < 1552 then (m (((0 : Dev nD) : Thread nD τ).loc main_arg2) : FVec Ideal S1x1024x3344 .f32) (ix3 0 k ⟨1792 + n.val, by omega⟩)
      else FloatOps.sitofp (F := Ideal) FTy.f32 0#32 := by
  show StableHlo.after (List.flatten [hostOps0, hostOps0_1, hostOps0_2]) (fun b => m (0, b)) (Proc.tc.devRef main_v6) _ = _
  simp only [hostOps0, hostOps0_1, hostOps0_2, List.flatten_cons, List.flatten_nil, List.append_nil, List.cons_append, List.nil_append]
  after_results
  change (pad S1024x1664 ![0, 0] ![0, 112] ![0, 0] (extractStridedSlice S1024x1552 ![0, 1792]
      (shapeCast S1024x3344 (m (((0 : Dev nD) : Thread nD τ).loc main_arg2) : FVec Ideal S1x1024x3344 .f32) shapeCasts_S1x1024x3344_S1024x3344) slices_S1024x3344_S1024x1552_0_1792)
    (sitofp (F := Ideal) .f32 (constantI S_ 32 0#32)) pads_S1024x1552_S1024x1664_000_01120 h_S_) (ix2 k n) = _
  pointwise []

/-- What a point stores in the first result is the reference's block. -/
theorem point4 (t : Fin cfg0.N) (y) : k0_pay2 (F := Ideal) (iblk m 0 0 t) (iblk m 0 1 t) (iblk m 0 2 t) y
    = first (m (((0 : Dev nD) : Thread nD τ).loc main_arg0)) (m (((0 : Dev nD) : Thread nD τ).loc main_arg1)) (m (((0 : Dev nD) : Thread nD τ).loc main_arg2)) (((cfg0.win 4).blk t).view.emb y) := by
  pointwise [k0_pay1, k0_pay2, first, whole, rowed]
  blk_point [iblk, V, places t]
  · refine (congrArg (V m 0 main_v8) (?_ : _ = ix2 0 _)).trans (gain_at m _)
    blk_ext [places t]
  · refine (congrArg (V m 0 main_v2) (?_ : _ = ix2 _ (y 2))).trans (left_at m _ _)
    blk_ext [places t]

/-- What a point stores in the second result is the reference's block; a filled column is a sum of products with zero. -/
theorem point5 (t : Fin cfg0.N) (y) : k0_pay3 (F := Ideal) (iblk m 0 0 t) (iblk m 0 1 t) (iblk m 0 3 t) y
    = second (m (((0 : Dev nD) : Thread nD τ).loc main_arg0)) (m (((0 : Dev nD) : Thread nD τ).loc main_arg1)) (m (((0 : Dev nD) : Thread nD τ).loc main_arg2)) (((cfg0.win 5).blk t).view.emb y) := by
  pointwise [k0_pay1, k0_pay3, second, whole, rowed]
  have w : ∀ x : Fin 1024, (iblk m 0 3 t : FVec Ideal S1024x1664 .bf16) (ix2 x (y 2))
      = if h : (y 2).val < 1552 then (m (((0 : Dev nD) : Thread nD τ).loc main_arg2) : FVec Ideal S1x1024x3344 .f32) (ix3 0 x ⟨1792 + (y 2).val, by omega⟩)
        else FloatOps.sitofp (F := Ideal) FTy.f32 0#32 := by
    intro x
    refine (congrArg (V m 0 main_v6) (?_ : _ = ix2 x (y 2))).trans (right_at m _ _)
    blk_ext [places t]
  have e : (((View.whole main_v9_1).slice ((win0 5).rect t)).emb y 2).val = (y 2).val := by
    blk_simp [places t]
  have z : (FloatOps.sitofp FTy.f32 (0#32) : Ideal .f32) = 0 := by
    show (((0#32 : BitVec 32).toInt : ℝ) : EReal) = 0
    simp
  by_cases h : (y 2).val < 1552
  · rw [dif_pos (e.trans_lt h)]
    simp only [w, dif_pos h]
    blk_point [iblk, V, places t]
    refine (congrArg (V m 0 main_v8) (?_ : _ = ix2 0 _)).trans (gain_at m _)
    blk_ext [places t]
  · rw [dif_neg (by omega), z]
    refine Finset.sum_eq_zero fun x _ => ?_
    rw [w, dif_neg h, z]
    exact mul_zero _

/-- The first result after the run. -/
theorem final4 : (dats m 0 0).arrAt 4 (cfgs 0).N
    = first (m (((0 : Dev nD) : Thread nD τ).loc main_arg0)) (m (((0 : Dev nD) : Thread nD τ).loc main_arg1)) (m (((0 : Dev nD) : Thread nD τ).loc main_arg2)) := by
  refine (dats m 0 0).arrAt_eq_of_covers 4 _ (by decide +kernel) fun t _ y => ?_
  blk_simp
  rw [after0_4]; frame_out
  exact point4 m t y

/-- The second result after the run. -/
theorem final5 : (dats m 0 0).arrAt 5 (cfgs 0).N
    = second (m (((0 : Dev nD) : Thread nD τ).loc main_arg0)) (m (((0 : Dev nD) : Thread nD τ).loc main_arg1)) (m (((0 : Dev nD) : Thread nD τ).loc main_arg2)) := by
  refine (dats m 0 0).arrAt_eq_of_covers 5 _ (by decide +kernel) fun t _ y => ?_
  blk_simp
  rw [after0_5]; frame_out
  exact point5 m t y

end Cert.ProjectionsIdeal.Projected

end
-- ==== Proof.Alike.lean ====
/- The combine's program as printed for the machine and as printed for the ideal values are one program, over any values. -/
module

public import proofs.«01_k».proof.Proof.Gen.Combine
public import proofs.«01_k».proof.Proof.Gen.CombineIdeal

@[expose] public section

namespace Cert.CombineIdeal.Gather

open Idealize.ShloMosaic Idealize.SL.Sem

variable {F : FTy → Type} [FloatOps F]

set_option maxHeartbeats 800000 in
theorem body_same : @Cert.Combine.cc0_final F _ _ = @Cert.CombineIdeal.cc0_final F _ _ := rfl

set_option maxHeartbeats 800000 in
theorem table_same : @Cert.Combine.defs₀ F _ _ = @Cert.CombineIdeal.defs₀ F _ _ := by
  unfold Cert.Combine.defs₀ Cert.CombineIdeal.defs₀
  refine congrArg (Defs.onTc (nD := Cert.Combine.nD) (τ := Cert.Combine.τ) (sig := Cert.Combine.sig) (Λ := Cert.Combine.Λ₀)) (funext fun l => funext fun a => ?_)
  match l, a with
  | 0, (t, s) =>
    dsimp only
    rw [body_same]
    rfl

theorem defs_same : @Cert.Combine.defs F _ _ = @Cert.CombineIdeal.defs F _ _ :=
  congrArg (Pipeline.defs (Cert.Combine.pcfgs (F := F))) table_same

theorem main_same : @Cert.Combine.main F _ _ = @Cert.CombineIdeal.main F _ _ := rfl

/-- A run of the one is a run of the other. -/
theorem run_same (s) (φ) (h : θ_run (Cert.CombineIdeal.defs (F := F)) (onTc (τ := Cert.CombineIdeal.τ) (Cert.CombineIdeal.main (F := F))) s φ) :
    θ_run (Cert.Combine.defs (F := F)) (onTc (τ := Cert.Combine.τ) (Cert.Combine.main (F := F))) s φ := by
  rw [defs_same, main_same]
  exact h

end Cert.CombineIdeal.Gather
-- ==== Proof.Gather.lean ====
/- The places of the gather: what each copy's offsets are in closed form, which elements each of its ends covers, what it
   writes there, and one row's copy. -/
module

public import proofs.«01_k».proof.Proof.Gen.CombineIdeal.Loops
public import proofs.«01_k».proof.Proof.Gen.CombineIdeal.Launch
public import Idealize.ShloMosaic.Lib.Batch
public import Idealize.ShloMosaic.Lib.Ring
public import Idealize.ShloMosaic.Lib.ValueLayout
public import Idealize.ShloMosaic.Lib.Pipeline.FrameValue
public import Idealize.SL.BI.BigOpNat

@[expose] public section

noncomputable section

namespace Cert.CombineIdeal.Gather

open Idealize.ShloMosaic Idealize.ShloMosaic.ValueIdx Cert.CombineIdeal Cert.CombineIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

/-! ### Offsets -/

theorem iv_val (n : ℕ) (h : n < 4294967296) : (Scf.iv (0#32) (1#32) n).toNat = n := by
  simp [Scf.iv, BitVec.toNat_mul, BitVec.toNat_add, Nat.mod_eq_of_lt h]

theorem trips1 : k0_t1_loop.trips = 256 := by decide +kernel
theorem trips2 : k0_t2_loop.trips = 1024 := by decide +kernel
theorem trips3 : k0_t3_loop.trips = 256 := by decide +kernel
theorem trips4 : k0_t4_loop.trips = 1024 := by decide +kernel

/-- The grid point. -/
abbrev pt (t : Fin grid0.N) : grid0.Coords := grid0.coords t
/-- The tile gathered after tile `t`; after the last, the last again. -/
abbrev nx (t : ℕ) : ℕ := min (t + 1) 63

theorem cond1_iff : ∀ t : Fin grid0.N, k0_cond1 (pt t) = 1#1 ↔ t.val = 0 := by decide +kernel
theorem cond2_iff : ∀ t : Fin grid0.N, k0_cond2 (pt t) = 1#1 ↔ t.val = 63 := by decide +kernel
theorem off13_eq : ∀ t : Fin grid0.N, k0_off13 (pt t) = ![t.val % 2] := by decide +kernel
theorem off16_eq : ∀ t : Fin grid0.N, k0_off16 (pt t) = ![(t.val + 1) % 2] := by decide +kernel
theorem off20_eq : ∀ t : Fin grid0.N, k0_off20 (pt t) = ![(t.val + 1) % 2] := by decide +kernel
theorem off24_eq : ∀ t : Fin grid0.N, k0_off24 (pt t) = ![(t.val + 1) % 2] := by decide +kernel
theorem off28_eq : ∀ t : Fin grid0.N, k0_off28 (pt t) = ![(t.val + 1) % 2] := by decide +kernel
theorem off63_eq : ∀ t : Fin grid0.N, k0_off63 (pt t) = ![(t.val + 1) % 2] := by decide +kernel
theorem nx_val : ∀ t : Fin grid0.N, (Scalar.minsi (Scalar.addi (BitVec.ofNat 32 ((pt t) 0).val) 1#32) 63#32).toNat = nx t.val := by decide +kernel
theorem other_val : ∀ t : Fin grid0.N, (Scalar.subi 1#32 (Scalar.remsi (BitVec.ofNat 32 ((pt t) 0).val) 2#32)).toNat = (t.val + 1) % 2 := by decide +kernel
theorem pt_val : ∀ t : Fin grid0.N, ((pt t) 0).val = t.val := by decide +kernel
theorem lt64 (t : Fin grid0.N) : t.val < 64 := lt_of_lt_of_eq t.isLt N_0

theorem firstWord (b : ℕ) (hb : b ≤ 49152) (k : Fin k0_t1_loop.trips) : (Scalar.addi (BitVec.ofNat 32 b) (Scf.iv (0#32) (1#32) k)).toNat = b + k.val := by
  have h := lt_of_lt_of_eq k.isLt trips1
  show (BitVec.ofNat 32 b + Scf.iv (0#32) (1#32) k).toNat = _
  rw [BitVec.toNat_add, iv_val _ (by omega)]
  simp only [BitVec.toNat_ofNat]
  omega
theorem off1_eq (k : Fin k0_t1_loop.trips) : k0_off1 k = ![0 + k.val] := by rw [← firstWord 0 (by omega) k]; rfl
theorem off4_eq (k : Fin k0_t1_loop.trips) : k0_off4 k = ![16384 + k.val] := by rw [← firstWord 16384 (by omega) k]; rfl
theorem off7_eq (k : Fin k0_t1_loop.trips) : k0_off7 k = ![32768 + k.val] := by rw [← firstWord 32768 (by omega) k]; rfl
theorem off10_eq (k : Fin k0_t1_loop.trips) : k0_off10 k = ![49152 + k.val] := by rw [← firstWord 49152 (by omega) k]; rfl
theorem firstRow (k : Fin k0_t1_loop.trips) (j : ℕ) : ![0, j, 0, (Scf.iv (0#32) (1#32) k).toNat, 0] = ![0, j, 0, k.val, 0] := by
  have h := lt_of_lt_of_eq k.isLt trips1
  rw [iv_val _ (by omega)]
theorem off2_eq (k : Fin k0_t1_loop.trips) : k0_off2 k = ![0, 0, 0, k.val, 0] := firstRow k 0
theorem off5_eq (k : Fin k0_t1_loop.trips) : k0_off5 k = ![0, 1, 0, k.val, 0] := firstRow k 1
theorem off8_eq (k : Fin k0_t1_loop.trips) : k0_off8 k = ![0, 2, 0, k.val, 0] := firstRow k 2
theorem off11_eq (k : Fin k0_t1_loop.trips) : k0_off11 k = ![0, 3, 0, k.val, 0] := firstRow k 3

theorem nextWord (b : ℕ) (hb : b ≤ 49152) (t : Fin grid0.N) (k : Fin k0_t3_loop.trips) :
    (Scalar.addi (Scalar.addi (BitVec.ofNat 32 b) (Scalar.muli (Scalar.minsi (Scalar.addi (BitVec.ofNat 32 ((pt t) 0).val) 1#32) 63#32) 256#32)) (Scf.iv (0#32) (1#32) k)).toNat
      = b + (256 * nx t.val + k.val) := by
  have h := lt_of_lt_of_eq k.isLt trips3
  have ht := lt64 t
  have hn := nx_val t
  have hx : nx t.val ≤ 63 := Nat.min_le_right _ _
  generalize nx t.val = n at hn hx ⊢
  generalize Scalar.minsi (Scalar.addi (BitVec.ofNat 32 ((pt t) 0).val) 1#32) 63#32 = w at hn
  show (BitVec.ofNat 32 b + w * 256#32 + Scf.iv (0#32) (1#32) k).toNat = _
  rw [BitVec.toNat_add, BitVec.toNat_add, BitVec.toNat_mul, iv_val _ (by omega), hn]
  simp only [BitVec.toNat_ofNat]
  omega
theorem off15_eq (t : Fin grid0.N) (k : Fin k0_t3_loop.trips) : k0_off15 (pt t) k = ![0 + (256 * nx t.val + k.val)] := by rw [← nextWord 0 (by omega) t k]; rfl
theorem off19_eq (t : Fin grid0.N) (k : Fin k0_t3_loop.trips) : k0_off19 (pt t) k = ![16384 + (256 * nx t.val + k.val)] := by rw [← nextWord 16384 (by omega) t k]; rfl
theorem off23_eq (t : Fin grid0.N) (k : Fin k0_t3_loop.trips) : k0_off23 (pt t) k = ![32768 + (256 * nx t.val + k.val)] := by rw [← nextWord 32768 (by omega) t k]; rfl
theorem off27_eq (t : Fin grid0.N) (k : Fin k0_t3_loop.trips) : k0_off27 (pt t) k = ![49152 + (256 * nx t.val + k.val)] := by rw [← nextWord 49152 (by omega) t k]; rfl
theorem nextRow (t : Fin grid0.N) (k : Fin k0_t3_loop.trips) (j : ℕ) :
    ![(Scalar.subi 1#32 (Scalar.remsi (BitVec.ofNat 32 ((pt t) 0).val) 2#32)).toNat, j, 0, (Scf.iv (0#32) (1#32) k).toNat, 0] = ![(t.val + 1) % 2, j, 0, k.val, 0] := by
  have h := lt_of_lt_of_eq k.isLt trips3
  rw [iv_val _ (by omega), other_val]
theorem off17_eq (t : Fin grid0.N) (k : Fin k0_t3_loop.trips) : k0_off17 (pt t) k = ![(t.val + 1) % 2, 0, 0, k.val, 0] := nextRow t k 0
theorem off21_eq (t : Fin grid0.N) (k : Fin k0_t3_loop.trips) : k0_off21 (pt t) k = ![(t.val + 1) % 2, 1, 0, k.val, 0] := nextRow t k 1
theorem off25_eq (t : Fin grid0.N) (k : Fin k0_t3_loop.trips) : k0_off25 (pt t) k = ![(t.val + 1) % 2, 2, 0, k.val, 0] := nextRow t k 2
theorem off29_eq (t : Fin grid0.N) (k : Fin k0_t3_loop.trips) : k0_off29 (pt t) k = ![(t.val + 1) % 2, 3, 0, k.val, 0] := nextRow t k 3

/-! ### Elements -/

abbrev VI := S2x4x8x256x128.Idx
abbrev YI := S8x73728x128.Idx

/-- One row of the experts' outputs, all eight slices of it. -/
def rowSet (ρ : ℕ) : Finset YI := Finset.univ.filter fun y => (y 1).val = ρ
/-- The row of half `b` that copy `n` of a tile fills. -/
def vcopy (b n : ℕ) : Finset VI := Finset.univ.filter fun y => (y 0).val = b ∧ 4 * (y 3).val + (y 1).val = n
/-- The rows of half `b` from copy `n` on, and those before it. -/
def vrest (b n : ℕ) : Finset VI := Finset.univ.filter fun y => (y 0).val = b ∧ n ≤ 4 * (y 3).val + (y 1).val
def vdone (b n : ℕ) : Finset VI := Finset.univ.filter fun y => (y 0).val = b ∧ 4 * (y 3).val + (y 1).val < n
/-- One half. -/
def half (b : ℕ) : Finset VI := Finset.univ.filter fun y => (y 0).val = b

theorem mem_rowSet {ρ : ℕ} {y : YI} : y ∈ rowSet ρ ↔ (y 1).val = ρ := by simp [rowSet]
theorem mem_vcopy {b n : ℕ} {y : VI} : y ∈ vcopy b n ↔ (y 0).val = b ∧ 4 * (y 3).val + (y 1).val = n := by simp [vcopy]
theorem mem_vrest {b n : ℕ} {y : VI} : y ∈ vrest b n ↔ (y 0).val = b ∧ n ≤ 4 * (y 3).val + (y 1).val := by simp [vrest]
theorem mem_vdone {b n : ℕ} {y : VI} : y ∈ vdone b n ↔ (y 0).val = b ∧ 4 * (y 3).val + (y 1).val < n := by simp [vdone]
theorem mem_half {b : ℕ} {y : VI} : y ∈ half b ↔ (y 0).val = b := by simp [half]

theorem vcopy_sub (b n : ℕ) : vcopy b n ⊆ vrest b n := fun y hy => by
  rw [mem_vcopy] at hy; rw [mem_vrest]; exact ⟨hy.1, hy.2.ge⟩
theorem vrest_sdiff (b n : ℕ) : vrest b n \ vcopy b n = vrest b (n + 1) := by
  ext y; rw [Finset.mem_sdiff, mem_vrest, mem_vcopy, mem_vrest]; omega
theorem vrest_zero (b : ℕ) : vrest b 0 = half b := by ext y; simp [mem_vrest, mem_half]
theorem vrest_end (b : ℕ) : vrest b 1024 = ∅ := by
  ext y; rw [mem_vrest]
  have h1 : (y 1).val < 4 := (y 1).isLt
  have h3 : (y 3).val < 256 := (y 3).isLt
  simp only [Finset.notMem_empty, iff_false]; omega
theorem vdone_zero (b : ℕ) : vdone b 0 = ∅ := by ext y; simp [mem_vdone]
theorem vdone_succ (b n : ℕ) : vdone b n ∪ vcopy b n = vdone b (n + 1) := by
  ext y; rw [Finset.mem_union, mem_vdone, mem_vcopy, mem_vdone]; omega
theorem vdone_disj (b n : ℕ) : Disjoint (vdone b n) (vcopy b n) :=
  Finset.disjoint_left.2 fun y h1 h2 => by rw [mem_vdone] at h1; rw [mem_vcopy] at h2; omega
theorem vdone_end (b : ℕ) : vdone b 1024 = half b := by
  ext y; rw [mem_vdone, mem_half]
  have h1 : (y 1).val < 4 := (y 1).isLt
  have h3 : (y 3).val < 256 := (y 3).isLt
  omega
theorem halves_disj {b b' : ℕ} (h : b ≠ b') : Disjoint (half b) (half b') :=
  Finset.disjoint_left.2 fun y h1 h2 => by rw [mem_half] at h1 h2; omega
theorem halves_all (b : ℕ) : (Finset.univ : Finset VI) = half (b % 2) ∪ half ((b + 1) % 2) := by
  ext y
  have : (y 0).val < 2 := (y 0).isLt
  simp only [Finset.mem_univ, Finset.mem_union, mem_half, true_iff]
  omega

abbrev srcM (off : Fin 3 → ℕ) (inb : ∀ a, off a + S8x1x128.size a ≤ S8x73728x128.size a) : Memref sig .tc .hbm S8x1x128 .f32 :=
  (Memref.whole main_arg1).slice (Rect.unit (s := S8x73728x128) off S8x1x128.size inb) (fun _ => rfl)
abbrev dstM (off : Fin 5 → ℕ) (inb : ∀ a, off a + S1x1x8x1x128.size a ≤ S2x4x8x256x128.size a) : Memref sig .tc .vmem S8x1x128 .f32 :=
  ((Memref.whole cc0_scratch0).slice (Rect.unit (s := S2x4x8x256x128) off S1x1x8x1x128.size inb) (fun _ => rfl)).squeeze S8x1x128 squeezes_S1x1x8x1x128_S8x1x128
abbrev semM (off : Fin 1 → ℕ) (inb : ∀ a, off a + S1.size a ≤ S2.size a) : DmaSem sig :=
  ((cc0_scratch1.slice (Rect.unit (s := S2) off S1.size inb)).squeeze S_ squeezes_S1_S_).sem

theorem rect_src {ρ : ℕ} {off : Fin 3 → ℕ} (h : off = ![0, ρ, 0]) (inb : ∀ a, off a + S8x1x128.size a ≤ S8x73728x128.size a) :
    (Rect.unit (s := S8x73728x128) off S8x1x128.size inb).set = rowSet ρ := by
  subst h; ext y
  rw [Rect.mem_set_unit, mem_rowSet]
  have h0 : (y 0).val < 8 := (y 0).isLt
  have h2 : (y 2).val < 128 := (y 2).isLt
  constructor
  · intro h
    have e : ρ ≤ (y 1).val ∧ (y 1).val < ρ + 1 := h 1
    omega
  · intro h a
    match a with
    | 0 => exact ⟨Nat.zero_le _, by show (y 0).val < 0 + 8; omega⟩
    | 1 => exact ⟨by show ρ ≤ (y 1).val; omega, by show (y 1).val < ρ + 1; omega⟩
    | 2 => exact ⟨Nat.zero_le _, by show (y 2).val < 0 + 128; omega⟩

theorem rect_dst {b k r : ℕ} (hk : k < 4) {off : Fin 5 → ℕ} (h : off = ![b, k, 0, r, 0]) (inb : ∀ a, off a + S1x1x8x1x128.size a ≤ S2x4x8x256x128.size a) :
    (Rect.unit (s := S2x4x8x256x128) off S1x1x8x1x128.size inb).set = vcopy b (4 * r + k) := by
  subst h; ext y
  rw [Rect.mem_set_unit, mem_vcopy]
  have h1 : (y 1).val < 4 := (y 1).isLt
  have h2 : (y 2).val < 8 := (y 2).isLt
  have h4 : (y 4).val < 128 := (y 4).isLt
  constructor
  · intro h
    have e0 : b ≤ (y 0).val ∧ (y 0).val < b + 1 := h 0
    have e1 : k ≤ (y 1).val ∧ (y 1).val < k + 1 := h 1
    have e3 : r ≤ (y 3).val ∧ (y 3).val < r + 1 := h 3
    omega
  · intro h a
    match a with
    | 0 => exact ⟨by show b ≤ (y 0).val; omega, by show (y 0).val < b + 1; omega⟩
    | 1 => exact ⟨by show k ≤ (y 1).val; omega, by show (y 1).val < k + 1; omega⟩
    | 2 => exact ⟨Nat.zero_le _, by show (y 2).val < 0 + 8; omega⟩
    | 3 => exact ⟨by show r ≤ (y 3).val; omega, by show (y 3).val < r + 1; omega⟩
    | 4 => exact ⟨Nat.zero_le _, by show (y 4).val < 0 + 128; omega⟩

theorem set_src {ρ : ℕ} {off : Fin 3 → ℕ} (h : off = ![0, ρ, 0]) (inb : ∀ a, off a + S8x1x128.size a ≤ S8x73728x128.size a) :
    (srcM off inb).view.set = rowSet ρ := (View.set_slice_whole _ _).trans (rect_src h inb)
theorem set_dst {b k r : ℕ} (hk : k < 4) {off : Fin 5 → ℕ} (h : off = ![b, k, 0, r, 0]) (inb : ∀ a, off a + S1x1x8x1x128.size a ≤ S2x4x8x256x128.size a) :
    (dstM off inb).view.set = vcopy b (4 * r + k) := (View.set_reshape _ _).trans ((View.set_slice_whole _ _).trans (rect_dst hk h inb))

/-! ### Contents -/

variable {F : FTy → Type} [FloatOps F]

/-- Word `a` of the table of slots. -/
def slotWord (sl : S65536.Idx → BitVec 32) (a : ℕ) : BitVec 32 := sl (ix1 ⟨a % 65536, Nat.mod_lt _ (by decide)⟩)
/-- A row of the experts' outputs, slice by slice; outside the rows, anything. -/
def rowAt (ys : YI → F .f32) (p : Fin 8) (ρ : ℕ) (l : Fin 128) : F .f32 := ys (ix3 p ⟨ρ % 73728, Nat.mod_lt _ (by decide)⟩ l)
/-- The row that copy `n` of tile `s` takes. -/
def slotAt (sl : S65536.Idx → BitVec 32) (s n : ℕ) : ℕ := (slotWord sl (n % 4 * 16384 + (256 * s + n / 4))).toNat
/-- A half that holds tile `s`'s rows. -/
def gathered (sl : S65536.Idx → BitVec 32) (ys : YI → F .f32) (s : ℕ) : VI → F .f32 := fun y =>
  rowAt ys (y 2) (slotWord sl ((y 1).val * 16384 + (256 * s + (y 3).val))).toNat (y 4)

/-- Every slot is a row of the experts' outputs. -/
def Inside (sl : S65536.Idx → BitVec 32) : Prop := ∀ a, (slotWord sl a).toNat < 73728

theorem copy_val {ρ b k r : ℕ} {off : Fin 3 → ℕ} {off5 : Fin 5 → ℕ} (h : off = ![0, ρ, 0]) (h5 : off5 = ![b, k, 0, r, 0])
    (inb : ∀ a, off a + S8x1x128.size a ≤ S8x73728x128.size a) (inb5 : ∀ a, off5 a + S1x1x8x1x128.size a ≤ S2x4x8x256x128.size a)
    (hk : k < 4) (fd : VI → F .f32) (ys : YI → F .f32) :
    ∀ y ∈ vcopy b (4 * r + k),
      (dstM off5 inb5).view.write (Elt F) fd ((srcM off inb).view.read (Elt F) ys) Finset.univ y = rowAt ys (y 2) ρ (y 4) := by
  subst h; subst h5
  intro y hy
  rw [mem_vcopy] at hy
  have h1 : (y 1).val < 4 := (y 1).isLt
  have hρ : ρ + 1 ≤ 73728 := inb 1
  have e : y = (dstM _ inb5).view.emb (ix3 (y 2) (0 : Fin 1) (y 4)) := by
    show y = (Rect.unit (s := S2x4x8x256x128) _ S1x1x8x1x128.size inb5).emb (Shape.reshapeEquiv _ (ix3 (y 2) (0 : Fin 1) (y 4)))
    erw [reshapeEquiv_ix3_11abc]
    funext a
    apply Fin.ext
    rw [Rect.emb_apply]
    match a with
    | 0 => show (y 0).val = b + 1 * 0; omega
    | 1 => show (y 1).val = k + 1 * 0; omega
    | 2 => show (y 2).val = 0 + 1 * (y 2).val; omega
    | 3 => show (y 3).val = r + 1 * 0; omega
    | 4 => show (y 4).val = 0 + 1 * (y 4).val; omega
  conv_lhs => rw [e]
  rw [View.write_emb_of_mem _ _ (Finset.mem_univ _)]
  show ys ((Rect.unit (s := S8x73728x128) _ S8x1x128.size inb).emb (ix3 (y 2) (0 : Fin 1) (y 4))) = _
  unfold rowAt
  congr 1
  funext a
  apply Fin.ext
  rw [Rect.emb_apply]
  match a with
  | 0 => show 0 + 1 * (y 2).val = (y 2).val; omega
  | 1 => show ρ + 1 * 0 = ρ % 73728; omega
  | 2 => show 0 + 1 * (y 4).val = (y 4).val; omega

/-! ### Holdings -/

/-- The algebra of the certificate. -/
local notation "𝕄" => MT nD τ sig Unit (Elt F) ℕ (UD sig nD τ) ℕ

/-- The completion cells of the two halves. -/
def gCell (b : ℕ) : DmaSem sig := ⟨12 + b % 2, lt_of_lt_of_le (Nat.add_lt_add_left (Nat.mod_lt _ (by decide)) 12) (by decide : 12 + 2 ≤ sig.nDmaSem)⟩

theorem gSem {b : ℕ} {off : Fin 1 → ℕ} (h : off = ![b % 2]) (inb : ∀ a, off a + S1.size a ≤ S2.size a) : semM off inb = gCell b := by
  have hs : b % 2 < 2 := Nat.mod_lt _ (by decide)
  apply Fin.ext
  show _ = 12 + b % 2
  subst h
  generalize b % 2 = k at hs inb
  interval_cases k <;> (revert inb; decide +kernel)

/-- What a row's transfer credits its cell. -/
def rowN : ℕ := cc0_scratch0.dmaCredit S8x1x128 .f32
theorem rowN_pos : 0 < rowN := by unfold rowN; decide +kernel

variable (c : Dev nD)

abbrev GB (S : Finset VI) (f : VI → F .f32) : sProp 𝕄 := ((c : Thread nD τ).loc cc0_scratch0) ↦[S]{fullShare} f
abbrev YS (S : Finset YI) (q : PosShare TreeShare) (f : YI → F .f32) : sProp 𝕄 := ((c : Thread nD τ).loc main_arg1) ↦[S]{q} f
abbrev SL (f : S65536.Idx → BitVec 32) : sProp 𝕄 := ((c : Thread nD τ).loc main_arg0) ↦{fullShare.right} f
abbrev cell (s : DmaSem sig) : sProp 𝕄 := semVal ((c : Thread nD τ), SemLoc.dma s) 0

variable (sl : S65536.Idx → BitVec 32) (ys : YI → F .f32)

/-- What copy `j` of tile `s` into half `b` delivers: its row of the half, and the share it read under. -/
def copyD (s b : ℕ) (j : Fin 1024) : sProp 𝕄 :=
  iprop(GB c (vcopy (b % 2) j.val) (gathered sl ys s) ∗ YS c (rowSet (slotAt sl s j.val)) (Transfers.shareTokN fullShare j.val) ys)

instance copyD_storable (s b : ℕ) (j : Fin 1024) : BI.Storable (upEmb : UEmb _ 𝕄) (copyD c sl ys s b j) := by
  unfold copyD; infer_instance

/-- Tile `s`'s copies into half `b`, `j` of them issued and `w` units waited for. -/
abbrev fill (s b j w : ℕ) : sProp 𝕄 :=
  Transfers.Batch (countersEmb (U := UD sig nD τ)) (c : Thread nD τ) (.dma (gCell b)) () rowN (copyD (F := F) c sl ys s b) j w

/-- What is left of the shares that the copies before `n` read under. -/
abbrev kept (s n : ℕ) : sProp 𝕄 :=
  bigSep (Finset.range n) fun j => YS (F := F) c (Finset.univ \ rowSet (slotAt sl s j)) (Transfers.shareTokN fullShare j) ys

theorem share_step (k : ℕ) :
    (YS (F := F) c Finset.univ (Transfers.shareDrop fullShare k) ys : sProp 𝕄)
      ⊣⊢ iprop(YS (F := F) c Finset.univ (Transfers.shareDrop fullShare (k + 1)) ys ∗ YS (F := F) c Finset.univ (Transfers.shareTokN fullShare k) ys) :=
  pointsTo_share (PosShare.mem_left_op_right _)

/-- Before copy `n` of tile `s` into half `b`. -/
def filling (fv : VI → F .f32) (s b n : ℕ) : sProp 𝕄 :=
  iprop(GB (F := F) c (vrest (b % 2) n) fv ∗ YS (F := F) c Finset.univ (Transfers.shareDrop fullShare n) ys ∗ kept (F := F) c sl ys s n ∗ fill (F := F) c sl ys s b n 0)

variable (𝒱 : Variants) (bd : Option 𝒱.V)

theorem wp_row (I : Inside sl) (fv : VI → F .f32) {s b r k : ℕ} (hr : r < 256) (hk : k < 4) {off : Fin 3 → ℕ} {off5 : Fin 5 → ℕ} {offs : Fin 1 → ℕ}
    (h : off = ![0, slotAt sl s (4 * r + k), 0]) (h5 : off5 = ![b % 2, k, 0, r, 0]) (hs : offs = ![b % 2])
    (inb : ∀ a, off a + S8x1x128.size a ≤ S8x73728x128.size a) (inb5 : ∀ a, off5 a + S1x1x8x1x128.size a ≤ S2x4x8x256x128.size a)
    (inbs : ∀ a, offs a + S1.size a ≤ S2.size a)
    {hsrc : (srcM off inb).view.WordExact} {hdst : (dstM off5 inb5).view.WordExact}
    {hsem : DmaTarget.Typed (nD := nD) (p := .tc) .hbm (.dma (semM offs inbs)) (.here (dstM off5 inb5))}
    {α : Type} {K : PUnit → Prog (TpuEff nD τ sig (Elt F) Λ₀ .tc) α} {Q : α → sProp 𝕄} :
    filling (F := F) c sl ys fv s b (4 * r + k)
      ⊢ iprop((filling (F := F) c sl ys fv s b (4 * r + (k + 1)) -∗ wp frame (wpE defs₀ 𝒱 (c : Thread nD τ) bd) Set.univ (K ⟨⟩) Q)
          -∗ wp frame (wpE defs₀ 𝒱 (c : Thread nD τ) bd) Set.univ
            (.op (.enqueueDma (srcM off inb) (.here (dstM off5 inb5)) (.dma (semM offs inbs)) hsrc hdst hsem) K) Q) := by
  have hset : (srcM off inb).view.set = rowSet (slotAt sl s (4 * r + k)) := set_src h inb
  have hdset : (dstM off5 inb5).view.set = vcopy (b % 2) (4 * r + k) := set_dst hk h5 inb5
  unfold filling
  iintro ⟨HG, HY, HK, HB⟩ HW
  ihave HG := (pointsTo_split_subset (ℓ := (c : Thread nD τ).loc cc0_scratch0) (vcopy_sub (b % 2) (4 * r + k))).1 $$ HG
  icases HG with ⟨Hrow, HG⟩
  ihave HY := (share_step (F := F) c ys (4 * r + k)).1 $$ HY
  icases HY with ⟨HY, Ht⟩
  ihave Ht := (pointsTo_split_subset (ℓ := (c : Thread nD τ).loc main_arg1) (Finset.subset_univ (rowSet (slotAt sl s (4 * r + k))))).1 $$ Ht
  icases Ht with ⟨Ht, Hl⟩
  iapply (Transfers.wp_dmaBatch (countersEmb (U := UD sig nD τ)) 𝒱 (c : Thread nD τ) bd (defs := defs₀)
    (src := srcM off inb) (via := .same) (dst := dstM off5 inb5)
    (Sd := vcopy (b % 2) (4 * r + k)) (fd := fv) (fs := ys) (q := Transfers.shareTokN fullShare (4 * r + k))
    (D := copyD (F := F) c sl ys s b) (j := 4 * r + k) (u := 0) () rowN rfl hdset.subset (by omega) (Nat.zero_le _) ?hD) $$ [Ht Hrow HB]
  case hD =>
    unfold copyD
    rw [hset]
    iintro ⟨Hd, Hs⟩
    isplitl [Hd]
    · iapply (Entails.of_eq (pointsTo_congr (ℓ := (c : Thread nD τ).loc cc0_scratch0) (fun y hy => ?_))) $$ Hd
      refine (copy_val (F := F) h h5 inb inb5 hk fv ys y hy).trans ?_
      have hy' := mem_vcopy.1 hy
      have h1 : (y 1).val < 4 := (y 1).isLt
      unfold gathered slotAt
      rw [show (4 * r + k) % 4 * 16384 + (256 * s + (4 * r + k) / 4) = (y 1).val * 16384 + (256 * s + (y 3).val) from by omega]
    · iexact Hs
  · isplitl [Ht]
    · rw [hset]; iexact Ht
    isplitl [Hrow]; · iexact Hrow
    rw [gSem hs]
    iexact HB
  iintro HB
  iapply HW
  isplitl [HG]
  · rw [← Nat.add_assoc, ← vrest_sdiff]
    iexact HG
  isplitl [HY]; · iexact HY
  isplitl [HK Hl]
  · rw [← Nat.add_assoc]
    unfold kept
    rw [bigSep_range_succ]
    isplitl [Hl]; · iexact Hl
    iexact HK
  rw [gSem hs]
  iexact HB

end Cert.CombineIdeal.Gather
end
-- ==== Proof.Await.lean ====
/- The gather's loops: a tile's copies started, waited for, and what they have delivered put together. -/
module

public import proofs.«01_k».proof.Proof.Gather

@[expose] public section

noncomputable section

namespace Cert.CombineIdeal.Gather

open Idealize.ShloMosaic Idealize.ShloMosaic.ValueIdx Cert.CombineIdeal Cert.CombineIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- The word a load of the table of slots reads. -/
theorem slot_read {a : ℕ} {off : Fin 1 → ℕ} (h : off = ![a]) (inb : ∀ x, off x + S1.size x ≤ S65536.size x)
    (f : S65536.Idx → BitVec 32) (x : S1.Idx) :
    (((Memref.whole main_arg0).access (Rect.unit (s := S65536) off S1.size inb)).read (Elt F) f x : BitVec 32) = slotWord f a := by
  subst h
  have hx : (x 0).val = 0 := by have := (x 0).isLt; have e : S1.size 0 = 1 := rfl; omega
  have hb : a + 1 ≤ 65536 := inb 0
  show f ((Rect.unit (s := S65536) _ S1.size inb).emb x) = _
  unfold slotWord
  congr 1
  funext d
  apply Fin.ext
  rw [Rect.emb_apply]
  match d with
  | 0 => show a + 1 * (x 0).val = a % 65536; omega

theorem row_fits {m : ℕ} (h : m < 73728) : ∀ a, (![0, m, 0] : Fin 3 → ℕ) a + S8x1x128.size a ≤ S8x73728x128.size a := fun a =>
  match a with
  | 0 => (by decide : 0 + 8 ≤ 8)
  | 1 => by show m + 1 ≤ 73728; omega
  | 2 => (by decide : 0 + 128 ≤ 128)

variable (c : Dev nD) (𝒱 : Variants) (bd : Option 𝒱.V)

/-- Programs at their heads. -/
theorem op_bind {X α β : Type} (e : TpuEff nD τ sig (Elt F) Λ₀ .tc X) (k : X → Prog (TpuEff nD τ sig (Elt F) Λ₀ .tc) α) (K : α → Prog (TpuEff nD τ sig (Elt F) Λ₀ .tc) β) :
    Prog.op e k >>= K = .op e (fun x => k x >>= K) := rfl
theorem lift_eq {α : Type} (e : TpuEff nD τ sig (Elt F) Λ₀ .tc α) : Prog.lift e = .op e .ret := rfl
theorem pure_eq {α : Type} (a : α) : (Pure.pure a : Prog (TpuEff nD τ sig (Elt F) Λ₀ .tc) α) = .ret a := rfl
theorem ret_bind {α β : Type} (a : α) (K : α → Prog (TpuEff nD τ sig (Elt F) Λ₀ .tc) β) :
    Prog.ret a >>= K = K a := rfl
theorem word_bind {s : Shape} {m : Memref sig .tc .smem s .i32} {r : Rect s} {h : (m.access r).Loads} {x : r.shape.Idx} {α β : Type}
    (k : Elt F .i32 → Prog (TpuEff nD τ sig (Elt F) Λ₀ .tc) α) (K : α → Prog (TpuEff nD τ sig (Elt F) Λ₀ .tc) β) :
    smemLoadElt m r h x k >>= K = smemLoadElt m r h x (fun w => k w >>= K) := rfl

/-- A word of the table of slots read, and what the program checks of it. -/
theorem wp_slot {f : S65536.Idx → BitVec 32} {a : ℕ} {off : Fin 1 → ℕ} (h : off = ![a]) (inb : ∀ x, off x + S1.size x ≤ S65536.size x)
    {hw : ((Memref.whole main_arg0 : Memref sig .tc .smem S65536 .i32).access (Rect.unit (s := S65536) off S1.size inb)).Loads} {x : S1.Idx} {chk : BitVec 32 → Prop} {d : (v : BitVec 32) → Decidable (chk v)}
    (hc : chk (slotWord f a)) {α : Type} {K : (v : BitVec 32) → PLift (chk v) → Prog (TpuEff nD τ sig (Elt F) Λ₀ .tc) α} {Q : α → sProp 𝕄} :
    (SL (F := F) c f : sProp 𝕄) ⊢ iprop((SL (F := F) c f -∗ wp frame (wpE defs₀ 𝒱 (c : Thread nD τ) bd) Set.univ (K (slotWord f a) ⟨hc⟩) Q)
      -∗ wp frame (wpE defs₀ 𝒱 (c : Thread nD τ) bd) Set.univ
        (smemLoadElt (Memref.whole main_arg0 : Memref sig .tc .smem S65536 .i32) (Rect.unit (s := S65536) off S1.size inb) hw x
          (fun v => .op (.assume (chk v) (d v)) (fun p => K v p))) Q) := by
  iintro HS HK
  iapply (wp_smemLoadElt 𝒱 c bd Set.univ (defs := defs₀) (m := (Memref.whole main_arg0 : Memref sig .tc .smem S65536 .i32)) (r := Rect.unit (s := S65536) off S1.size inb)
    (x := x) (S := Finset.univ) (q := fullShare.right) (f := f) (Finset.subset_univ _)) $$ [HS]
  · iexact HS
  iintro HS
  have e : (((Memref.whole main_arg0).access (Rect.unit (s := S65536) off S1.size inb)).read (Elt F) f x : BitVec 32) = slotWord f a := slot_read h inb f x
  rw [e]
  iapply (wp_assume 𝒱 c bd Set.univ hc)
  iapply HK
  iexact HS

variable (a3 : Memref sig .tc .vmem S256x1024 .f32) (h3 : a3.IsWhole) (a4 : Memref sig .tc .vmem S256x128 .f32) (h4 : a4.IsWhole)
  (a5 : Memref sig .tc .vmem S256x256 .f32) (h5 : a5.IsWhole) (a6 : Memref sig .tc .vmem S1x1024 .f32) (h6 : a6.IsWhole)
  (a7 : Memref sig .tc .vmem S1024x1024 .bf16) (h7 : a7.IsWhole) (a8 : Memref sig .tc .vmem S256x1024 .bf16) (h8 : a8.IsWhole)
  (a9 : Memref sig .tc .vmem S1x1024 .f32) (h9 : a9.IsWhole) (a10 : Memref sig .tc .vmem S256x1024 .f32) (h10 : a10.IsWhole)

abbrev t1body (t : Fin grid0.N) (k1 : k0_cond1 (pt t) = 1#1) :=
  k0_t1_body (F := F) (pt t) (Memref.whole main_arg0) (Memref.isWhole_whole _) (Memref.whole main_arg1) (Memref.isWhole_whole _) a3 h3 a4 h4 a5 h5 a6 h6 a7 h7 a8 h8 a9 h9 a10 h10 (Memref.whole cc0_scratch0) (Memref.isWhole_whole _) cc0_scratch1 k1
abbrev t2body (t : Fin grid0.N) :=
  k0_t2_body (F := F) (pt t) (Memref.whole main_arg0) (Memref.isWhole_whole _) (Memref.whole main_arg1) (Memref.isWhole_whole _) a3 h3 a4 h4 a5 h5 a6 h6 a7 h7 a8 h8 a9 h9 a10 h10 (Memref.whole cc0_scratch0) (Memref.isWhole_whole _) cc0_scratch1
abbrev t3body (t : Fin grid0.N) (v6 : BitVec 32) :=
  k0_t3_body (F := F) (pt t) (Memref.whole main_arg0) (Memref.isWhole_whole _) (Memref.whole main_arg1) (Memref.isWhole_whole _) a3 h3 a4 h4 a5 h5 a6 h6 a7 h7 a8 h8 a9 h9 a10 h10 (Memref.whole cc0_scratch0) (Memref.isWhole_whole _) cc0_scratch1 v6
abbrev t4body (t : Fin grid0.N) (k2 : k0_cond2 (pt t) = 1#1) :=
  k0_t4_body (F := F) (pt t) (Memref.whole main_arg0) (Memref.isWhole_whole _) (Memref.whole main_arg1) (Memref.isWhole_whole _) a3 h3 a4 h4 a5 h5 a6 h6 a7 h7 a8 h8 a9 h9 a10 h10 (Memref.whole cc0_scratch0) (Memref.isWhole_whole _) cc0_scratch1 k2

/-- What the core owes: nothing, whatever it has waited for. -/
abbrev owe : sProp 𝕄 := iprop(∃ W, owes (c : Thread nD τ) 0 W)

theorem rowOff {sl : S65536.Idx → BitVec 32} {s n a : ℕ} (h : n % 4 * 16384 + (256 * s + n / 4) = a) :
    (![0, (slotWord sl a).toNat, 0] : Fin 3 → ℕ) = ![0, slotAt sl s n, 0] := by subst h; rfl

theorem pick_eq (r s k : ℕ) (hk : k < 4) : (4 * r + k) % 4 * 16384 + (256 * s + (4 * r + k) / 4) = k * 16384 + (256 * s + r) := by
  rw [show (4 * r + k) % 4 = k by omega, show (4 * r + k) / 4 = r by omega]
theorem first_eq (r w k : ℕ) (h : k * 16384 = w) : k * 16384 + (256 * 0 + r) = w + r := by rw [h]; omega
theorem next_eq (x w k : ℕ) (h : k * 16384 = w) : k * 16384 + x = w + x := by rw [h]

/-- Before trip `r` of a gather of tile `s` into half `b`. -/
abbrev issueAt (sl : S65536.Idx → BitVec 32) (ys : YI → F .f32) (fv : VI → F .f32) (s b r : ℕ) : sProp 𝕄 :=
  iprop(SL (F := F) c sl ∗ filling (F := F) c sl ys fv s b (4 * r))

theorem first_step {sl : S65536.Idx → BitVec 32} {ys : YI → F .f32} (I : Inside sl) (fv : VI → F .f32) (t : Fin grid0.N) (k1 : k0_cond1 (pt t) = 1#1) (r : Fin k0_t1_loop.trips) (acc : Unit) :
    issueAt (F := F) c sl ys fv 0 0 r.val ⊢ wp frame (wpE defs₀ 𝒱 (c : Thread nD τ) bd) Set.univ (t1body (F := F) a3 h3 a4 h4 a5 h5 a6 h6 a7 h7 a8 h8 a9 h9 a10 h10 t k1 r acc)
      (fun _ => issueAt (F := F) c sl ys fv 0 0 (r.val + 1)) := by
  have ht := lt64 t
  have hr := lt_of_lt_of_eq r.isLt trips1
  iintro ⟨HS, H⟩
  dsimp only [t1body, k0_t1_body]
  rw [k0_part1_eq_skeleton]
  dsimp only [k0_part1_skel, smemLoad]
  simp only [bind_assoc, lift_eq, op_bind, ret_bind, word_bind, pure_bind, pure_eq]
  obtain ⟨w0, o0, a0⟩ : ∃ w, k0_off1 r = ![w] ∧ (4 * r.val + 0) % 4 * 16384 + (256 * 0 + (4 * r.val + 0) / 4) = w :=
    ⟨_, off1_eq r, (pick_eq r.val 0 0 (by decide)).trans (first_eq r.val 0 0 rfl)⟩
  obtain ⟨w1, o1, a1⟩ : ∃ w, k0_off4 r = ![w] ∧ (4 * r.val + 1) % 4 * 16384 + (256 * 0 + (4 * r.val + 1) / 4) = w :=
    ⟨_, off4_eq r, (pick_eq r.val 0 1 (by decide)).trans (first_eq r.val 16384 1 rfl)⟩
  obtain ⟨w2, o2, a2⟩ : ∃ w, k0_off7 r = ![w] ∧ (4 * r.val + 2) % 4 * 16384 + (256 * 0 + (4 * r.val + 2) / 4) = w :=
    ⟨_, off7_eq r, (pick_eq r.val 0 2 (by decide)).trans (first_eq r.val 32768 2 rfl)⟩
  obtain ⟨w3, o3, a3⟩ : ∃ w, k0_off10 r = ![w] ∧ (4 * r.val + 3) % 4 * 16384 + (256 * 0 + (4 * r.val + 3) / 4) = w :=
    ⟨_, off10_eq r, (pick_eq r.val 0 3 (by decide)).trans (first_eq r.val 49152 3 rfl)⟩
  have fit : ∀ a x, (![0, (slotWord sl a).toNat, 0] : Fin 3 → ℕ) x + S8x1x128.size x ≤ S8x73728x128.size x := fun a => row_fits (I a)
  iapply (wp_slot (F := F) c 𝒱 bd (chk := k0_chk1 (pt t)) o0 _ (fun _ => fit w0)) $$ HS
  iintro HS
  iapply (wp_row (F := F) c sl ys 𝒱 bd I fv (s := 0) (b := 0) (k := 0) hr (by omega) (show k0_off3 _ = _ from rowOff a0) (off2_eq r) rfl _ _ _) $$ H
  iintro H
  iapply (wp_slot (F := F) c 𝒱 bd (chk := k0_chk2 (pt t)) o1 _ (fun _ => fit w1)) $$ HS
  iintro HS
  iapply (wp_row (F := F) c sl ys 𝒱 bd I fv (s := 0) (b := 0) (k := 1) hr (by omega) (show k0_off6 _ = _ from rowOff a1) (off5_eq r) rfl _ _ _) $$ H
  iintro H
  iapply (wp_slot (F := F) c 𝒱 bd (chk := k0_chk3 (pt t)) o2 _ (fun _ => fit w2)) $$ HS
  iintro HS
  iapply (wp_row (F := F) c sl ys 𝒱 bd I fv (s := 0) (b := 0) (k := 2) hr (by omega) (show k0_off9 _ = _ from rowOff a2) (off8_eq r) rfl _ _ _) $$ H
  iintro H
  iapply (wp_slot (F := F) c 𝒱 bd (chk := k0_chk4 (pt t)) o3 _ (fun _ => fit w3)) $$ HS
  iintro HS
  iapply (wp_row (F := F) c sl ys 𝒱 bd I fv (s := 0) (b := 0) (k := 3) hr (by omega) (show k0_off12 _ = _ from rowOff a3) (off11_eq r) rfl _ _ _) $$ H
  iintro H
  rw [wp_ret]
  imodintro
  isplitl [HS]; · iexact HS
  rw [show 4 * (r.val + 1) = 4 * r.val + (3 + 1) from by omega]
  iexact H

theorem first_loop {sl : S65536.Idx → BitVec 32} {ys : YI → F .f32} (I : Inside sl) (fv : VI → F .f32) (t : Fin grid0.N) (k1 : k0_cond1 (pt t) = 1#1)
    {α : Type} {K : Unit → Prog (TpuEff nD τ sig (Elt F) Λ₀ .tc) α} {Q : α → sProp 𝕄} :
    issueAt (F := F) c sl ys fv 0 0 0
      ⊢ iprop((issueAt (F := F) c sl ys fv 0 0 256 -∗ wp frame (wpE defs₀ 𝒱 (c : Thread nD τ) bd) Set.univ (K ⟨⟩) Q)
        -∗ wp frame (wpE defs₀ 𝒱 (c : Thread nD τ) bd) Set.univ (Scf.Loop.for k0_t1_loop (k0_t1_ok (pt t) k1) ⟨⟩ (t1body (F := F) a3 h3 a4 h4 a5 h5 a6 h6 a7 h7 a8 h8 a9 h9 a10 h10 t k1) >>= K) Q) := by
  iintro H HK
  iapply (Scf.wp_for_bind frame (wpE defs₀ 𝒱 (c : Thread nD τ) bd) Set.univ _ _ _ (k0_t1_ok (pt t) k1) (⟨⟩ : Unit) (t1body (F := F) a3 h3 a4 h4 a5 h5 a6 h6 a7 h7 a8 h8 a9 h9 a10 h10 t k1)
    (fun r _ => issueAt (F := F) c sl ys fv 0 0 r) (fun r acc => first_step (F := F) c 𝒱 bd a3 h3 a4 h4 a5 h5 a6 h6 a7 h7 a8 h8 a9 h9 a10 h10 I fv t k1 r acc)) $$ H
  iintro %acc H
  iapply HK
  rw [show Scf.trips k0_t1_loop.lb k0_t1_loop.ub k0_t1_loop.st = 256 from trips1]
  iexact H

theorem next_step {sl : S65536.Idx → BitVec 32} {ys : YI → F .f32} (I : Inside sl) (fv : VI → F .f32) (t : Fin grid0.N) (v6 : BitVec 32) (r : Fin k0_t3_loop.trips) (acc : Unit) :
    issueAt (F := F) c sl ys fv (nx t.val) (t.val + 1) r.val ⊢ wp frame (wpE defs₀ 𝒱 (c : Thread nD τ) bd) Set.univ (t3body (F := F) a3 h3 a4 h4 a5 h5 a6 h6 a7 h7 a8 h8 a9 h9 a10 h10 t v6 r acc)
      (fun _ => issueAt (F := F) c sl ys fv (nx t.val) (t.val + 1) (r.val + 1)) := by
  have ht := lt64 t
  have hr := lt_of_lt_of_eq r.isLt trips3
  iintro ⟨HS, H⟩
  dsimp only [t3body, k0_t3_body]
  rw [k0_part2_eq_skeleton]
  dsimp only [k0_part2_skel, smemLoad]
  simp only [bind_assoc, lift_eq, op_bind, ret_bind, word_bind, pure_bind, pure_eq]
  obtain ⟨w0, o0, a0⟩ : ∃ w, k0_off15 (pt t) r = ![w] ∧ (4 * r.val + 0) % 4 * 16384 + (256 * (nx t.val) + (4 * r.val + 0) / 4) = w :=
    ⟨_, off15_eq t r, (pick_eq r.val (nx t.val) 0 (by decide)).trans (next_eq _ 0 0 rfl)⟩
  obtain ⟨w1, o1, a1⟩ : ∃ w, k0_off19 (pt t) r = ![w] ∧ (4 * r.val + 1) % 4 * 16384 + (256 * (nx t.val) + (4 * r.val + 1) / 4) = w :=
    ⟨_, off19_eq t r, (pick_eq r.val (nx t.val) 1 (by decide)).trans (next_eq _ 16384 1 rfl)⟩
  obtain ⟨w2, o2, a2⟩ : ∃ w, k0_off23 (pt t) r = ![w] ∧ (4 * r.val + 2) % 4 * 16384 + (256 * (nx t.val) + (4 * r.val + 2) / 4) = w :=
    ⟨_, off23_eq t r, (pick_eq r.val (nx t.val) 2 (by decide)).trans (next_eq _ 32768 2 rfl)⟩
  obtain ⟨w3, o3, a3⟩ : ∃ w, k0_off27 (pt t) r = ![w] ∧ (4 * r.val + 3) % 4 * 16384 + (256 * (nx t.val) + (4 * r.val + 3) / 4) = w :=
    ⟨_, off27_eq t r, (pick_eq r.val (nx t.val) 3 (by decide)).trans (next_eq _ 49152 3 rfl)⟩
  have fit : ∀ a x, (![0, (slotWord sl a).toNat, 0] : Fin 3 → ℕ) x + S8x1x128.size x ≤ S8x73728x128.size x := fun a => row_fits (I a)
  iapply (wp_slot (F := F) c 𝒱 bd (chk := k0_chk5) o0 _ (fit w0)) $$ HS
  iintro HS
  iapply (wp_row (F := F) c sl ys 𝒱 bd I fv (s := (nx t.val)) (b := (t.val + 1)) (k := 0) hr (by omega) (show k0_off18 _ = _ from rowOff a0) (off17_eq t r) (off16_eq t) _ _ _) $$ H
  iintro H
  iapply (wp_slot (F := F) c 𝒱 bd (chk := k0_chk6) o1 _ (fit w1)) $$ HS
  iintro HS
  iapply (wp_row (F := F) c sl ys 𝒱 bd I fv (s := (nx t.val)) (b := (t.val + 1)) (k := 1) hr (by omega) (show k0_off22 _ = _ from rowOff a1) (off21_eq t r) (off20_eq t) _ _ _) $$ H
  iintro H
  iapply (wp_slot (F := F) c 𝒱 bd (chk := k0_chk7) o2 _ (fit w2)) $$ HS
  iintro HS
  iapply (wp_row (F := F) c sl ys 𝒱 bd I fv (s := (nx t.val)) (b := (t.val + 1)) (k := 2) hr (by omega) (show k0_off26 _ = _ from rowOff a2) (off25_eq t r) (off24_eq t) _ _ _) $$ H
  iintro H
  iapply (wp_slot (F := F) c 𝒱 bd (chk := k0_chk8) o3 _ (fit w3)) $$ HS
  iintro HS
  iapply (wp_row (F := F) c sl ys 𝒱 bd I fv (s := (nx t.val)) (b := (t.val + 1)) (k := 3) hr (by omega) (show k0_off30 _ = _ from rowOff a3) (off29_eq t r) (off28_eq t) _ _ _) $$ H
  iintro H
  rw [wp_ret]
  imodintro
  isplitl [HS]; · iexact HS
  rw [show 4 * (r.val + 1) = 4 * r.val + (3 + 1) from by omega]
  iexact H

theorem next_loop {sl : S65536.Idx → BitVec 32} {ys : YI → F .f32} (I : Inside sl) (fv : VI → F .f32) (t : Fin grid0.N) (v6 : BitVec 32)
    {α : Type} {K : Unit → Prog (TpuEff nD τ sig (Elt F) Λ₀ .tc) α} {Q : α → sProp 𝕄} :
    issueAt (F := F) c sl ys fv (nx t.val) (t.val + 1) 0
      ⊢ iprop((issueAt (F := F) c sl ys fv (nx t.val) (t.val + 1) 256 -∗ wp frame (wpE defs₀ 𝒱 (c : Thread nD τ) bd) Set.univ (K ⟨⟩) Q)
        -∗ wp frame (wpE defs₀ 𝒱 (c : Thread nD τ) bd) Set.univ (Scf.Loop.for k0_t3_loop k0_t3_ok ⟨⟩ (t3body (F := F) a3 h3 a4 h4 a5 h5 a6 h6 a7 h7 a8 h8 a9 h9 a10 h10 t v6) >>= K) Q) := by
  iintro H HK
  iapply (Scf.wp_for_bind frame (wpE defs₀ 𝒱 (c : Thread nD τ) bd) Set.univ _ _ _ k0_t3_ok (⟨⟩ : Unit) (t3body (F := F) a3 h3 a4 h4 a5 h5 a6 h6 a7 h7 a8 h8 a9 h9 a10 h10 t v6)
    (fun r _ => issueAt (F := F) c sl ys fv (nx t.val) (t.val + 1) r) (fun r acc => next_step (F := F) c 𝒱 bd a3 h3 a4 h4 a5 h5 a6 h6 a7 h7 a8 h8 a9 h9 a10 h10 I fv t v6 r acc)) $$ H
  iintro %acc H
  iapply HK
  rw [show Scf.trips k0_t3_loop.lb k0_t3_loop.ub k0_t3_loop.st = 256 from trips3]
  iexact H

/-- Waiting for one row, out of a loop that waits for the tile's 1024. -/
theorem wait_row (sl : S65536.Idx → BitVec 32) (ys : YI → F .f32) {s b r : ℕ} (hr : r < 1024) {sem : DmaSem sig} (hs : sem = gCell b)
    {off5 : Fin 5 → ℕ} {inb5 : ∀ a, off5 a + S1x1x8x1x128.size a ≤ S2x4x8x256x128.size a} {src : Memref sig .tc .hbm S8x1x128 .f32}
    {hsrc : src.view.WordExact} {hdst : (dstM off5 inb5).view.WordExact}
    {α : Type} {K : PUnit → Prog (TpuEff nD τ sig (Elt F) Λ₀ .tc) α} {Q : α → sProp 𝕄} :
    iprop(fill (F := F) c sl ys s b 1024 (r * rowN) ∗ owe (F := F) c)
      ⊢ iprop((iprop(fill (F := F) c sl ys s b 1024 ((r + 1) * rowN) ∗ owe (F := F) c) -∗ wp frame (wpE defs₀ 𝒱 (c : Thread nD τ) bd) Set.univ (K ⟨⟩) Q)
        -∗ wp frame (wpE defs₀ 𝒱 (c : Thread nD τ) bd) Set.univ (.op (.waitDma2 sem src (dstM off5 inb5) hsrc hdst) K) Q) := by
  subst hs
  iintro ⟨HB, %W, HO⟩ HK
  iapply (Transfers.wp_waitBatchMul (countersEmb (U := UD sig nD τ)) 𝒱 (c : Thread nD τ) bd (defs := defs₀) () (N := rowN) 1 (Nat.one_mul _).symm
    (D := copyD (F := F) c sl ys s b) (j := 1024) (u := r * rowN) (by
      rw [Nat.mul_comm rowN, ← Nat.add_mul]; exact Nat.mul_le_mul_right _ (by omega))) $$ [HB HO]
  · isplitl [HB]; · iexact HB
    iexact HO
  iintro ⟨HB, HO⟩
  iapply HK
  rw [show (r + 1) * rowN = r * rowN + 1 * rowN from Nat.add_mul _ _ _]
  isplitl [HB]; · iexact HB
  iexists _; iexact HO

theorem drain2 (sl : S65536.Idx → BitVec 32) (ys : YI → F .f32) (t : Fin grid0.N) {s b : ℕ} (ho : k0_off13 (pt t) = ![b % 2])
    {α : Type} {K : Unit → Prog (TpuEff nD τ sig (Elt F) Λ₀ .tc) α} {Q : α → sProp 𝕄} :
    iprop(fill (F := F) c sl ys s b 1024 0 ∗ owe (F := F) c)
      ⊢ iprop((iprop(fill (F := F) c sl ys s b 1024 (1024 * rowN) ∗ owe (F := F) c) -∗ wp frame (wpE defs₀ 𝒱 (c : Thread nD τ) bd) Set.univ (K ⟨⟩) Q)
        -∗ wp frame (wpE defs₀ 𝒱 (c : Thread nD τ) bd) Set.univ (Scf.Loop.for k0_t2_loop k0_t2_ok ⟨⟩ (t2body (F := F) a3 h3 a4 h4 a5 h5 a6 h6 a7 h7 a8 h8 a9 h9 a10 h10 t) >>= K) Q) := by
  iintro H HK
  iapply (Scf.wp_for_bind frame (wpE defs₀ 𝒱 (c : Thread nD τ) bd) Set.univ _ _ _ k0_t2_ok (⟨⟩ : Unit) (t2body (F := F) a3 h3 a4 h4 a5 h5 a6 h6 a7 h7 a8 h8 a9 h9 a10 h10 t)
    (fun r _ => iprop(fill (F := F) c sl ys s b 1024 (r * rowN) ∗ owe (F := F) c)) (fun r acc => ?_)) $$ [H]
  · iintro ⟨HB, HO⟩
    dsimp only [t2body, k0_t2_body]
    simp only [bind_assoc, lift_eq, op_bind, ret_bind, pure_bind, pure_eq]
    iapply (wait_row (F := F) c 𝒱 bd sl ys (s := s) (b := b) (lt_of_lt_of_eq r.isLt trips2) (gSem ho _)) $$ [HB HO]
    · isplitl [HB]; · iexact HB
      iexact HO
    iintro H
    rw [wp_ret]
    imodintro
    iexact H
  · rw [Nat.zero_mul]; iexact H
  iintro %acc H
  iapply HK
  rw [show Scf.trips k0_t2_loop.lb k0_t2_loop.ub k0_t2_loop.st = 1024 from trips2]
  iexact H

theorem drain4 (sl : S65536.Idx → BitVec 32) (ys : YI → F .f32) (t : Fin grid0.N) (k2 : k0_cond2 (pt t) = 1#1) {s b : ℕ} (ho : k0_off63 (pt t) = ![b % 2])
    {α : Type} {K : Unit → Prog (TpuEff nD τ sig (Elt F) Λ₀ .tc) α} {Q : α → sProp 𝕄} :
    iprop(fill (F := F) c sl ys s b 1024 0 ∗ owe (F := F) c)
      ⊢ iprop((iprop(fill (F := F) c sl ys s b 1024 (1024 * rowN) ∗ owe (F := F) c) -∗ wp frame (wpE defs₀ 𝒱 (c : Thread nD τ) bd) Set.univ (K ⟨⟩) Q)
        -∗ wp frame (wpE defs₀ 𝒱 (c : Thread nD τ) bd) Set.univ (Scf.Loop.for k0_t4_loop (k0_t4_ok (pt t) k2) ⟨⟩ (t4body (F := F) a3 h3 a4 h4 a5 h5 a6 h6 a7 h7 a8 h8 a9 h9 a10 h10 t k2) >>= K) Q) := by
  iintro H HK
  iapply (Scf.wp_for_bind frame (wpE defs₀ 𝒱 (c : Thread nD τ) bd) Set.univ _ _ _ (k0_t4_ok (pt t) k2) (⟨⟩ : Unit) (t4body (F := F) a3 h3 a4 h4 a5 h5 a6 h6 a7 h7 a8 h8 a9 h9 a10 h10 t k2)
    (fun r _ => iprop(fill (F := F) c sl ys s b 1024 (r * rowN) ∗ owe (F := F) c)) (fun r acc => ?_)) $$ [H]
  · iintro ⟨HB, HO⟩
    dsimp only [t4body, k0_t4_body]
    simp only [bind_assoc, lift_eq, op_bind, ret_bind, pure_bind, pure_eq]
    iapply (wait_row (F := F) c 𝒱 bd sl ys (s := s) (b := b) (lt_of_lt_of_eq r.isLt trips4) (gSem ho _)) $$ [HB HO]
    · isplitl [HB]; · iexact HB
      iexact HO
    iintro H
    rw [wp_ret]
    imodintro
    iexact H
  · rw [Nat.zero_mul]; iexact H
  iintro %acc H
  iapply HK
  rw [show Scf.trips k0_t4_loop.lb k0_t4_loop.ub k0_t4_loop.st = 1024 from trips4]
  iexact H

/-! ### What a tile's copies have delivered, put together -/

theorem half_join (b : ℕ) (f : VI → F .f32) : ∀ n,
    (bigSep (Finset.range n) (fun j => GB (F := F) c (vcopy b j) f) : sProp 𝕄) ⊢ GB (F := F) c (vdone b n) f := by
  intro n
  induction n with
  | zero =>
    rw [vdone_zero]
    unfold GB
    rw [pointsTo_empty]
    iintro -
    iempintro
  | succ n ih =>
    rw [bigSep_range_succ, ← vdone_succ]
    iintro ⟨Hn, H⟩
    iapply (pointsTo_union (vdone_disj b n)).2
    isplitl [H]
    · iapply ih; iexact H
    · iexact Hn

theorem shares_join (sl : S65536.Idx → BitVec 32) (ys : YI → F .f32) (s : ℕ) : ∀ n,
    (iprop(YS (F := F) c Finset.univ (Transfers.shareDrop fullShare n) ys ∗ kept (F := F) c sl ys s n
      ∗ bigSep (Finset.range n) fun j => YS (F := F) c (rowSet (slotAt sl s j)) (Transfers.shareTokN fullShare j) ys) : sProp 𝕄)
      ⊢ YS (F := F) c Finset.univ fullShare ys := by
  intro n
  induction n with
  | zero =>
    iintro ⟨H, -, -⟩
    iexact H
  | succ n ih =>
    unfold kept
    rw [bigSep_range_succ, bigSep_range_succ]
    iintro ⟨H, ⟨Hk, HK⟩, Hr, HR⟩
    iapply ih
    isplitl [H Hk Hr]
    · iapply (share_step (F := F) c ys n).2
      isplitl [H]; · iexact H
      iapply (pointsTo_split_subset (ℓ := (c : Thread nD τ).loc main_arg1) (Finset.subset_univ (rowSet (slotAt sl s n)))).2
      isplitl [Hr]; · iexact Hr
      iexact Hk
    isplitl [HK]; · iexact HK
    iexact HR

/-- A tile on its way into half `b`. -/
def flying (sl : S65536.Idx → BitVec 32) (ys : YI → F .f32) (s b : ℕ) : sProp 𝕄 :=
  iprop(YS (F := F) c Finset.univ (Transfers.shareDrop fullShare 1024) ys ∗ kept (F := F) c sl ys s 1024 ∗ fill (F := F) c sl ys s b 1024 0)

/-- A gather begun, from a half, the experts' outputs and a cell. -/
theorem begun (sl : S65536.Idx → BitVec 32) (ys : YI → F .f32) (fv : VI → F .f32) (s b : ℕ) :
    iprop(GB (F := F) c (half (b % 2)) fv ∗ YS (F := F) c Finset.univ fullShare ys ∗ cell (F := F) c (gCell b))
      ⊢ |={Set.univ}=> filling (F := F) c sl ys fv s b (4 * 0) := by
  iintro ⟨HG, HY, Hc⟩
  imod (Transfers.batch_alloc' (countersEmb (U := UD sig nD τ)) (c : Thread nD τ) () rowN (copyD (F := F) c sl ys s b) (E := Set.univ)) $$ Hc with HB
  imodintro
  unfold filling
  rw [Nat.mul_zero, vrest_zero]
  isplitl [HG]; · iexact HG
  isplitl [HY]; · iexact HY
  isplitr [HB]
  · unfold kept
    rw [Finset.range_zero, bigSep_empty]
    iempintro
  iexact HB

theorem filled (sl : S65536.Idx → BitVec 32) (ys : YI → F .f32) (fv : VI → F .f32) (s b : ℕ) :
    filling (F := F) c sl ys fv s b (4 * 256) ⊢ flying (F := F) c sl ys s b := by
  unfold filling flying
  iintro ⟨HG, HY, HK, HB⟩
  isplitl [HY]; · iexact HY
  isplitl [HK]; · iexact HK
  iexact HB

/-- A tile's gather, all of it waited for. -/
theorem arrived (sl : S65536.Idx → BitVec 32) (ys : YI → F .f32) (s b : ℕ) :
    iprop(fill (F := F) c sl ys s b 1024 (1024 * rowN) ∗ YS (F := F) c Finset.univ (Transfers.shareDrop fullShare 1024) ys ∗ kept (F := F) c sl ys s 1024)
      ⊢ |={Set.univ}=> (iprop(GB (F := F) c (half (b % 2)) (gathered sl ys s) ∗ YS (F := F) c Finset.univ fullShare ys ∗ cell (F := F) c (gCell b)) : sProp 𝕄) := by
  rw [Nat.mul_comm 1024 rowN]
  iintro ⟨HB, HY, HK⟩
  imod (Transfers.batch_collect' (countersEmb (U := UD sig nD τ)) (c : Thread nD τ) rowN_pos (D := copyD (F := F) c sl ys s b)) $$ HB with ⟨HD, Hc⟩
  have e : (bigSep Finset.univ (copyD (F := F) c sl ys s b) : sProp 𝕄)
      = iprop((bigSep (Finset.range 1024) fun j => GB (F := F) c (vcopy (b % 2) j) (gathered sl ys s))
          ∗ bigSep (Finset.range 1024) fun j => YS (F := F) c (rowSet (slotAt sl s j)) (Transfers.shareTokN fullShare j) ys) :=
    (Ring.bigSep_fin_eq_range 1024 (copyD (F := F) c sl ys s b) (fun j => iprop(GB (F := F) c (vcopy (b % 2) j) (gathered sl ys s)
      ∗ YS (F := F) c (rowSet (slotAt sl s j)) (Transfers.shareTokN fullShare j) ys)) (fun j h => rfl)).trans (bigSep_sep _ _ _)
  ihave HD := (Entails.of_eq e) $$ HD
  icases HD with ⟨HG, HR⟩
  imodintro
  isplitl [HG]
  · rw [← vdone_end]
    iapply (half_join (F := F) c (b % 2) _ 1024)
    iexact HG
  isplitl [HY HK HR]
  · iapply (shares_join (F := F) c sl ys s 1024)
    isplitl [HY]; · iexact HY
    isplitl [HK]; · iexact HK
    iexact HR
  iexact Hc

end Cert.CombineIdeal.Gather
end
-- ==== Proof.Blend.lean ====
/- One tile of the combine: its loads, its result, and what is held before it and after. -/
module

public import proofs.«01_k».proof.Proof.Await
public import Idealize.ShloMosaic.Lib.VecWindow

@[expose] public section

noncomputable section

namespace Cert.CombineIdeal.Gather

open Idealize.ShloMosaic Idealize.ShloMosaic.ValueIdx Cert.CombineIdeal Cert.CombineIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

open Idealize.ShloMosaic.VecWindow (window put)

theorem off31_eq : ∀ t : Fin grid0.N, k0_off31 (pt t) = ![t.val % 2, 0, 0, 0, 0] := by decide +kernel
theorem off32_eq : ∀ t : Fin grid0.N, k0_off32 (pt t) = ![t.val % 2, 0, 1, 0, 0] := by decide +kernel
theorem off33_eq : ∀ t : Fin grid0.N, k0_off33 (pt t) = ![t.val % 2, 0, 2, 0, 0] := by decide +kernel
theorem off34_eq : ∀ t : Fin grid0.N, k0_off34 (pt t) = ![t.val % 2, 0, 3, 0, 0] := by decide +kernel
theorem off35_eq : ∀ t : Fin grid0.N, k0_off35 (pt t) = ![t.val % 2, 0, 4, 0, 0] := by decide +kernel
theorem off36_eq : ∀ t : Fin grid0.N, k0_off36 (pt t) = ![t.val % 2, 0, 5, 0, 0] := by decide +kernel
theorem off37_eq : ∀ t : Fin grid0.N, k0_off37 (pt t) = ![t.val % 2, 0, 6, 0, 0] := by decide +kernel
theorem off38_eq : ∀ t : Fin grid0.N, k0_off38 (pt t) = ![t.val % 2, 0, 7, 0, 0] := by decide +kernel
theorem off39_eq : ∀ t : Fin grid0.N, k0_off39 (pt t) = ![t.val % 2, 1, 0, 0, 0] := by decide +kernel
theorem off40_eq : ∀ t : Fin grid0.N, k0_off40 (pt t) = ![t.val % 2, 1, 1, 0, 0] := by decide +kernel
theorem off41_eq : ∀ t : Fin grid0.N, k0_off41 (pt t) = ![t.val % 2, 1, 2, 0, 0] := by decide +kernel
theorem off42_eq : ∀ t : Fin grid0.N, k0_off42 (pt t) = ![t.val % 2, 1, 3, 0, 0] := by decide +kernel
theorem off43_eq : ∀ t : Fin grid0.N, k0_off43 (pt t) = ![t.val % 2, 1, 4, 0, 0] := by decide +kernel
theorem off44_eq : ∀ t : Fin grid0.N, k0_off44 (pt t) = ![t.val % 2, 1, 5, 0, 0] := by decide +kernel
theorem off45_eq : ∀ t : Fin grid0.N, k0_off45 (pt t) = ![t.val % 2, 1, 6, 0, 0] := by decide +kernel
theorem off46_eq : ∀ t : Fin grid0.N, k0_off46 (pt t) = ![t.val % 2, 1, 7, 0, 0] := by decide +kernel
theorem off47_eq : ∀ t : Fin grid0.N, k0_off47 (pt t) = ![t.val % 2, 2, 0, 0, 0] := by decide +kernel
theorem off48_eq : ∀ t : Fin grid0.N, k0_off48 (pt t) = ![t.val % 2, 2, 1, 0, 0] := by decide +kernel
theorem off49_eq : ∀ t : Fin grid0.N, k0_off49 (pt t) = ![t.val % 2, 2, 2, 0, 0] := by decide +kernel
theorem off50_eq : ∀ t : Fin grid0.N, k0_off50 (pt t) = ![t.val % 2, 2, 3, 0, 0] := by decide +kernel
theorem off51_eq : ∀ t : Fin grid0.N, k0_off51 (pt t) = ![t.val % 2, 2, 4, 0, 0] := by decide +kernel
theorem off52_eq : ∀ t : Fin grid0.N, k0_off52 (pt t) = ![t.val % 2, 2, 5, 0, 0] := by decide +kernel
theorem off53_eq : ∀ t : Fin grid0.N, k0_off53 (pt t) = ![t.val % 2, 2, 6, 0, 0] := by decide +kernel
theorem off54_eq : ∀ t : Fin grid0.N, k0_off54 (pt t) = ![t.val % 2, 2, 7, 0, 0] := by decide +kernel
theorem off55_eq : ∀ t : Fin grid0.N, k0_off55 (pt t) = ![t.val % 2, 3, 0, 0, 0] := by decide +kernel
theorem off56_eq : ∀ t : Fin grid0.N, k0_off56 (pt t) = ![t.val % 2, 3, 1, 0, 0] := by decide +kernel
theorem off57_eq : ∀ t : Fin grid0.N, k0_off57 (pt t) = ![t.val % 2, 3, 2, 0, 0] := by decide +kernel
theorem off58_eq : ∀ t : Fin grid0.N, k0_off58 (pt t) = ![t.val % 2, 3, 3, 0, 0] := by decide +kernel
theorem off59_eq : ∀ t : Fin grid0.N, k0_off59 (pt t) = ![t.val % 2, 3, 4, 0, 0] := by decide +kernel
theorem off60_eq : ∀ t : Fin grid0.N, k0_off60 (pt t) = ![t.val % 2, 3, 5, 0, 0] := by decide +kernel
theorem off61_eq : ∀ t : Fin grid0.N, k0_off61 (pt t) = ![t.val % 2, 3, 6, 0, 0] := by decide +kernel
theorem off62_eq : ∀ t : Fin grid0.N, k0_off62 (pt t) = ![t.val % 2, 3, 7, 0, 0] := by decide +kernel

variable (c : Dev nD) (𝒱 : Variants) (bd : Option 𝒱.V)

/-! ### Loads and stores of a buffer's window -/

/-- A load reads a window of what the buffer holds. -/
theorem wp_ld {sp : CoreSpace} {s : Shape} {e : EltTy} {m : Memref sig .tc sp s e} {q : PosShare TreeShare} {X : s.Idx → Elt F e}
    {off size : Fin s.rank → ℕ} (inb : ∀ a, off a + size a ≤ s.size a) {hl : m.view.LoadsAt (Rect.unit off size inb).toLoadRect}
    {α : Type} {K : ((Rect.unit off size inb).shape.Idx → Elt F e) → Prog (TpuEff nD τ sig (Elt F) Λ₀ .tc) α} {Q : α → sProp 𝕄} :
    (owns (c : Thread nD τ) m q X : sProp 𝕄)
      ⊢ iprop((owns (c : Thread nD τ) m q X -∗ wp frame (wpE defs₀ 𝒱 (c : Thread nD τ) bd) Set.univ (K (window X off size inb)) Q)
          -∗ wp frame (wpE defs₀ 𝒱 (c : Thread nD τ) bd) Set.univ (.op (.load m (Rect.unit off size inb).toLoadRect hl) K) Q) := by
  unfold owns
  iintro ⟨%f, %hf, HP⟩ HK
  iapply (wp_load 𝒱 (c : Thread nD τ) bd Set.univ (defs := defs₀) (m := m) (S := m.view.set) (q := q) (f := f) (View.setOn_subset_set _ _)) $$ [HP]
  · iexact HP
  iintro HP
  rw [View.readAt_unit m.view f inb rfl inb, hf]
  iapply HK
  iexists f
  isplitr; · ipureintro; exact hf
  iexact HP

/-- A load of the whole buffer reads what it holds. -/
theorem wp_ldw {sp : CoreSpace} {s : Shape} {e : EltTy} {m : Memref sig .tc sp s e} {q : PosShare TreeShare} {X : s.Idx → Elt F e}
    {off : Fin s.rank → ℕ} (inb : ∀ a, off a + s.size a ≤ s.size a) {hl : m.view.LoadsAt (Rect.unit off s.size inb).toLoadRect}
    {α : Type} {K : (s.Idx → Elt F e) → Prog (TpuEff nD τ sig (Elt F) Λ₀ .tc) α} {Q : α → sProp 𝕄} :
    (owns (c : Thread nD τ) m q X : sProp 𝕄)
      ⊢ iprop((owns (c : Thread nD τ) m q X -∗ wp frame (wpE defs₀ 𝒱 (c : Thread nD τ) bd) Set.univ (K X) Q)
          -∗ wp frame (wpE defs₀ 𝒱 (c : Thread nD τ) bd) Set.univ (.op (.load m (Rect.unit off s.size inb).toLoadRect hl) K) Q) := by
  unfold owns
  iintro ⟨%f, %hf, HP⟩ HK
  iapply (wp_load 𝒱 (c : Thread nD τ) bd Set.univ (defs := defs₀) (m := m) (r := (Rect.unit off s.size inb).toLoadRect) (hl := hl) (k := K) (S := m.view.set) (q := q) (f := f) (View.setOn_subset_set _ _)) $$ [HP]
  · iexact HP
  iintro HP
  rw [View.readAt_full m.view f inb, hf]
  iapply HK
  iexists f
  isplitr; · ipureintro; exact hf
  iexact HP

/-- A store puts its payload over a window of what the buffer holds. -/
theorem wp_st {sp : CoreSpace} {s : Shape} {e : EltTy} {m : Memref sig .tc sp s e} {X : s.Idx → Elt F e}
    {off size : Fin s.rank → ℕ} (inb : ∀ a, off a + size a ≤ s.size a) {w : (Rect.unit off size inb).shape.Idx → Elt F e}
    {hx : (m.access (Rect.unit off size inb)).Stores Finset.univ} {hm : (Finset.univ : Finset (Rect.unit off size inb).shape.Idx) = Finset.univ ∨ ∀ a, (Rect.unit off size inb).stride a = 1}
    {α : Type} {K : PUnit → Prog (TpuEff nD τ sig (Elt F) Λ₀ .tc) α} {Q : α → sProp 𝕄} :
    (owns (c : Thread nD τ) m fullShare X : sProp 𝕄)
      ⊢ iprop((owns (c : Thread nD τ) m fullShare (put X off size w) -∗ wp frame (wpE defs₀ 𝒱 (c : Thread nD τ) bd) Set.univ (K ⟨⟩) Q)
          -∗ wp frame (wpE defs₀ 𝒱 (c : Thread nD τ) bd) Set.univ (.op (.store m (Rect.unit off size inb) w Finset.univ hx hm) K) Q) := by
  unfold owns
  iintro ⟨%f, %hf, HP⟩ HK
  iapply (wp_store 𝒱 (c : Thread nD τ) bd Set.univ (defs := defs₀) (m := m) (r := Rect.unit off size inb) (Mk := Finset.univ) (S := m.view.set) (f := f)
    ((View.setOn_subset_set _ _).trans (View.set_slice_subset _ _))) $$ [HP]
  · iexact HP
  iintro HP
  iapply HK
  iexists _
  isplitr
  rotate_left
  · iexact HP
  · ipureintro
    have e1 := View.read_writes_cons_put (Val := Elt F) m.view f inb w [] rfl
    rw [View.writes_nil, hf] at e1
    rw [← e1, View.writes_singleton]

/-- A store over the whole buffer leaves its payload. -/
theorem wp_stw {sp : CoreSpace} {s : Shape} {e : EltTy} {m : Memref sig .tc sp s e} {X : s.Idx → Elt F e}
    {off : Fin s.rank → ℕ} (inb : ∀ a, off a + s.size a ≤ s.size a) {w : s.Idx → Elt F e}
    {hx : (m.access (Rect.unit off s.size inb)).Stores Finset.univ} {hm : (Finset.univ : Finset (Rect.unit off s.size inb).shape.Idx) = Finset.univ ∨ ∀ a, (Rect.unit off s.size inb).stride a = 1}
    {α : Type} {K : PUnit → Prog (TpuEff nD τ sig (Elt F) Λ₀ .tc) α} {Q : α → sProp 𝕄} :
    (owns (c : Thread nD τ) m fullShare X : sProp 𝕄)
      ⊢ iprop((owns (c : Thread nD τ) m fullShare w -∗ wp frame (wpE defs₀ 𝒱 (c : Thread nD τ) bd) Set.univ (K ⟨⟩) Q)
          -∗ wp frame (wpE defs₀ 𝒱 (c : Thread nD τ) bd) Set.univ (.op (.store m (Rect.unit off s.size inb) w Finset.univ hx hm) K) Q) := by
  iintro HP HK
  iapply (wp_st (F := F) c 𝒱 bd inb) $$ HP
  iintro HP
  iapply HK
  have e1 : put X off s.size w = w := by
    funext y
    unfold put
    have hy : ∀ a, off a ≤ (y a).val ∧ (y a).val < off a + s.size a := fun a => by have := inb a; have := (y a).isLt; omega
    rw [dif_pos hy]
    congr 1
    funext a
    apply Fin.ext
    show (y a).val - off a = (y a).val
    have := inb a
    omega
  rw [e1]
  iexact HP

/-! ### Planes of a gathered tile -/

/-- Slice `p` of the rows that the `k`-th choices of tile `s` took. -/
def plane (sl : S65536.Idx → BitVec 32) (ys : YI → F .f32) (s : ℕ) (k : Fin 4) (p : Fin 8) : Vec F S1x1x1x256x128 .f32 := fun j =>
  rowAt ys p (slotWord sl (k.val * 16384 + (256 * s + (j 3).val))).toNat (j 4)

theorem rect_plane {b : ℕ} {k : Fin 4} {p : Fin 8} {off : Fin 5 → ℕ} (h : off = ![b, k.val, p.val, 0, 0]) (inb : ∀ a, off a + S1x1x1x256x128.size a ≤ S2x4x8x256x128.size a) :
    (Rect.unit (s := S2x4x8x256x128) off S1x1x1x256x128.size inb).set ⊆ half b := by
  subst h; intro y hy
  rw [Rect.mem_set_unit] at hy
  rw [mem_half]
  have e : b ≤ (y 0).val ∧ (y 0).val < b + 1 := hy 0
  omega

theorem plane_read (sl : S65536.Idx → BitVec 32) (ys : YI → F .f32) (s : ℕ) {b : ℕ} {k : Fin 4} {p : Fin 8} {off : Fin 5 → ℕ} (h : off = ![b, k.val, p.val, 0, 0])
    (inb : ∀ a, off a + S1x1x1x256x128.size a ≤ S2x4x8x256x128.size a) :
    ((Memref.whole cc0_scratch0).access (Rect.unit (s := S2x4x8x256x128) off S1x1x1x256x128.size inb)).read (Elt F) (gathered sl ys s) = plane sl ys s k p := by
  subst h; funext j
  have hj1 : (j 1).val < 1 := (j 1).isLt
  have hj2 : (j 2).val < 1 := (j 2).isLt
  show gathered sl ys s ((Rect.unit (s := S2x4x8x256x128) _ S1x1x1x256x128.size inb).emb j) = _
  have e1 : ((Rect.unit (s := S2x4x8x256x128) ![b, k.val, p.val, 0, 0] S1x1x1x256x128.size inb).emb j 1).val = k.val := by
    rw [Rect.emb_apply]; show k.val + 1 * (j 1).val = k.val; omega
  have e2 : (Rect.unit (s := S2x4x8x256x128) ![b, k.val, p.val, 0, 0] S1x1x1x256x128.size inb).emb j 2 = p := by
    apply Fin.ext; rw [Rect.emb_apply]; show p.val + 1 * (j 2).val = p.val; omega
  have e3 : ((Rect.unit (s := S2x4x8x256x128) ![b, k.val, p.val, 0, 0] S1x1x1x256x128.size inb).emb j 3).val = (j 3).val := by
    rw [Rect.emb_apply]; show 0 + 1 * (j 3).val = _; omega
  have e4 : (Rect.unit (s := S2x4x8x256x128) ![b, k.val, p.val, 0, 0] S1x1x1x256x128.size inb).emb j 4 = j 4 := by
    apply Fin.ext; rw [Rect.emb_apply]; show 0 + 1 * (j 4).val = _; omega
  unfold gathered plane
  rw [e1, e2, e3, e4]

/-- A load of a plane. -/
theorem wp_plane {sl : S65536.Idx → BitVec 32} {ys : YI → F .f32} {s b : ℕ} (k : Fin 4) (p : Fin 8) {off : Fin 5 → ℕ} (h : off = ![b, k.val, p.val, 0, 0])
    (inb : ∀ a, off a + S1x1x1x256x128.size a ≤ S2x4x8x256x128.size a)
    {hl : (Memref.whole cc0_scratch0 : Memref sig .tc .vmem S2x4x8x256x128 .f32).view.LoadsAt (Rect.unit (s := S2x4x8x256x128) off S1x1x1x256x128.size inb).toLoadRect}
    {α : Type} {K : Vec F S1x1x1x256x128 .f32 → Prog (TpuEff nD τ sig (Elt F) Λ₀ .tc) α} {Q : α → sProp 𝕄} :
    (GB (F := F) c (half b) (gathered sl ys s) : sProp 𝕄)
      ⊢ iprop((GB (F := F) c (half b) (gathered sl ys s) -∗ wp frame (wpE defs₀ 𝒱 (c : Thread nD τ) bd) Set.univ (K (plane sl ys s k p)) Q)
          -∗ wp frame (wpE defs₀ 𝒱 (c : Thread nD τ) bd) Set.univ
            (.op (.load (Memref.whole cc0_scratch0 : Memref sig .tc .vmem S2x4x8x256x128 .f32) (Rect.unit (s := S2x4x8x256x128) off S1x1x1x256x128.size inb).toLoadRect hl) K) Q) := by
  iintro HP HK
  iapply (wp_load_rect 𝒱 (c : Thread nD τ) bd Set.univ (defs := defs₀) (m := (Memref.whole cc0_scratch0 : Memref sig .tc .vmem S2x4x8x256x128 .f32))
    (r := Rect.unit (s := S2x4x8x256x128) off S1x1x1x256x128.size inb) (S := half b) (q := fullShare) (f := gathered sl ys s)
    ((View.set_slice_whole _ _).subset.trans (rect_plane h inb))) $$ [HP]
  · iexact HP
  iintro HP
  rw [plane_read sl ys s h inb]
  iapply HK
  iexact HP

/-! ### A tile's result -/

section
variable (P : Fin 4 → Fin 8 → Vec F S1x1x1x256x128 .f32) (h : S256x1024.Idx → F .f32) (rt : S256x128.Idx → F .f32)
def acc0 : FVec F S256x1024 .f32 := k0_pay6 rt h (k0_pay2 (P 0 0)) (k0_pay3 (P 0 1)) (k0_pay4 (P 0 2)) (k0_pay5 (P 0 3)) (P 0 4) (P 0 5) (P 0 6) (P 0 7)
def acc1 : FVec F S256x1024 .f32 := k0_pay10 rt (acc0 P h rt) (k0_pay7 (P 1 0)) (k0_pay8 (P 1 1)) (k0_pay9 (P 1 2)) (P 1 3) (P 1 4) (P 1 5) (P 1 6) (P 1 7)
def acc2 : FVec F S256x1024 .f32 := k0_pay14 rt (acc1 P h rt) (k0_pay11 (P 2 0)) (k0_pay12 (P 2 1)) (k0_pay13 (P 2 2)) (P 2 3) (P 2 4) (P 2 5) (P 2 6) (P 2 7)
def acc3 : FVec F S256x1024 .f32 := k0_pay18 rt (acc2 P h rt) (k0_pay15 (P 3 0)) (k0_pay16 (P 3 1)) (k0_pay17 (P 3 2)) (P 3 3) (P 3 4) (P 3 5) (P 3 6) (P 3 7)
def gate (np : S1x1024.Idx → F .f32) : FVec F S256x1024 .bf16 :=
  k0_pay20 rt (acc2 P h rt) (k0_pay15 (P 3 0)) (k0_pay16 (P 3 1)) (k0_pay17 (P 3 2)) (P 3 3) (P 3 4) (P 3 5) (P 3 6) (P 3 7) np
/-- What a tile writes. -/
def out (p : S256x256.Idx → F .f32) (np : S1x1024.Idx → F .f32) (wg : S1024x1024.Idx → F .bf16) (wp : S256x1024.Idx → F .bf16) (nf : S1x1024.Idx → F .f32) :
    S256x1024.Idx → F .f32 := k0_pay1 (acc3 P h rt) (k0_pay19 wg) (gate P h rt np) p wp nf
end

variable (a3 : Memref sig .tc .vmem S256x1024 .f32) (h3 : a3.IsWhole) (a4 : Memref sig .tc .vmem S256x128 .f32) (h4 : a4.IsWhole)
  (a5 : Memref sig .tc .vmem S256x256 .f32) (h5 : a5.IsWhole) (a6 : Memref sig .tc .vmem S1x1024 .f32) (h6 : a6.IsWhole)
  (a7 : Memref sig .tc .vmem S1024x1024 .bf16) (h7 : a7.IsWhole) (a8 : Memref sig .tc .vmem S256x1024 .bf16) (h8 : a8.IsWhole)
  (a9 : Memref sig .tc .vmem S1x1024 .f32) (h9 : a9.IsWhole) (a10 : Memref sig .tc .vmem S256x1024 .f32) (h10 : a10.IsWhole)

/-- A tile's first loads. -/
def loads3 (t : Fin grid0.N) {α : Type} (K : (Σ' (_ : BitVec 32) (_ : BitVec 32) (_ : Vec F S256x128 .f32) (_ : Vec F S256x1024 .f32) (_ : FVec F S256x128 .f32) (_ : FVec F S256x128 .f32) (_ : FVec F S256x128 .f32), FVec F S256x128 .f32) →
    Prog (TpuEff nD τ sig (Elt F) Λ₀ .tc) α) : Prog (TpuEff nD τ sig (Elt F) Λ₀ .tc) α :=
  .op (.load a4 (Rect.unit (s := S256x128) ![0, 0] S256x128.size inb_S256x128_S256x128_0_0).toLoadRect (View.loadsAt_vmem h_S256x128)) fun v9 =>
  .op (.load a3 (Rect.unit (s := S256x1024) ![0, 0] S256x1024.size inb_S256x1024_S256x1024_0_0).toLoadRect (View.loadsAt_vmem h_S256x1024)) fun v10 =>
  .op (.load (Memref.whole cc0_scratch0 : Memref sig .tc .vmem S2x4x8x256x128 .f32) (Rect.unit (s := S2x4x8x256x128) (k0_off31 (pt t)) S1x1x1x256x128.size (k0_off31_inb (pt t))).toLoadRect (View.loadsAt_vmem h_S1x1x1x256x128)) fun v12 =>
  .op (.load (Memref.whole cc0_scratch0 : Memref sig .tc .vmem S2x4x8x256x128 .f32) (Rect.unit (s := S2x4x8x256x128) (k0_off32 (pt t)) S1x1x1x256x128.size (k0_off32_inb (pt t))).toLoadRect (View.loadsAt_vmem h_S1x1x1x256x128)) fun v15 =>
  .op (.load (Memref.whole cc0_scratch0 : Memref sig .tc .vmem S2x4x8x256x128 .f32) (Rect.unit (s := S2x4x8x256x128) (k0_off33 (pt t)) S1x1x1x256x128.size (k0_off33_inb (pt t))).toLoadRect (View.loadsAt_vmem h_S1x1x1x256x128)) fun v18 =>
  .op (.load (Memref.whole cc0_scratch0 : Memref sig .tc .vmem S2x4x8x256x128 .f32) (Rect.unit (s := S2x4x8x256x128) (k0_off34 (pt t)) S1x1x1x256x128.size (k0_off34_inb (pt t))).toLoadRect (View.loadsAt_vmem h_S1x1x1x256x128)) fun v21 =>
  K ⟨BitVec.ofNat 32 ((pt t) 0).val, Scalar.remsi (BitVec.ofNat 32 ((pt t) 0).val) 2#32, v9, v10, k0_pay2 v12, k0_pay3 v15, k0_pay4 v18, k0_pay5 v21⟩
/-- The tile after this one. -/
abbrev nxW (t : Fin grid0.N) : BitVec 32 := Scalar.minsi (Scalar.addi (BitVec.ofNat 32 ((pt t) 0).val) 1#32) 63#32
/-- A tile's waits, the next tile's gather, and the first loads. -/
def turn (t : Fin grid0.N) {α : Type} (K : (Σ' (_ : BitVec 32) (_ : BitVec 32) (_ : Vec F S256x128 .f32) (_ : Vec F S256x1024 .f32) (_ : FVec F S256x128 .f32) (_ : FVec F S256x128 .f32) (_ : FVec F S256x128 .f32), FVec F S256x128 .f32) →
    Prog (TpuEff nD τ sig (Elt F) Λ₀ .tc) α) : Prog (TpuEff nD τ sig (Elt F) Λ₀ .tc) α :=
  Scf.Loop.for k0_t2_loop k0_t2_ok ⟨⟩ (t2body (F := F) a3 h3 a4 h4 a5 h5 a6 h6 a7 h7 a8 h8 a9 h9 a10 h10 t) >>= fun _ =>
  Scf.Loop.for k0_t3_loop k0_t3_ok ⟨⟩ (t3body (F := F) a3 h3 a4 h4 a5 h5 a6 h6 a7 h7 a8 h8 a9 h9 a10 h10 t (nxW t)) >>= fun _ => loads3 (F := F) a3 a4 t K
/-- The first tile's own gather before it. -/
def opening (t : Fin grid0.N) {α : Type} (K : Prog (TpuEff nD τ sig (Elt F) Λ₀ .tc) α) : Prog (TpuEff nD τ sig (Elt F) Λ₀ .tc) α :=
  if k1 : k0_cond1 (pt t) = 1#1 then Scf.Loop.for k0_t1_loop (k0_t1_ok (pt t) k1) ⟨⟩ (t1body (F := F) a3 h3 a4 h4 a5 h5 a6 h6 a7 h7 a8 h8 a9 h9 a10 h10 t k1) >>= fun _ => K else K
/-- The last tile's waits after it. -/
def closing (t : Fin grid0.N) : Prog (TpuEff nD τ sig (Elt F) Λ₀ .tc) PUnit :=
  if k2 : k0_cond2 (pt t) = 1#1 then Scf.Loop.for k0_t4_loop (k0_t4_ok (pt t) k2) ⟨⟩ (t4body (F := F) a3 h3 a4 h4 a5 h5 a6 h6 a7 h7 a8 h8 a9 h9 a10 h10 t k2) >>= fun _ => .ret ⟨⟩ else .ret ⟨⟩

theorem part3_eq (t : Fin grid0.N) {α : Type} (K : (Σ' (_ : BitVec 32) (_ : BitVec 32) (_ : Vec F S256x128 .f32) (_ : Vec F S256x1024 .f32) (_ : FVec F S256x128 .f32) (_ : FVec F S256x128 .f32) (_ : FVec F S256x128 .f32), FVec F S256x128 .f32) →
    Prog (TpuEff nD τ sig (Elt F) Λ₀ .tc) α) :
    k0_part3_skel (F := F) (pt t) (Memref.whole main_arg0) (Memref.isWhole_whole _) (Memref.whole main_arg1) (Memref.isWhole_whole _) a3 h3 a4 h4 a5 h5 a6 h6 a7 h7 a8 h8 a9 h9 a10 h10 (Memref.whole cc0_scratch0) (Memref.isWhole_whole _) cc0_scratch1 >>= K = opening (F := F) a3 h3 a4 h4 a5 h5 a6 h6 a7 h7 a8 h8 a9 h9 a10 h10 t (turn (F := F) a3 h3 a4 h4 a5 h5 a6 h6 a7 h7 a8 h8 a9 h9 a10 h10 t K) := by
  unfold opening
  dsimp only [k0_part3_skel]
  by_cases k1 : k0_cond1 (pt t) = 1#1
  · rw [dif_pos k1, dif_pos k1]
    simp only [bind_assoc, lift_eq, op_bind, ret_bind, pure_bind, pure_eq]
    rfl
  · rw [dif_neg k1, dif_neg k1]
    simp only [bind_assoc, lift_eq, op_bind, ret_bind, pure_bind, pure_eq]
    rfl

theorem part4 {sl : S65536.Idx → BitVec 32} {ys : YI → F .f32} (s : ℕ) (t : Fin grid0.N) (v0 : BitVec 32) (v9 : Vec F S256x128 .f32) (v10 : Vec F S256x1024 .f32) (v13 : FVec F S256x128 .f32) (v16 : FVec F S256x128 .f32) (v19 : FVec F S256x128 .f32) (v22 : FVec F S256x128 .f32)
    {α : Type} {K : _ → Prog (TpuEff nD τ sig (Elt F) Λ₀ .tc) α} {Q : α → sProp 𝕄} :
    (GB (F := F) c (half (t.val % 2)) (gathered sl ys s) : sProp 𝕄)
      ⊢ iprop((GB (F := F) c (half (t.val % 2)) (gathered sl ys s) -∗ wp frame (wpE defs₀ 𝒱 (c : Thread nD τ) bd) Set.univ (K ⟨k0_pay6 v9 v10 v13 v16 v19 v22 (plane sl ys s 0 4) (plane sl ys s 0 5) (plane sl ys s 0 6) (plane sl ys s 0 7), k0_pay7 (plane sl ys s 1 0), k0_pay8 (plane sl ys s 1 1), k0_pay9 (plane sl ys s 1 2), (plane sl ys s 1 3)⟩) Q)
        -∗ wp frame (wpE defs₀ 𝒱 (c : Thread nD τ) bd) Set.univ (k0_part4_skel (F := F) (pt t) (Memref.whole main_arg0) (Memref.isWhole_whole _) (Memref.whole main_arg1) (Memref.isWhole_whole _) a3 h3 a4 h4 a5 h5 a6 h6 a7 h7 a8 h8 a9 h9 a10 h10 (Memref.whole cc0_scratch0) (Memref.isWhole_whole _) cc0_scratch1 v0 v9 v10 v13 v16 v19 v22 >>= K) Q) := by
  dsimp only [k0_part4_skel]
  simp only [bind_assoc, lift_eq, op_bind, ret_bind, pure_bind, pure_eq]
  iintro HP HK
  iapply (wp_plane (F := F) c 𝒱 bd 0 4 (off35_eq t) (k0_off35_inb (pt t))) $$ HP
  iintro HP
  iapply (wp_plane (F := F) c 𝒱 bd 0 5 (off36_eq t) (k0_off36_inb (pt t))) $$ HP
  iintro HP
  iapply (wp_plane (F := F) c 𝒱 bd 0 6 (off37_eq t) (k0_off37_inb (pt t))) $$ HP
  iintro HP
  iapply (wp_plane (F := F) c 𝒱 bd 0 7 (off38_eq t) (k0_off38_inb (pt t))) $$ HP
  iintro HP
  iapply (wp_plane (F := F) c 𝒱 bd 1 0 (off39_eq t) (k0_off39_inb (pt t))) $$ HP
  iintro HP
  iapply (wp_plane (F := F) c 𝒱 bd 1 1 (off40_eq t) (k0_off40_inb (pt t))) $$ HP
  iintro HP
  iapply (wp_plane (F := F) c 𝒱 bd 1 2 (off41_eq t) (k0_off41_inb (pt t))) $$ HP
  iintro HP
  iapply (wp_plane (F := F) c 𝒱 bd 1 3 (off42_eq t) (k0_off42_inb (pt t))) $$ HP
  iintro HP
  iapply HK
  iexact HP

theorem part5 {sl : S65536.Idx → BitVec 32} {ys : YI → F .f32} (s : ℕ) (t : Fin grid0.N) (v0 : BitVec 32) (v9 : Vec F S256x128 .f32) (v39 : FVec F S256x1024 .f32) (v42 : FVec F S256x128 .f32) (v45 : FVec F S256x128 .f32) (v48 : FVec F S256x128 .f32) (v50 : Vec F S1x1x1x256x128 .f32)
    {α : Type} {K : _ → Prog (TpuEff nD τ sig (Elt F) Λ₀ .tc) α} {Q : α → sProp 𝕄} :
    (GB (F := F) c (half (t.val % 2)) (gathered sl ys s) : sProp 𝕄)
      ⊢ iprop((GB (F := F) c (half (t.val % 2)) (gathered sl ys s) -∗ wp frame (wpE defs₀ 𝒱 (c : Thread nD τ) bd) Set.univ (K ⟨k0_pay10 v9 v39 v42 v45 v48 v50 (plane sl ys s 1 4) (plane sl ys s 1 5) (plane sl ys s 1 6) (plane sl ys s 1 7), k0_pay11 (plane sl ys s 2 0), k0_pay12 (plane sl ys s 2 1), k0_pay13 (plane sl ys s 2 2)⟩) Q)
        -∗ wp frame (wpE defs₀ 𝒱 (c : Thread nD τ) bd) Set.univ (k0_part5_skel (F := F) (pt t) (Memref.whole main_arg0) (Memref.isWhole_whole _) (Memref.whole main_arg1) (Memref.isWhole_whole _) a3 h3 a4 h4 a5 h5 a6 h6 a7 h7 a8 h8 a9 h9 a10 h10 (Memref.whole cc0_scratch0) (Memref.isWhole_whole _) cc0_scratch1 v0 v9 v39 v42 v45 v48 v50 >>= K) Q) := by
  dsimp only [k0_part5_skel]
  simp only [bind_assoc, lift_eq, op_bind, ret_bind, pure_bind, pure_eq]
  iintro HP HK
  iapply (wp_plane (F := F) c 𝒱 bd 1 4 (off43_eq t) (k0_off43_inb (pt t))) $$ HP
  iintro HP
  iapply (wp_plane (F := F) c 𝒱 bd 1 5 (off44_eq t) (k0_off44_inb (pt t))) $$ HP
  iintro HP
  iapply (wp_plane (F := F) c 𝒱 bd 1 6 (off45_eq t) (k0_off45_inb (pt t))) $$ HP
  iintro HP
  iapply (wp_plane (F := F) c 𝒱 bd 1 7 (off46_eq t) (k0_off46_inb (pt t))) $$ HP
  iintro HP
  iapply (wp_plane (F := F) c 𝒱 bd 2 0 (off47_eq t) (k0_off47_inb (pt t))) $$ HP
  iintro HP
  iapply (wp_plane (F := F) c 𝒱 bd 2 1 (off48_eq t) (k0_off48_inb (pt t))) $$ HP
  iintro HP
  iapply (wp_plane (F := F) c 𝒱 bd 2 2 (off49_eq t) (k0_off49_inb (pt t))) $$ HP
  iintro HP
  iapply HK
  iexact HP

theorem part6 {sl : S65536.Idx → BitVec 32} {ys : YI → F .f32} (s : ℕ) (t : Fin grid0.N) (v0 : BitVec 32) (v9 : Vec F S256x128 .f32) (v68 : FVec F S256x1024 .f32) (v71 : FVec F S256x128 .f32) (v74 : FVec F S256x128 .f32) (v77 : FVec F S256x128 .f32)
    {α : Type} {K : _ → Prog (TpuEff nD τ sig (Elt F) Λ₀ .tc) α} {Q : α → sProp 𝕄} :
    (GB (F := F) c (half (t.val % 2)) (gathered sl ys s) : sProp 𝕄)
      ⊢ iprop((GB (F := F) c (half (t.val % 2)) (gathered sl ys s) -∗ wp frame (wpE defs₀ 𝒱 (c : Thread nD τ) bd) Set.univ (K ⟨k0_pay14 v9 v68 v71 v74 v77 (plane sl ys s 2 3) (plane sl ys s 2 4) (plane sl ys s 2 5) (plane sl ys s 2 6) (plane sl ys s 2 7), k0_pay15 (plane sl ys s 3 0), k0_pay16 (plane sl ys s 3 1), k0_pay17 (plane sl ys s 3 2)⟩) Q)
        -∗ wp frame (wpE defs₀ 𝒱 (c : Thread nD τ) bd) Set.univ (k0_part6_skel (F := F) (pt t) (Memref.whole main_arg0) (Memref.isWhole_whole _) (Memref.whole main_arg1) (Memref.isWhole_whole _) a3 h3 a4 h4 a5 h5 a6 h6 a7 h7 a8 h8 a9 h9 a10 h10 (Memref.whole cc0_scratch0) (Memref.isWhole_whole _) cc0_scratch1 v0 v9 v68 v71 v74 v77 >>= K) Q) := by
  dsimp only [k0_part6_skel]
  simp only [bind_assoc, lift_eq, op_bind, ret_bind, pure_bind, pure_eq]
  iintro HP HK
  iapply (wp_plane (F := F) c 𝒱 bd 2 3 (off50_eq t) (k0_off50_inb (pt t))) $$ HP
  iintro HP
  iapply (wp_plane (F := F) c 𝒱 bd 2 4 (off51_eq t) (k0_off51_inb (pt t))) $$ HP
  iintro HP
  iapply (wp_plane (F := F) c 𝒱 bd 2 5 (off52_eq t) (k0_off52_inb (pt t))) $$ HP
  iintro HP
  iapply (wp_plane (F := F) c 𝒱 bd 2 6 (off53_eq t) (k0_off53_inb (pt t))) $$ HP
  iintro HP
  iapply (wp_plane (F := F) c 𝒱 bd 2 7 (off54_eq t) (k0_off54_inb (pt t))) $$ HP
  iintro HP
  iapply (wp_plane (F := F) c 𝒱 bd 3 0 (off55_eq t) (k0_off55_inb (pt t))) $$ HP
  iintro HP
  iapply (wp_plane (F := F) c 𝒱 bd 3 1 (off56_eq t) (k0_off56_inb (pt t))) $$ HP
  iintro HP
  iapply (wp_plane (F := F) c 𝒱 bd 3 2 (off57_eq t) (k0_off57_inb (pt t))) $$ HP
  iintro HP
  iapply HK
  iexact HP

theorem part7 {sl : S65536.Idx → BitVec 32} {ys : YI → F .f32} (s : ℕ) (t : Fin grid0.N) (np : S1x1024.Idx → F .f32) (wg : S1024x1024.Idx → F .bf16) (v0 : BitVec 32) (v9 : Vec F S256x128 .f32) (v97 : FVec F S256x1024 .f32) (v100 : FVec F S256x128 .f32) (v103 : FVec F S256x128 .f32) (v106 : FVec F S256x128 .f32)
    {α : Type} {K : _ → Prog (TpuEff nD τ sig (Elt F) Λ₀ .tc) α} {Q : α → sProp 𝕄} :
    (iprop(GB (F := F) c (half (t.val % 2)) (gathered sl ys s) ∗ owns (c : Thread nD τ) a6 fullShare np ∗ owns (c : Thread nD τ) a7 fullShare wg) : sProp 𝕄)
      ⊢ iprop((iprop(GB (F := F) c (half (t.val % 2)) (gathered sl ys s) ∗ owns (c : Thread nD τ) a6 fullShare np ∗ owns (c : Thread nD τ) a7 fullShare wg) -∗ wp frame (wpE defs₀ 𝒱 (c : Thread nD τ) bd) Set.univ
            (K ⟨k0_pay18 v9 v97 v100 v103 v106 (plane sl ys s 3 3) (plane sl ys s 3 4) (plane sl ys s 3 5) (plane sl ys s 3 6) (plane sl ys s 3 7), k0_pay19 wg, k0_pay20 v9 v97 v100 v103 v106 (plane sl ys s 3 3) (plane sl ys s 3 4) (plane sl ys s 3 5) (plane sl ys s 3 6) (plane sl ys s 3 7) np⟩) Q)
        -∗ wp frame (wpE defs₀ 𝒱 (c : Thread nD τ) bd) Set.univ (k0_part7_skel (F := F) (pt t) (Memref.whole main_arg0) (Memref.isWhole_whole _) (Memref.whole main_arg1) (Memref.isWhole_whole _) a3 h3 a4 h4 a5 h5 a6 h6 a7 h7 a8 h8 a9 h9 a10 h10 (Memref.whole cc0_scratch0) (Memref.isWhole_whole _) cc0_scratch1 v0 v9 v97 v100 v103 v106 >>= K) Q) := by
  dsimp only [k0_part7_skel]
  simp only [bind_assoc, lift_eq, op_bind, ret_bind, pure_bind, pure_eq]
  iintro ⟨HP, H6, H7⟩ HK
  iapply (wp_plane (F := F) c 𝒱 bd 3 3 (off58_eq t) (k0_off58_inb (pt t))) $$ HP
  iintro HP
  iapply (wp_plane (F := F) c 𝒱 bd 3 4 (off59_eq t) (k0_off59_inb (pt t))) $$ HP
  iintro HP
  iapply (wp_plane (F := F) c 𝒱 bd 3 5 (off60_eq t) (k0_off60_inb (pt t))) $$ HP
  iintro HP
  iapply (wp_plane (F := F) c 𝒱 bd 3 6 (off61_eq t) (k0_off61_inb (pt t))) $$ HP
  iintro HP
  iapply (wp_plane (F := F) c 𝒱 bd 3 7 (off62_eq t) (k0_off62_inb (pt t))) $$ HP
  iintro HP
  iapply (wp_ldw (F := F) c 𝒱 bd inb_S1x1024_S1x1024_0_0) $$ H6
  iintro H6
  iapply (wp_ldw (F := F) c 𝒱 bd inb_S1024x1024_S1024x1024_0_0) $$ H7
  iintro H7
  iapply HK
  isplitl [HP]; · iexact HP
  isplitl [H6]; · iexact H6
  iexact H7

/-! ### What is held before a tile -/

/-- Before tile `t`: its own gather started, the other half free. -/
def before (sl : S65536.Idx → BitVec 32) (ys : YI → F .f32) (t : ℕ) : sProp 𝕄 :=
  iprop(SL (F := F) c sl ∗ flying (F := F) c sl ys (min t 63) t ∗ (∃ f, GB (F := F) c (half ((t + 1) % 2)) f) ∗ cell (F := F) c (gCell (t + 1)))
/-- Nothing started. -/
def idle (sl : S65536.Idx → BitVec 32) (ys : YI → F .f32) : sProp 𝕄 :=
  iprop(SL (F := F) c sl ∗ (∃ f, GB (F := F) c Finset.univ f) ∗ YS (F := F) c Finset.univ fullShare ys ∗ cell (F := F) c (gCell 0) ∗ cell (F := F) c (gCell 1))
def held (sl : S65536.Idx → BitVec 32) (ys : YI → F .f32) (t : ℕ) : sProp 𝕄 :=
  if t = 0 then idle (F := F) c sl ys else if t < 64 then before (F := F) c sl ys t else idle (F := F) c sl ys

theorem halves_split (f : VI → F .f32) :
    (GB (F := F) c Finset.univ f : sProp 𝕄) ⊢ iprop(GB (F := F) c (half (0 % 2)) f ∗ GB (F := F) c (half ((0 + 1) % 2)) f) := by
  rw [halves_all 0]
  exact (pointsTo_union (ℓ := (c : Thread nD τ).loc cc0_scratch0) (halves_disj (by decide))).1

theorem halves_join (f g : VI → F .f32) :
    (iprop(GB (F := F) c (half (0 % 2)) f ∗ GB (F := F) c (half ((0 + 1) % 2)) g) : sProp 𝕄) ⊢ iprop(∃ f, GB (F := F) c Finset.univ f) := by
  rw [halves_all 0]
  iintro H
  iexists _
  iapply (pointsTo_join (ℓ := (c : Thread nD τ).loc cc0_scratch0) (halves_disj (b := 0 % 2) (b' := (0 + 1) % 2) (by decide)))
  iexact H

theorem wp_opening {sl : S65536.Idx → BitVec 32} {ys : YI → F .f32} (I : Inside sl) (t : Fin grid0.N) {α : Type} {K : Prog (TpuEff nD τ sig (Elt F) Λ₀ .tc) α} {Q : α → sProp 𝕄} :
    held (F := F) c sl ys t.val
      ⊢ iprop((before (F := F) c sl ys t.val -∗ wp frame (wpE defs₀ 𝒱 (c : Thread nD τ) bd) Set.univ K Q)
          -∗ wp frame (wpE defs₀ 𝒱 (c : Thread nD τ) bd) Set.univ (opening (F := F) a3 h3 a4 h4 a5 h5 a6 h6 a7 h7 a8 h8 a9 h9 a10 h10 t K) Q) := by
  unfold opening held
  by_cases h : t.val = 0
  · have k1 := (cond1_iff t).2 h
    rw [if_pos h, dif_pos k1, show before (F := F) c sl ys t.val = before (F := F) c sl ys 0 from congrArg _ h]
    unfold idle before
    iintro ⟨HS, ⟨%f, HG⟩, HY, Hc0, Hc1⟩ HK
    ihave HG := (halves_split (F := F) c f) $$ HG
    icases HG with ⟨H0, H1⟩
    imod (begun (F := F) c sl ys f 0 0) $$ [H0 HY Hc0] with H
    · isplitl [H0]; · iexact H0
      isplitl [HY]; · iexact HY
      iexact Hc0
    iapply (first_loop (F := F) c 𝒱 bd a3 h3 a4 h4 a5 h5 a6 h6 a7 h7 a8 h8 a9 h9 a10 h10 I f t k1) $$ [HS H]
    · isplitl [HS]; · iexact HS
      iexact H
    iintro ⟨HS, H⟩
    iapply HK
    isplitl [HS]; · iexact HS
    isplitl [H]; · iapply (filled (F := F) c sl ys f 0 0); iexact H
    isplitl [H1]; · iexists f; iexact H1
    iexact Hc1
  · rw [if_neg h, if_pos (lt64 t), dif_neg fun k1 => h ((cond1_iff t).1 k1)]
    iintro H HK
    iapply HK
    iexact H

theorem wp_closing {sl : S65536.Idx → BitVec 32} {ys : YI → F .f32} (t : Fin grid0.N) {Q : PUnit → sProp 𝕄} :
    iprop(before (F := F) c sl ys (t.val + 1) ∗ owe (F := F) c)
      ⊢ iprop((iprop(held (F := F) c sl ys (t.val + 1) ∗ owe (F := F) c) -∗ Q ⟨⟩)
          -∗ wp frame (wpE defs₀ 𝒱 (c : Thread nD τ) bd) Set.univ (closing (F := F) a3 h3 a4 h4 a5 h5 a6 h6 a7 h7 a8 h8 a9 h9 a10 h10 t) Q) := by
  unfold closing held
  rw [if_neg (Nat.succ_ne_zero _)]
  by_cases h : t.val = 63
  · have k2 := (cond2_iff t).2 h
    rw [if_neg (show ¬ t.val + 1 < 64 by omega), dif_pos k2]
    unfold before flying
    iintro ⟨⟨HS, ⟨HY, HK, HB⟩, ⟨%f, HG⟩, Hc⟩, HO⟩ HQ
    iapply (drain4 (F := F) c 𝒱 bd a3 h3 a4 h4 a5 h5 a6 h6 a7 h7 a8 h8 a9 h9 a10 h10 sl ys t k2 (s := min (t.val + 1) 63) (b := t.val + 1) (off63_eq t)) $$ [HB HO]
    · isplitl [HB]; · iexact HB
      iexact HO
    iintro ⟨HB, HO⟩
    imod (arrived (F := F) c sl ys (min (t.val + 1) 63) (t.val + 1)) $$ [HB HY HK] with ⟨HG', HY, Hc'⟩
    · isplitl [HB]; · iexact HB
      isplitl [HY]; · iexact HY
      iexact HK
    rw [wp_ret]
    imodintro
    iapply HQ
    rw [show gCell (t.val + 1) = gCell 0 from Fin.ext (by show 12 + (t.val + 1) % 2 = 12 + 0 % 2; omega), show gCell (t.val + 1 + 1) = gCell 1 from Fin.ext (by show 12 + (t.val + 1 + 1) % 2 = 12 + 1 % 2; omega),
      show (t.val + 1) % 2 = 0 % 2 by omega, show (t.val + 1 + 1) % 2 = (0 + 1) % 2 by omega]
    isplitr [HO]
    · unfold idle
      isplitl [HS]; · iexact HS
      isplitl [HG HG']
      · iapply (halves_join (F := F) c _ f)
        isplitl [HG']; · iexact HG'
        iexact HG
      isplitl [HY]; · iexact HY
      isplitl [Hc']; · iexact Hc'
      iexact Hc
    iexact HO
  · rw [if_pos (show t.val + 1 < 64 by have := lt64 t; omega), dif_neg fun k2 => h ((cond2_iff t).1 k2)]
    iintro H HQ
    rw [wp_ret]
    imodintro
    iapply HQ
    iexact H

/-- A tile's waits and the next one's gather. -/
theorem wp_turn {sl : S65536.Idx → BitVec 32} {ys : YI → F .f32} (I : Inside sl) (t : Fin grid0.N) (h : S256x1024.Idx → F .f32) (rt : S256x128.Idx → F .f32)
    {α : Type} {K : _ → Prog (TpuEff nD τ sig (Elt F) Λ₀ .tc) α} {Q : α → sProp 𝕄} :
    iprop(before (F := F) c sl ys t.val ∗ owe (F := F) c ∗ owns (c : Thread nD τ) a3 fullShare h ∗ owns (c : Thread nD τ) a4 fullShare rt)
      ⊢ iprop((iprop((SL (F := F) c sl ∗ flying (F := F) c sl ys (min (t.val + 1) 63) (t.val + 1) ∗ cell (F := F) c (gCell t.val)) ∗ GB (F := F) c (half (t.val % 2)) (gathered sl ys t.val) ∗ owe (F := F) c
              ∗ owns (c : Thread nD τ) a3 fullShare h ∗ owns (c : Thread nD τ) a4 fullShare rt)
            -∗ wp frame (wpE defs₀ 𝒱 (c : Thread nD τ) bd) Set.univ (K ⟨BitVec.ofNat 32 ((pt t) 0).val, Scalar.remsi (BitVec.ofNat 32 ((pt t) 0).val) 2#32, rt, h,
                k0_pay2 (plane sl ys t.val 0 0), k0_pay3 (plane sl ys t.val 0 1), k0_pay4 (plane sl ys t.val 0 2), k0_pay5 (plane sl ys t.val 0 3)⟩) Q)
          -∗ wp frame (wpE defs₀ 𝒱 (c : Thread nD τ) bd) Set.univ (turn (F := F) a3 h3 a4 h4 a5 h5 a6 h6 a7 h7 a8 h8 a9 h9 a10 h10 t K) Q) := by
  have ht := lt64 t
  unfold before flying turn loads3
  rw [show min t.val 63 = t.val by omega]
  iintro ⟨⟨HS, ⟨HY, HK, HB⟩, ⟨%f, HG⟩, Hc⟩, HO, H3, H4⟩ HW
  iapply (drain2 (F := F) c 𝒱 bd a3 h3 a4 h4 a5 h5 a6 h6 a7 h7 a8 h8 a9 h9 a10 h10 sl ys t (s := t.val) (b := t.val) (off13_eq t)) $$ [HB HO]
  · isplitl [HB]; · iexact HB
    iexact HO
  iintro ⟨HB, HO⟩
  imod (arrived (F := F) c sl ys t.val t.val) $$ [HB HY HK] with ⟨HP, HY, Hc'⟩
  · isplitl [HB]; · iexact HB
    isplitl [HY]; · iexact HY
    iexact HK
  imod (begun (F := F) c sl ys f (nx t.val) (t.val + 1)) $$ [HG HY Hc] with H
  · isplitl [HG]; · iexact HG
    isplitl [HY]; · iexact HY
    iexact Hc
  iapply (next_loop (F := F) c 𝒱 bd a3 h3 a4 h4 a5 h5 a6 h6 a7 h7 a8 h8 a9 h9 a10 h10 I f t (nxW t)) $$ [HS H]
  · isplitl [HS]; · iexact HS
    iexact H
  iintro ⟨HS, H⟩
  ihave H := (filled (F := F) c sl ys f (nx t.val) (t.val + 1)) $$ H
  unfold flying
  iapply (wp_ldw (F := F) c 𝒱 bd inb_S256x128_S256x128_0_0) $$ H4
  iintro H4
  iapply (wp_ldw (F := F) c 𝒱 bd inb_S256x1024_S256x1024_0_0) $$ H3
  iintro H3
  iapply (wp_plane (F := F) c 𝒱 bd 0 0 (off31_eq t) (k0_off31_inb (pt t))) $$ HP
  iintro HP
  iapply (wp_plane (F := F) c 𝒱 bd 0 1 (off32_eq t) (k0_off32_inb (pt t))) $$ HP
  iintro HP
  iapply (wp_plane (F := F) c 𝒱 bd 0 2 (off33_eq t) (k0_off33_inb (pt t))) $$ HP
  iintro HP
  iapply (wp_plane (F := F) c 𝒱 bd 0 3 (off34_eq t) (k0_off34_inb (pt t))) $$ HP
  iintro HP
  iapply HW
  isplitl [HS H Hc']
  · isplitl [HS]; · iexact HS
    isplitl [H]; · iexact H
    iexact Hc'
  isplitl [HP]; · iexact HP
  isplitl [HO]; · iexact HO
  isplitl [H3]; · iexact H3
  iexact H4

/-- The windows' staging buffers. -/
abbrev wins (h : S256x1024.Idx → F .f32) (rt : S256x128.Idx → F .f32) (p : S256x256.Idx → F .f32) (np : S1x1024.Idx → F .f32) (wg : S1024x1024.Idx → F .bf16)
    (wp : S256x1024.Idx → F .bf16) (nf : S1x1024.Idx → F .f32) (Y : S256x1024.Idx → F .f32) : sProp 𝕄 :=
  iprop(owns (c : Thread nD τ) a3 fullShare h ∗ owns (c : Thread nD τ) a4 fullShare rt ∗ owns (c : Thread nD τ) a5 fullShare p ∗ owns (c : Thread nD τ) a6 fullShare np
    ∗ owns (c : Thread nD τ) a7 fullShare wg ∗ owns (c : Thread nD τ) a8 fullShare wp ∗ owns (c : Thread nD τ) a9 fullShare nf ∗ owns (c : Thread nD τ) a10 fullShare Y)

/-- One tile. -/
theorem wp_body {sl : S65536.Idx → BitVec 32} {ys : YI → F .f32} (I : Inside sl) (t : Fin grid0.N) (h : S256x1024.Idx → F .f32) (rt : S256x128.Idx → F .f32) (p : S256x256.Idx → F .f32)
    (np : S1x1024.Idx → F .f32) (wg : S1024x1024.Idx → F .bf16) (wp' : S256x1024.Idx → F .bf16) (nf : S1x1024.Idx → F .f32) (Y : S256x1024.Idx → F .f32) {Q : PUnit → sProp 𝕄} :
    iprop(held (F := F) c sl ys t.val ∗ owe (F := F) c ∗ wins (F := F) c a3 a4 a5 a6 a7 a8 a9 a10 h rt p np wg wp' nf Y)
      ⊢ iprop((iprop(held (F := F) c sl ys (t.val + 1) ∗ owe (F := F) c ∗ wins (F := F) c a3 a4 a5 a6 a7 a8 a9 a10 h rt p np wg wp' nf (out (plane sl ys t.val) h rt p np wg wp' nf)) -∗ Q ⟨⟩)
          -∗ wp frame (wpE defs₀ 𝒱 (c : Thread nD τ) bd) Set.univ (cc0_final (F := F) (pt t) (Memref.whole main_arg0) (Memref.isWhole_whole _) (Memref.whole main_arg1) (Memref.isWhole_whole _) a3 h3 a4 h4 a5 h5 a6 h6 a7 h7 a8 h8 a9 h9 a10 h10 (Memref.whole cc0_scratch0) (Memref.isWhole_whole _) cc0_scratch1) Q) := by
  rw [cc0_final_eq_skeleton]
  dsimp only [cc0_final_skel]
  rw [k0_part3_eq_skeleton, k0_part4_eq_skeleton, k0_part5_eq_skeleton, k0_part6_eq_skeleton, k0_part7_eq_skeleton, part3_eq]
  iintro ⟨HH, HO, H3, H4, H5, H6, H7, H8, H9, H10⟩ HQ
  iapply (wp_opening (F := F) c 𝒱 bd a3 h3 a4 h4 a5 h5 a6 h6 a7 h7 a8 h8 a9 h9 a10 h10 I t) $$ HH
  iintro HH
  iapply (wp_turn (F := F) c 𝒱 bd a3 h3 a4 h4 a5 h5 a6 h6 a7 h7 a8 h8 a9 h9 a10 h10 I t h rt) $$ [HH HO H3 H4]
  · isplitl [HH]; · iexact HH
    isplitl [HO]; · iexact HO
    isplitl [H3]; · iexact H3
    iexact H4
  iintro ⟨⟨HS, HF, Hc⟩, HP, HO, H3, H4⟩
  dsimp only
  iapply (part4 (F := F) c 𝒱 bd a3 h3 a4 h4 a5 h5 a6 h6 a7 h7 a8 h8 a9 h9 a10 h10 t.val t) $$ HP
  iintro HP
  dsimp only
  iapply (part5 (F := F) c 𝒱 bd a3 h3 a4 h4 a5 h5 a6 h6 a7 h7 a8 h8 a9 h9 a10 h10 t.val t) $$ HP
  iintro HP
  dsimp only
  iapply (part6 (F := F) c 𝒱 bd a3 h3 a4 h4 a5 h5 a6 h6 a7 h7 a8 h8 a9 h9 a10 h10 t.val t) $$ HP
  iintro HP
  dsimp only
  iapply (part7 (F := F) c 𝒱 bd a3 h3 a4 h4 a5 h5 a6 h6 a7 h7 a8 h8 a9 h9 a10 h10 t.val t np wg) $$ [HP H6 H7]
  · isplitl [HP]; · iexact HP
    isplitl [H6]; · iexact H6
    iexact H7
  iintro ⟨HP, H6, H7⟩
  simp only [bind_assoc, lift_eq, op_bind, ret_bind, pure_bind, pure_eq]
  iapply (wp_ldw (F := F) c 𝒱 bd inb_S256x256_S256x256_0_0) $$ H5
  iintro H5
  iapply (wp_ldw (F := F) c 𝒱 bd inb_S256x1024_S256x1024_0_0) $$ H8
  iintro H8
  iapply (wp_ldw (F := F) c 𝒱 bd inb_S1x1024_S1x1024_0_0) $$ H9
  iintro H9
  iapply (wp_ldw (F := F) c 𝒱 bd inb_S256x1024_S256x1024_0_0) $$ H10
  iintro H10
  iapply (wp_stw (F := F) c 𝒱 bd inb_S256x1024_S256x1024_0_0) $$ H10
  iintro H10
  iapply (wp_closing (F := F) c 𝒱 bd a3 h3 a4 h4 a5 h5 a6 h6 a7 h7 a8 h8 a9 h9 a10 h10 t) $$ [HS HF Hc HP HO]
  · isplitr [HO]
    · unfold before
      isplitl [HS]; · iexact HS
      isplitl [HF]; · iexact HF
      rw [show (t.val + 1 + 1) % 2 = t.val % 2 by omega, show gCell (t.val + 1 + 1) = gCell t.val from Fin.ext (by show 12 + (t.val + 1 + 1) % 2 = 12 + t.val % 2; omega)]
      isplitl [HP]; · iexists _; iexact HP
      iexact Hc
    iexact HO
  iintro ⟨HH, HO⟩
  iapply HQ
  isplitl [HH]; · iexact HH
  isplitl [HO]; · iexact HO
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.CombineIdeal.Gather
end
-- ==== Proof.Close.lean ====
/- The combine's launch: its windows' blocks at every grid point, and every run of it. -/
module

public import proofs.«01_k».proof.Proof.Blend
public import proofs.«01_k».proof.Proof.Gen.CombineIdeal.Launch
public import Idealize.ShloMosaic.Lib.Pipeline.ValueKit
public import Idealize.ShloMosaic.Lib.Pipeline.Covers
public import Idealize.ShloMosaic.Lib.StableHlo.Run

@[expose] public section

set_option maxRecDepth 16384

noncomputable section

namespace Cert.CombineIdeal.Gather

open Idealize.ShloMosaic Idealize.ShloMosaic.ValueIdx Cert.CombineIdeal Cert.CombineIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

variable (m : (ℓ : Loc nD τ sig) → Buf (Elt F) ℓ)

/-- The table of rows and the experts' rows as a launch memory has them. -/
abbrev slotsOf : S65536.Idx → BitVec 32 := m (((0 : Dev nD) : Thread nD τ).loc main_arg0)
abbrev ysOf : YI → F .f32 := m (((0 : Dev nD) : Thread nD τ).loc main_arg1)

/-- The buffers at the launch, the operands prepared. -/
abbrev V (c : Dev nD) (b : Ref sig .tc) : Buf (Elt F) ((c : Thread nD τ).loc b) := StableHlo.after hostOps0 (fun b => m (c, b)) b

theorem V_0 (c : Dev nD) : V m c main_arg0 = m ((c : Thread nD τ).loc main_arg0) := by unfold_abbrev_sides; after_results
theorem V_1 (c : Dev nD) : V m c main_arg1 = m ((c : Thread nD τ).loc main_arg1) := by unfold_abbrev_sides; after_results
theorem V_2 (c : Dev nD) : V m c main_arg2 = m ((c : Thread nD τ).loc main_arg2) := by unfold_abbrev_sides; after_results
theorem V_3 (c : Dev nD) : V m c main_arg3 = m ((c : Thread nD τ).loc main_arg3) := by unfold_abbrev_sides; after_results
theorem V_4 (c : Dev nD) : V m c main_arg4 = m ((c : Thread nD τ).loc main_arg4) := by unfold_abbrev_sides; after_results
theorem V_5 (c : Dev nD) : V m c main_arg5 = m ((c : Thread nD τ).loc main_arg5) := by unfold_abbrev_sides; after_results
theorem V_6 (c : Dev nD) : V m c main_arg6 = m ((c : Thread nD τ).loc main_arg6) := by unfold_abbrev_sides; after_results
theorem V_7 (c : Dev nD) : V m c main_arg7 = m ((c : Thread nD τ).loc main_arg7) := by unfold_abbrev_sides; after_results
theorem V_8 (c : Dev nD) : V m c main_arg8 = m ((c : Thread nD τ).loc main_arg8) := by unfold_abbrev_sides; after_results

theorem tile_lt (t : Fin grid0.N) (a : Fin 256) : t.val * 256 + a.val < 16384 := by
  have h := lt64 t
  have h1 := a.isLt
  omega

/-- The windows' blocks at a grid point. -/
def h1Blk (t : Fin grid0.N) : S256x1024.Idx → F .f32 := fun j => (V m 0 main_arg2 : S16384x1024.Idx → F .f32) (ValueIdx.ix2 ⟨t.val * 256 + (j 0).val, tile_lt t (j 0)⟩ (j 1))
def rtBlk (t : Fin grid0.N) : S256x128.Idx → F .f32 := fun j => (V m 0 main_arg3 : S16384x128.Idx → F .f32) (ValueIdx.ix2 ⟨t.val * 256 + (j 0).val, tile_lt t (j 0)⟩ (j 1))
def pBlk (t : Fin grid0.N) : S256x256.Idx → F .f32 := fun j => (V m 0 main_v1 : S16384x256.Idx → F .f32) (ValueIdx.ix2 ⟨t.val * 256 + (j 0).val, tile_lt t (j 0)⟩ (j 1))
abbrev npAll : S1x1024.Idx → F .f32 := V m 0 main_v3
abbrev wgAll : S1024x1024.Idx → F .bf16 := V m 0 main_v5
abbrev wpAll : S256x1024.Idx → F .bf16 := V m 0 main_v7
abbrev nfAll : S1x1024.Idx → F .f32 := V m 0 main_v8
/-- What tile `t` writes. -/
def outBlk (t : Fin grid0.N) : S256x1024.Idx → F .f32 :=
  out (plane (slotsOf m) (ysOf m) t.val) (h1Blk m t) (rtBlk m t) (pBlk m t) (npAll m) (wgAll m) (wpAll m) (nfAll m)

/-- The table's contents. -/
def tables (_ : Fin 1) : (pcfg0 (F := F)).Adm := ⟨fun k => m (((0 : Dev nD) : Thread nD τ).loc (pre0.ref k)), trivial⟩

abbrev cfgT : Pipeline.Cfg sig Λ₀ := Pipeline.pin (pcfgs (F := F)) (tables m) 0

def dats (p : Fin 1) (c : Dev nD) : Pipeline.Dat τ (Elt F) Unit ℕ (UD sig nD τ) ℕ (Pipeline.pin (pcfgs (F := F)) (tables m) p) c where
  A := fun w => V m c (Pipeline.arrRef spec0 w)
  after := fun w t => match w with
    | 0 => h1Blk m t
    | 1 => rtBlk m t
    | 2 => pBlk m t
    | 3 => npAll m
    | 4 => wgAll m
    | 5 => wpAll m
    | 6 => nfAll m
    | 7 => outBlk m t
    | ⟨_ + 8, h⟩ => absurd h (Nat.not_lt.2 (Nat.le_add_left _ _))
  Φ := fun t => iprop(held (F := F) c (slotsOf m) (ysOf m) t.val ∗ ∃ r, prngReg c r)
  q := fun _ => fullShare
  owed := fun _ => 0

/-- An input the blocks only read holds its block at every point, fetched there or not. -/
theorem fetched_held (c : Dev nD) (w : Fin 8) (hw : ((cfgT m).win w).isOut = false) (hclip : ∀ (i : grid0.Coords) a, ((cfgT m).win w).clip i a = none) :
    ∀ (n : ℕ) (h : n < grid0.N), Pipeline.heldIn (cfgT m) (dats m 0 c).A w n h = (dats m 0 c).fetched w ⟨n, h⟩ (fun _ => Classical.arbitrary _) := by
  intro n
  induction n with
  | zero => exact fun h => rfl
  | succ n ih =>
    intro h
    by_cases hf : ((cfgT m).win w).fetch ⟨n + 1, h⟩ = true
    · exact Pipeline.heldIn_of_fetch (dats m 0 c).A w ⟨n + 1, h⟩ hf
    · rw [Pipeline.heldIn_of_not_fetch (dats m 0 c).A w n h (Bool.eq_false_iff.mpr hf), ih (Nat.lt_of_succ_lt h)]
      refine (dats m 0 c).fetched_congr w ?_ (funext fun a => (hclip _ a).trans (hclip _ a).symm) _
      by_contra hne
      exact hf ((((cfgT m).win w).fetch_in hw _).2 (Or.inr ⟨Nat.succ_pos _, fun e => hne e.symm⟩))

theorem blk0_emb (t : Fin grid0.N) (j : S256x1024.Idx) : ((((cfgT m).win 0).blk t).view.emb j : S16384x1024.Idx) = ValueIdx.ix2 ⟨t.val * 256 + (j 0).val, tile_lt t (j 0)⟩ (j 1) := by
  have hv : (BitVec.ofNat 32 ((pt t) 0).val).toNat = t.val := by
    rw [pt_val, BitVec.toNat_ofNat]
    have h := lt64 t
    omega
  refine funext fun (a : Fin 2) => Fin.ext ?_
  match a with
  | 0 => show (BitVec.ofNat 32 ((pt t) 0).val).toNat * 256 + 1 * (j 0).val = t.val * 256 + (j 0).val; omega
  | 1 => show 0 * 1024 + 1 * (j 1).val = (j 1).val; omega
theorem blk1_emb (t : Fin grid0.N) (j : S256x128.Idx) : ((((cfgT m).win 1).blk t).view.emb j : S16384x128.Idx) = ValueIdx.ix2 ⟨t.val * 256 + (j 0).val, tile_lt t (j 0)⟩ (j 1) := by
  have hv : (BitVec.ofNat 32 ((pt t) 0).val).toNat = t.val := by
    rw [pt_val, BitVec.toNat_ofNat]
    have h := lt64 t
    omega
  refine funext fun (a : Fin 2) => Fin.ext ?_
  match a with
  | 0 => show (BitVec.ofNat 32 ((pt t) 0).val).toNat * 256 + 1 * (j 0).val = t.val * 256 + (j 0).val; omega
  | 1 => show 0 * 128 + 1 * (j 1).val = (j 1).val; omega
theorem blk2_emb (t : Fin grid0.N) (j : S256x256.Idx) : ((((cfgT m).win 2).blk t).view.emb j : S16384x256.Idx) = ValueIdx.ix2 ⟨t.val * 256 + (j 0).val, tile_lt t (j 0)⟩ (j 1) := by
  have hv : (BitVec.ofNat 32 ((pt t) 0).val).toNat = t.val := by
    rw [pt_val, BitVec.toNat_ofNat]
    have h := lt64 t
    omega
  refine funext fun (a : Fin 2) => Fin.ext ?_
  match a with
  | 0 => show (BitVec.ofNat 32 ((pt t) 0).val).toNat * 256 + 1 * (j 0).val = t.val * 256 + (j 0).val; omega
  | 1 => show 0 * 256 + 1 * (j 1).val = (j 1).val; omega
theorem blk7_emb (t : Fin grid0.N) (j : S256x1024.Idx) : ((((cfgT m).win 7).blk t).view.emb j : S16384x1024.Idx) = ValueIdx.ix2 ⟨t.val * 256 + (j 0).val, tile_lt t (j 0)⟩ (j 1) := by
  have hv : (BitVec.ofNat 32 ((pt t) 0).val).toNat = t.val := by
    rw [pt_val, BitVec.toNat_ofNat]
    have h := lt64 t
    omega
  refine funext fun (a : Fin 2) => Fin.ext ?_
  match a with
  | 0 => show (BitVec.ofNat 32 ((pt t) 0).val).toNat * 256 + 1 * (j 0).val = t.val * 256 + (j 0).val; omega
  | 1 => show 0 * 1024 + 1 * (j 1).val = (j 1).val; omega
theorem blk3_emb (t : Fin grid0.N) (j : S1x1024.Idx) : ((((cfgT m).win 3).blk t).view.emb j : S1x1024.Idx) = j := by
  refine funext fun (a : Fin 2) => Fin.ext ?_
  match a with
  | 0 => show 0 * 1 + 1 * (j 0).val = (j 0).val; omega
  | 1 => show 0 * 1024 + 1 * (j 1).val = (j 1).val; omega
theorem blk4_emb (t : Fin grid0.N) (j : S1024x1024.Idx) : ((((cfgT m).win 4).blk t).view.emb j : S1024x1024.Idx) = j := by
  refine funext fun (a : Fin 2) => Fin.ext ?_
  match a with
  | 0 => show 0 * 1024 + 1 * (j 0).val = (j 0).val; omega
  | 1 => show 0 * 1024 + 1 * (j 1).val = (j 1).val; omega
theorem blk5_emb (t : Fin grid0.N) (j : S256x1024.Idx) : ((((cfgT m).win 5).blk t).view.emb j : S256x1024.Idx) = j := by
  refine funext fun (a : Fin 2) => Fin.ext ?_
  match a with
  | 0 => show 0 * 256 + 1 * (j 0).val = (j 0).val; omega
  | 1 => show 0 * 1024 + 1 * (j 1).val = (j 1).val; omega
theorem blk6_emb (t : Fin grid0.N) (j : S1x1024.Idx) : ((((cfgT m).win 6).blk t).view.emb j : S1x1024.Idx) = j := by
  refine funext fun (a : Fin 2) => Fin.ext ?_
  match a with
  | 0 => show 0 * 1 + 1 * (j 0).val = (j 0).val; omega
  | 1 => show 0 * 1024 + 1 * (j 1).val = (j 1).val; omega

theorem found0 (t : Fin grid0.N) (d) : (dats m 0 0).fetched 0 t d = h1Blk m t := by
  unfold Pipeline.Dat.fetched Pipeline.Dat.blockOf
  dsimp only [dats]
  funext j
  exact congrArg (V m 0 main_arg2 : S16384x1024.Idx → F .f32) (blk0_emb m t j)
theorem found1 (t : Fin grid0.N) (d) : (dats m 0 0).fetched 1 t d = rtBlk m t := by
  unfold Pipeline.Dat.fetched Pipeline.Dat.blockOf
  dsimp only [dats]
  funext j
  exact congrArg (V m 0 main_arg3 : S16384x128.Idx → F .f32) (blk1_emb m t j)
theorem found2 (t : Fin grid0.N) (d) : (dats m 0 0).fetched 2 t d = pBlk m t := by
  unfold Pipeline.Dat.fetched Pipeline.Dat.blockOf
  dsimp only [dats]
  funext j
  exact congrArg (V m 0 main_v1 : S16384x256.Idx → F .f32) (blk2_emb m t j)
theorem found3 (t : Fin grid0.N) (d) : (dats m 0 0).fetched 3 t d = npAll m := by
  unfold Pipeline.Dat.fetched Pipeline.Dat.blockOf
  dsimp only [dats]
  funext j
  exact congrArg (V m 0 main_v3 : S1x1024.Idx → F .f32) (blk3_emb m t j)
theorem found4 (t : Fin grid0.N) (d) : (dats m 0 0).fetched 4 t d = wgAll m := by
  unfold Pipeline.Dat.fetched Pipeline.Dat.blockOf
  dsimp only [dats]
  funext j
  exact congrArg (V m 0 main_v5 : S1024x1024.Idx → F .bf16) (blk4_emb m t j)
theorem found5 (t : Fin grid0.N) (d) : (dats m 0 0).fetched 5 t d = wpAll m := by
  unfold Pipeline.Dat.fetched Pipeline.Dat.blockOf
  dsimp only [dats]
  funext j
  exact congrArg (V m 0 main_v7 : S256x1024.Idx → F .bf16) (blk5_emb m t j)
theorem found6 (t : Fin grid0.N) (d) : (dats m 0 0).fetched 6 t d = nfAll m := by
  unfold Pipeline.Dat.fetched Pipeline.Dat.blockOf
  dsimp only [dats]
  funext j
  exact congrArg (V m 0 main_v8 : S1x1024.Idx → F .f32) (blk6_emb m t j)

theorem before0 (t : Fin grid0.N) (d) : (dats m 0 0).before 0 t d = h1Blk m t :=
  ((dats m 0 0).before_eq_heldIn 0 rfl (fun _ => rfl) (fun _ _ => rfl)
    (fun t' => ((fetched_held m 0 0 rfl (fun _ _ => rfl) t'.val t'.isLt).trans (found0 m t' _)).symm) t d).trans
    ((fetched_held m 0 0 rfl (fun _ _ => rfl) t.val t.isLt).trans (found0 m t _))
theorem before1 (t : Fin grid0.N) (d) : (dats m 0 0).before 1 t d = rtBlk m t :=
  ((dats m 0 0).before_eq_heldIn 1 rfl (fun _ => rfl) (fun _ _ => rfl)
    (fun t' => ((fetched_held m 0 1 rfl (fun _ _ => rfl) t'.val t'.isLt).trans (found1 m t' _)).symm) t d).trans
    ((fetched_held m 0 1 rfl (fun _ _ => rfl) t.val t.isLt).trans (found1 m t _))
theorem before2 (t : Fin grid0.N) (d) : (dats m 0 0).before 2 t d = pBlk m t :=
  ((dats m 0 0).before_eq_heldIn 2 rfl (fun _ => rfl) (fun _ _ => rfl)
    (fun t' => ((fetched_held m 0 2 rfl (fun _ _ => rfl) t'.val t'.isLt).trans (found2 m t' _)).symm) t d).trans
    ((fetched_held m 0 2 rfl (fun _ _ => rfl) t.val t.isLt).trans (found2 m t _))
theorem before3 (t : Fin grid0.N) (d) : (dats m 0 0).before 3 t d = npAll m :=
  ((dats m 0 0).before_eq_heldIn 3 rfl (fun _ => rfl) (fun _ _ => rfl)
    (fun t' => ((fetched_held m 0 3 rfl (fun _ _ => rfl) t'.val t'.isLt).trans (found3 m t' _)).symm) t d).trans
    ((fetched_held m 0 3 rfl (fun _ _ => rfl) t.val t.isLt).trans (found3 m t _))
theorem before4 (t : Fin grid0.N) (d) : (dats m 0 0).before 4 t d = wgAll m :=
  ((dats m 0 0).before_eq_heldIn 4 rfl (fun _ => rfl) (fun _ _ => rfl)
    (fun t' => ((fetched_held m 0 4 rfl (fun _ _ => rfl) t'.val t'.isLt).trans (found4 m t' _)).symm) t d).trans
    ((fetched_held m 0 4 rfl (fun _ _ => rfl) t.val t.isLt).trans (found4 m t _))
theorem before5 (t : Fin grid0.N) (d) : (dats m 0 0).before 5 t d = wpAll m :=
  ((dats m 0 0).before_eq_heldIn 5 rfl (fun _ => rfl) (fun _ _ => rfl)
    (fun t' => ((fetched_held m 0 5 rfl (fun _ _ => rfl) t'.val t'.isLt).trans (found5 m t' _)).symm) t d).trans
    ((fetched_held m 0 5 rfl (fun _ _ => rfl) t.val t.isLt).trans (found5 m t _))
theorem before6 (t : Fin grid0.N) (d) : (dats m 0 0).before 6 t d = nfAll m :=
  ((dats m 0 0).before_eq_heldIn 6 rfl (fun _ => rfl) (fun _ _ => rfl)
    (fun t' => ((fetched_held m 0 6 rfl (fun _ _ => rfl) t'.val t'.isLt).trans (found6 m t' _)).symm) t d).trans
    ((fetched_held m 0 6 rfl (fun _ _ => rfl) t.val t.isLt).trans (found6 m t _))

/-- A window's staging buffer at a point. -/
abbrev stg (t : Fin grid0.N) (w : Fin 8) := ((cfgT m).win w).stage ((cfgT m).slots t w)

theorem leaves0 (t : Fin grid0.N) : (owns ((0 : Dev nD) : Thread nD τ) (stg m t 0) fullShare (h1Blk m t) : sProp 𝕄) ⊢ (dats m 0 0).leaves 0 t := .rfl
theorem leaves1 (t : Fin grid0.N) : (owns ((0 : Dev nD) : Thread nD τ) (stg m t 1) fullShare (rtBlk m t) : sProp 𝕄) ⊢ (dats m 0 0).leaves 1 t := .rfl
theorem leaves2 (t : Fin grid0.N) : (owns ((0 : Dev nD) : Thread nD τ) (stg m t 2) fullShare (pBlk m t) : sProp 𝕄) ⊢ (dats m 0 0).leaves 2 t := .rfl
theorem leaves3 (t : Fin grid0.N) : (owns ((0 : Dev nD) : Thread nD τ) (stg m t 3) fullShare (npAll m) : sProp 𝕄) ⊢ (dats m 0 0).leaves 3 t := .rfl
theorem leaves4 (t : Fin grid0.N) : (owns ((0 : Dev nD) : Thread nD τ) (stg m t 4) fullShare (wgAll m) : sProp 𝕄) ⊢ (dats m 0 0).leaves 4 t := .rfl
theorem leaves5 (t : Fin grid0.N) : (owns ((0 : Dev nD) : Thread nD τ) (stg m t 5) fullShare (wpAll m) : sProp 𝕄) ⊢ (dats m 0 0).leaves 5 t := .rfl
theorem leaves6 (t : Fin grid0.N) : (owns ((0 : Dev nD) : Thread nD τ) (stg m t 6) fullShare (nfAll m) : sProp 𝕄) ⊢ (dats m 0 0).leaves 6 t := .rfl
theorem leaves7 (t : Fin grid0.N) : (owns ((0 : Dev nD) : Thread nD τ) (stg m t 7) fullShare (outBlk m t) : sProp 𝕄) ⊢ (dats m 0 0).leaves 7 t := .rfl

theorem leaves_all (t : Fin grid0.N) :
    wins (F := F) 0 (stg m t 0) (stg m t 1) (stg m t 2) (stg m t 3) (stg m t 4) (stg m t 5) (stg m t 6) (stg m t 7) (h1Blk m t) (rtBlk m t) (pBlk m t) (npAll m) (wgAll m) (wpAll m) (nfAll m)  (outBlk m t)
      ⊢ iprop((dats m 0 0).leaves 0 t ∗ (dats m 0 0).leaves 1 t ∗ (dats m 0 0).leaves 2 t ∗ (dats m 0 0).leaves 3 t ∗ (dats m 0 0).leaves 4 t ∗ (dats m 0 0).leaves 5 t ∗ (dats m 0 0).leaves 6 t ∗ (dats m 0 0).leaves 7 t) :=
  (BIClass.sep_mono (leaves0 m t) (BIClass.sep_mono (leaves1 m t) (BIClass.sep_mono (leaves2 m t) (BIClass.sep_mono (leaves3 m t) (BIClass.sep_mono (leaves4 m t) (BIClass.sep_mono (leaves5 m t) (BIClass.sep_mono (leaves6 m t) (leaves7 m t))))))))

abbrev 𝒱₀ : Variants := Variants.none

/-- A tile's body on its staging buffers. -/
abbrev body (t : Fin grid0.N) : Prog (TpuEff nD τ sig (Elt F) Λ₀ .tc) PUnit :=
  cc0_final (F := F) (pt t) (Memref.whole main_arg0) (Memref.isWhole_whole _) (Memref.whole main_arg1) (Memref.isWhole_whole _) (stg m t 0) (stage_whole0 0 _) (stg m t 1) (stage_whole0 1 _) (stg m t 2) (stage_whole0 2 _) (stg m t 3) (stage_whole0 3 _) (stg m t 4) (stage_whole0 4 _) (stg m t 5) (stage_whole0 5 _) (stg m t 6) (stage_whole0 6 _) (stg m t 7) (stage_whole0 7 _)
    (Memref.whole cc0_scratch0) (Memref.isWhole_whole _) cc0_scratch1

theorem defs_body (t : Fin grid0.N) : defs₀ (F := F) .tc ((cfgT m).body) ((cfgT m).bodyArgs t ((cfgT m).slots t)) = body m t := by
  unfold defs₀
  rw [Defs.onTc_tc]

variable (I : Inside (slotsOf m))

include I in
theorem body_ok (c : Dev nD) : Pipeline.BodyObligationLoose (dats m 0 c) defs₀ 𝒱₀ () Set.univ := by
  rw [Subsingleton.elim c 0]
  intro t
  rw [defs_body]
  show iprop((held (F := F) 0 (slotsOf m) (ysOf m) t.val ∗ ∃ r, prngReg (0 : Dev nD) r) ∗ (dats m 0 0).owesAt () t.castSucc
      ∗ bigSep Finset.univ fun w : Fin 8 => iprop(∃ d, owns ((0 : Dev nD) : Thread nD τ) (stg m t w) fullShare ((dats m 0 0).before w t d)))
    ⊢ wp frame (wpE defs₀ 𝒱₀ ((0 : Dev nD) : Thread nD τ) none) Set.univ (body m t) fun _ =>
      iprop((held (F := F) 0 (slotsOf m) (ysOf m) (t.val + 1) ∗ ∃ r, prngReg (0 : Dev nD) r) ∗ (dats m 0 0).owesAt () t.succ
        ∗ bigSep Finset.univ fun w : Fin 8 => (dats m 0 0).leaves w t)
  rw [bigSep_W0, bigSep_W0]
  iintro ⟨⟨HΦ, HR⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  ihave H0 := (Entails.of_eq (congrArg (fun X => (owns ((0 : Dev nD) : Thread nD τ) (stg m t 0) fullShare X : sProp 𝕄)) (before0 m t d0))) $$ H0
  ihave H1 := (Entails.of_eq (congrArg (fun X => (owns ((0 : Dev nD) : Thread nD τ) (stg m t 1) fullShare X : sProp 𝕄)) (before1 m t d1))) $$ H1
  ihave H2 := (Entails.of_eq (congrArg (fun X => (owns ((0 : Dev nD) : Thread nD τ) (stg m t 2) fullShare X : sProp 𝕄)) (before2 m t d2))) $$ H2
  ihave H3 := (Entails.of_eq (congrArg (fun X => (owns ((0 : Dev nD) : Thread nD τ) (stg m t 3) fullShare X : sProp 𝕄)) (before3 m t d3))) $$ H3
  ihave H4 := (Entails.of_eq (congrArg (fun X => (owns ((0 : Dev nD) : Thread nD τ) (stg m t 4) fullShare X : sProp 𝕄)) (before4 m t d4))) $$ H4
  ihave H5 := (Entails.of_eq (congrArg (fun X => (owns ((0 : Dev nD) : Thread nD τ) (stg m t 5) fullShare X : sProp 𝕄)) (before5 m t d5))) $$ H5
  ihave H6 := (Entails.of_eq (congrArg (fun X => (owns ((0 : Dev nD) : Thread nD τ) (stg m t 6) fullShare X : sProp 𝕄)) (before6 m t d6))) $$ H6
  iapply (wp_body (F := F) 0 𝒱₀ none (stg m t 0) (stage_whole0 0 _) (stg m t 1) (stage_whole0 1 _) (stg m t 2) (stage_whole0 2 _) (stg m t 3) (stage_whole0 3 _) (stg m t 4) (stage_whole0 4 _) (stg m t 5) (stage_whole0 5 _) (stg m t 6) (stage_whole0 6 _) (stg m t 7) (stage_whole0 7 _) I t (h1Blk m t) (rtBlk m t) (pBlk m t) (npAll m) (wgAll m) (wpAll m) (nfAll m)  _) $$ [HΦ HO H0 H1 H2 H3 H4 H5 H6 H7]
  · isplitl [HΦ]; · iexact HΦ
    isplitl [HO]; · iexists W; iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨HΦ, ⟨%W', HO⟩, H0, H1, H2, H3, H4, H5, H6, H7⟩
  isplitl [HΦ HR]
  · isplitl [HΦ]; · iexact HΦ
    iexact HR
  isplitl [HO]
  · iexists W'
    isplitr; · ipureintro; exact fun _ _ => Or.inl trivial
    iexact HO
  iapply (leaves_all m t)
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The kernel's own semaphores. -/
abbrev own : Fin 2 → SemLoc sig := fun k => .dma ⟨12 + k.val, by have := k.isLt; have e : sig.nDmaSem = 14 := rfl; omega⟩
theorem ownFacts : Pipeline.OwnSemFacts spec0 own := by decide

theorem own_eq (c : Dev nD) : (Pipeline.ownSems0 (Ix := Unit) (Name := ℕ) (U := UD sig nD τ) (Lvl := ℕ) (Val := Elt F) (τ := τ) own c : sProp 𝕄)
    = iprop(cell (F := F) c (gCell 0) ∗ cell (F := F) c (gCell 1)) := by
  rw [Pipeline.ownSems0_eq_of_list c own [0, 1] (by decide) (by decide)]
  rfl

/-- The launch's invariant, conjunct by conjunct. -/
theorem phi_eq (A : (c : Dev nD) → (b : Ref sig .tc) → Buf (Elt F) ((c : Thread nD τ).loc b)) (c : Dev nD) :
    (Pipeline.ΦD own spec0 {main_arg1} A c : sProp 𝕄)
      = iprop((∃ f, GB (F := F) c Finset.univ f) ∗ (∃ r, prngReg c r) ∗ (cell (F := F) c (gCell 0) ∗ cell (F := F) c (gCell 1))
          ∗ YS (F := F) c Finset.univ fullShare (A c main_arg1)) := by
  rw [Pipeline.ΦD_eq, scopedRest0_eq, own_eq, bigSep_singleton]
  rfl

theorem tables_eq (c : Dev nD) (a : pre0.Contents (Elt F)) :
    (Pipeline.ΦT (U := UD sig nD τ) pre0 a c : sProp 𝕄) = SL (F := F) c (a 0) := by
  unfold Pipeline.ΦT Pipeline.prefHeld
  rw [show (Finset.univ : Finset (Fin pre0.K)) = {0} from by decide, bigSep_singleton]
  rfl

theorem rows_rest : ({main_arg1} : Finset (Ref sig .tc)) ⊆ Pipeline.restRefsP sig pre0 spec0 := by decide

/-- The result: tile by tile. -/
def result : S16384x1024.Idx → F .f32 := fun j =>
  outBlk m ⟨(j 0).val / 256, by
    have h1 : (j 0).val < 16384 := (j 0).isLt
    show (j 0).val / 256 < grid0.N
    rw [N_0]
    omega⟩ (ValueIdx.ix2 ⟨(j 0).val % 256, Nat.mod_lt _ (by decide)⟩ (j 1))

theorem covers7 : ((cfgT m).win 7).Covers :=
  ((cfgT m).win 7).covers_of_index_surj rfl (by decide : ∀ a : Fin 2, 0 < S256x1024.size a) fun β => by
    have h0 : (β (0 : Fin 2)).val < (16384 + 256 - 1) / 256 := (β (0 : Fin 2)).isLt
    have h1 : (β (1 : Fin 2)).val < (1024 + 1024 - 1) / 1024 := (β (1 : Fin 2)).isLt
    have hv := pt_val ⟨(β (0 : Fin 2)).val, by rw [N_0]; omega⟩
    refine ⟨⟨(β (0 : Fin 2)).val, by show _ < grid0.N; rw [N_0]; omega⟩, fun (a : Fin 2) => ?_⟩
    match a with
    | 0 =>
      show (BitVec.ofNat 32 ((pt ⟨(β (0 : Fin 2)).val, _⟩) 0).val).toNat = (β (0 : Fin 2)).val
      rw [hv, BitVec.toNat_ofNat]
      show (β (0 : Fin 2)).val % 2 ^ 32 = _
      omega
    | 1 => show 0 = (β (1 : Fin 2)).val; omega

theorem result_at (t : Fin grid0.N) (y : S256x1024.Idx) : outBlk m t y = result m ((((cfgT m).win 7).blk t).view.emb y) := by
  refine Eq.trans ?_ (congrArg (result m) (blk7_emb m t y)).symm
  have h1 : (y 0).val < 256 := (y 0).isLt
  unfold result
  have et : ∀ h, (⟨(t.val * 256 + (y 0).val) / 256, h⟩ : Fin grid0.N) = t := fun h => Fin.ext (by show (t.val * 256 + (y 0).val) / 256 = t.val; omega)
  have ey : ∀ h, (ValueIdx.ix2 (⟨(t.val * 256 + (y 0).val) % 256, h⟩ : Fin 256) (y 1) : S256x1024.Idx) = y := fun h => by
    refine funext fun (a : Fin 2) => Fin.ext ?_
    match a with
    | 0 => show (t.val * 256 + (y 0).val) % 256 = (y 0).val; omega
    | 1 => rfl
  exact (congrArg₂ (fun t y => outBlk m t y) (et _) (ey _)).symm

theorem result_eq : (dats m 0 0).arrAt 7 (cfgT m).N = result m :=
  (dats m 0 0).arrAt_eq_of_covers 7 _ (covers7 m) fun t _ y => result_at m t y

include I in
theorem run_main (g : Dev nD → PrngReg) :
    θ_run (defs (F := F)) (onTc (τ := τ) (main (F := F))) ⟨m, fun _ => 0, g⟩ (fun r => (∀ c : Dev nD,
      r.2.mem ((c : Thread nD τ).loc main_v9) = result m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8))
      ∧ r.2.sem = fun _ => 0) := by
  refine (θ_run defs _ _).mono (fun r (h : Pipeline.FramePost (Pipeline.pin (pcfgs (F := F)) (tables m)) (dats m) 0 (V m) r ∧ r.2.sem = fun _ => 0) => ⟨fun c => ?_, h.2⟩)
    (Pipeline.θ_run_frameP_dma (pcfgs (F := F)) (tables m) (dats m) 0 launch0 own defs₀ 𝒱₀ ownFacts {main_arg1} rows_rest m g main
      (body_ok m I) (fun c w => ?_) (fun c t => rfl) (V m) (Pipeline.hmainP_prefix pcfgs 0 defs₀ 𝒱₀ m main hostOps0 hostOps0_sub ⟨rfl, rfl, rfl, rfl, rfl, rfl, rfl, rfl, rfl⟩ main_chain) (fun c w => rfl) ?_ ?_ ?_
      (Q' := fun r => Pipeline.FramePost (Pipeline.pin (pcfgs (F := F)) (tables m)) (dats m) 0 (V m) r ∧ r.2.sem = fun _ => 0) (fun _ h => h))
  · obtain ⟨ha, hrest⟩ := h.1 c
    rw [Subsingleton.elim c 0] at ha hrest ⊢
    exact ⟨(ha 7).trans (result_eq m), (hrest main_arg0 (by decide : main_arg0 ∈ Pipeline.restRefs sig spec0)).trans (V_0 m 0), (hrest main_arg1 (by decide : main_arg1 ∈ Pipeline.restRefs sig spec0)).trans (V_1 m 0), ((ha 0).trans ((dats m 0 0).arrAt_in 0 rfl _)).trans (V_2 m 0), ((ha 1).trans ((dats m 0 0).arrAt_in 1 rfl _)).trans (V_3 m 0), (hrest main_arg4 (by decide : main_arg4 ∈ Pipeline.restRefs sig spec0)).trans (V_4 m 0), (hrest main_arg5 (by decide : main_arg5 ∈ Pipeline.restRefs sig spec0)).trans (V_5 m 0), (hrest main_arg6 (by decide : main_arg6 ∈ Pipeline.restRefs sig spec0)).trans (V_6 m 0), (hrest main_arg7 (by decide : main_arg7 ∈ Pipeline.restRefs sig spec0)).trans (V_7 m 0), (hrest main_arg8 (by decide : main_arg8 ∈ Pipeline.restRefs sig spec0)).trans (V_8 m 0)⟩
  · exact ite_self _
  · intro c k
    rw [Subsingleton.elim c 0]
    match k with
    | 0 => exact V_0 m 0
  · intro c
    rw [phi_eq, tables_eq, Subsingleton.elim c 0]
    show _ ⊢ iprop(held (F := F) 0 (slotsOf m) (ysOf m) 0 ∗ ∃ r, prngReg (0 : Dev nD) r)
    rw [show held (F := F) 0 (slotsOf m) (ysOf m) 0 = idle (F := F) 0 (slotsOf m) (ysOf m) from if_pos rfl, V_1]
    unfold idle
    iintro ⟨⟨HG, HR, ⟨Hc0, Hc1⟩, HY⟩, HS⟩
    isplitr [HR]
    · isplitl [HS]; · iexact HS
      isplitl [HG]; · iexact HG
      isplitl [HY]; · iexact HY
      isplitl [Hc0]; · iexact Hc0
      iexact Hc1
    · iexact HR
  · intro c
    rw [phi_eq, Subsingleton.elim c 0]
    show iprop(held (F := F) 0 (slotsOf m) (ysOf m) 64 ∗ ∃ r, prngReg (0 : Dev nD) r) ⊢ _
    rw [show held (F := F) 0 (slotsOf m) (ysOf m) 64 = idle (F := F) 0 (slotsOf m) (ysOf m) from rfl, V_1]
    unfold idle
    iintro ⟨⟨HS, HG, HY, Hc0, Hc1⟩, HR⟩
    isplitl [HG]; · iexact HG
    isplitl [HR]; · iexact HR
    isplitl [Hc0 Hc1]
    · isplitl [Hc0]; · iexact Hc0
      iexact Hc1
    iexact HY

end Cert.CombineIdeal.Gather
end
-- ==== Proof.Blended.lean ====
/- The combine's result: the reference's, tile by tile. -/
module

public import proofs.«01_k».proof.Proof.Close
public import proofs.«01_k».proof.Proof.Gen.CombineReferenceIdeal
public import proofs.«01_k».proof.Proof.Gen.CombineReferenceIdeal.Run
public import proofs.«01_k».proof.Proof.Gen.Pre_inside
public import Idealize.ShloMosaic.Lib.Routing.OpsSet
public import Idealize.ShloMosaic.Lib.ReduceAll
public import Idealize.ShloMosaic.Lib.Pipeline.Value
public import Idealize.ShloMosaic.Lib.StableHlo.Predicate

@[expose] public section

set_option maxRecDepth 16384

noncomputable section

/-! ### The reference's term -/

namespace Cert.CombineReferenceIdeal.Blended

open Idealize.ShloMosaic Idealize.ShloMosaic.TcCoe
open Cert.CombineReferenceIdeal Cert.CombineReferenceIdeal.Gen

/-- The chosen rows. -/
def fetched (sl : S65536.Idx → BitVec 32) (ys : FVec Ideal S8x73728x128 .f32) : FVec Ideal S65536x1024 .f32 :=
  Host.gather gather_S73728x1024_S65536x1_S65536x1024_1_0_n_n_0_1_11024 (shapeCast S73728x1024 (transpose S73728x8x128 [1, 0, 2] ys transposes_S8x73728x128_S73728x8x128_1_0_2) shapeCasts_S73728x8x128_S73728x1024) (broadcastInDim S65536x1 ![0] bcast_S65536_S65536x1_0 (select (cmpi .slt sl (broadcastInDim S65536 ![] bcast_S_S65536 (constantI S_ 32 0#32))) (addi sl (broadcastInDim S65536 ![] bcast_S_S65536 (constantI S_ 32 73728#32))) sl))
/-- The residual with the experts' weighted rows added. -/
def mixed (sl : S65536.Idx → BitVec 32) (ys : FVec Ideal S8x73728x128 .f32) (h : FVec Ideal S16384x1024 .f32) (rt : FVec Ideal S16384x128 .f32) : FVec Ideal S16384x1024 .f32 :=
  addf h (Host.reduceAdd (mulf (broadcastInDim S4x16384x1024 ![0, 1, 2] bcast_S4x16384x1_S4x16384x1024_0_1_2 (broadcastInDim S4x16384x1 ![0, 1] bcast_S4x16384_S4x16384x1_0_1 (transpose S4x16384 [1, 0] (extractStridedSlice S16384x4 ![0, 0] rt slices_S16384x128_S16384x4_0_0) transposes_S16384x4_S4x16384_1_0))) (shapeCast S4x16384x1024 (fetched sl ys) shapeCasts_S65536x1024_S4x16384x1024)) (constant S_ .f32 0x00000000#32) reducesTo_S4x16384x1024_S16384x1024_d0 h_S_)
/-- Rows normalized, with gains. -/
def hnorm (X : FVec Ideal S16384x1024 .f32) (g : FVec Ideal S1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))
/-- The gated addition. -/
def hmid (X : FVec Ideal S16384x1024 .f32) (p : FVec Ideal S1x2x8192x256 .f32) (np : FVec Ideal S1x1024 .f32) (wg : FVec Ideal S1x1024x1024 .f32) (wp : FVec Ideal S1x256x1024 .f32) : FVec Ideal S16384x1024 .f32 :=
  addf X (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral dot_S16384x1024_S1024x1024_S16384x1024_1_0_0_1_n_n none (hnorm X (shapeCast S1024 np shapeCasts_S1x1024_S1024)) (shapeCast S1024x1024 wg shapeCasts_S1x1024x1024_S1024x1024)))))) (Host.dotGeneral dot_S16384x256_S256x1024_S16384x1024_1_0_0_1_n_n none (shapeCast S16384x256 (shapeCast S2x8192x256 p shapeCasts_S1x2x8192x256_S2x8192x256) shapeCasts_S2x8192x256_S16384x256) (shapeCast S256x1024 wp shapeCasts_S1x256x1024_S256x1024)))

theorem out_eq (m : (ℓ : Loc nD τ sig) → Buf (Elt Ideal) ℓ) (c : Dev nD) : Value.res_out0 m c
    = hnorm (hmid (mixed (m ((c.tc : Thread nD τ).loc main_arg0)) (m ((c.tc : Thread nD τ).loc main_arg1)) (m ((c.tc : Thread nD τ).loc main_arg2)) (m ((c.tc : Thread nD τ).loc main_arg3)))
        (m ((c.tc : Thread nD τ).loc main_arg4)) (m ((c.tc : Thread nD τ).loc main_arg5)) (m ((c.tc : Thread nD τ).loc main_arg6)) (m ((c.tc : Thread nD τ).loc main_arg7)))
      (m ((c.tc : Thread nD τ).loc main_arg8)) := rfl

/-- A chosen row's entry. -/
theorem fetched_at (sl : S65536.Idx → BitVec 32) (ys : FVec Ideal S8x73728x128 .f32) (a : Fin 65536) (q : Fin 1024) (h : (sl (ix1 a)).toNat < 73728) :
    fetched sl ys (ix2 a q) = ys (ix3 ⟨q.val / 128, by omega⟩ ⟨(sl (ix1 a)).toNat, h⟩ ⟨q.val % 128, Nat.mod_lt _ (by decide)⟩) := by
  unfold fetched
  refine (Routing.gather_row _ rfl rfl rfl rfl rfl _ _ a q ⟨(sl (ix1 a)).toNat, h⟩ ?_ (by decide)).trans ?_
  · pointwise []
    have hn : ¬ (sl (ix1 a)).toInt < 0 := by
      rw [StableHlo.Predicate.toInt_eq_toNat_of_lt (by omega)]
      omega
    have hc : IntOp.cmpi .slt (sl (ix1 a)) 0#32 = 0#1 := by
      rcases (by generalize IntOp.cmpi .slt (sl (ix1 a)) 0#32 = b; revert b; decide : IntOp.cmpi .slt (sl (ix1 a)) 0#32 = 0#1 ∨ IntOp.cmpi .slt (sl (ix1 a)) 0#32 = 1#1) with e | e
      · exact e
      · exact absurd (IntOp.cmpi_slt.1 e) hn
    show Scalar.select (IntOp.cmpi .slt (sl (ix1 a)) 0#32) _ (sl (ix1 a)) = _
    rw [hc, BitVec.ofNat_toNat, BitVec.setWidth_eq]
    rfl
  · pointwise []

end Cert.CombineReferenceIdeal.Blended

namespace Cert.CombineIdeal.Gather

open Idealize.ShloMosaic Idealize.ShloMosaic.TcCoe Idealize.SL.Sem
open Cert.CombineIdeal Cert.CombineIdeal.Gen
open Cert.CombineReferenceIdeal.Blended (fetched mixed hnorm hmid fetched_at)

/-! ### The precondition -/

theorem inside_of {F : FTy → Type} [FloatOps F] (sl : S65536.Idx → BitVec 32) (ys : FVec F S8x73728x128 .f32) (h : FVec F S16384x1024 .f32) (rt : FVec F S16384x128 .f32) (p : FVec F S1x2x8192x256 .f32)
    (np : FVec F S1x1024 .f32) (wg : FVec F S1x1024x1024 .f32) (wp : FVec F S1x256x1024 .f32) (nf : FVec F S1024 .f32)
    (e : Cert.Pre_inside.fn (F := F) sl ys h rt p np wg wp nf = fun _ => 1#1) : ∀ a : Fin 65536, (sl (ix1 a)).toNat < 73728 := by
  intro a
  have e0 := congrFun e (Shape.Idx.first Cert.Pre_inside.Facts.h_S_)
  dsimp only [Cert.Pre_inside.fn] at e0
  haveI : Subsingleton Cert.Pre_inside.S_.Idx := ⟨fun a b => funext fun i => i.elim0⟩
  obtain ⟨h1, h2⟩ := IntOp.andi_eq_one.1 (Host.reduce_andi_all _ _ _ _ _ e0 (ix1 a))
  have h1' : (0#32 : BitVec 32).toInt ≤ (sl (ix1 a)).toInt := IntOp.cmpi_sge.1 h1
  have h2' : (sl (ix1 a)).toInt < (73728#32 : BitVec 32).toInt := IntOp.cmpi_slt.1 h2
  rw [show (0#32 : BitVec 32).toInt = 0 by decide] at h1'
  rw [show (73728#32 : BitVec 32).toInt = 73728 by decide] at h2'
  have := (sl (ix1 a)).isLt
  rw [BitVec.toInt_eq_toNat_cond] at h1' h2'
  split at h1' <;> omega

/-! ### Eight slices side by side -/

theorem beside (x : Fin 8 → FVec Ideal S256x128 .f32) (r : Fin 256) (q : Fin 1024) :
    concatenate S256x1024 1 [⟨S256x128, x 0⟩, ⟨S256x128, x 1⟩, ⟨S256x128, x 2⟩, ⟨S256x128, x 3⟩, ⟨S256x128, x 4⟩, ⟨S256x128, x 5⟩, ⟨S256x128, x 6⟩, ⟨S256x128, x 7⟩] concatenates_S256x128_S256x128_S256x128_S256x128_S256x128_S256x128_S256x128_S256x128_S256x1024_d1 (ix2 r q)
      = x ⟨q.val / 128, by omega⟩ (ix2 r ⟨q.val % 128, Nat.mod_lt _ (by decide)⟩) := by
  have fin : ∀ (k : Fin 8) (l : Fin 128), q.val = 128 * k.val + l.val → x k (ix2 r l) = x ⟨q.val / 128, by omega⟩ (ix2 r ⟨q.val % 128, Nat.mod_lt _ (by decide)⟩) := fun k l hq => by
    have h1 := l.isLt
    exact congrArg₂ (fun k l => x k (ix2 r l)) (Fin.ext (by show k.val = q.val / 128; omega)) (Fin.ext (by show l.val = q.val % 128; omega))
  have hq := q.isLt
  pointwise []
  by_cases h0 : q.val < 128
  · rw [dif_pos h0]; exact fin 0 _ (by show q.val = 128 * 0 + q.val; omega)
  rw [dif_neg h0]
  by_cases h1 : q.val < 256
  · rw [dif_pos (by omega)]; exact fin 1 _ (by show q.val = 128 * 1 + _; dsimp only; omega)
  rw [dif_neg (by omega)]
  by_cases h2 : q.val < 384
  · rw [dif_pos (by omega)]; exact fin 2 _ (by show q.val = 128 * 2 + _; dsimp only; omega)
  rw [dif_neg (by omega)]
  by_cases h3 : q.val < 512
  · rw [dif_pos (by omega)]; exact fin 3 _ (by show q.val = 128 * 3 + _; dsimp only; omega)
  rw [dif_neg (by omega)]
  by_cases h4 : q.val < 640
  · rw [dif_pos (by omega)]; exact fin 4 _ (by show q.val = 128 * 4 + _; dsimp only; omega)
  rw [dif_neg (by omega)]
  by_cases h5 : q.val < 768
  · rw [dif_pos (by omega)]; exact fin 5 _ (by show q.val = 128 * 5 + _; dsimp only; omega)
  rw [dif_neg (by omega)]
  by_cases h6 : q.val < 896
  · rw [dif_pos (by omega)]; exact fin 6 _ (by show q.val = 128 * 6 + _; dsimp only; omega)
  rw [dif_neg (by omega)]
  exact fin 7 _ (by show q.val = 128 * 7 + _; dsimp only; omega)

/-! ### The kernel's sum of weighted rows -/

section
variable (P : Fin 4 → Fin 8 → Vec Ideal S1x1x1x256x128 .f32) (h : FVec Ideal S256x1024 .f32) (rt : FVec Ideal S256x128 .f32) (r : Fin 256) (q : Fin 1024)

/-- The part of a row that choice `k` took. -/
abbrev piece (k : Fin 4) : EReal := P k ⟨q.val / 128, by omega⟩ (ix5 0 0 0 r ⟨q.val % 128, Nat.mod_lt _ (by decide)⟩)

theorem flat (x : Vec Ideal S1x1x1x256x128 .f32) (l : Fin 128) : shapeCast S256x128 x shapeCasts_S1x1x1x256x128_S256x128 (ix2 r l) = x (ix5 0 0 0 r l) := by
  pointwise []

theorem acc0_at : (acc0 P h rt (ix2 r q) : EReal) = h (ix2 r q) + rt (ix2 r 0) * piece P r q 0 := by
  have e := (beside (fun p => shapeCast S256x128 (P 0 p) shapeCasts_S1x1x1x256x128_S256x128) r q).trans (flat r _ _)
  have b : broadcastTo S256x1024 (extractStridedSlice S256x1 ![0, 0] rt slices_S256x128_o0_0_S256x1) broadcasts_S256x1_S256x1024 (ix2 r q) = rt (ix2 r 0) := by
    pointwise []
  exact congrArg (fun z : EReal => h (ix2 r q) + z) (congrArg₂ (fun a b : EReal => a * b) b e)
theorem acc1_at : (acc1 P h rt (ix2 r q) : EReal) = acc0 P h rt (ix2 r q) + rt (ix2 r 1) * piece P r q 1 := by
  have e := (beside (fun p => shapeCast S256x128 (P 1 p) shapeCasts_S1x1x1x256x128_S256x128) r q).trans (flat r _ _)
  have b : broadcastTo S256x1024 (extractStridedSlice S256x1 ![0, 1] rt slices_S256x128_o0_1_S256x1) broadcasts_S256x1_S256x1024 (ix2 r q) = rt (ix2 r 1) := by
    pointwise []
  exact congrArg (fun z : EReal => acc0 P h rt (ix2 r q) + z) (congrArg₂ (fun a b : EReal => a * b) b e)
theorem acc2_at : (acc2 P h rt (ix2 r q) : EReal) = acc1 P h rt (ix2 r q) + rt (ix2 r 2) * piece P r q 2 := by
  have e := (beside (fun p => shapeCast S256x128 (P 2 p) shapeCasts_S1x1x1x256x128_S256x128) r q).trans (flat r _ _)
  have b : broadcastTo S256x1024 (extractStridedSlice S256x1 ![0, 2] rt slices_S256x128_o0_2_S256x1) broadcasts_S256x1_S256x1024 (ix2 r q) = rt (ix2 r 2) := by
    pointwise []
  exact congrArg (fun z : EReal => acc1 P h rt (ix2 r q) + z) (congrArg₂ (fun a b : EReal => a * b) b e)
theorem acc3_at : (acc3 P h rt (ix2 r q) : EReal) = acc2 P h rt (ix2 r q) + rt (ix2 r 3) * piece P r q 3 := by
  have e := (beside (fun p => shapeCast S256x128 (P 3 p) shapeCasts_S1x1x1x256x128_S256x128) r q).trans (flat r _ _)
  have b : broadcastTo S256x1024 (extractStridedSlice S256x1 ![0, 3] rt slices_S256x128_o0_3_S256x1) broadcasts_S256x1_S256x1024 (ix2 r q) = rt (ix2 r 3) := by
    pointwise []
  exact congrArg (fun z : EReal => acc2 P h rt (ix2 r q) + z) (congrArg₂ (fun a b : EReal => a * b) b e)
theorem acc_at : (acc3 P h rt (ix2 r q) : EReal) = h (ix2 r q) + ∑ k : Fin 4, rt (ix2 r ⟨k.val, by omega⟩) * piece P r q k := by
  rw [acc3_at, acc2_at, acc1_at, acc0_at, Fin.sum_univ_four]
  simp only [add_assoc]
  rfl
end

/-! ### Normalized rows and the gated addition -/

/-- Rows of a tile normalized, with gains. -/
def knorm (A : FVec Ideal S256x1024 .f32) (G : FVec Ideal S1x1024 .f32) : FVec Ideal S256x1024 .f32 :=
  mulf (mulf A (broadcastTo S256x1024 (rsqrt (addf (divf (shapeCast S256x1 (multiReduction .add [1] S256 (mulf A A) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024))
    (broadcastTo S256x1024 (shapeCast S1x1024 G shapeCasts_S1x1024_S1x1024) broadcasts_S1x1024_S256x1024)
/-- The gated addition of a tile. -/
def kmid (A : FVec Ideal S256x1024 .f32) (W : FVec Ideal S1024x1024 .bf16) (N : FVec Ideal S256x1024 .f32) (p : FVec Ideal S256x256 .f32) (wp : FVec Ideal S256x1024 .bf16) : FVec Ideal S256x1024 .f32 :=
  addf A (mulf (divf (broadcast S256x1024 (Scalar.ofBits .f32 0x3F800000#32)) (addf (broadcast S256x1024 (Scalar.ofBits .f32 0x3F800000#32))
      (exp (subf (broadcast S256x1024 (Scalar.ofBits .f32 0x00000000#32))
        (matmul dot_S256x1024_S1024x1024_S256x1024_1_0_0_1_n_n none (truncf .bf16 N bitsLt_bf16_f32) (shapeCast S1024x1024 W shapeCasts_S1024x1024_S1024x1024) (constant S256x1024 .f32 0x00000000#32))))))
    (matmul dot_S256x256_S256x1024_S256x1024_1_0_0_1_n_n none (truncf .bf16 (shapeCast S256x256 p shapeCasts_S256x256_S256x256) bitsLt_bf16_f32) (shapeCast S256x1024 wp shapeCasts_S256x1024_S256x1024)
      (constant S256x1024 .f32 0x00000000#32)))

theorem out_eq (P : Fin 4 → Fin 8 → Vec Ideal S1x1x1x256x128 .f32) (h : FVec Ideal S256x1024 .f32) (rt : FVec Ideal S256x128 .f32) (p : FVec Ideal S256x256 .f32) (np : FVec Ideal S1x1024 .f32)
    (wg : FVec Ideal S1024x1024 .bf16) (wp : FVec Ideal S256x1024 .bf16) (nf : FVec Ideal S1x1024 .f32) :
    out P h rt p np wg wp nf = knorm (kmid (acc3 P h rt) wg (knorm (acc3 P h rt) np) p wp) nf := rfl

section
variable (t : Fin grid0.N)

theorem norm_at (A : FVec Ideal S256x1024 .f32) (X : FVec Ideal S16384x1024 .f32) (G : FVec Ideal S1x1024 .f32) (g : FVec Ideal S1024 .f32)
    (hA : ∀ (r : Fin 256) (q : Fin 1024), A (ix2 r q) = X (ix2 ⟨t.val * 256 + r.val, tile_lt t r⟩ q)) (hG : ∀ q : Fin 1024, G (ix2 0 q) = g (ix1 q)) (r : Fin 256) (q : Fin 1024) :
    knorm A G (ix2 r q) = hnorm X g (ix2 ⟨t.val * 256 + r.val, tile_lt t r⟩ q) := by
  pointwise [knorm, hnorm, hA, hG]

theorem mid_at (A : FVec Ideal S256x1024 .f32) (X : FVec Ideal S16384x1024 .f32) (p : FVec Ideal S256x256 .f32) (p' : FVec Ideal S1x2x8192x256 .f32) (np : FVec Ideal S1x1024 .f32) (np' : FVec Ideal S1x1024 .f32)
    (wg : FVec Ideal S1024x1024 .bf16) (wg' : FVec Ideal S1x1024x1024 .f32) (wp : FVec Ideal S256x1024 .bf16) (wp' : FVec Ideal S1x256x1024 .f32)
    (hA : ∀ (r : Fin 256) (q : Fin 1024), A (ix2 r q) = X (ix2 ⟨t.val * 256 + r.val, tile_lt t r⟩ q)) (hn : ∀ q : Fin 1024, np (ix2 0 q) = np' (ix2 0 q))
    (hp : ∀ (r : Fin 256) (k : Fin 256), p (ix2 r k) = p' (ix4 0 ⟨(t.val * 256 + r.val) / 8192, by have := tile_lt t r; omega⟩ ⟨(t.val * 256 + r.val) % 8192, Nat.mod_lt _ (by decide)⟩ k))
    (hg : ∀ k n : Fin 1024, (wg (ix2 k n) : EReal) = wg' (ix3 0 k n)) (hw : ∀ (k : Fin 256) (n : Fin 1024), (wp (ix2 k n) : EReal) = wp' (ix3 0 k n)) (r : Fin 256) (q : Fin 1024) :
    kmid A wg (knorm A np) p wp (ix2 r q) = hmid X p' np' wg' wp' (ix2 ⟨t.val * 256 + r.val, tile_lt t r⟩ q) := by
  have e : ∀ k : Fin 1024, knorm A np (ix2 r k) = hnorm X (shapeCast S1024 np' Cert.CombineReferenceIdeal.Gen.shapeCasts_S1x1024_S1024) (ix2 ⟨t.val * 256 + r.val, tile_lt t r⟩ k) := fun k =>
    norm_at t A X np _ hA (fun q => (hn q).trans (by pointwise [])) r k
  pointwise [kmid, hmid, hA, e, hp, hg, hw]
  rw [zero_sub]
end

/-! ### The reference's sum of weighted rows -/

theorem mixed_at (sl : S65536.Idx → BitVec 32) (ys : FVec Ideal S8x73728x128 .f32) (h : FVec Ideal S16384x1024 .f32) (rt : FVec Ideal S16384x128 .f32)
    (I : ∀ a : Fin 65536, (sl (ix1 a)).toNat < 73728) (R : Fin 16384) (q : Fin 1024) :
    (mixed sl ys h rt (ix2 R q) : EReal) = h (ix2 R q) + ∑ k : Fin 4, rt (ix2 R ⟨k.val, by omega⟩)
      * ys (ix3 ⟨q.val / 128, by omega⟩ ⟨(sl (ix1 ⟨k.val * 16384 + R.val, by omega⟩)).toNat, I _⟩ ⟨q.val % 128, Nat.mod_lt _ (by decide)⟩) := by
  pointwise [mixed]
  refine congrArg (h (ix2 R q) + ·) (Finset.sum_congr rfl fun k _ => ?_)
  rw [fetched_at sl ys _ q (I _)]

/-! ### The prepared arguments -/

section
variable (m : (ℓ : Loc nD τ sig) → Buf (Elt Ideal) ℓ)

theorem V_p : V m 0 main_v1 = shapeCast S16384x256 (shapeCast S2x8192x256 (m (((0 : Dev nD) : Thread nD τ).loc main_arg4) : FVec Ideal S1x2x8192x256 .f32) shapeCasts_S1x2x8192x256_S2x8192x256) shapeCasts_S2x8192x256_S16384x256 := by
  unfold_abbrev_sides; after_results; rfl
theorem V_np : V m 0 main_v3 = shapeCast S1x1024 (shapeCast S1024 (m (((0 : Dev nD) : Thread nD τ).loc main_arg5) : FVec Ideal S1x1024 .f32) shapeCasts_S1x1024_S1024) shapeCasts_S1024_S1x1024 := by
  unfold_abbrev_sides; after_results; rfl
theorem V_wg : (V m 0 main_v5 : FVec Ideal S1024x1024 .bf16) = truncf (F := Ideal) .bf16 (shapeCast S1024x1024 (m (((0 : Dev nD) : Thread nD τ).loc main_arg6) : FVec Ideal S1x1024x1024 .f32) shapeCasts_S1x1024x1024_S1024x1024) bitsLt_bf16_f32 := by
  unfold_abbrev_sides; after_results; rfl
theorem V_wp : (V m 0 main_v7 : FVec Ideal S256x1024 .bf16) = truncf (F := Ideal) .bf16 (shapeCast S256x1024 (m (((0 : Dev nD) : Thread nD τ).loc main_arg7) : FVec Ideal S1x256x1024 .f32) shapeCasts_S1x256x1024_S256x1024) bitsLt_bf16_f32 := by
  unfold_abbrev_sides; after_results; rfl
theorem V_nf : V m 0 main_v8 = shapeCast S1x1024 (m (((0 : Dev nD) : Thread nD τ).loc main_arg8) : FVec Ideal S1024 .f32) shapeCasts_S1024_S1x1024 := by
  unfold_abbrev_sides; after_results; rfl

theorem np_at (q : Fin 1024) : npAll m (ix2 0 q) = (m (((0 : Dev nD) : Thread nD τ).loc main_arg5) : FVec Ideal S1x1024 .f32) (ix2 0 q) := by
  rw [npAll, V_np]; pointwise []
theorem wg_at (k n : Fin 1024) : (wgAll m (ix2 k n) : EReal) = (m (((0 : Dev nD) : Thread nD τ).loc main_arg6) : FVec Ideal S1x1024x1024 .f32) (ix3 0 k n) := by
  rw [wgAll, V_wg]; pointwise []
theorem wp_at (k : Fin 256) (n : Fin 1024) : (wpAll m (ix2 k n) : EReal) = (m (((0 : Dev nD) : Thread nD τ).loc main_arg7) : FVec Ideal S1x256x1024 .f32) (ix3 0 k n) := by
  rw [wpAll, V_wp]; pointwise []
theorem nf_at (q : Fin 1024) : nfAll m (ix2 0 q) = (m (((0 : Dev nD) : Thread nD τ).loc main_arg8) : FVec Ideal S1024 .f32) (ix1 q) := by
  rw [nfAll, V_nf]; pointwise []
theorem p_at (t : Fin grid0.N) (r k : Fin 256) : pBlk m t (ix2 r k) = (m (((0 : Dev nD) : Thread nD τ).loc main_arg4) : FVec Ideal S1x2x8192x256 .f32)
    (ix4 0 ⟨(t.val * 256 + r.val) / 8192, by have := tile_lt t r; omega⟩ ⟨(t.val * 256 + r.val) % 8192, Nat.mod_lt _ (by decide)⟩ k) := by
  show (V m 0 main_v1 : S16384x256.Idx → EReal) (ix2 ⟨t.val * 256 + r.val, tile_lt t r⟩ k) = _
  rw [V_p]; pointwise []

/-- The tile's sum is the reference's. -/
theorem sum_at (I : ∀ a : Fin 65536, (slotsOf m (ix1 a)).toNat < 73728) (t : Fin grid0.N) (r : Fin 256) (q : Fin 1024) :
    acc3 (plane (slotsOf m) (ysOf m) t.val) (h1Blk m t) (rtBlk m t) (ix2 r q) = mixed (slotsOf m) (ysOf m)
      (m (((0 : Dev nD) : Thread nD τ).loc main_arg2)) (m (((0 : Dev nD) : Thread nD τ).loc main_arg3)) (ix2 ⟨t.val * 256 + r.val, tile_lt t r⟩ q) := by
  refine (acc_at _ _ _ r q).trans ((mixed_at _ _ _ _ I _ q).trans ?_).symm
  have hh : h1Blk m t (ix2 r q) = (m (((0 : Dev nD) : Thread nD τ).loc main_arg2) : FVec Ideal S16384x1024 .f32) (ix2 ⟨t.val * 256 + r.val, tile_lt t r⟩ q) := congrFun (V_2 m 0) _
  rw [hh]
  refine congrArg (HAdd.hAdd (α := EReal) _) (Finset.sum_congr rfl fun k _ => ?_)
  have hr : rtBlk m t (ix2 r ⟨k.val, by omega⟩) = (m (((0 : Dev nD) : Thread nD τ).loc main_arg3) : FVec Ideal S16384x128 .f32) (ix2 ⟨t.val * 256 + r.val, tile_lt t r⟩ ⟨k.val, by omega⟩) := congrFun (V_3 m 0) _
  rw [hr]
  refine congrArg (HMul.hMul (α := EReal) _) ?_
  have ht := tile_lt t r
  have hw : slotWord (slotsOf m) (k.val * 16384 + (256 * t.val + r.val)) = slotsOf m (ix1 ⟨k.val * 16384 + (t.val * 256 + r.val), by omega⟩) :=
    congrArg (fun a => slotsOf m (ix1 a)) (Fin.ext (by
      show (k.val * 16384 + (256 * t.val + r.val)) % 65536 = _
      rw [Nat.mod_eq_of_lt (by omega), Nat.mul_comm 256]))
  show _ = rowAt (ysOf m) ⟨q.val / 128, _⟩ (slotWord (slotsOf m) (k.val * 16384 + (256 * t.val + r.val))).toNat ⟨q.val % 128, _⟩
  rw [hw]
  exact congrArg (fun ρ => ysOf m (ix3 ⟨q.val / 128, by omega⟩ ρ ⟨q.val % 128, Nat.mod_lt _ (by decide)⟩)) (Fin.ext (Nat.mod_eq_of_lt (I _)).symm)

/-- The kernel's result is the reference's. -/
theorem meets (I : ∀ a : Fin 65536, (slotsOf m (ix1 a)).toNat < 73728) :
    hnorm (hmid (mixed (slotsOf m) (ysOf m) (m (((0 : Dev nD) : Thread nD τ).loc main_arg2)) (m (((0 : Dev nD) : Thread nD τ).loc main_arg3)))
        (m (((0 : Dev nD) : Thread nD τ).loc main_arg4)) (m (((0 : Dev nD) : Thread nD τ).loc main_arg5)) (m (((0 : Dev nD) : Thread nD τ).loc main_arg6)) (m (((0 : Dev nD) : Thread nD τ).loc main_arg7)))
      (m (((0 : Dev nD) : Thread nD τ).loc main_arg8)) = result m := by
  funext j
  have h1 : (j 0).val < 16384 := (j 0).isLt
  have ht : (j 0).val / 256 < grid0.N := by
    show (j 0).val / 256 < 64
    omega
  have hr : (j 0).val % 256 < 256 := Nat.mod_lt _ (by decide)
  refine Eq.trans ?_ ((congrFun (out_eq (plane (slotsOf m) (ysOf m) ((j 0).val / 256)) (h1Blk m ⟨(j 0).val / 256, ht⟩) (rtBlk m ⟨(j 0).val / 256, ht⟩) (pBlk m ⟨(j 0).val / 256, ht⟩)
    (npAll m) (wgAll m) (wpAll m) (nfAll m)) (ix2 ⟨(j 0).val % 256, hr⟩ (j 1))).trans (norm_at ⟨(j 0).val / 256, ht⟩ _ _ _ _
      (mid_at ⟨(j 0).val / 256, ht⟩ _ _ _ _ _ _ _ _ _ _ (sum_at m I ⟨(j 0).val / 256, ht⟩) (np_at m) (p_at m ⟨(j 0).val / 256, ht⟩) (wg_at m) (wp_at m)) (nf_at m) ⟨(j 0).val % 256, hr⟩ (j 1))).symm
  refine congrArg _ ?_
  funext a
  refine Fin.cases ?_ (fun a => ?_) a
  · exact Fin.ext (by
      show (j 0).val = (j 0).val / 256 * 256 + (j 0).val % 256
      omega)
  · obtain rfl : a = 0 := Subsingleton.elim _ _
    rfl
end

end Cert.CombineIdeal.Gather
end
-- ==== Proof.Residual.lean ====
/- The output projection's residual: the reference's, block by block. -/
module

public import proofs.«01_k».proof.Proof.Gen.OutletIdeal.Frame
public import proofs.«01_k».proof.Proof.Gen.OutletReferenceIdeal
public import proofs.«01_k».proof.Proof.Gen.OutletReferenceIdeal.Run
public import Idealize.ShloMosaic.Lib.Pipeline.ValueKit
public import Idealize.ShloMosaic.Lib.StackMember

@[expose] public section

set_option maxRecDepth 16384

noncomputable section

namespace Cert.OutletIdeal.Residual

open Idealize.ShloMosaic Idealize.ShloMosaic.TcCoe Idealize.SL.Sem
open Cert.OutletIdeal Cert.OutletIdeal.Gen

/-! ### The reference's term -/

/-- The residual after the projection, by the reference's operations. -/
def whole (A B : FVec Ideal S2x8192x512 .bf16) (X : FVec Ideal S2x8192x1024 .f32) (W : FVec Ideal S1x1024x1024 .f32) : FVec Ideal S16384x1024 .f32 :=
  shapeCast S16384x1024 (addf X (Host.dotGeneral OutletReferenceIdeal.dot_S2x8192x1024_S1024x1024_S2x8192x1024_2_0_01_1_n_n none
    (extf .f32 (concatenate S2x8192x1024 2 [⟨S2x8192x512, A⟩, ⟨S2x8192x512, B⟩] OutletReferenceIdeal.Gen.concatenates_S2x8192x512_S2x8192x512_S2x8192x1024_d2) OutletReferenceIdeal.Gen.bitsLt_bf16_f32)
    (shapeCast S1024x1024 W OutletReferenceIdeal.Gen.shapeCasts_S1x1024x1024_S1024x1024))) OutletReferenceIdeal.Gen.shapeCasts_S2x8192x1024_S16384x1024

/-- The reference's entry: the residual and a sum for each half of the features. -/
theorem whole_at (A B : FVec Ideal S2x8192x512 .bf16) (X : FVec Ideal S2x8192x1024 .f32) (W : FVec Ideal S1x1024x1024 .f32) (R : Fin 16384) (q : Fin 1024) :
    (whole A B X W (ix2 R q) : EReal) = X (ix3 ⟨R.val / 8192, by omega⟩ ⟨R.val % 8192, by omega⟩ q)
      + (∑ k : Fin 512, A (ix3 ⟨R.val / 8192, by omega⟩ ⟨R.val % 8192, by omega⟩ k) * W (ix3 0 ⟨k.val, by omega⟩ q))
      + ∑ k : Fin 512, B (ix3 ⟨R.val / 8192, by omega⟩ ⟨R.val % 8192, by omega⟩ k) * W (ix3 0 ⟨512 + k.val, by omega⟩ q) := by
  pointwise [whole]
  exact (add_assoc (G := EReal) _ _ _).symm

/-! ### The blocks -/

variable (m : (ℓ : Loc nD τ sig) → Buf (Elt Ideal) ℓ)

/-- The windows' blocks at a grid point. -/
theorem places : ∀ t : Fin cfg0.N, win0_0.index t = ![t.val / 16, t.val % 16, 0] ∧ win0_1.index t = ![t.val / 16, t.val % 16, 0] ∧ win0_2.index t = ![t.val / 16, t.val % 16, 0]
    ∧ win0_3.index t = ![0, 0] ∧ win0_4.index t = ![0, 0] ∧ win0_9.index t = ![t.val, 0] :=
  (by decide +kernel : ∀ t : Fin grid0.N, _)

theorem lt32 (t : Fin cfg0.N) : t.val < 32 := t.isLt

/-- The weights that the region finds. -/
theorem above_at (k : Fin 512) (n : Fin 1024) : (V m 0 main_v11 : FVec Ideal S512x1024 .bf16) (ix2 k n)
    = (m (((0 : Dev nD) : Thread nD τ).loc main_arg3) : FVec Ideal S1x1024x1024 .f32) (ix3 0 ⟨k.val, by omega⟩ n) := by
  show StableHlo.after (List.flatten [hostOps0, hostOps0_1, hostOps0_2, hostOps0_3, hostOps0_4]) (fun b => m (0, b)) (Proc.tc.devRef main_v11) _ = _
  simp only [hostOps0, hostOps0_1, hostOps0_2, hostOps0_3, hostOps0_4, List.flatten_cons, List.flatten_nil, List.append_nil, List.cons_append, List.nil_append]
  after_results
  pointwise []
theorem below_at (k : Fin 512) (n : Fin 1024) : (V m 0 main_v12 : FVec Ideal S512x1024 .bf16) (ix2 k n)
    = (m (((0 : Dev nD) : Thread nD τ).loc main_arg3) : FVec Ideal S1x1024x1024 .f32) (ix3 0 ⟨512 + k.val, by omega⟩ n) := by
  show StableHlo.after (List.flatten [hostOps0, hostOps0_1, hostOps0_2, hostOps0_3, hostOps0_4]) (fun b => m (0, b)) (Proc.tc.devRef main_v12) _ = _
  simp only [hostOps0, hostOps0_1, hostOps0_2, hostOps0_3, hostOps0_4, List.flatten_cons, List.flatten_nil, List.append_nil, List.cons_append, List.nil_append]
  after_results
  pointwise []

section
variable (t : Fin cfg0.N) (r : Fin 512)

theorem left_blk (k : Fin 512) : (iblk m 0 0 t : FVec Ideal S1x512x512 .bf16) (ix3 0 r k) = (m (((0 : Dev nD) : Thread nD τ).loc main_arg0) : FVec Ideal S2x8192x512 .bf16)
    (ix3 ⟨(t.val * 512 + r.val) / 8192, by have := lt32 t; omega⟩ ⟨(t.val * 512 + r.val) % 8192, by omega⟩ k) := by
  refine (congrArg (V m 0 main_arg0) ?_).trans (congrFun (V_main_arg0 m 0) _)
  blk_ext [places t]
theorem right_blk (k : Fin 512) : (iblk m 0 1 t : FVec Ideal S1x512x512 .bf16) (ix3 0 r k) = (m (((0 : Dev nD) : Thread nD τ).loc main_arg1) : FVec Ideal S2x8192x512 .bf16)
    (ix3 ⟨(t.val * 512 + r.val) / 8192, by have := lt32 t; omega⟩ ⟨(t.val * 512 + r.val) % 8192, by omega⟩ k) := by
  refine (congrArg (V m 0 main_arg1) ?_).trans (congrFun (V_main_arg1 m 0) _)
  blk_ext [places t]
theorem before_blk (q : Fin 1024) : (iblk m 0 2 t : FVec Ideal S1x512x1024 .f32) (ix3 0 r q) = (m (((0 : Dev nD) : Thread nD τ).loc main_arg2) : FVec Ideal S2x8192x1024 .f32)
    (ix3 ⟨(t.val * 512 + r.val) / 8192, by have := lt32 t; omega⟩ ⟨(t.val * 512 + r.val) % 8192, by omega⟩ q) := by
  refine (congrArg (V m 0 main_arg2) ?_).trans (congrFun (V_main_arg2 m 0) _)
  blk_ext [places t]
theorem above_blk (k : Fin 512) (q : Fin 1024) : (iblk m 0 3 t : FVec Ideal S512x1024 .bf16) (ix2 k q)
    = (m (((0 : Dev nD) : Thread nD τ).loc main_arg3) : FVec Ideal S1x1024x1024 .f32) (ix3 0 ⟨k.val, by omega⟩ q) := by
  refine (congrArg (V m 0 main_v11) (?_ : _ = ix2 k q)).trans (above_at m k q)
  blk_ext [places t]
theorem below_blk (k : Fin 512) (q : Fin 1024) : (iblk m 0 4 t : FVec Ideal S512x1024 .bf16) (ix2 k q)
    = (m (((0 : Dev nD) : Thread nD τ).loc main_arg3) : FVec Ideal S1x1024x1024 .f32) (ix3 0 ⟨512 + k.val, by omega⟩ q) := by
  refine (congrArg (V m 0 main_v12) (?_ : _ = ix2 k q)).trans (below_at m k q)
  blk_ext [places t]

/-- What a point stores is the reference's block. -/
theorem point_at (q : Fin 1024) : k0_pay3 (F := Ideal) (iblk m 0 2 t) (iblk m 0 0 t) (iblk m 0 3 t) (iblk m 0 1 t) (iblk m 0 4 t) (ix2 r q)
    = whole (m (((0 : Dev nD) : Thread nD τ).loc main_arg0)) (m (((0 : Dev nD) : Thread nD τ).loc main_arg1)) (m (((0 : Dev nD) : Thread nD τ).loc main_arg2)) (m (((0 : Dev nD) : Thread nD τ).loc main_arg3))
      (ix2 ⟨t.val * 512 + r.val, by have := lt32 t; omega⟩ q) := by
  refine Eq.trans ?_ (whole_at _ _ _ _ _ q).symm
  have a := left_blk m t r
  have b := right_blk m t r
  have c := before_blk m t r
  have d := above_blk m t
  have e := below_blk m t
  pointwise [k0_pay3, a, b, c, d, e]
end

/-- The result after the run. -/
theorem final9 : (dats m 0 0).arrAt 9 (cfgs 0).N
    = whole (m (((0 : Dev nD) : Thread nD τ).loc main_arg0)) (m (((0 : Dev nD) : Thread nD τ).loc main_arg1)) (m (((0 : Dev nD) : Thread nD τ).loc main_arg2)) (m (((0 : Dev nD) : Thread nD τ).loc main_arg3)) := by
  refine (dats m 0 0).arrAt_eq_of_covers 9 _ (by decide +kernel) fun t _ y => ?_
  blk_simp
  rw [after0_9]
  have e : (outsAt0 m 0 t.val t.isLt).1 = k0_pay3 (F := Ideal) (iblk m 0 2 t) (iblk m 0 0 t) (iblk m 0 3 t) (iblk m 0 1 t) (iblk m 0 4 t) := by
    by_cases h0 : t.val % 32 = 0
    · rw [outsAt0_A m 0 t h0]
      dsimp only
      frame_out
    · rw [outsAt0_B m 0 t h0]
      dsimp only
      frame_out
  rw [e]
  refine Eq.trans ?_ ((point_at m t (y 0) (y 1)).trans ?_)
  · exact congrArg _ (by
      funext a
      refine Fin.cases rfl (fun a => ?_) a
      obtain rfl : a = 0 := Subsingleton.elim _ _
      rfl)
  · refine congrArg (whole _ _ _ _) ?_
    blk_ext [places t]

end Cert.OutletIdeal.Residual

end
-- ==== Proof.lean ====
/- The certificate of the dispatch, of the experts and of the input projection. -/
module

public import proofs.«01_k».proof.Defs
public import proofs.«01_k».proof.Proof.Run
public import proofs.«01_k».proof.Proof.Value
public import proofs.«01_k».proof.Proof.Fire
public import proofs.«01_k».proof.Proof.Chained
public import proofs.«01_k».proof.Proof.Meet
public import proofs.«01_k».proof.Proof.Same
public import proofs.«01_k».proof.Proof.Projected
public import Idealize.ShloMosaic.Lib.Quiescent
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.Pre_planned
public import proofs.«01_k».proof.Proof.Gen.ReferenceIdeal.Run
public import proofs.«01_k».proof.Proof.Gen.Reference.Run
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Pre_chained
public import proofs.«01_k».proof.Proof.Gen.Projections
public import proofs.«01_k».proof.Proof.Gen.Projections.Frame
public import proofs.«01_k».proof.Proof.Gen.ProjectionsIdeal
public import proofs.«01_k».proof.Proof.Gen.ProjectionsIdeal.Skeleton
public import proofs.«01_k».proof.Proof.Gen.ProjectionsIdeal.Launch
public import proofs.«01_k».proof.Proof.Gen.ProjectionsIdeal.Frame
public import proofs.«01_k».proof.Proof.Gen.ProjectionsReferenceIdeal
public import proofs.«01_k».proof.Proof.Gen.ProjectionsReferenceIdeal.Run
public import proofs.«01_k».proof.Proof.Gen.Combine
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Loops
public import proofs.«01_k».proof.Proof.Gen.CombineReferenceIdeal
public import proofs.«01_k».proof.Proof.Gen.CombineReferenceIdeal.Run
public import proofs.«01_k».proof.Proof.Gen.Outlet
public import proofs.«01_k».proof.Proof.Gen.Outlet.Frame
public import proofs.«01_k».proof.Proof.Gen.OutletIdeal
public import proofs.«01_k».proof.Proof.Gen.OutletIdeal.Frame
public import proofs.«01_k».proof.Proof.Gen.OutletReferenceIdeal
public import proofs.«01_k».proof.Proof.Gen.OutletReferenceIdeal.Run
public import proofs.«01_k».proof.Proof.Gen.Pre_inside
public import proofs.«01_k».proof.Proof.Alike
public import proofs.«01_k».proof.Proof.Blended
public import proofs.«01_k».proof.Proof.Residual
public import Idealize.ShloMosaic.Lib.Bf16PairInverse

@[expose] public section

noncomputable section

namespace Cert.Proof

open Idealize.ShloMosaic Idealize.ShloMosaic.TcCoe Idealize.SL.Sem Cert.KernelIdeal.Dispatch

variable {F : FTy → Type} [FloatOps F]

/-- The result: zeros with the token rows scattered in. -/
def dispatched (sl : KernelIdeal.S65536.Idx → BitVec 32) (u : SI → BitVec 32) : XI → BitVec 32 :=
  Host.scatter ReferenceIdeal.scatter_S4x73728x128_S65536x1_S4x65536x128_02_1_1_1 (fun _ b => b)
    (broadcastInDim ReferenceIdeal.S4x73728x128 ![] ReferenceIdeal.Facts₀.bcast_S_S4x73728x128 (constantI ReferenceIdeal.S_ 32 0#32))
    (wrapped sl ReferenceIdeal.Facts₀.bcast_S_S65536 ReferenceIdeal.Facts₀.bcast_S65536_S65536x1_0)
    (concatenate ReferenceIdeal.S4x65536x128 1 [⟨ReferenceIdeal.S4x16384x128, u⟩, ⟨ReferenceIdeal.S4x16384x128, u⟩, ⟨ReferenceIdeal.S4x16384x128, u⟩,
      ⟨ReferenceIdeal.S4x16384x128, u⟩] ReferenceIdeal.Facts₀.concatenates_S4x16384x128_S4x16384x128_S4x16384x128_S4x16384x128_S4x65536x128_d1)

theorem planned (m : (ℓ : Loc KernelIdeal.nD KernelIdeal.τ KernelIdeal.sig) → Buf (Elt F) ℓ)
    (h : Pre_planned.fn (F := F) (slotsOf m) (padsOf m) (toksOf m) = fun _ => 1#1) :
    Plan (F := F) (slotsOf m) (padsOf m) (toksOf m) (dispatched (slotsOf m) (toksOf m)) :=
  plan_of (F := F) (tables_of (F := F) _ _ _ h) _ _ rfl rfl rfl rfl _ (fun _ => rfl) _ _ _

theorem frame_kernelIdeal : Cert.quiescent_KernelIdeal := fun m ρ hp =>
  (θ_run Cert.KernelIdeal.defs _ _).mono (fun _ h => ⟨fun c => (h.1 c).2, h.2⟩) (run_main (F := Ideal) m ρ (planned m (hp 0)))

theorem frame_kernel : Cert.quiescent_Kernel := fun m ρ hp =>
  (θ_run Cert.KernelIdeal.defs _ _).mono (fun _ h => ⟨fun c => (h.1 c).2, h.2⟩) (run_main (F := Bits) m ρ (planned (F := Bits) m (hp 0)))

theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem frame_reference : Cert.quiescent_Reference := fun m ρ _ =>
  (θ_run Cert.Reference.defs _ _).mono (fun r h => ⟨fun c => (h c).2, sem_eq_zero_of_no_sems (by decide) r.2⟩) (Cert.Reference.Value.run (F := Bits) m ρ)

theorem algebraic : Cert.algebraic_KernelIdeal_ReferenceIdeal := fun m g m' g' hp ha =>
  ⟨fun _ => dispatched (slotsOf m) (toksOf m),
    (θ_run Cert.KernelIdeal.defs _ _).mono (fun _ h => h.1) (run_main (F := Ideal) m g (planned m (hp 0))),
    (θ_run Cert.ReferenceIdeal.defs _ _).mono (fun r h c => ⟨(h c).1.trans (by
      obtain rfl : c = 0 := Subsingleton.elim _ _
      have h0 := (ha 0).1
      have h2 := (ha 0).2.2
      rw [h0, h2]
      rfl), (h c).2⟩) (Cert.ReferenceIdeal.Value.run (F := Ideal) m' g')⟩

theorem bitexact : Cert.bitexact_Kernel_Reference := fun m g m' g' hp ha =>
  ⟨fun _ => dispatched (slotsOf (F := Bits) m) (toksOf (F := Bits) m),
    (θ_run Cert.KernelIdeal.defs _ _).mono (fun _ h => h.1) (run_main (F := Bits) m g (planned (F := Bits) m (hp 0))),
    (θ_run Cert.Reference.defs _ _).mono (fun r h c => ⟨(h c).1.trans (by
      obtain rfl : c = 0 := Subsingleton.elim _ _
      have h0 := (ha 0).1
      have h2 := (ha 0).2.2
      rw [h0, h2]
      rfl), (h c).2⟩) (Cert.Reference.Value.run (F := Bits) m' g')⟩

/-! ### The experts -/

section Experts
open Cert.ExpertsIdeal.Experts

/-- The precondition's chain. -/
theorem chained (m : (ℓ : Loc ExpertsIdeal.nD ExpertsIdeal.τ ExpertsIdeal.sig) → Buf (Elt F) ℓ)
    (h : Pre_chained.fn (F := F) (beOf m) (nxOf m) (nuOf m) (xsOf m) (w1Of m) (b1Of m) (w2Of m) (b2Of m) = fun _ => 1#1) : Chain (beOf m) (nxOf m) :=
  chain_of (F := F) _ _ _ _ _ _ _ _ h

theorem frame_expertsIdeal : Cert.quiescent_ExpertsIdeal := fun m ρ hp =>
  (θ_run Cert.ExpertsIdeal.defs _ _).mono (fun _ h => ⟨fun c => (h.1 c).2, h.2⟩) (ExpertsIdeal.Experts.run_main (F := Ideal) m (chained m (hp 0)) ρ)

theorem frame_experts : Cert.quiescent_Experts := fun m ρ hp => run_same (F := Bits) _ _
  ((θ_run Cert.ExpertsIdeal.defs _ _).mono (fun _ h => ⟨fun c => (h.1 c).2, h.2⟩) (ExpertsIdeal.Experts.run_main (F := Bits) m (chained (F := Bits) m (hp 0)) ρ))

theorem frame_expertsReferenceIdeal : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

theorem algebraic_experts : Cert.algebraic_ExpertsIdeal_ExpertsReferenceIdeal := fun m g m' g' hp ha =>
  ⟨fun _ => result m,
    (θ_run Cert.ExpertsIdeal.defs _ _).mono (fun _ h => h.1) (ExpertsIdeal.Experts.run_main (F := Ideal) m (chained m (hp 0)) g),
    (θ_run Cert.ExpertsReferenceIdeal.defs _ _).mono (fun r h c => ⟨(h c).1.trans (by
      obtain rfl : c = 0 := Subsingleton.elim _ _
      obtain ⟨h0, -, h2, h3, h4, h5, h6, h7⟩ := ha 0
      refine (reference_eq m').trans ?_
      rw [h0, h2, h3, h4, h5, h6, h7]
      exact meets m (chained m (hp 0))), (h c).2⟩) (Cert.ExpertsReferenceIdeal.Value.run (F := Ideal) m' g')⟩

end Experts

/-! ### The input projection -/

section Projection
open Cert.ProjectionsIdeal.Projected

/-- The kernel's frame. -/
theorem frame_projections : Cert.quiescent_Projections := fun m ρ _ => Cert.Projections.Gen.frame m ρ

/-- The ideal program's frame. -/
theorem frame_projectionsIdeal : Cert.quiescent_ProjectionsIdeal := fun m ρ _ => Cert.ProjectionsIdeal.Gen.frame m ρ

/-- The reference's frame. -/
theorem frame_projectionsReferenceIdeal : Cert.quiescent_ProjectionsReferenceIdeal := fun m ρ _ =>
  (θ_run Cert.ProjectionsReferenceIdeal.defs _ _).mono (fun r h => ⟨fun c => (h c).2.2, sem_eq_zero_of_no_sems (by decide) r.2⟩)
    (Cert.ProjectionsReferenceIdeal.Value.run (F := Ideal) m ρ)

/-- Both programs leave the same two arrays. -/
theorem algebraic_projections : Cert.algebraic_ProjectionsIdeal_ProjectionsReferenceIdeal := by
  pair_intro
  · run_from Cert.ProjectionsIdeal.Gen.run_main m g
    · exact Cert.ProjectionsIdeal.Gen.V_main_arg1 m _
    · exact Cert.ProjectionsIdeal.Gen.V_main_arg2 m _
  · run_from Cert.ProjectionsReferenceIdeal.Value.run m' g'
    · obtain rfl : c = 0 := Subsingleton.elim _ _
      exact (final4 m).symm
    · obtain rfl : c = 0 := Subsingleton.elim _ _
      exact (final5 m).symm

end Projection

/-! ### The combine -/

section Combine
open Cert.CombineIdeal.Gather

/-- The slots lie inside the rows. -/
theorem inside_rows (m : (ℓ : Loc CombineIdeal.nD CombineIdeal.τ CombineIdeal.sig) → Buf (Elt F) ℓ)
    (h : Pre_inside.fn (F := F) (slotsOf m) (ysOf m) (m (((0 : Dev CombineIdeal.nD) : Thread CombineIdeal.nD CombineIdeal.τ).loc CombineIdeal.main_arg2))
      (m (((0 : Dev CombineIdeal.nD) : Thread CombineIdeal.nD CombineIdeal.τ).loc CombineIdeal.main_arg3)) (m (((0 : Dev CombineIdeal.nD) : Thread CombineIdeal.nD CombineIdeal.τ).loc CombineIdeal.main_arg4))
      (m (((0 : Dev CombineIdeal.nD) : Thread CombineIdeal.nD CombineIdeal.τ).loc CombineIdeal.main_arg5)) (m (((0 : Dev CombineIdeal.nD) : Thread CombineIdeal.nD CombineIdeal.τ).loc CombineIdeal.main_arg6))
      (m (((0 : Dev CombineIdeal.nD) : Thread CombineIdeal.nD CombineIdeal.τ).loc CombineIdeal.main_arg7)) (m (((0 : Dev CombineIdeal.nD) : Thread CombineIdeal.nD CombineIdeal.τ).loc CombineIdeal.main_arg8)) = fun _ => 1#1) :
    Inside (slotsOf m) := fun _ => inside_of (F := F) _ _ _ _ _ _ _ _ _ h _

theorem frame_combineIdeal : Cert.quiescent_CombineIdeal := fun m ρ hp =>
  (θ_run Cert.CombineIdeal.defs _ _).mono (fun _ h => ⟨fun c => (h.1 c).2, h.2⟩) (CombineIdeal.Gather.run_main (F := Ideal) m (inside_rows m (hp 0)) ρ)

theorem frame_combine : Cert.quiescent_Combine := fun m ρ hp => run_same (F := Bits) _ _
  ((θ_run Cert.CombineIdeal.defs _ _).mono (fun _ h => ⟨fun c => (h.1 c).2, h.2⟩) (CombineIdeal.Gather.run_main (F := Bits) m (inside_rows (F := Bits) m (hp 0)) ρ))

theorem frame_combineReferenceIdeal : Cert.quiescent_CombineReferenceIdeal := fun m ρ _ =>
  (θ_run Cert.CombineReferenceIdeal.defs _ _).mono (fun r h => ⟨fun c => (h c).2, sem_eq_zero_of_no_sems (by decide) r.2⟩)
    (Cert.CombineReferenceIdeal.Value.run (F := Ideal) m ρ)

theorem algebraic_combine : Cert.algebraic_CombineIdeal_CombineReferenceIdeal := fun m g m' g' hp ha =>
  ⟨fun _ => result m,
    (θ_run Cert.CombineIdeal.defs _ _).mono (fun _ h => h.1) (CombineIdeal.Gather.run_main (F := Ideal) m (inside_rows m (hp 0)) g),
    (θ_run Cert.CombineReferenceIdeal.defs _ _).mono (fun r h c => ⟨(h c).1.trans (by
      obtain rfl : c = 0 := Subsingleton.elim _ _
      obtain ⟨h0, h1, h2, h3, h4, h5, h6, h7, h8⟩ := ha 0
      refine (Cert.CombineReferenceIdeal.Blended.out_eq m' 0).trans ?_
      rw [h0, h1, h2, h3, h4, h5, h6, h7, h8]
      exact meets m (inside_of _ _ _ _ _ _ _ _ _ (hp 0))), (h c).2⟩) (Cert.CombineReferenceIdeal.Value.run (F := Ideal) m' g')⟩

end Combine

/-! ### The output projection -/

section Outlet
open Cert.OutletIdeal.Residual

/-- The kernel's frame. -/
theorem frame_outlet : Cert.quiescent_Outlet := fun m ρ _ => Cert.Outlet.Gen.frame m ρ

/-- The ideal program's frame. -/
theorem frame_outletIdeal : Cert.quiescent_OutletIdeal := fun m ρ _ => Cert.OutletIdeal.Gen.frame m ρ

/-- The reference's frame. -/
theorem frame_outletReferenceIdeal : Cert.quiescent_OutletReferenceIdeal := fun m ρ _ =>
  (θ_run Cert.OutletReferenceIdeal.defs _ _).mono (fun r h => ⟨fun c => (h c).2, sem_eq_zero_of_no_sems (by decide) r.2⟩)
    (Cert.OutletReferenceIdeal.Value.run (F := Ideal) m ρ)

/-- The packed words, as their halves. -/
theorem preserves_outlet : Cert.preserves_Outlet_OutletIdeal :=
  open Cert.OutletIdeal IdealRules.bf16_pair in
  ⟨bufferStatement S4x16384x2x128 S4x16384x1x128, bufferStatement S4x512x2x128 S4x512x1x128, packStatement S512x128, statement S1x512x2x128 S1x512x1x128⟩

/-- Both programs leave the same residual. -/
theorem algebraic_outlet : Cert.algebraic_OutletIdeal_OutletReferenceIdeal := by
  pair_intro
  · run_from Cert.OutletIdeal.Gen.run_main m g
    all_goals first
      | exact Cert.OutletIdeal.Gen.V_main_arg3 m _
      | exact Cert.OutletIdeal.Gen.V_main_arg4 m _
      | exact Cert.OutletIdeal.Gen.V_main_arg5 m _
      | exact Cert.OutletIdeal.Gen.V_main_arg6 m _
  · run_from Cert.OutletReferenceIdeal.Value.run m' g'
    obtain rfl : c = 0 := Subsingleton.elim _ _
    exact (final9 m).symm

end Outlet

theorem claim : Cert.Claim :=
  ⟨Cert.Kernel.Gen.facts, Cert.KernelIdeal.Gen.facts, Cert.ReferenceIdeal.Gen.facts, Cert.Reference.Gen.facts, Cert.Experts.Gen.facts, Cert.ExpertsIdeal.Gen.facts,
    Cert.ExpertsReferenceIdeal.Gen.facts, Cert.Projections.Gen.facts, Cert.ProjectionsIdeal.Gen.facts, Cert.ProjectionsReferenceIdeal.Gen.facts,
    Cert.Combine.Gen.facts, Cert.CombineIdeal.Gen.facts, Cert.CombineReferenceIdeal.Gen.facts,
    Cert.Outlet.Gen.facts, Cert.OutletIdeal.Gen.facts, Cert.OutletReferenceIdeal.Gen.facts,
    Cert.Pre_planned.Gen.facts, Cert.Pre_chained.Gen.facts, Cert.Pre_inside.Gen.facts,
    frame_kernel, frame_kernelIdeal, frame_referenceIdeal, frame_reference, frame_experts, frame_expertsIdeal, frame_expertsReferenceIdeal,
    frame_projections, frame_projectionsIdeal, frame_projectionsReferenceIdeal, frame_combine, frame_combineIdeal, frame_combineReferenceIdeal,
    frame_outlet, frame_outletIdeal, frame_outletReferenceIdeal,
    trivial, algebraic, bitexact, trivial, algebraic_experts, trivial, algebraic_projections, trivial, algebraic_combine, preserves_outlet, algebraic_outlet⟩

end Cert.Proof

end
